-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v73) = v0 c
          ∧ r.2.mem ((c.tc : Thread Cert.Reference11Ideal.nD Cert.Reference11Ideal.τ).loc Cert.Reference11Ideal.main_v75) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v41) = v0 c
          ∧ r.2.mem ((c.tc : Thread Cert.Reference12Ideal.nD Cert.Reference12Ideal.τ).loc Cert.Reference12Ideal.main_v43) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v17) = v1 c
          ∧ r.2.mem ((c.tc : Thread Cert.Reference13Ideal.nD Cert.Reference13Ideal.τ).loc Cert.Reference13Ideal.main_v36) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_v36) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v18) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_v14) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S2048x1536 : Shape := ⟨2, ![2048, 1536]⟩
abbrev S2048x1024 : Shape := ⟨2, ![2048, 1024]⟩
abbrev S8x2048 : Shape := ⟨2, ![8, 2048]⟩
abbrev S_ : Shape := ⟨0, ![]⟩

class Facts : Prop where
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S2048x1536 .bf16) (main_arg1 : FVec F S2048x1024 .f32) (main_arg2 : FVec F S8x2048 .f32) : IVec S_ 1 :=
  let main_v0 : FVec F S2048x1536 .f32 := (extf .f32 · bitsLt_bf16_f32) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  let main_v10 : FVec F S8x2048 .f32 := Host.absf main_arg2
  let main_cst_2 : FVec F S_ .f32 := constant S_ .f32 0x7F800000#32
  let main_v11 : FVec F S8x2048 .f32 := broadcastInDim S8x2048 ![] bcast_S_S8x2048 main_cst_2
  let main_v12 : IVec S8x2048 1 := cmpf .olt main_v10 main_v11
  let main_c_3 : IVec S_ 1 := constantI S_ 1 1#1
  let main_v13 : IVec S_ 1 := (fun x v => Host.reduce IntOp.andi x v reducesTo_S8x2048_S_d0_1 h_S_) main_v12 main_c_3
  let main_v14 : IVec S_ 1 := andi main_v9 main_v13
  main_v14
-- ==== Pre_finite2.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2048x1024 .bf16) (main_arg1 : FVec F S2816x1024 .bf16) (main_arg2 : FVec F S2048x2816 .bf16) (main_arg3 : FVec F S2048x2816 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2048x2816 .f32 := (extf .f32 · bitsLt_bf16_f32) main_arg3
  let main_v12 : FVec F S2048x2816 .f32 := Host.absf main_v11
  let main_cst_2 : FVec F S_ .f32 := constant S_ .f32 0x7F800000#32
  let main_v13 : FVec F S2048x2816 .f32 := broadcastInDim S2048x2816 ![] bcast_S_S2048x2816 main_cst_2
  let main_v14 : IVec S2048x2816 1 := cmpf .olt main_v12 main_v13
  let main_c_3 : IVec S_ 1 := constantI S_ 1 1#1
  let main_v15 : IVec S_ 1 := (fun x v => Host.reduce IntOp.andi x v reducesTo_S2048x2816_S_d0_1 h_S_) main_v14 main_c_3
  let main_v16 : IVec S_ 1 := andi main_v10 main_v15
  main_v16
-- ==== Kernel.lean ====
abbrev S2048x1536 : Shape := ⟨2, ![2048, 1536]⟩
abbrev S2048x1024 : Shape := ⟨2, ![2048, 1024]⟩
abbrev S8x2048 : Shape := ⟨2, ![8, 2048]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048x1 : Shape := ⟨3, ![8, 2048, 1]⟩
abbrev S8x64x2048 : Shape := ⟨3, ![8, 64, 2048]⟩
abbrev S4x2x2048 : Shape := ⟨3, ![4, 2, 2048]⟩
abbrev S4x2048x2 : Shape := ⟨3, ![4, 2048, 2]⟩
abbrev S32x512 : Shape := ⟨2, ![32, 512]⟩
abbrev S3x2048x512 : Shape := ⟨3, ![3, 2048, 512]⟩
abbrev S2048x128 : Shape := ⟨2, ![2048, 128]⟩
abbrev S1x2048x2 : Shape := ⟨3, ![1, 2048, 2]⟩
abbrev S3x2048x128 : Shape := ⟨3, ![3, 2048, 128]⟩
abbrev S2048x2 : Shape := ⟨2, ![2048, 2]⟩
abbrev S4x1024x128 : Shape := ⟨3, ![4, 1024, 128]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S1x1024x128 : Shape := ⟨3, ![1, 1024, 128]⟩
abbrev S512x2 : Shape := ⟨2, ![512, 2]⟩
abbrev S1x512 : Shape := ⟨2, ![1, 512]⟩
abbrev S512x512 : Shape := ⟨2, ![512, 512]⟩
abbrev S1024x512 : Shape := ⟨2, ![1024, 512]⟩
abbrev S1x512x1 : Shape := ⟨3, ![1, 512, 1]⟩
abbrev S1024x1 : Shape := ⟨2, ![1024, 1]⟩
abbrev S1024 : Shape := ⟨1, ![1024]⟩
abbrev S512x1024 : Shape := ⟨2, ![512, 1024]⟩
abbrev S1x512x128 : Shape := ⟨3, ![1, 512, 128]⟩
abbrev S1x2048x128 : Shape := ⟨3, ![1, 2048, 128]⟩

abbrev nBuf : Space → Nat
  | .hbm => 53
  | .vmem => 24
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .f32⟩
  | .hbm, ⟨2, _⟩ => ⟨S8x2048, .f32⟩
  | .hbm, ⟨3, _⟩ => ⟨S2048x1536, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x8x64, .f32⟩
  | .hbm, ⟨8, _⟩ => ⟨S2048x8x64, .f32⟩
  | .hbm, ⟨9, _⟩ => ⟨S2048x8x64, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x64x2048, .f32⟩
  | .hbm, ⟨41, _⟩ => ⟨S2048x8x64, .f32⟩
  | .hbm, ⟨42, _⟩ => ⟨S8x2048x1, .f32⟩
  | .hbm, ⟨43, _⟩ => ⟨S8x2048x1, .f32⟩
  | .hbm, ⟨44, _⟩ => ⟨S8x2048, .f32⟩
  | .hbm, ⟨45, _⟩ => ⟨S4x2x2048, .f32⟩
  | .hbm, ⟨46, _⟩ => ⟨S4x2048x2, .f32⟩
  | .hbm, ⟨47, _⟩ => ⟨S2048x512, .f32⟩
  | .hbm, ⟨48, _⟩ => ⟨S2048x512, .bf16⟩
  | .hbm, ⟨49, _⟩ => ⟨S32x512, .f32⟩
  | .hbm, ⟨50, _⟩ => ⟨S3x2048x512, .bf16⟩
  | .hbm, ⟨51, _⟩ => ⟨S32x512, .f32⟩
  | .hbm, ⟨52, _⟩ => ⟨S4x2048x2, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S1x2048x2, .f32⟩
  | .local _ .vmem, ⟨11, _⟩ => ⟨S1x2048x2, .f32⟩
  | .local _ .vmem, ⟨12, _⟩ => ⟨S32x512, .f32⟩
  | .local _ .vmem, ⟨13, _⟩ => ⟨S3x2048x128, .bf16⟩
  | .local _ .vmem, ⟨14, _⟩ => ⟨S3x2048x128, .bf16⟩
  | .local _ .vmem, ⟨15, _⟩ => ⟨S32x512, .f32⟩
  | .local _ .vmem, ⟨16, _⟩ => ⟨S1x2048x2, .f32⟩
  | .local _ .vmem, ⟨17, _⟩ => ⟨S1x2048x2, .f32⟩
  | .local _ .vmem, ⟨18, _⟩ => ⟨S2048x128, .f32⟩
  | .local _ .vmem, ⟨19, _⟩ => ⟨S2048x2, .f32⟩
  | .local _ .vmem, ⟨20, _⟩ => ⟨S2048x2, .f32⟩
  | .local _ .vmem, ⟨21, _⟩ => ⟨S4x1024x128, .bf16⟩
  | .local _ .vmem, ⟨22, _⟩ => ⟨S4x1024x128, .bf16⟩
  | .local _ .vmem, ⟨23, _⟩ => ⟨S4x1024x128, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c4_i32_2 : BitVec 32 := 4#32
  let v13 : BitVec 32 := Scalar.addi c0_i32_1 c4_i32_2
  let c1_i32 : BitVec 32 := 1#32
  ⟨c0_i32_1, v13, c1_i32⟩
def k0_mult1 (k0_t1 : Fin k0_t1_loop.trips) : BitVec 32 :=
  let c0_i32_1 : BitVec 32 := 0#32
  let c1_i32 : BitVec 32 := 1#32
  let arg17 : BitVec 32 := Scf.iv c0_i32_1 c1_i32 k0_t1
  let c512_i32 : BitVec 32 := 512#32
  let v24 : BitVec 32 := Scalar.muli arg17 c512_i32
  v24
def k0_off1 (k0_t1 : Fin k0_t1_loop.trips) : Fin 2 → Nat :=
  let c0_i32_1 : BitVec 32 := 0#32
  let c1_i32 : BitVec 32 := 1#32
  let arg17 : BitVec 32 := Scf.iv c0_i32_1 c1_i32 k0_t1
  let c512_i32 : BitVec 32 := 512#32
  let v24 : BitVec 32 := Scalar.muli arg17 c512_i32
  let v25 : BitVec 32 := v24
  let v26 : Index := Scalar.indexCast v25
  let c0_17 : Index := 0#32
  ![v26.toNat, 0]
def k0_off2 (k0_t1 : Fin k0_t1_loop.trips) : Fin 2 → Nat :=
  let c0_i32_1 : BitVec 32 := 0#32
  let c1_i32 : BitVec 32 := 1#32
  let arg17 : BitVec 32 := Scf.iv c0_i32_1 c1_i32 k0_t1
  let c512_i32 : BitVec 32 := 512#32
  let v24 : BitVec 32 := Scalar.muli arg17 c512_i32
  let v25 : BitVec 32 := v24
  let v37 : Index := Scalar.indexCast v25
  let c0_20 : Index := 0#32
  ![v37.toNat, 0]
def k0_off3 (k0_t1 : Fin k0_t1_loop.trips) : Fin 2 → Nat :=
  let c0_i32_1 : BitVec 32 := 0#32
  let c1_i32 : BitVec 32 := 1#32
  let arg17 : BitVec 32 := Scf.iv c0_i32_1 c1_i32 k0_t1
  let c512_i32 : BitVec 32 := 512#32
  let v24 : BitVec 32 := Scalar.muli arg17 c512_i32
  let v25 : BitVec 32 := v24
  let v45 : Index := Scalar.indexCast v25
  let c1 : Index := 1#32
  ![v45.toNat, 1]
def k0_off4 (k0_t1 : Fin k0_t1_loop.trips) : Fin 3 → Nat :=
  let c0_i32_1 : BitVec 32 := 0#32
  let c1_i32 : BitVec 32 := 1#32
  let arg17 : BitVec 32 := Scf.iv c0_i32_1 c1_i32 k0_t1
  let v56 : Index := Scalar.indexCast arg17
  let c0_26 : Index := 0#32
  let c0_27 : Index := 0#32
  ![v56.toNat, 0, 0]
def k0_off5 (k0_t1 : Fin k0_t1_loop.trips) : Fin 2 → Nat :=
  let c0_i32_1 : BitVec 32 := 0#32
  let c1_i32 : BitVec 32 := 1#32
  let arg17 : BitVec 32 := Scf.iv c0_i32_1 c1_i32 k0_t1
  let c512_i32 : BitVec 32 := 512#32
  let v24 : BitVec 32 := Scalar.muli arg17 c512_i32
  let v25 : BitVec 32 := v24
  let v87 : Index := Scalar.indexCast v25
  let c0_40 : Index := 0#32
  ![v87.toNat, 0]
@[reducible] def k0_t2_loop : Scf.Loop 32 :=
  let c0_i32_4 : BitVec 32 := 0#32
  let c4_i32_5 : BitVec 32 := 4#32
  let v14 : BitVec 32 := Scalar.addi c0_i32_4 c4_i32_5
  let c1_i32_6 : BitVec 32 := 1#32
  ⟨c0_i32_4, v14, c1_i32_6⟩
def k0_mult2 (k0_t2 : Fin k0_t2_loop.trips) : BitVec 32 :=
  let c0_i32_4 : BitVec 32 := 0#32
  let c1_i32_6 : BitVec 32 := 1#32
  let arg17 : BitVec 32 := Scf.iv c0_i32_4 c1_i32_6 k0_t2
  let c512_i32 : BitVec 32 := 512#32
  let v24 : BitVec 32 := Scalar.muli arg17 c512_i32
  v24
def k0_off6 (k0_t2 : Fin k0_t2_loop.trips) : Fin 2 → Nat :=
  let c0_i32_4 : BitVec 32 := 0#32
  let c1_i32_6 : BitVec 32 := 1#32
  let arg17 : BitVec 32 := Scf.iv c0_i32_4 c1_i32_6 k0_t2
  let c512_i32 : BitVec 32 := 512#32
  let v24 : BitVec 32 := Scalar.muli arg17 c512_i32
  let v25 : BitVec 32 := v24
  let v26 : Index := Scalar.indexCast v25
  let c0_17 : Index := 0#32
  ![v26.toNat, 0]
def k0_off7 (k0_t2 : Fin k0_t2_loop.trips) : Fin 3 → Nat :=
  let c0_i32_4 : BitVec 32 := 0#32
  let c1_i32_6 : BitVec 32 := 1#32
  let arg17 : BitVec 32 := Scf.iv c0_i32_4 c1_i32_6 k0_t2
  let v30 : Index := Scalar.indexCast arg17
  let c0_19 : Index := 0#32
  let c0_20 : Index := 0#32
  ![v30.toNat, 0, 0]
def k0_off8 (i : grid0.Coords) (k0_t2 : Fin k0_t2_loop.trips) (c0_i32_21 : BitVec 32) : Fin 2 → Nat :=
  let arg0 : BitVec 32 := BitVec.ofNat 32 (i 0).val
  let c2_i32 : BitVec 32 := 2#32
  let v11 : BitVec 32 := Scalar.muli arg0 c2_i32
  let c4_i32 : BitVec 32 := 4#32
  let v12 : BitVec 32 := Scalar.muli v11 c4_i32
  let v33 : BitVec 32 := Scalar.addi v12 c0_i32_21
  let c0_i32_4 : BitVec 32 := 0#32
  let c1_i32_6 : BitVec 32 := 1#32
  let arg17 : BitVec 32 := Scf.iv c0_i32_4 c1_i32_6 k0_t2
  let v34 : BitVec 32 := Scalar.addi v33 arg17
  let v35 : Index := Scalar.indexCast v34
  let c0_22 : Index := 0#32
  ![v35.toNat, 0]
def k0_mult3 (k0_t2 : Fin k0_t2_loop.trips) : BitVec 32 :=
  let c0_i32_4 : BitVec 32 := 0#32
  let c1_i32_6 : BitVec 32 := 1#32
  let arg17 : BitVec 32 := Scf.iv c0_i32_4 c1_i32_6 k0_t2
  let c512_i32_28 : BitVec 32 := 512#32
  let v52 : BitVec 32 := Scalar.muli arg17 c512_i32_28
  v52
def k0_off9 (k0_t2 : Fin k0_t2_loop.trips) : Fin 3 → Nat :=
  let c0_36 : Index := 0#32
  let c0_i32_4 : BitVec 32 := 0#32
  let c1_i32_6 : BitVec 32 := 1#32
  let arg17 : BitVec 32 := Scf.iv c0_i32_4 c1_i32_6 k0_t2
  let c512_i32_28 : BitVec 32 := 512#32
  let v52 : BitVec 32 := Scalar.muli arg17 c512_i32_28
  let v53 : BitVec 32 := v52
  let v71 : Index := Scalar.indexCast v53
  let c0_37 : Index := 0#32
  ![0, v71.toNat, 0]
def k0_off10 (k0_t2 : Fin k0_t2_loop.trips) : Fin 3 → Nat :=
  let c0_38 : Index := 0#32
  let c0_i32_4 : BitVec 32 := 0#32
  let c1_i32_6 : BitVec 32 := 1#32
  let arg17 : BitVec 32 := Scf.iv c0_i32_4 c1_i32_6 k0_t2
  let c512_i32_28 : BitVec 32 := 512#32
  let v52 : BitVec 32 := Scalar.muli arg17 c512_i32_28
  let v53 : BitVec 32 := v52
  let v74 : Index := Scalar.indexCast v53
  let c1 : Index := 1#32
  ![0, v74.toNat, 1]
def k0_off11 (k0_t2 : Fin k0_t2_loop.trips) : Fin 2 → Nat :=
  let c0_i32_4 : BitVec 32 := 0#32
  let c1_i32_6 : BitVec 32 := 1#32
  let arg17 : BitVec 32 := Scf.iv c0_i32_4 c1_i32_6 k0_t2
  let c512_i32_28 : BitVec 32 := 512#32
  let v52 : BitVec 32 := Scalar.muli arg17 c512_i32_28
  let v53 : BitVec 32 := v52
  let v85 : Index := Scalar.indexCast v53
  let c0_41 : Index := 0#32
  ![v85.toNat, 0]
def k0_off12 (k0_t2 : Fin k0_t2_loop.trips) : Fin 2 → Nat :=
  let c0_i32_4 : BitVec 32 := 0#32
  let c1_i32_6 : BitVec 32 := 1#32
  let arg17 : BitVec 32 := Scf.iv c0_i32_4 c1_i32_6 k0_t2
  let c512_i32_28 : BitVec 32 := 512#32
  let v52 : BitVec 32 := Scalar.muli arg17 c512_i32_28
  let v53 : BitVec 32 := v52
  let v87 : Index := Scalar.indexCast v53
  let c1_42 : Index := 1#32
  ![v87.toNat, 1]
@[reducible] def k0_t3_loop (k0_t2 : Fin k0_t2_loop.trips) : Scf.Loop 32 :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let c1_i32_58 : BitVec 32 := 1#32
  ⟨v135, v140, c1_i32_58⟩
def k0_mult4 (k0_t2 : Fin k0_t2_loop.trips) (k0_t3 : Fin (k0_t3_loop k0_t2).trips) : BitVec 32 :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c1_i32_58 : BitVec 32 := 1#32
  let arg18 : BitVec 32 := Scf.iv v135 c1_i32_58 k0_t3
  let c512_i32_67 : BitVec 32 := 512#32
  let v161 : BitVec 32 := Scalar.muli arg18 c512_i32_67
  v161
def k0_off13 (k0_t2 : Fin k0_t2_loop.trips) (k0_t3 : Fin (k0_t3_loop k0_t2).trips) : Fin 3 → Nat :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c1_i32_58 : BitVec 32 := 1#32
  let arg18 : BitVec 32 := Scf.iv v135 c1_i32_58 k0_t3
  let v163 : Index := Scalar.indexCast arg18
  let c0_68 : Index := 0#32
  let c0_69 : Index := 0#32
  ![v163.toNat, 0, 0]
def k0_off14 (k0_t2 : Fin k0_t2_loop.trips) (k0_t3 : Fin (k0_t3_loop k0_t2).trips) : Fin 3 → Nat :=
  let c0_74 : Index := 0#32
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c1_i32_58 : BitVec 32 := 1#32
  let arg18 : BitVec 32 := Scf.iv v135 c1_i32_58 k0_t3
  let c512_i32_67 : BitVec 32 := 512#32
  let v161 : BitVec 32 := Scalar.muli arg18 c512_i32_67
  let v162 : BitVec 32 := v161
  let v173 : Index := Scalar.indexCast v162
  let c0_75 : Index := 0#32
  ![0, v173.toNat, 0]
def k0_off15 (k0_t2 : Fin k0_t2_loop.trips) (k0_t3 : Fin (k0_t3_loop k0_t2).trips) : Fin 3 → Nat :=
  let c0_76 : Index := 0#32
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c1_i32_58 : BitVec 32 := 1#32
  let arg18 : BitVec 32 := Scf.iv v135 c1_i32_58 k0_t3
  let c512_i32_67 : BitVec 32 := 512#32
  let v161 : BitVec 32 := Scalar.muli arg18 c512_i32_67
  let v162 : BitVec 32 := v161
  let v176 : Index := Scalar.indexCast v162
  let c1_77 : Index := 1#32
  ![0, v176.toNat, 1]
def k0_off16 (k0_t2 : Fin k0_t2_loop.trips) (k0_t3 : Fin (k0_t3_loop k0_t2).trips) : Fin 2 → Nat :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c1_i32_58 : BitVec 32 := 1#32
  let arg18 : BitVec 32 := Scf.iv v135 c1_i32_58 k0_t3
  let c512_i32_67 : BitVec 32 := 512#32
  let v161 : BitVec 32 := Scalar.muli arg18 c512_i32_67
  let v162 : BitVec 32 := v161
  let v187 : Index := Scalar.indexCast v162
  let c0_80 : Index := 0#32
  ![v187.toNat, 0]
def k0_off17 (k0_t2 : Fin k0_t2_loop.trips) (k0_t3 : Fin (k0_t3_loop k0_t2).trips) : Fin 2 → Nat :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c1_i32_58 : BitVec 32 := 1#32
  let arg18 : BitVec 32 := Scf.iv v135 c1_i32_58 k0_t3
  let c512_i32_67 : BitVec 32 := 512#32
  let v161 : BitVec 32 := Scalar.muli arg18 c512_i32_67
  let v162 : BitVec 32 := v161
  let v189 : Index := Scalar.indexCast v162
  let c1_81 : Index := 1#32
  ![v189.toNat, 1]
def k0_off18 (k0_t2 : Fin k0_t2_loop.trips) (k0_t3 : Fin (k0_t3_loop k0_t2).trips) : Fin 2 → Nat :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c1_i32_58 : BitVec 32 := 1#32
  let arg18 : BitVec 32 := Scf.iv v135 c1_i32_58 k0_t3
  let c512_i32_67 : BitVec 32 := 512#32
  let v161 : BitVec 32 := Scalar.muli arg18 c512_i32_67
  let v162 : BitVec 32 := v161
  let v229 : Index := Scalar.indexCast v162
  let c0_91 : Index := 0#32
  ![v229.toNat, 0]
@[reducible] def k0_t4_loop (k0_t2 : Fin k0_t2_loop.trips) : Scf.Loop 32 :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let v137 : BitVec 32 := Scalar.addi v135 v136
  let c1_i32_59 : BitVec 32 := 1#32
  ⟨v140, v137, c1_i32_59⟩
def k0_mult5 (k0_t2 : Fin k0_t2_loop.trips) (k0_t4 : Fin (k0_t4_loop k0_t2).trips) : BitVec 32 :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let c1_i32_59 : BitVec 32 := 1#32
  let arg18 : BitVec 32 := Scf.iv v140 c1_i32_59 k0_t4
  let c512_i32_67 : BitVec 32 := 512#32
  let v161 : BitVec 32 := Scalar.muli arg18 c512_i32_67
  v161
def k0_off19 (k0_t2 : Fin k0_t2_loop.trips) (k0_t4 : Fin (k0_t4_loop k0_t2).trips) : Fin 3 → Nat :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let c1_i32_59 : BitVec 32 := 1#32
  let arg18 : BitVec 32 := Scf.iv v140 c1_i32_59 k0_t4
  let v163 : Index := Scalar.indexCast arg18
  let c0_68 : Index := 0#32
  let c0_69 : Index := 0#32
  ![v163.toNat, 0, 0]
def k0_off20 (k0_t2 : Fin k0_t2_loop.trips) (k0_t4 : Fin (k0_t4_loop k0_t2).trips) : Fin 3 → Nat :=
  let c0_74 : Index := 0#32
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let c1_i32_59 : BitVec 32 := 1#32
  let arg18 : BitVec 32 := Scf.iv v140 c1_i32_59 k0_t4
  let c512_i32_67 : BitVec 32 := 512#32
  let v161 : BitVec 32 := Scalar.muli arg18 c512_i32_67
  let v162 : BitVec 32 := v161
  let v173 : Index := Scalar.indexCast v162
  let c0_75 : Index := 0#32
  ![0, v173.toNat, 0]
def k0_off21 (k0_t2 : Fin k0_t2_loop.trips) (k0_t4 : Fin (k0_t4_loop k0_t2).trips) : Fin 3 → Nat :=
  let c0_76 : Index := 0#32
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let c1_i32_59 : BitVec 32 := 1#32
  let arg18 : BitVec 32 := Scf.iv v140 c1_i32_59 k0_t4
  let c512_i32_67 : BitVec 32 := 512#32
  let v161 : BitVec 32 := Scalar.muli arg18 c512_i32_67
  let v162 : BitVec 32 := v161
  let v176 : Index := Scalar.indexCast v162
  let c1_77 : Index := 1#32
  ![0, v176.toNat, 1]
def k0_off22 (k0_t2 : Fin k0_t2_loop.trips) (k0_t4 : Fin (k0_t4_loop k0_t2).trips) : Fin 2 → Nat :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let c1_i32_59 : BitVec 32 := 1#32
  let arg18 : BitVec 32 := Scf.iv v140 c1_i32_59 k0_t4
  let c512_i32_67 : BitVec 32 := 512#32
  let v161 : BitVec 32 := Scalar.muli arg18 c512_i32_67
  let v162 : BitVec 32 := v161
  let v187 : Index := Scalar.indexCast v162
  let c0_80 : Index := 0#32
  ![v187.toNat, 0]
def k0_off23 (k0_t2 : Fin k0_t2_loop.trips) (k0_t4 : Fin (k0_t4_loop k0_t2).trips) : Fin 2 → Nat :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let c1_i32_59 : BitVec 32 := 1#32
  let arg18 : BitVec 32 := Scf.iv v140 c1_i32_59 k0_t4
  let c512_i32_67 : BitVec 32 := 512#32
  let v161 : BitVec 32 := Scalar.muli arg18 c512_i32_67
  let v162 : BitVec 32 := v161
  let v189 : Index := Scalar.indexCast v162
  let c1_81 : Index := 1#32
  ![v189.toNat, 1]
def k0_off24 (k0_t2 : Fin k0_t2_loop.trips) (k0_t4 : Fin (k0_t4_loop k0_t2).trips) : Fin 2 → Nat :=
  let c0_i32_4 : BitVec 32 := 0#32
  let c1_i32_6 : BitVec 32 := 1#32
  let arg17 : BitVec 32 := Scf.iv c0_i32_4 c1_i32_6 k0_t2
  let c1_i32_55 : BitVec 32 := 1#32
  let v135 : BitVec 32 := Scalar.addi arg17 c1_i32_55
  let c4_i32_56 : BitVec 32 := 4#32
  let v136 : BitVec 32 := Scalar.subi c4_i32_56 v135
  let c1_i32_57 : BitVec 32 := 1#32
  let v138 : BitVec 32 := Scalar.divsi v136 c1_i32_57
  let v139 : BitVec 32 := Scalar.muli v138 c1_i32_57
  let v140 : BitVec 32 := Scalar.addi v135 v139
  let c1_i32_59 : BitVec 32 := 1#32
  let arg18 : BitVec 32 := Scf.iv v140 c1_i32_59 k0_t4
  let c512_i32_67 : BitVec 32 := 512#32
  let v161 : BitVec 32 := Scalar.muli arg18 c512_i32_67
  let v162 : BitVec 32 := v161
  let v229 : Index := Scalar.indexCast v162
  let c0_91 : Index := 0#32
  ![v229.toNat, 0]
def k0_off25 (k0_t2 : Fin k0_t2_loop.trips) : Fin 3 → Nat :=
  let c1_60 : Index := 1#32
  let c0_i32_4 : BitVec 32 := 0#32
  let c1_i32_6 : BitVec 32 := 1#32
  let arg17 : BitVec 32 := Scf.iv c0_i32_4 c1_i32_6 k0_t2
  let c512_i32 : BitVec 32 := 512#32
  let v24 : BitVec 32 := Scalar.muli arg17 c512_i32
  let v25 : BitVec 32 := v24
  let v144 : Index := Scalar.indexCast v25
  let c0_61 : Index := 0#32
  ![1, v144.toNat, 0]
def k0_off26 (k0_t2 : Fin k0_t2_loop.trips) : Fin 3 → Nat :=
  let c2 : Index := 2#32
  let c0_i32_4 : BitVec 32 := 0#32
  let c1_i32_6 : BitVec 32 := 1#32
  let arg17 : BitVec 32 := Scf.iv c0_i32_4 c1_i32_6 k0_t2
  let c512_i32 : BitVec 32 := 512#32
  let v24 : BitVec 32 := Scalar.muli arg17 c512_i32
  let v25 : BitVec 32 := v24
  let v149 : Index := Scalar.indexCast v25
  let c0_62 : Index := 0#32
  ![2, v149.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x1536 : Shape := ⟨2, ![2048, 1536]⟩
abbrev S2048x1024 : Shape := ⟨2, ![2048, 1024]⟩
abbrev S8x2048 : Shape := ⟨2, ![8, 2048]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x64x2048 : Shape := ⟨3, ![8, 64, 2048]⟩
abbrev S8x2048x64 : Shape := ⟨3, ![8, 2048, 64]⟩
abbrev S1x2048x512 : Shape := ⟨3, ![1, 2048, 512]⟩
abbrev S3x2048x512 : Shape := ⟨3, ![3, 2048, 512]⟩
abbrev S32x512 : Shape := ⟨2, ![32, 512]⟩
abbrev S4x2x2048 : Shape := ⟨3, ![4, 2, 2048]⟩
abbrev S4x2048x2 : Shape := ⟨3, ![4, 2048, 2]⟩

abbrev nBuf : Space → Nat
  | .hbm => 127
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .f32⟩
  | .hbm, ⟨2, _⟩ => ⟨S8x2048, .f32⟩
  | .hbm, ⟨3, _⟩ => ⟨S2048x1536, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x8x64, .f32⟩
  | .hbm, ⟨8, _⟩ => ⟨S2048x8x64, .f32⟩
  | .hbm, ⟨9, _⟩ => ⟨S2048x8x64, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S1x2048x2048, .i1⟩
  | .hbm, ⟨27, _⟩ => ⟨S_, .f32⟩
  | .hbm, ⟨28, _⟩ => ⟨S_, .f32⟩
  | .hbm, ⟨29, _⟩ => ⟨S8x2048x2048, .i1⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .i1⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .i1⟩
  | .hbm, ⟨48, _⟩ => ⟨S_, .f32⟩
  | .hbm, ⟨49, _⟩ => ⟨S8x2048, .f32⟩
  | .hbm, ⟨50, _⟩ => ⟨S8x2048, .i1⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S8x2048, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x64x2048, .f32⟩
  | .hbm, ⟨73, _⟩ => ⟨S2048x8x64, .f32⟩
  | .hbm, ⟨74, _⟩ => ⟨S2048x512, .f32⟩
  | .hbm, ⟨75, _⟩ => ⟨S2048x512, .f32⟩
  | .hbm, ⟨76, _⟩ => ⟨S2048x8x64, .f32⟩
  | .hbm, ⟨77, _⟩ => ⟨S8x64x2048, .f32⟩
  | .hbm, ⟨78, _⟩ => ⟨S8x2048x2048, .f32⟩
  | .hbm, ⟨79, _⟩ => ⟨S8x64x2048, .f32⟩
  | .hbm, ⟨80, _⟩ => ⟨S2048x8x64, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S8x2048x1, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x1x2048, .f32⟩
  | .hbm, ⟨102, _⟩ => ⟨S_, .f32⟩
  | .hbm, ⟨103, _⟩ => ⟨S8x2048, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048, .f32⟩
  | .hbm, ⟨109, _⟩ => ⟨S_, .f32⟩
  | .hbm, ⟨110, _⟩ => ⟨S8x2048x2048, .f32⟩
  | .hbm, ⟨111, _⟩ => ⟨S8x2048x2048, .f32⟩
  | .hbm, ⟨112, _⟩ => ⟨S8x2048x64, .f32⟩
  | .hbm, ⟨113, _⟩ => ⟨S2048x8x64, .f32⟩
  | .hbm, ⟨114, _⟩ => ⟨S8x2048x64, .f32⟩
  | .hbm, ⟨115, _⟩ => ⟨S2048x8x64, .f32⟩
  | .hbm, ⟨116, _⟩ => ⟨S2048x512, .f32⟩
  | .hbm, ⟨117, _⟩ => ⟨S2048x512, .f32⟩
  | .hbm, ⟨118, _⟩ => ⟨S2048x512, .f32⟩
  | .hbm, ⟨119, _⟩ => ⟨S1x2048x512, .f32⟩
  | .hbm, ⟨120, _⟩ => ⟨S1x2048x512, .f32⟩
  | .hbm, ⟨121, _⟩ => ⟨S1x2048x512, .f32⟩
  | .hbm, ⟨122, _⟩ => ⟨S3x2048x512, .f32⟩
  | .hbm, ⟨123, _⟩ => ⟨S3x2048x512, .bf16⟩
  | .hbm, ⟨124, _⟩ => ⟨S32x512, .f32⟩
  | .hbm, ⟨125, _⟩ => ⟨S4x2x2048, .f32⟩
  | .hbm, ⟨126, _⟩ => ⟨S4x2048x2, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_v23_1 : Ref sig .tc := ⟨.hbm, 29, rfl⟩
abbrev main_call0_v2 : Ref sig .tc := ⟨.hbm, 30, rfl⟩
abbrev main_v23_0 : Ref sig .tc := ⟨.hbm, 31, rfl⟩
abbrev main_call0_cst : Ref sig .tc := ⟨.hbm, 32, rfl⟩
abbrev main_v23_2 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .hbm, ⟨5, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩
abbrev S1024x2816 : Shape := ⟨2, ![1024, 2816]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2048x2816, .f32⟩
  | .hbm, ⟨5, _⟩ => ⟨S2048x2816, .f32⟩
  | .hbm, ⟨6, _⟩ => ⟨S2816x1024, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S2048x1024, .f32⟩
  | .hbm, ⟨23, _⟩ => ⟨S1024x2816, .f32⟩
  | .hbm, ⟨24, _⟩ => ⟨S2816x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .bf16⟩
  | .hbm, ⟨33, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2048x2816, .f32⟩
  | .hbm, ⟨10, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S8x1024 : Shape := ⟨2, ![8, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S_ : Shape := ⟨0, ![]⟩
abbrev S1024x5632 : Shape := ⟨2, ![1024, 5632]⟩
abbrev S2048 : Shape := ⟨1, ![2048]⟩
abbrev S2048x1 : Shape := ⟨2, ![2048, 1]⟩
abbrev S2048x5632 : Shape := ⟨2, ![2048, 5632]⟩
abbrev S1024 : Shape := ⟨1, ![1024]⟩
abbrev S5x1024 : Shape := ⟨2, ![5, 1024]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S5632x1024, .f32⟩
  | .hbm, ⟨10, _⟩ => ⟨S1024x5632, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x5632, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x5632, .f32⟩
  | .hbm, ⟨43, _⟩ => ⟨S5632x1024, .f32⟩
  | .hbm, ⟨44, _⟩ => ⟨S1024x5632, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S5x1024, .f32⟩
  | .hbm, ⟨81, _⟩ => ⟨S8x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel5.lean ====
abbrev S2048x1024 : Shape := ⟨2, ![2048, 1024]⟩
abbrev S5632x1024 : Shape := ⟨2, ![5632, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 5
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S5632x1024, .f32⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x2816, .bf16⟩
  | .hbm, ⟨9, _⟩ => ⟨S2048x2816, .bf16⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S3x2048x512 : Shape := ⟨3, ![3, 2048, 512]⟩
abbrev S2048x1024 : Shape := ⟨2, ![2048, 1024]⟩
abbrev S1536x1024 : Shape := ⟨2, ![1536, 1024]⟩
abbrev S1x2048x512 : Shape := ⟨3, ![1, 2048, 512]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S3x2048x512, .bf16⟩
  | .hbm, ⟨1, _⟩ => ⟨S2048x1024, .bf16⟩
  | .hbm, ⟨2, _⟩ => ⟨S1536x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S3x2048x512 : Shape := ⟨3, ![3, 2048, 512]⟩
abbrev S2048x1024 : Shape := ⟨2, ![2048, 1024]⟩
abbrev S_ : Shape := ⟨0, ![]⟩
abbrev S1024x1536 : Shape := ⟨2, ![1024, 1536]⟩
abbrev S1x2048x512 : Shape := ⟨3, ![1, 2048, 512]⟩
abbrev S2048x512 : Shape := ⟨2, ![2048, 512]⟩
abbrev S2048x1536 : Shape := ⟨2, ![2048, 1536]⟩
abbrev S1536x1024 : Shape := ⟨2, ![1536, 1024]⟩

abbrev nBuf : Space → Nat
  | .hbm => 21
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S2048x1024, .bf16⟩
  | .hbm, ⟨2, _⟩ => ⟨S_, .f32⟩
  | .hbm, ⟨3, _⟩ => ⟨S1024x1536, .f32⟩
  | .hbm, ⟨4, _⟩ => ⟨S3x2048x512, .f32⟩
  | .hbm, ⟨5, _⟩ => ⟨S1x2048x512, .f32⟩
  | .hbm, ⟨6, _⟩ => ⟨S2048x512, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S2048x512, .f32⟩
  | .hbm, ⟨11, _⟩ => ⟨S2048x1024, .f32⟩
  | .hbm, ⟨12, _⟩ => ⟨S2048x1536, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x1536, .f32⟩
  | .hbm, ⟨17, _⟩ => ⟨S1536x1024, .f32⟩
  | .hbm, ⟨18, _⟩ => ⟨S1024x1536, .f32⟩
  | .hbm, ⟨19, _⟩ => ⟨S2048x1024, .f32⟩
  | .hbm, ⟨20, _⟩ => ⟨S1536x1024, .f32⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S2568x1024 : Shape := ⟨2, ![2568, 1024]⟩
abbrev S2048x1536 : Shape := ⟨2, ![2048, 1536]⟩
abbrev S768x1024 : Shape := ⟨2, ![768, 1024]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2568x1024, .bf16⟩
  | .hbm, ⟨2, _⟩ => ⟨S2048x1536, .bf16⟩
  | .local _ .vmem, ⟨0, _⟩ => ⟨S2048x1024, .bf16⟩
  | .local _ .vmem, ⟨1, _⟩ => ⟨S768x1024, .bf16⟩
  | .local _ .vmem, ⟨2, _⟩ => ⟨S768x1024, .bf16⟩
  | .local _ .vmem, ⟨3, _⟩ => ⟨S2048x768, .bf16⟩
  | .local _ .vmem, ⟨4, _⟩ => ⟨S2048x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x1024 : Shape := ⟨2, ![2048, 1024]⟩
abbrev S2568x1024 : Shape := ⟨2, ![2568, 1024]⟩
abbrev S1024x2568 : Shape := ⟨2, ![1024, 2568]⟩
abbrev S2048x2568 : Shape := ⟨2, ![2048, 2568]⟩
abbrev S2048x1536 : Shape := ⟨2, ![2048, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2568x1024, .bf16⟩
  | .hbm, ⟨2, _⟩ => ⟨S2048x1024, .f32⟩
  | .hbm, ⟨3, _⟩ => ⟨S2568x1024, .f32⟩
  | .hbm, ⟨4, _⟩ => ⟨S1024x2568, .f32⟩
  | .hbm, ⟨5, _⟩ => ⟨S2048x2568, .f32⟩
  | .hbm, ⟨6, _⟩ => ⟨S2048x1536, .f32⟩
  | .hbm, ⟨7, _⟩ => ⟨S2048x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S3x2048x512 : Shape := ⟨3, ![3, 2048, 512]⟩
abbrev S2048x16 : Shape := ⟨2, ![2048, 16]⟩
abbrev S2048x1024 : Shape := ⟨2, ![2048, 1024]⟩
abbrev S2568x1024 : Shape := ⟨2, ![2568, 1024]⟩
abbrev S1x1024 : Shape := ⟨2, ![1, 1024]⟩
abbrev S8x1024 : Shape := ⟨2, ![8, 1024]⟩
abbrev S_ : Shape := ⟨0, ![]⟩
abbrev S16x1024 : Shape := ⟨2, ![16, 1024]⟩
abbrev S1024x1024 : Shape := ⟨2, ![1024, 1024]⟩
abbrev S1x2048x512 : Shape := ⟨3, ![1, 2048, 512]⟩
abbrev S2048x512 : Shape := ⟨2, ![2048, 512]⟩
abbrev S512x512 : Shape := ⟨2, ![512, 512]⟩
abbrev S512x1024 : Shape := ⟨2, ![512, 1024]⟩
abbrev S512x16 : Shape := ⟨2, ![512, 16]⟩
abbrev S512 : Shape := ⟨1, ![512]⟩
abbrev S512x1 : Shape := ⟨2, ![512, 1]⟩
abbrev S1024 : Shape := ⟨1, ![1024]⟩

abbrev nBuf : Space → Nat
  | .hbm => 21
  | .vmem => 24
  | .smem => 0
  | _ => 0

abbrev bufTy : (tb : Table) → Fin (tcTables nBuf tb) → BufTy
  | .hbm, ⟨0, _⟩ => ⟨S3x2048x512, .bf16⟩
  | .hbm, ⟨1, _⟩ => ⟨S2048x16, .bf16⟩
  | .hbm, ⟨2, _⟩ => ⟨S2048x1024, .bf16⟩
  | .hbm, ⟨3, _⟩ => ⟨S2568x1024, .bf16⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S8x1024, .bf16⟩
  | .hbm, ⟨9, _⟩ => ⟨S_, .i32⟩
  | .hbm, ⟨10, _⟩ => ⟨S_, .bf16⟩
  | .hbm, ⟨11, _⟩ => ⟨S16x1024, .bf16⟩
  | .hbm, ⟨12, _⟩ => ⟨S1024x1024, .bf16⟩
  | .hbm, ⟨13, _⟩ => ⟨S1x2048x512, .bf16⟩
  | .hbm, ⟨14, _⟩ => ⟨S2048x512, .bf16⟩
  | .hbm, ⟨15, _⟩ => ⟨S1x2048x512, .bf16⟩
  | .hbm, ⟨16, _⟩ => ⟨S2048x512, .bf16⟩
  | .hbm, ⟨17, _⟩ => ⟨S1x2048x512, .bf16⟩
  | .hbm, ⟨18, _⟩ => ⟨S2048x512, .bf16⟩
  | .hbm, ⟨19, _⟩ => ⟨S2048x1024, .f32⟩
  | .hbm, ⟨20, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x16, .bf16⟩
  | .local _ .vmem, ⟨10, _⟩ => ⟨S512x16, .bf16⟩
  | .local _ .vmem, ⟨11, _⟩ => ⟨S16x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference11Ideal.lean ====
abbrev S3x2048x512 : Shape := ⟨3, ![3, 2048, 512]⟩
abbrev S2048x16 : Shape := ⟨2, ![2048, 16]⟩
abbrev S2048x1024 : Shape := ⟨2, ![2048, 1024]⟩
abbrev S2568x1024 : Shape := ⟨2, ![2568, 1024]⟩
abbrev S1x1024 : Shape := ⟨2, ![1, 1024]⟩
abbrev S_ : Shape := ⟨0, ![]⟩
abbrev S1x2048x512 : Shape := ⟨3, ![1, 2048, 512]⟩
abbrev S2048x512 : Shape := ⟨2, ![2048, 512]⟩
abbrev S1024x2568 : Shape := ⟨2, ![1024, 2568]⟩
abbrev S2048 : Shape := ⟨1, ![2048]⟩
abbrev S2048x1 : Shape := ⟨2, ![2048, 1]⟩
abbrev S2048x2568 : Shape := ⟨2, ![2048, 2568]⟩
abbrev S2048x8 : Shape := ⟨2, ![2048, 8]⟩
abbrev S1024 : Shape := ⟨1, ![1024]⟩
abbrev S5x1024 : Shape := ⟨2, ![5, 1024]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S2048x16, .bf16⟩
  | .hbm, ⟨2, _⟩ => ⟨S2048x1024, .bf16⟩
  | .hbm, ⟨3, _⟩ => ⟨S2568x1024, .bf16⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S3x2048x512, .f32⟩
  | .hbm, ⟨11, _⟩ => ⟨S1x2048x512, .f32⟩
  | .hbm, ⟨12, _⟩ => ⟨S2048x512, .f32⟩
  | .hbm, ⟨13, _⟩ => ⟨S1x2048x512, .f32⟩
  | .hbm, ⟨14, _⟩ => ⟨S2048x512, .f32⟩
  | .hbm, ⟨15, _⟩ => ⟨S1x2048x512, .f32⟩
  | .hbm, ⟨16, _⟩ => ⟨S2048x512, .f32⟩
  | .hbm, ⟨17, _⟩ => ⟨S2048x1024, .f32⟩
  | .hbm, ⟨18, _⟩ => ⟨S2048x512, .f32⟩
  | .hbm, ⟨19, _⟩ => ⟨S2048x512, .f32⟩
  | .hbm, ⟨20, _⟩ => ⟨S2568x1024, .f32⟩
  | .hbm, ⟨21, _⟩ => ⟨S1024x2568, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x2568, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x8, .f32⟩
  | .hbm, ⟨53, _⟩ => ⟨S2048x512, .f32⟩
  | .hbm, ⟨54, _⟩ => ⟨S2048x512, .f32⟩
  | .hbm, ⟨55, _⟩ => ⟨S2048x8, .bf16⟩
  | .hbm, ⟨56, _⟩ => ⟨S2048x8, .f32⟩
  | .hbm, ⟨57, _⟩ => ⟨S2048x2568, .f32⟩
  | .hbm, ⟨58, _⟩ => ⟨S2568x1024, .f32⟩
  | .hbm, ⟨59, _⟩ => ⟨S1024x2568, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S_, .f32⟩
  | .hbm, ⟨95, _⟩ => ⟨S5x1024, .f32⟩
  | .hbm, ⟨96, _⟩ => ⟨S8x1024, .f32⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== Kernel12.lean ====
abbrev S2048x1024 : Shape := ⟨2, ![2048, 1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .bf16⟩
  | .hbm, ⟨5, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S_, .f32⟩
  | .hbm, ⟨56, _⟩ => ⟨S6x1024, .f32⟩
  | .hbm, ⟨57, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel13.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference13Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x2816, .f32⟩
  | .hbm, ⟨9, _⟩ => ⟨S2816x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel14.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference15Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel16.lean ====
abbrev S1024x8 : Shape := ⟨2, ![1024, 8]⟩
abbrev S4x8x768 : Shape := ⟨3, ![4, 8, 768]⟩
abbrev S4x1024x768 : Shape := ⟨3, ![4, 1024, 768]⟩
abbrev S1x8x768 : Shape := ⟨3, ![1, 8, 768]⟩
abbrev S1x1024x768 : Shape := ⟨3, ![1, 1024, 768]⟩
abbrev S1024x1 : Shape := ⟨2, ![1024, 1]⟩
abbrev S1x1x768 : Shape := ⟨3, ![1, 1, 768]⟩
abbrev S1x768 : Shape := ⟨2, ![1, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S4x1024x768, .f32⟩
  | .local _ .vmem, ⟨0, _⟩ => ⟨S1024x8, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S1024x8 : Shape := ⟨2, ![1024, 8]⟩
abbrev S4x8x768 : Shape := ⟨3, ![4, 8, 768]⟩
abbrev S_ : Shape := ⟨0, ![]⟩
abbrev S4x1024x768 : Shape := ⟨3, ![4, 1024, 768]⟩
abbrev S4x1x768 : Shape := ⟨3, ![4, 1, 768]⟩
abbrev S8x1024 : Shape := ⟨2, ![8, 1024]⟩
abbrev S4x768x8 : Shape := ⟨3, ![4, 768, 8]⟩
abbrev S4x768x1024 : Shape := ⟨3, ![4, 768, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S_, .f32⟩
  | .hbm, ⟨3, _⟩ => ⟨S4x1024x768, .f32⟩
  | .hbm, ⟨4, _⟩ => ⟨S_, .f32⟩
  | .hbm, ⟨5, _⟩ => ⟨S4x1x768, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S4x768x8, .f32⟩
  | .hbm, ⟨17, _⟩ => ⟨S4x8x768, .f32⟩
  | .hbm, ⟨18, _⟩ => ⟨S4x8x768, .f32⟩
  | .hbm, ⟨19, _⟩ => ⟨S4x8x768, .f32⟩
  | .hbm, ⟨20, _⟩ => ⟨S4x768x8, .f32⟩
  | .hbm, ⟨21, _⟩ => ⟨S4x768x1024, .f32⟩
  | .hbm, ⟨22, _⟩ => ⟨S4x1024x768, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel17.lean ====
abbrev S8x1024 : Shape := ⟨2, ![8, 1024]⟩
abbrev S4x1024x768 : Shape := ⟨3, ![4, 1024, 768]⟩
abbrev S4x1x768 : Shape := ⟨3, ![4, 1, 768]⟩
abbrev S4x8x768 : Shape := ⟨3, ![4, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x1x768, .f32⟩
  | .hbm, ⟨3, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S8x1024 : Shape := ⟨2, ![8, 1024]⟩
abbrev S4x1024x768 : Shape := ⟨3, ![4, 1024, 768]⟩
abbrev S4x1x768 : Shape := ⟨3, ![4, 1, 768]⟩
abbrev S_ : Shape := ⟨0, ![]⟩
abbrev S4x768x8 : Shape := ⟨3, ![4, 768, 8]⟩
abbrev S4x8x768 : Shape := ⟨3, ![4, 8, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x768x8, .f32⟩
  | .hbm, ⟨13, _⟩ => ⟨S4x8x768, .f32⟩
  | .hbm, ⟨14, _⟩ => ⟨S4x8x768, .f32⟩
  | .hbm, ⟨15, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel18.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel19.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x128, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel20.lean ====
abbrev S4096x768 : Shape := ⟨2, ![4096, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.KeyLoop.lean ====
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The loop over the key tiles: what the trips read stays in place, the accumulators and the two results it writes
    hold anything. -/
@[sl_loop] def keyLoop (𝒱 : Variants) (c : Dev nD) (bd : Option 𝒱.V) (E : Set ℕ) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S1x2048x2 .f32) (harg6 : arg6.IsWhole) (arg7 : Memref sig .tc .vmem S32x512 .f32) (harg7 : arg7.IsWhole) (arg8 : Memref sig .tc .vmem S3x2048x128 .bf16) (harg8 : arg8.IsWhole) (arg9 : Memref sig .tc .vmem S32x512 .f32) (harg9 : arg9.IsWhole) (arg10 : Memref sig .tc .vmem S1x2048x2 .f32) (harg10 : arg10.IsWhole) (arg11 : Memref sig .tc .vmem S2048x128 .f32) (harg11 : arg11.IsWhole) (arg12 : Memref sig .tc .vmem S2048x2 .f32) (harg12 : arg12.IsWhole) (arg13 : Memref sig .tc .vmem S2048x2 .f32) (harg13 : arg13.IsWhole) (arg14 : Memref sig .tc .vmem S4x1024x128 .bf16) (harg14 : arg14.IsWhole) (arg15 : Memref sig .tc .vmem S4x1024x128 .bf16) (harg15 : arg15.IsWhole) (arg16 : Memref sig .tc .vmem S4x1024x128 .bf16) (harg16 : arg16.IsWhole) (v12 : BitVec 32) (X2 : BufTy.Contents (Elt F) arg2.view.ty) (X3 : BufTy.Contents (Elt F) arg3.view.ty) (X6 : BufTy.Contents (Elt F) arg6.view.ty) (X7 : BufTy.Contents (Elt F) arg7.view.ty) (X12 : BufTy.Contents (Elt F) arg12.view.ty) (X14 : BufTy.Contents (Elt F) arg14.view.ty) (X15 : BufTy.Contents (Elt F) arg15.view.ty) (X16 : BufTy.Contents (Elt F) arg16.view.ty) :
    Gen.LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v12 where
  inv := fun _ _ => iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (∃ f, (arg8.view.loc (c : Thread nD τ) ↦[arg8.view.set]{fullShare} f)) ∗ (∃ f, (arg9.view.loc (c : Thread nD τ) ↦[arg9.view.set]{fullShare} f)) ∗ (∃ f, (arg11.view.loc (c : Thread nD τ) ↦[arg11.view.set]{fullShare} f)) ∗ (∃ f, (arg13.view.loc (c : Thread nD τ) ↦[arg13.view.set]{fullShare} f)))
  step k acc := by
    have hk : k.val < 4 := Nat.lt_of_lt_of_le k.isLt k0_t2_abs.2.1
    unfold k0_t2_body
    iintro ⟨H2, H3, H6, H7, H12, H14, H15, H16, ⟨%f8, H8⟩, ⟨%f9, H9⟩, ⟨%f11, H11⟩, ⟨%f13, H13⟩⟩
    sl_exec
    sl_step
    isplitl [H2]; · iexact H2
    isplitl [H3]; · iexact H3
    isplitl [H6]; · iexact H6
    isplitl [H7]; · iexact H7
    isplitl [H12]; · iexact H12
    isplitl [H14]; · iexact H14
    isplitl [H15]; · iexact H15
    isplitl [H16]; · iexact H16
    isplitl [H8]; · iexists _; iexact H8
    isplitl [H9]; · iexists _; iexact H9
    isplitl [H11]; · iexists _; iexact H11
    iexists _; iexact H13

end Cert.Kernel.Hand

end
-- ==== Proof.Frames.lean ====
module

public import proofs.«01_k».proof.Proof.KeyLoop
public import proofs.«01_k».proof.Proof.Gen.Kernel.Launch
public import proofs.«01_k».proof.Proof.Gen.Kernel.Points

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at a point, as the body is called with it. -/
abbrev ms0_0 (t : Fin cfg0.N) : Memref sig .tc .vmem S2048x128 .bf16 := win0_0.stage (cfg0.slots t 0)
abbrev ms0_1 (t : Fin cfg0.N) : Memref sig .tc .vmem S2048x128 .bf16 := win0_1.stage (cfg0.slots t 1)
abbrev ms0_2 (t : Fin cfg0.N) : Memref sig .tc .vmem S2048x128 .bf16 := win0_2.stage (cfg0.slots t 2)
abbrev ms0_3 (t : Fin cfg0.N) : Memref sig .tc .vmem S2048x128 .f32 := win0_3.stage (cfg0.slots t 3)
abbrev ms0_4 (t : Fin cfg0.N) : Memref sig .tc .vmem S2048x128 .bf16 := win0_4.stage (cfg0.slots t 4)
abbrev ms0_5 (t : Fin cfg0.N) : Memref sig .tc .vmem S1x2048x2 .f32 := win0_5.stage (cfg0.slots t 5)
abbrev ms0_6 (t : Fin cfg0.N) : Memref sig .tc .vmem S32x512 .f32 := win0_6.stage (cfg0.slots t 6)
abbrev ms0_7 (t : Fin cfg0.N) : Memref sig .tc .vmem S3x2048x128 .bf16 := win0_7.stage (cfg0.slots t 7)
abbrev ms0_8 (t : Fin cfg0.N) : Memref sig .tc .vmem S32x512 .f32 := win0_8.stage (cfg0.slots t 8)
abbrev ms0_9 (t : Fin cfg0.N) : Memref sig .tc .vmem S1x2048x2 .f32 := win0_9.stage (cfg0.slots t 9)

/-- The invariant of the region: the six scratch buffers at some contents, and the generator register. -/
theorem phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

set_option maxHeartbeats 4000000 in
/-- The body's triple: the inputs stay, the results and the scratch end at some contents. -/
theorem bodyRun (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S1x2048x2 .f32) (harg6 : arg6.IsWhole) (arg7 : Memref sig .tc .vmem S32x512 .f32) (harg7 : arg7.IsWhole) (arg8 : Memref sig .tc .vmem S3x2048x128 .bf16) (harg8 : arg8.IsWhole) (arg9 : Memref sig .tc .vmem S32x512 .f32) (harg9 : arg9.IsWhole) (arg10 : Memref sig .tc .vmem S1x2048x2 .f32) (harg10 : arg10.IsWhole) (arg11 : Memref sig .tc .vmem S2048x128 .f32) (harg11 : arg11.IsWhole) (arg12 : Memref sig .tc .vmem S2048x2 .f32) (harg12 : arg12.IsWhole) (arg13 : Memref sig .tc .vmem S2048x2 .f32) (harg13 : arg13.IsWhole) (arg14 : Memref sig .tc .vmem S4x1024x128 .bf16) (harg14 : arg14.IsWhole) (arg15 : Memref sig .tc .vmem S4x1024x128 .bf16) (harg15 : arg15.IsWhole) (arg16 : Memref sig .tc .vmem S4x1024x128 .bf16) (harg16 : arg16.IsWhole)
    (x1 : Vec F S2048x128 .bf16) (x2 : Vec F S2048x128 .bf16) (x3 : Vec F S2048x128 .bf16) (x4 : Vec F S2048x128 .f32) (x5 : Vec F S2048x128 .bf16) (x6 : Vec F S1x2048x2 .f32) (x7 : Vec F S32x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_eq_skeleton]; unfold cc0_attn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-- The results: nothing is named of what the kernel leaves in them. -/
def results : Fin 10 → Bool := fun w => 7 ≤ w.val

/-- The proof data: the arrays as the region finds them, the inputs' buffers at their blocks after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The body at any point. -/
theorem bodyAt (c : Dev nD) (t : Fin cfg0.N) :
    iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare d) ∗ (∃ d, owns (c : Thread nD τ) (ms0_8 t) fullShare d) ∗ (∃ d, owns (c : Thread nD τ) (ms0_9 t) fullShare d))
      ⊢ wp frame (wpE (defs₀ (F := F)) Variants.none c none) Set.univ (bodyAt0 t)
        (fun _ => iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ (∃ d, owns (c : Thread nD τ) (ms0_7 t) fullShare d) ∗ (∃ d, owns (c : Thread nD τ) (ms0_8 t) fullShare d) ∗ (∃ d, owns (c : Thread nD τ) (ms0_9 t) fullShare d))) := by
  unfold bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, phi_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point's slots. -/
theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ results := fun t => by
  rw [bigSep_W0, bigSep_W0, row_eq]
  exact triple_restated (bodyAt m c t) rfl .rfl fun _ => .rfl

set_option backward.isDefEq.respectTransparency.types false in
/-- The launch: every input array as found, every counter at zero. -/
theorem launched : θ_run defs (onTc (τ := τ) (main (F := F))) (s₀ m ρ)
    (fun r => (RDat.FramePost (cfgs 0) (fun c => (dats m 0 c).toRForget results) (V m)) r ∧ r.2.sem = fun _ => 0) :=
  Pipeline.θ_run_frame_forget_shared (Q' := _) cfgs (dats m) (0 : Fin 1) launch₀0 defs₀ Variants.none results m ρ main
    (hbody := fun c => (obligation m c).loose) (hq := fun _ _ _ => rfl)
    (howed := fun _ _ => rfl) (V := V m) (hmain := hmain m Variants.none) (hA := A_eq m) (hΦ := fun _ _ => rfl)

/-- The frame: every fair run ends, the arguments as launched and every counter at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(RDat.FramePost.arr_in h.1 c 2 rfl).trans ((A_eq m c 2).trans (V_main_arg0 m c)),
      (RDat.FramePost.arr_in h.1 c 3 rfl).trans ((A_eq m c 3).trans (V_main_arg1 m c)),
      ((h.1 c).2 main_arg2 (Pipeline.mem_restRefs_of main_arg2 (by decide) (by decide))).trans (V_main_arg2 m c)⟩, h.2⟩)
    (launched m ρ)

end Cert.Kernel.Hand

end
-- ==== Proof.Tiles.lean ====
module

public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic

/-! What the body computes at a grid point, tile by tile, as functions of the contents of its buffers: the payloads
of the program put together, with windows for the loads and `put` for the stores. -/

/-! ### The windows -/

theorem rows_inb (n : Fin 4) (a : Fin S2048x128.rank) : (![512 * n.val, 0] : Fin 2 → ℕ) a + S512x128.size a ≤ S2048x128.size a := by
  match a with
  | 0 => show 512 * n.val + 512 ≤ 2048; omega
  | 1 => show 0 + 128 ≤ 128; omega

theorem col_inb (n : Fin 4) (h : Fin 2) (a : Fin S2048x2.rank) : (![512 * n.val, h.val] : Fin 2 → ℕ) a + S512x1.size a ≤ S2048x2.size a := by
  match a with
  | 0 => show 512 * n.val + 512 ≤ 2048; omega
  | 1 => show h.val + 1 ≤ 2; omega

theorem both_inb (n : Fin 4) (a : Fin S2048x2.rank) : (![512 * n.val, 0] : Fin 2 → ℕ) a + S512x2.size a ≤ S2048x2.size a := by
  match a with
  | 0 => show 512 * n.val + 512 ≤ 2048; omega
  | 1 => show 0 + 2 ≤ 2; omega

theorem tile_inb (n : Fin 4) (a : Fin S4x1024x128.rank) : (![n.val, 0, 0] : Fin 3 → ℕ) a + S1x1024x128.size a ≤ S4x1024x128.size a := by
  match a with
  | 0 => show n.val + 1 ≤ 4; omega
  | 1 => show 0 + 1024 ≤ 1024; omega
  | 2 => show 0 + 128 ≤ 128; omega

theorem lse_inb (n : Fin 4) (h : Fin 2) (a : Fin S1x2048x2.rank) : (![0, 512 * n.val, h.val] : Fin 3 → ℕ) a + S1x512x1.size a ≤ S1x2048x2.size a := by
  match a with
  | 0 => show 0 + 1 ≤ 1; omega
  | 1 => show 512 * n.val + 512 ≤ 2048; omega
  | 2 => show h.val + 1 ≤ 2; omega

theorem cum_inb (g : Fin 4) (h : Fin 2) (n : Fin 4) (a : Fin S32x512.rank) : (![8 * g.val + 4 * h.val + n.val, 0] : Fin 2 → ℕ) a + S1x512.size a ≤ S32x512.size a := by
  match a with
  | 0 => show 8 * g.val + 4 * h.val + n.val + 1 ≤ 32; omega
  | 1 => show 0 + 512 ≤ 512; omega

theorem plane_inb (p : Fin 3) (n : Fin 4) (a : Fin S3x2048x128.rank) : (![p.val, 512 * n.val, 0] : Fin 3 → ℕ) a + S1x512x128.size a ≤ S3x2048x128.size a := by
  match a with
  | 0 => show p.val + 1 ≤ 3; omega
  | 1 => show 512 * n.val + 512 ≤ 2048; omega
  | 2 => show 0 + 128 ≤ 128; omega

/-- Rows `512 n` to `512 n + 511`. -/
def rows {e : EltTy} (x : Vec Ideal S2048x128 e) (n : Fin 4) : Vec Ideal S512x128 e :=
  VecWindow.window x ![512 * n.val, 0] S512x128.size (rows_inb n)

/-- The rows of a tile in one column. -/
def col (x : Vec Ideal S2048x2 .f32) (n : Fin 4) (h : Fin 2) : Vec Ideal S512x1 .f32 :=
  VecWindow.window x ![512 * n.val, h.val] S512x1.size (col_inb n h)

/-- One tile of a stacked scratch. -/
def tile (x : Vec Ideal S4x1024x128 .bf16) (n : Fin 4) : Vec Ideal S1x1024x128 .bf16 :=
  VecWindow.window x ![n.val, 0, 0] S1x1024x128.size (tile_inb n)

/-- The log sums of a tile's rows in one head. -/
def lse (x : Vec Ideal S1x2048x2 .f32) (n : Fin 4) (h : Fin 2) : Vec Ideal S1x512x1 .f32 :=
  VecWindow.window x ![0, 512 * n.val, h.val] S1x512x1.size (lse_inb n h)

/-- The running sums of a tile's columns in one head of the group `g`. -/
def cum (x : Vec Ideal S32x512 .f32) (g : Fin 4) (h : Fin 2) (n : Fin 4) : Vec Ideal S1x512 .f32 :=
  VecWindow.window x ![8 * g.val + 4 * h.val + n.val, 0] S1x512.size (cum_inb g h n)

/-! ### The row tiles: scratch written before the loop over the key tiles -/

/-- The scratch that the first loop writes: rows of the correction, the stacked queries, output cotangents and keys,
    the query gradient and the row sums. -/
structure Scr where
  del : Vec Ideal S2048x2 .f32
  qs : Vec Ideal S4x1024x128 .bf16
  dos : Vec Ideal S4x1024x128 .bf16
  kbd : Vec Ideal S4x1024x128 .bf16
  dq : Vec Ideal S2048x128 .f32
  dr : Vec Ideal S2048x2 .f32

/-- One trip of the first loop. -/
def scrStep (x1 x2 : Vec Ideal S2048x128 .bf16) (x4 : Vec Ideal S2048x128 .f32) (x5 : Vec Ideal S2048x128 .bf16) (n : Fin 4) (s : Scr) : Scr where
  del := VecWindow.put (VecWindow.put s.del ![512 * n.val, 0] S512x1.size (k0_pay11 k0_pay1 (rows x4 n) (rows x5 n)))
    ![512 * n.val, 1] S512x1.size (k0_pay12 k0_pay2 (rows x4 n) (rows x5 n))
  qs := VecWindow.put s.qs ![n.val, 0, 0] S1x1024x128.size (k0_pay13 k0_pay1 k0_pay2 (rows x1 n))
  dos := VecWindow.put s.dos ![n.val, 0, 0] S1x1024x128.size (k0_pay3 (k0_pay14 k0_pay1 (rows x4 n)) (k0_pay15 k0_pay2 (rows x4 n)))
  kbd := VecWindow.put s.kbd ![n.val, 0, 0] S1x1024x128.size (k0_pay4 (rows x2 n))
  dq := VecWindow.put s.dq ![512 * n.val, 0] S512x128.size (k0_pay5 (F := Ideal))
  dr := VecWindow.put s.dr ![512 * n.val, 0] S512x2.size (k0_pay6 (F := Ideal))

/-- The scratch before trip `k` of the first loop. -/
def scr (x1 x2 : Vec Ideal S2048x128 .bf16) (x4 : Vec Ideal S2048x128 .f32) (x5 : Vec Ideal S2048x128 .bf16) (s : Scr) : ℕ → Scr
  | 0 => s
  | k + 1 => if h : k < 4 then scrStep x1 x2 x4 x5 ⟨k, h⟩ (scr x1 x2 x4 x5 s k) else scr x1 x2 x4 x5 s k

/-! ### The tiles below the diagonal -/

/-- What the loop over the row tiles carries. -/
abbrev Acc := FVec Ideal S512x128 .f32 × FVec Ideal S512x128 .f32 × FVec Ideal S1x512 .f32 × FVec Ideal S1x512 .f32

/-- The loop's state: what it carries, the query gradient and the row sums. -/
structure St where
  acc : Acc
  dq : Vec Ideal S2048x128 .f32
  dr : Vec Ideal S2048x2 .f32

section
variable (x6 : Vec Ideal S1x2048x2 .f32) (x12 : Vec Ideal S2048x2 .f32) (x14 x15 : Vec Ideal S4x1024x128 .bf16)
  (kt vt : Vec Ideal S512x128 .bf16) (kb : FVec Ideal S1024x128 .bf16) (b : FVec Ideal S1024x512 .f32)

/-- The score gradients of row tile `n` below the diagonal. -/
def dsOff (n : Fin 4) : FVec Ideal S1024x512 .f32 :=
  k0_pay20 kt vt b (tile x14 n) (tile x15 n) (lse x6 n 0) (lse x6 n 1) (col x12 n 0) (col x12 n 1)

/-- One trip of the loop over the row tiles, at row tile `n`. -/
def offStep (n : Fin 4) (s : St) : St where
  acc := (k0_pay55 s.acc.1 (k0_pay16 (tile x14 n)) (dsOff x6 x12 x14 x15 kt vt b n),
    k0_pay19 kt b s.acc.2.1 (tile x14 n) (tile x15 n) (lse x6 n 0) (lse x6 n 1),
    k0_pay21 kt vt b s.acc.2.2.1 (tile x14 n) (tile x15 n) (lse x6 n 0) (lse x6 n 1) (col x12 n 0) (col x12 n 1),
    k0_pay22 kt vt b s.acc.2.2.2 (tile x14 n) (tile x15 n) (lse x6 n 0) (lse x6 n 1) (col x12 n 0) (col x12 n 1))
  dq := VecWindow.put s.dq ![512 * n.val, 0] S512x128.size (k0_pay56 kb (dsOff x6 x12 x14 x15 kt vt b n) (rows s.dq n))
  dr := VecWindow.put (VecWindow.put s.dr ![512 * n.val, 0] S512x1.size (k0_pay52 (dsOff x6 x12 x14 x15 kt vt b n) (col s.dr n 0)))
    ![512 * n.val, 1] S512x1.size
    (k0_pay53 (dsOff x6 x12 x14 x15 kt vt b n)
      (col s.dr n 1))

/-- The state before trip `k` at key tile `j`: the trips run over the row tiles `j + 1 + k`. -/
def off (j : ℕ) (s : St) : ℕ → St
  | 0 => s
  | k + 1 => if h : j + k + 1 < 4 then offStep x6 x12 x14 x15 kt vt kb b ⟨j + k + 1, h⟩ (off j s k) else off j s k

theorem off_succ (j : ℕ) (s : St) (k : ℕ) (h : j + k + 1 < 4) :
    off x6 x12 x14 x15 kt vt kb b j s (k + 1) = offStep x6 x12 x14 x15 kt vt kb b ⟨j + k + 1, h⟩ (off x6 x12 x14 x15 kt vt kb b j s k) := by
  rw [off, dif_pos h]

theorem off_congr (j : ℕ) {s s' : St} {k k' : ℕ} (ha : s.acc = s'.acc) (hq : s.dq = s'.dq) (hr : s.dr = s'.dr) (hk : k = k') :
    off x6 x12 x14 x15 kt vt kb b j s k = off x6 x12 x14 x15 kt vt kb b j s' k' := by
  obtain ⟨a, q, r⟩ := s
  obtain ⟨a', q', r'⟩ := s'
  cases ha; cases hq; cases hr; cases hk; rfl

end

/-! ### The tile on the diagonal, and the loop over the key tiles -/

/-- What the loop over the key tiles leaves: the stacked gradients, the bias gradients, the query gradient and the row sums. -/
structure Big where
  dqkv : Vec Ideal S3x2048x128 .bf16
  dc : Vec Ideal S32x512 .f32
  dq : Vec Ideal S2048x128 .f32
  dr : Vec Ideal S2048x2 .f32

section
variable (g : Fin 4) (x2 x3 : Vec Ideal S2048x128 .bf16) (x6 : Vec Ideal S1x2048x2 .f32) (x7 : Vec Ideal S32x512 .f32)
  (x12 : Vec Ideal S2048x2 .f32) (x14 x15 x16 : Vec Ideal S4x1024x128 .bf16)

/-- The bias of key tile `j`, both heads stacked. -/
def bias (j : Fin 4) : FVec Ideal S1024x512 .f32 := k0_pay31 (cum x7 g 0 j) (cum x7 g 1 j)

/-- The score gradients of the tile on the diagonal. -/
def dsDiag (j : Fin 4) : FVec Ideal S1024x512 .f32 :=
  k0_pay41 (rows x3 j) (bias g x7 j) (k0_pay37 (tile x15 j)) (k0_pay38 (rows x2 j) (tile x14 j)) (lse x6 j 0) (lse x6 j 1) (col x12 j 0) (col x12 j 1)

/-- The row sums with the first head's column of the diagonal tile stored. -/
def drHead (j : Fin 4) (dr : Vec Ideal S2048x2 .f32) : Vec Ideal S2048x2 .f32 :=
  VecWindow.put dr ![512 * j.val, 0] S512x1.size
    (k0_pay46 (k0_pay45 (rows x3 j) (bias g x7 j) (k0_pay37 (tile x15 j)) (k0_pay38 (rows x2 j) (tile x14 j)) (lse x6 j 0) (lse x6 j 1) (col x12 j 0) (col x12 j 1) (col dr j 0)))

/-- The state after the diagonal tile of key tile `j`. -/
def diag (j : Fin 4) (dq : Vec Ideal S2048x128 .f32) (dr : Vec Ideal S2048x2 .f32) : St where
  acc := (k0_pay49 k0_pay32 (k0_pay36 (tile x14 j)) (dsDiag g x2 x3 x6 x7 x12 x14 x15 j),
    k0_pay40 (bias g x7 j) k0_pay33 (k0_pay37 (tile x15 j)) (k0_pay38 (rows x2 j) (tile x14 j)) (lse x6 j 0) (lse x6 j 1),
    k0_pay42 (rows x3 j) (bias g x7 j) k0_pay34 (k0_pay37 (tile x15 j)) (k0_pay38 (rows x2 j) (tile x14 j)) (lse x6 j 0) (lse x6 j 1) (col x12 j 0) (col x12 j 1),
    k0_pay43 (rows x3 j) (bias g x7 j) k0_pay35 (k0_pay37 (tile x15 j)) (k0_pay38 (rows x2 j) (tile x14 j)) (lse x6 j 0) (lse x6 j 1) (col x12 j 0) (col x12 j 1))
  dq := VecWindow.put dq ![512 * j.val, 0] S512x128.size (k0_pay50 (k0_pay30 (tile x16 j)) (dsDiag g x2 x3 x6 x7 x12 x14 x15 j) (rows dq j))
  dr := VecWindow.put (drHead g x2 x3 x6 x7 x12 x14 x15 j dr) ![512 * j.val, 1] S512x1.size
    (k0_pay47 (k0_pay44 (rows x3 j) (bias g x7 j) (k0_pay37 (tile x15 j)) (k0_pay38 (rows x2 j) (tile x14 j)) (lse x6 j 0) (lse x6 j 1) (col x12 j 0) (col x12 j 1))
      (col dr j 1))

/-- The state at the end of key tile `j`. -/
def keyEnd (j : Fin 4) (dq : Vec Ideal S2048x128 .f32) (dr : Vec Ideal S2048x2 .f32) : St :=
  off x6 x12 x14 x15 (rows x2 j) (rows x3 j) (k0_pay30 (tile x16 j)) (bias g x7 j) j.val (diag g x2 x3 x6 x7 x12 x14 x15 x16 j dq dr) (3 - j.val)

/-- One trip of the loop over the key tiles. -/
def bigStep (j : Fin 4) (s : Big) : Big where
  dqkv := VecWindow.put (VecWindow.put s.dqkv ![1, 512 * j.val, 0] S1x512x128.size (k0_pay63 (keyEnd g x2 x3 x6 x7 x12 x14 x15 x16 j s.dq s.dr).acc.1))
    ![2, 512 * j.val, 0] S1x512x128.size (k0_pay7 (k0_pay64 (keyEnd g x2 x3 x6 x7 x12 x14 x15 x16 j s.dq s.dr).acc.2.1))
  dc := VecWindow.put (VecWindow.put s.dc ![8 * g.val + 4 * 0 + j.val, 0] S1x512.size (keyEnd g x2 x3 x6 x7 x12 x14 x15 x16 j s.dq s.dr).acc.2.2.1)
    ![8 * g.val + 4 * 1 + j.val, 0] S1x512.size (keyEnd g x2 x3 x6 x7 x12 x14 x15 x16 j s.dq s.dr).acc.2.2.2
  dq := (keyEnd g x2 x3 x6 x7 x12 x14 x15 x16 j s.dq s.dr).dq
  dr := (keyEnd g x2 x3 x6 x7 x12 x14 x15 x16 j s.dq s.dr).dr

/-- The state before trip `k` of the loop over the key tiles. -/
def big (s : Big) : ℕ → Big
  | 0 => s
  | k + 1 => if h : k < 4 then bigStep g x2 x3 x6 x7 x12 x14 x15 x16 ⟨k, h⟩ (big s k) else big s k

theorem big_succ (s : Big) (k : ℕ) (h : k < 4) :
    big g x2 x3 x6 x7 x12 x14 x15 x16 s (k + 1) = bigStep g x2 x3 x6 x7 x12 x14 x15 x16 ⟨k, h⟩ (big g x2 x3 x6 x7 x12 x14 x15 x16 s k) := by
  rw [big, dif_pos h]

end

theorem scr_succ (x1 x2 : Vec Ideal S2048x128 .bf16) (x4 : Vec Ideal S2048x128 .f32) (x5 : Vec Ideal S2048x128 .bf16) (s : Scr) (k : ℕ) (h : k < 4) :
    scr x1 x2 x4 x5 s (k + 1) = scrStep x1 x2 x4 x5 ⟨k, h⟩ (scr x1 x2 x4 x5 s k) := by
  rw [scr, dif_pos h]

theorem put_congr {s : Shape} {α : Type} {x x' : s.Idx → α} {off size : Fin s.rank → ℕ} {w w' : ((a : Fin s.rank) → Fin (size a)) → α} (hx : x = x') (hw : w = w') :
    VecWindow.put x off size w = VecWindow.put x' off size w' := by rw [hx, hw]

end Cert.KernelIdeal.Hand

end
-- ==== Proof.InnerLoop.lean ====
module

public import proofs.«01_k».proof.Proof.Tiles
public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-! The loops inside the loop over the key tiles. -/

theorem t2_lt (j : Fin k0_t2_loop.trips) : j.val < 4 := Nat.lt_of_lt_of_le j.isLt k0_t2_abs.2.1

theorem t3_trips : ∀ j : Fin k0_t2_loop.trips, (k0_t3_loop j).trips = 3 - j.val := by decide +kernel

theorem t3_lt (j : Fin k0_t2_loop.trips) (k : Fin (k0_t3_loop j).trips) : j.val + k.val + 1 < 4 := by
  have h := k.isLt
  have h' := t3_trips j
  have h'' := t2_lt j
  omega

theorem vec2_congr {a b c : ℕ} (h : a = b) : (![a, c] : Fin 2 → ℕ) = ![b, c] := by rw [h]
theorem vec3_congr {a b c d : ℕ} (h : a = b) : (![c, a, d] : Fin 3 → ℕ) = ![c, b, d] := by rw [h]

section
variable (j : Fin k0_t2_loop.trips) (k : Fin (k0_t3_loop j).trips) {n : Fin 4} (hn : n.val = j.val + k.val + 1)
include hn
theorem off13_at : k0_off13 j k = ![n.val, 0, 0] := by rw [k0_off13_eq, hn]
theorem off14_at : k0_off14 j k = ![0, 512 * n.val, 0] := by rw [k0_off14_eq]; exact vec3_congr (by omega)
theorem off15_at : k0_off15 j k = ![0, 512 * n.val, 1] := by rw [k0_off15_eq]; exact vec3_congr (by omega)
theorem off16_at : k0_off16 j k = ![512 * n.val, 0] := by rw [k0_off16_eq]; exact vec2_congr (by omega)
theorem off17_at : k0_off17 j k = ![512 * n.val, 1] := by rw [k0_off17_eq]; exact vec2_congr (by omega)
theorem off18_at : k0_off18 j k = ![512 * n.val, 0] := by rw [k0_off18_eq]; exact vec2_congr (by omega)
end

set_option maxHeartbeats 2000000 in
/-- The loop over the row tiles below the diagonal: what it carries and the two scratch buffers it adds into follow `off`. -/
@[sl_loop] def rowLoop (𝒱 : Variants) (c : Dev nD) (bd : Option 𝒱.V) (E : Set ℕ) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S1x2048x2 .f32) (harg6 : arg6.IsWhole) (arg7 : Memref sig .tc .vmem S32x512 .f32) (harg7 : arg7.IsWhole) (arg8 : Memref sig .tc .vmem S3x2048x128 .bf16) (harg8 : arg8.IsWhole) (arg9 : Memref sig .tc .vmem S32x512 .f32) (harg9 : arg9.IsWhole) (arg10 : Memref sig .tc .vmem S1x2048x2 .f32) (harg10 : arg10.IsWhole) (arg11 : Memref sig .tc .vmem S2048x128 .f32) (harg11 : arg11.IsWhole) (arg12 : Memref sig .tc .vmem S2048x2 .f32) (harg12 : arg12.IsWhole) (arg13 : Memref sig .tc .vmem S2048x2 .f32) (harg13 : arg13.IsWhole) (arg14 : Memref sig .tc .vmem S4x1024x128 .bf16) (harg14 : arg14.IsWhole) (arg15 : Memref sig .tc .vmem S4x1024x128 .bf16) (harg15 : arg15.IsWhole) (arg16 : Memref sig .tc .vmem S4x1024x128 .bf16) (harg16 : arg16.IsWhole) (k0_t2 : Fin k0_t2_loop.trips) (arg17 : BitVec 32) (v25 : BitVec 32) (v27 : Vec Ideal S512x128 .bf16) (v29 : Vec Ideal S512x128 .bf16) (v32 : FVec Ideal S1024x128 .bf16) (v47 : FVec Ideal S1024x512 .f32) (v48 : FVec Ideal S512x128 .f32) (v53 : BitVec 32) (v56 : FVec Ideal S1024x128 .bf16) (v83 : FVec Ideal S512x128 .f32) (v92 : FVec Ideal S1024x512 .f32) (v96 : FVec Ideal S1x512 .f32) (v100 : FVec Ideal S1x512 .f32) (v102 : FVec Ideal S1024x1 .f32) (v106 : FVec Ideal S512x1 .f32) (v108 : Vec Ideal S512x1 .f32) (v135 : BitVec 32) (X6 : BufTy.Contents (Elt Ideal) arg6.view.ty) (X12 : BufTy.Contents (Elt Ideal) arg12.view.ty) (X14 : BufTy.Contents (Elt Ideal) arg14.view.ty) (X15 : BufTy.Contents (Elt Ideal) arg15.view.ty) (G11 : Vec Ideal S2048x128 .f32) (G13 : Vec Ideal S2048x2 .f32)
    (init : FVec Ideal S512x128 .f32 × FVec Ideal S512x128 .f32 × FVec Ideal S1x512 .f32 × FVec Ideal S1x512 .f32) :
    Gen.LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_t2 arg17 v25 v27 v29 v32 v47 v48 v53 v56 v83 v92 v96 v100 v102 v106 v108 v135 init where
  inv := fun k acc => iprop((arg6.view.loc (c : Thread nD τ) ↦[arg6.view.set]{fullShare} X6) ∗ (arg12.view.loc (c : Thread nD τ) ↦[arg12.view.set]{fullShare} X12) ∗ (arg14.view.loc (c : Thread nD τ) ↦[arg14.view.set]{fullShare} X14) ∗ (arg15.view.loc (c : Thread nD τ) ↦[arg15.view.set]{fullShare} X15) ∗ (∃ f, (arg11.view.loc (c : Thread nD τ) ↦[arg11.view.set]{fullShare} f) ∗ ⌜arg11.view.read (Elt Ideal) f = (off (arg6.view.read (Elt Ideal) X6) (arg12.view.read (Elt Ideal) X12) (arg14.view.read (Elt Ideal) X14) (arg15.view.read (Elt Ideal) X15) v27 v29 v32 v47 k0_t2.val ⟨init, G11, G13⟩ k).dq⌝) ∗ (∃ f, (arg13.view.loc (c : Thread nD τ) ↦[arg13.view.set]{fullShare} f) ∗ ⌜arg13.view.read (Elt Ideal) f = (off (arg6.view.read (Elt Ideal) X6) (arg12.view.read (Elt Ideal) X12) (arg14.view.read (Elt Ideal) X14) (arg15.view.read (Elt Ideal) X15) v27 v29 v32 v47 k0_t2.val ⟨init, G11, G13⟩ k).dr⌝) ∗ ⌜acc = (off (arg6.view.read (Elt Ideal) X6) (arg12.view.read (Elt Ideal) X12) (arg14.view.read (Elt Ideal) X14) (arg15.view.read (Elt Ideal) X15) v27 v29 v32 v47 k0_t2.val ⟨init, G11, G13⟩ k).acc⌝)
  step k acc := by
    have hk := t3_lt k0_t2 k
    obtain ⟨a19, a20, a21, a22⟩ := acc
    unfold k0_t3_body
    simp only [k0_part2_eq_skeleton]
    unfold k0_part2_skel
    iintro ⟨H6, H12, H14, H15, ⟨%f11, H11, %h11⟩, ⟨%f13, H13, %h13⟩, %hacc⟩
    obtain ⟨n, hn⟩ : ∃ n : Fin 4, n.val = k0_t2.val + k.val + 1 := ⟨⟨_, hk⟩, rfl⟩
    have hnn : n = ⟨k0_t2.val + k.val + 1, hk⟩ := Fin.ext hn
    sl_exec
    sl_step
    have hq : (View.readAt (Elt Ideal) arg14.view (Rect.unit (s := S4x1024x128) (k0_off13 k0_t2 k) S1x1024x128.size (k0_off13_inb k0_t2 k)).toLoadRect X14) = tile (arg14.view.read (Elt Ideal) X14) n :=
      View.readAt_unit _ _ _ (off13_at k0_t2 k hn) (tile_inb n)
    have hd : (View.readAt (Elt Ideal) arg15.view (Rect.unit (s := S4x1024x128) (k0_off13 k0_t2 k) S1x1024x128.size (k0_off13_inb k0_t2 k)).toLoadRect X15) = tile (arg15.view.read (Elt Ideal) X15) n :=
      View.readAt_unit _ _ _ (off13_at k0_t2 k hn) (tile_inb n)
    have hl0 : (View.readAt (Elt Ideal) arg6.view (Rect.unit (s := S1x2048x2) (k0_off14 k0_t2 k) S1x512x1.size (k0_off14_inb k0_t2 k)).toLoadRect X6) = lse (arg6.view.read (Elt Ideal) X6) n 0 :=
      View.readAt_unit _ _ _ (off14_at k0_t2 k hn) (lse_inb n 0)
    have hl1 : (View.readAt (Elt Ideal) arg6.view (Rect.unit (s := S1x2048x2) (k0_off15 k0_t2 k) S1x512x1.size (k0_off15_inb k0_t2 k)).toLoadRect X6) = lse (arg6.view.read (Elt Ideal) X6) n 1 :=
      View.readAt_unit _ _ _ (off15_at k0_t2 k hn) (lse_inb n 1)
    have he0 : (View.readAt (Elt Ideal) arg12.view (Rect.unit (s := S2048x2) (k0_off16 k0_t2 k) S512x1.size (k0_off16_inb k0_t2 k)).toLoadRect X12) = col (arg12.view.read (Elt Ideal) X12) n 0 :=
      View.readAt_unit _ _ _ (off16_at k0_t2 k hn) (col_inb n 0)
    have he1 : (View.readAt (Elt Ideal) arg12.view (Rect.unit (s := S2048x2) (k0_off17 k0_t2 k) S512x1.size (k0_off17_inb k0_t2 k)).toLoadRect X12) = col (arg12.view.read (Elt Ideal) X12) n 1 :=
      View.readAt_unit _ _ _ (off17_at k0_t2 k hn) (col_inb n 1)
    isplitl [H6]; · iexact H6
    isplitl [H12]; · iexact H12
    isplitl [H14]; · iexact H14
    isplitl [H15]; · iexact H15
    isplitl [H11]
    · iexists _; isplitl [H11]; · iexact H11
      ipureintro
      refine (View.read_writes_cons_put _ _ _ _ _ (off18_at k0_t2 k hn)).trans ?_
      rw [View.writes_nil, h11, off_succ _ _ _ _ _ _ _ _ _ _ _ hk, ← hnn]
      refine put_congr rfl ?_
      rw [View.readAt_unit _ _ _ (off18_at k0_t2 k hn) (rows_inb n), h11]
      show k0_pay56 v32 (k0_pay20 v27 v29 v47 (View.readAt (Elt Ideal) arg14.view (Rect.unit (s := S4x1024x128) (k0_off13 k0_t2 k) S1x1024x128.size (k0_off13_inb k0_t2 k)).toLoadRect X14) (View.readAt (Elt Ideal) arg15.view (Rect.unit (s := S4x1024x128) (k0_off13 k0_t2 k) S1x1024x128.size (k0_off13_inb k0_t2 k)).toLoadRect X15) (View.readAt (Elt Ideal) arg6.view (Rect.unit (s := S1x2048x2) (k0_off14 k0_t2 k) S1x512x1.size (k0_off14_inb k0_t2 k)).toLoadRect X6) (View.readAt (Elt Ideal) arg6.view (Rect.unit (s := S1x2048x2) (k0_off15 k0_t2 k) S1x512x1.size (k0_off15_inb k0_t2 k)).toLoadRect X6) (View.readAt (Elt Ideal) arg12.view (Rect.unit (s := S2048x2) (k0_off16 k0_t2 k) S512x1.size (k0_off16_inb k0_t2 k)).toLoadRect X12) (View.readAt (Elt Ideal) arg12.view (Rect.unit (s := S2048x2) (k0_off17 k0_t2 k) S512x1.size (k0_off17_inb k0_t2 k)).toLoadRect X12)) _ = _
      rw [hq, hd, hl0, hl1, he0, he1]
      rfl
    isplitl [H13]
    · iexists _; isplitl [H13]; · iexact H13
      ipureintro
      refine (View.read_writes_cons_put _ _ _ _ _ (off17_at k0_t2 k hn)).trans ?_
      rw [View.read_writes_cons_put _ _ _ _ _ (off16_at k0_t2 k hn)]
      rw [View.writes_nil, h13, off_succ _ _ _ _ _ _ _ _ _ _ _ hk, ← hnn]
      refine put_congr (put_congr rfl ?_) ?_
      · show k0_pay52 (k0_pay20 v27 v29 v47 (View.readAt (Elt Ideal) arg14.view (Rect.unit (s := S4x1024x128) (k0_off13 k0_t2 k) S1x1024x128.size (k0_off13_inb k0_t2 k)).toLoadRect X14) (View.readAt (Elt Ideal) arg15.view (Rect.unit (s := S4x1024x128) (k0_off13 k0_t2 k) S1x1024x128.size (k0_off13_inb k0_t2 k)).toLoadRect X15) (View.readAt (Elt Ideal) arg6.view (Rect.unit (s := S1x2048x2) (k0_off14 k0_t2 k) S1x512x1.size (k0_off14_inb k0_t2 k)).toLoadRect X6) (View.readAt (Elt Ideal) arg6.view (Rect.unit (s := S1x2048x2) (k0_off15 k0_t2 k) S1x512x1.size (k0_off15_inb k0_t2 k)).toLoadRect X6) (View.readAt (Elt Ideal) arg12.view (Rect.unit (s := S2048x2) (k0_off16 k0_t2 k) S512x1.size (k0_off16_inb k0_t2 k)).toLoadRect X12) (View.readAt (Elt Ideal) arg12.view (Rect.unit (s := S2048x2) (k0_off17 k0_t2 k) S512x1.size (k0_off17_inb k0_t2 k)).toLoadRect X12)) _ = _
        rw [hq, hd, hl0, hl1, he0, he1]
        refine congrArg _ ?_
        rw [View.readAt_unit _ _ _ (off16_at k0_t2 k hn) (col_inb n 0), h13]
        rfl
      · show k0_pay53 (k0_pay20 v27 v29 v47 (View.readAt (Elt Ideal) arg14.view (Rect.unit (s := S4x1024x128) (k0_off13 k0_t2 k) S1x1024x128.size (k0_off13_inb k0_t2 k)).toLoadRect X14) (View.readAt (Elt Ideal) arg15.view (Rect.unit (s := S4x1024x128) (k0_off13 k0_t2 k) S1x1024x128.size (k0_off13_inb k0_t2 k)).toLoadRect X15) (View.readAt (Elt Ideal) arg6.view (Rect.unit (s := S1x2048x2) (k0_off14 k0_t2 k) S1x512x1.size (k0_off14_inb k0_t2 k)).toLoadRect X6) (View.readAt (Elt Ideal) arg6.view (Rect.unit (s := S1x2048x2) (k0_off15 k0_t2 k) S1x512x1.size (k0_off15_inb k0_t2 k)).toLoadRect X6) (View.readAt (Elt Ideal) arg12.view (Rect.unit (s := S2048x2) (k0_off16 k0_t2 k) S512x1.size (k0_off16_inb k0_t2 k)).toLoadRect X12) (View.readAt (Elt Ideal) arg12.view (Rect.unit (s := S2048x2) (k0_off17 k0_t2 k) S512x1.size (k0_off17_inb k0_t2 k)).toLoadRect X12)) _ = _
        rw [hq, hd, hl0, hl1, he0, he1]
        refine congrArg _ ?_
        show View.readAt (Elt Ideal) arg13.view (Rect.unit (s := S2048x2) (k0_off17 k0_t2 k) S512x1.size (k0_off17_inb k0_t2 k)).toLoadRect f13 = _
        rw [View.readAt_unit _ _ _ (off17_at k0_t2 k hn) (col_inb n 1), h13]
        rfl
    ipureintro
    rw [off_succ _ _ _ _ _ _ _ _ _ _ _ hk, ← hnn]
    show (k0_pay55 a19 (k0_pay16 (View.readAt (Elt Ideal) arg14.view (Rect.unit (s := S4x1024x128) (k0_off13 k0_t2 k) S1x1024x128.size (k0_off13_inb k0_t2 k)).toLoadRect X14)) (k0_pay20 v27 v29 v47 (View.readAt (Elt Ideal) arg14.view (Rect.unit (s := S4x1024x128) (k0_off13 k0_t2 k) S1x1024x128.size (k0_off13_inb k0_t2 k)).toLoadRect X14) (View.readAt (Elt Ideal) arg15.view (Rect.unit (s := S4x1024x128) (k0_off13 k0_t2 k) S1x1024x128.size (k0_off13_inb k0_t2 k)).toLoadRect X15) (View.readAt (Elt Ideal) arg6.view (Rect.unit (s := S1x2048x2) (k0_off14 k0_t2 k) S1x512x1.size (k0_off14_inb k0_t2 k)).toLoadRect X6) (View.readAt (Elt Ideal) arg6.view (Rect.unit (s := S1x2048x2) (k0_off15 k0_t2 k) S1x512x1.size (k0_off15_inb k0_t2 k)).toLoadRect X6) (View.readAt (Elt Ideal) arg12.view (Rect.unit (s := S2048x2) (k0_off16 k0_t2 k) S512x1.size (k0_off16_inb k0_t2 k)).toLoadRect X12) (View.readAt (Elt Ideal) arg12.view (Rect.unit (s := S2048x2) (k0_off17 k0_t2 k) S512x1.size (k0_off17_inb k0_t2 k)).toLoadRect X12)), k0_pay19 v27 v47 a20 (View.readAt (Elt Ideal) arg14.view (Rect.unit (s := S4x1024x128) (k0_off13 k0_t2 k) S1x1024x128.size (k0_off13_inb k0_t2 k)).toLoadRect X14) (View.readAt (Elt Ideal) arg15.view (Rect.unit (s := S4x1024x128) (k0_off13 k0_t2 k) S1x1024x128.size (k0_off13_inb k0_t2 k)).toLoadRect X15) (View.readAt (Elt Ideal) arg6.view (Rect.unit (s := S1x2048x2) (k0_off14 k0_t2 k) S1x512x1.size (k0_off14_inb k0_t2 k)).toLoadRect X6) (View.readAt (Elt Ideal) arg6.view (Rect.unit (s := S1x2048x2) (k0_off15 k0_t2 k) S1x512x1.size (k0_off15_inb k0_t2 k)).toLoadRect X6), k0_pay21 v27 v29 v47 a21 (View.readAt (Elt Ideal) arg14.view (Rect.unit (s := S4x1024x128) (k0_off13 k0_t2 k) S1x1024x128.size (k0_off13_inb k0_t2 k)).toLoadRect X14) (View.readAt (Elt Ideal) arg15.view (Rect.unit (s := S4x1024x128) (k0_off13 k0_t2 k) S1x1024x128.size (k0_off13_inb k0_t2 k)).toLoadRect X15) (View.readAt (Elt Ideal) arg6.view (Rect.unit (s := S1x2048x2) (k0_off14 k0_t2 k) S1x512x1.size (k0_off14_inb k0_t2 k)).toLoadRect X6) (View.readAt (Elt Ideal) arg6.view (Rect.unit (s := S1x2048x2) (k0_off15 k0_t2 k) S1x512x1.size (k0_off15_inb k0_t2 k)).toLoadRect X6) (View.readAt (Elt Ideal) arg12.view (Rect.unit (s := S2048x2) (k0_off16 k0_t2 k) S512x1.size (k0_off16_inb k0_t2 k)).toLoadRect X12) (View.readAt (Elt Ideal) arg12.view (Rect.unit (s := S2048x2) (k0_off17 k0_t2 k) S512x1.size (k0_off17_inb k0_t2 k)).toLoadRect X12), k0_pay22 v27 v29 v47 a22 (View.readAt (Elt Ideal) arg14.view (Rect.unit (s := S4x1024x128) (k0_off13 k0_t2 k) S1x1024x128.size (k0_off13_inb k0_t2 k)).toLoadRect X14) (View.readAt (Elt Ideal) arg15.view (Rect.unit (s := S4x1024x128) (k0_off13 k0_t2 k) S1x1024x128.size (k0_off13_inb k0_t2 k)).toLoadRect X15) (View.readAt (Elt Ideal) arg6.view (Rect.unit (s := S1x2048x2) (k0_off14 k0_t2 k) S1x512x1.size (k0_off14_inb k0_t2 k)).toLoadRect X6) (View.readAt (Elt Ideal) arg6.view (Rect.unit (s := S1x2048x2) (k0_off15 k0_t2 k) S1x512x1.size (k0_off15_inb k0_t2 k)).toLoadRect X6) (View.readAt (Elt Ideal) arg12.view (Rect.unit (s := S2048x2) (k0_off16 k0_t2 k) S512x1.size (k0_off16_inb k0_t2 k)).toLoadRect X12) (View.readAt (Elt Ideal) arg12.view (Rect.unit (s := S2048x2) (k0_off17 k0_t2 k) S512x1.size (k0_off17_inb k0_t2 k)).toLoadRect X12)) = _
    rw [hq, hd, hl0, hl1, he0, he1]
    unfold offStep
    simp only [← hacc]
    rfl

theorem t4_none (j : Fin k0_t2_loop.trips) (k : Fin (k0_t4_loop j).trips) : False := Nat.not_lt_zero _ (Nat.lt_of_lt_of_le k.isLt (k0_t4_abs j).2.1)

/-- The loop behind it makes no trip. -/
@[sl_loop] def restLoop (𝒱 : Variants) (c : Dev nD) (bd : Option 𝒱.V) (E : Set ℕ) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S1x2048x2 .f32) (harg6 : arg6.IsWhole) (arg7 : Memref sig .tc .vmem S32x512 .f32) (harg7 : arg7.IsWhole) (arg8 : Memref sig .tc .vmem S3x2048x128 .bf16) (harg8 : arg8.IsWhole) (arg9 : Memref sig .tc .vmem S32x512 .f32) (harg9 : arg9.IsWhole) (arg10 : Memref sig .tc .vmem S1x2048x2 .f32) (harg10 : arg10.IsWhole) (arg11 : Memref sig .tc .vmem S2048x128 .f32) (harg11 : arg11.IsWhole) (arg12 : Memref sig .tc .vmem S2048x2 .f32) (harg12 : arg12.IsWhole) (arg13 : Memref sig .tc .vmem S2048x2 .f32) (harg13 : arg13.IsWhole) (arg14 : Memref sig .tc .vmem S4x1024x128 .bf16) (harg14 : arg14.IsWhole) (arg15 : Memref sig .tc .vmem S4x1024x128 .bf16) (harg15 : arg15.IsWhole) (arg16 : Memref sig .tc .vmem S4x1024x128 .bf16) (harg16 : arg16.IsWhole) (k0_t2 : Fin k0_t2_loop.trips) (arg17 : BitVec 32) (v25 : BitVec 32) (v27 : Vec Ideal S512x128 .bf16) (v29 : Vec Ideal S512x128 .bf16) (v32 : FVec Ideal S1024x128 .bf16) (v47 : FVec Ideal S1024x512 .f32) (v48 : FVec Ideal S512x128 .f32) (v53 : BitVec 32) (v56 : FVec Ideal S1024x128 .bf16) (v83 : FVec Ideal S512x128 .f32) (v92 : FVec Ideal S1024x512 .f32) (v96 : FVec Ideal S1x512 .f32) (v100 : FVec Ideal S1x512 .f32) (v102 : FVec Ideal S1024x1 .f32) (v106 : FVec Ideal S512x1 .f32) (v108 : Vec Ideal S512x1 .f32) (v140 : BitVec 32)
    (init : FVec Ideal S512x128 .f32 × FVec Ideal S512x128 .f32 × FVec Ideal S1x512 .f32 × FVec Ideal S1x512 .f32) :
    Gen.LoopInvTy_k0_t4 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_t2 arg17 v25 v27 v29 v32 v47 v48 v53 v56 v83 v92 v96 v100 v102 v106 v108 v140 init where
  inv := fun _ acc => iprop(⌜acc = init⌝)
  step k acc := (t4_none k0_t2 k).elim

end Cert.KernelIdeal.Hand

end
-- ==== Proof.KeyLoopI.lean ====
module

public import proofs.«01_k».proof.Proof.InnerLoop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-! The loop over the key tiles. -/

/-- The head pair of a grid point. -/
def pair (i : grid0.Coords) : Fin 4 := i 0

set_option maxHeartbeats 2000000 in
set_option warn.classDefReducibility false in
/-- The loop over the key tiles: the four buffers it writes follow `big`. -/
@[sl_loop] def keyLoop (𝒱 : Variants) (c : Dev nD) (bd : Option 𝒱.V) (E : Set ℕ) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S1x2048x2 .f32) (harg6 : arg6.IsWhole) (arg7 : Memref sig .tc .vmem S32x512 .f32) (harg7 : arg7.IsWhole) (arg8 : Memref sig .tc .vmem S3x2048x128 .bf16) (harg8 : arg8.IsWhole) (arg9 : Memref sig .tc .vmem S32x512 .f32) (harg9 : arg9.IsWhole) (arg10 : Memref sig .tc .vmem S1x2048x2 .f32) (harg10 : arg10.IsWhole) (arg11 : Memref sig .tc .vmem S2048x128 .f32) (harg11 : arg11.IsWhole) (arg12 : Memref sig .tc .vmem S2048x2 .f32) (harg12 : arg12.IsWhole) (arg13 : Memref sig .tc .vmem S2048x2 .f32) (harg13 : arg13.IsWhole) (arg14 : Memref sig .tc .vmem S4x1024x128 .bf16) (harg14 : arg14.IsWhole) (arg15 : Memref sig .tc .vmem S4x1024x128 .bf16) (harg15 : arg15.IsWhole) (arg16 : Memref sig .tc .vmem S4x1024x128 .bf16) (harg16 : arg16.IsWhole) (v12 : BitVec 32) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X12 : BufTy.Contents (Elt Ideal) arg12.view.ty) (X14 : BufTy.Contents (Elt Ideal) arg14.view.ty) (X15 : BufTy.Contents (Elt Ideal) arg15.view.ty) (X16 : BufTy.Contents (Elt Ideal) arg16.view.ty)
    (G8 : Vec Ideal S3x2048x128 .bf16) (G9 : Vec Ideal S32x512 .f32) (G11 : Vec Ideal S2048x128 .f32) (G13 : Vec Ideal S2048x2 .f32) :
    Gen.LoopInvTy_k0_t2 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v12 where
  inv := fun k _ => iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (∃ f, (arg8.view.loc (c : Thread nD τ) ↦[arg8.view.set]{fullShare} f) ∗ ⌜arg8.view.read (Elt Ideal) f = (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k).dqkv⌝) ∗ (∃ f, (arg9.view.loc (c : Thread nD τ) ↦[arg9.view.set]{fullShare} f) ∗ ⌜arg9.view.read (Elt Ideal) f = (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k).dc⌝) ∗ (∃ f, (arg11.view.loc (c : Thread nD τ) ↦[arg11.view.set]{fullShare} f) ∗ ⌜arg11.view.read (Elt Ideal) f = (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k).dq⌝) ∗ (∃ f, (arg13.view.loc (c : Thread nD τ) ↦[arg13.view.set]{fullShare} f) ∗ ⌜arg13.view.read (Elt Ideal) f = (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k).dr⌝))
  step k acc := by
    have hk := t2_lt k
    unfold k0_t2_body
    simp only [k0_part4_eq_skeleton, k0_part5_eq_skeleton, k0_part6_eq_skeleton]
    unfold k0_part4_skel k0_part5_skel k0_part6_skel
    simp only [bind_assoc, pure_bind]
    iintro ⟨H2, H3, H6, H7, H12, H14, H15, H16, ⟨%f8, H8, %h8⟩, ⟨%f9, H9, %h9⟩, ⟨%f11, H11, %h11⟩, ⟨%f13, H13, %h13⟩⟩
    sl_exec
    have r2 : ∀ inb, View.readAt (Elt Ideal) arg2.view (Rect.unit (s := S2048x128) (k0_off6 k) ![512, 128] inb).toLoadRect X2 = rows (arg2.view.read (Elt Ideal) X2) (⟨k.val, hk⟩ : Fin 4) :=
      fun inb => View.readAt_unit _ _ inb (k0_off6_eq k) (rows_inb (⟨k.val, hk⟩ : Fin 4))
    have r3 : ∀ inb, View.readAt (Elt Ideal) arg3.view (Rect.unit (s := S2048x128) (k0_off6 k) ![512, 128] inb).toLoadRect X3 = rows (arg3.view.read (Elt Ideal) X3) (⟨k.val, hk⟩ : Fin 4) :=
      fun inb => View.readAt_unit _ _ inb (k0_off6_eq k) (rows_inb (⟨k.val, hk⟩ : Fin 4))
    have r14 : ∀ inb, View.readAt (Elt Ideal) arg14.view (Rect.unit (s := S4x1024x128) (k0_off7 k) ![1, 1024, 128] inb).toLoadRect X14 = tile (arg14.view.read (Elt Ideal) X14) (⟨k.val, hk⟩ : Fin 4) :=
      fun inb => View.readAt_unit _ _ inb (k0_off7_eq k) (tile_inb (⟨k.val, hk⟩ : Fin 4))
    have r15 : ∀ inb, View.readAt (Elt Ideal) arg15.view (Rect.unit (s := S4x1024x128) (k0_off7 k) ![1, 1024, 128] inb).toLoadRect X15 = tile (arg15.view.read (Elt Ideal) X15) (⟨k.val, hk⟩ : Fin 4) :=
      fun inb => View.readAt_unit _ _ inb (k0_off7_eq k) (tile_inb (⟨k.val, hk⟩ : Fin 4))
    have r16 : ∀ inb, View.readAt (Elt Ideal) arg16.view (Rect.unit (s := S4x1024x128) (k0_off7 k) ![1, 1024, 128] inb).toLoadRect X16 = tile (arg16.view.read (Elt Ideal) X16) (⟨k.val, hk⟩ : Fin 4) :=
      fun inb => View.readAt_unit _ _ inb (k0_off7_eq k) (tile_inb (⟨k.val, hk⟩ : Fin 4))
    have r70 : ∀ inb, View.readAt (Elt Ideal) arg7.view (Rect.unit (s := S32x512) (k0_off8 i k 0#32) ![1, 512] inb).toLoadRect X7 = cum (arg7.view.read (Elt Ideal) X7) (pair i) 0 (⟨k.val, hk⟩ : Fin 4) :=
      fun inb => View.readAt_unit _ _ inb (k0_off8_eq i k 0) (cum_inb (pair i) 0 (⟨k.val, hk⟩ : Fin 4))
    have r71 : ∀ inb, View.readAt (Elt Ideal) arg7.view (Rect.unit (s := S32x512) (k0_off8 i k 4#32) ![1, 512] inb).toLoadRect X7 = cum (arg7.view.read (Elt Ideal) X7) (pair i) 1 (⟨k.val, hk⟩ : Fin 4) :=
      fun inb => View.readAt_unit _ _ inb (k0_off8_eq i k 1) (cum_inb (pair i) 1 (⟨k.val, hk⟩ : Fin 4))
    have r60 : ∀ inb, View.readAt (Elt Ideal) arg6.view (Rect.unit (s := S1x2048x2) (k0_off9 k) ![1, 512, 1] inb).toLoadRect X6 = lse (arg6.view.read (Elt Ideal) X6) (⟨k.val, hk⟩ : Fin 4) 0 :=
      fun inb => View.readAt_unit _ _ inb (k0_off9_eq k) (lse_inb (⟨k.val, hk⟩ : Fin 4) 0)
    have r61 : ∀ inb, View.readAt (Elt Ideal) arg6.view (Rect.unit (s := S1x2048x2) (k0_off10 k) ![1, 512, 1] inb).toLoadRect X6 = lse (arg6.view.read (Elt Ideal) X6) (⟨k.val, hk⟩ : Fin 4) 1 :=
      fun inb => View.readAt_unit _ _ inb (k0_off10_eq k) (lse_inb (⟨k.val, hk⟩ : Fin 4) 1)
    have r120 : ∀ inb, View.readAt (Elt Ideal) arg12.view (Rect.unit (s := S2048x2) (k0_off11 k) ![512, 1] inb).toLoadRect X12 = col (arg12.view.read (Elt Ideal) X12) (⟨k.val, hk⟩ : Fin 4) 0 :=
      fun inb => View.readAt_unit _ _ inb (k0_off11_eq k) (col_inb (⟨k.val, hk⟩ : Fin 4) 0)
    have r121 : ∀ inb, View.readAt (Elt Ideal) arg12.view (Rect.unit (s := S2048x2) (k0_off12 k) ![512, 1] inb).toLoadRect X12 = col (arg12.view.read (Elt Ideal) X12) (⟨k.val, hk⟩ : Fin 4) 1 :=
      fun inb => View.readAt_unit _ _ inb (k0_off12_eq k) (col_inb (⟨k.val, hk⟩ : Fin 4) 1)
    have r11 : ∀ inb, View.readAt (Elt Ideal) arg11.view (Rect.unit (s := S2048x128) (k0_off6 k) ![512, 128] inb).toLoadRect f11 = rows (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dq (⟨k.val, hk⟩ : Fin 4) :=
      fun inb => (View.readAt_unit _ _ inb (k0_off6_eq k) (rows_inb (⟨k.val, hk⟩ : Fin 4))).trans (by rw [h11]; rfl)
    have r130 : ∀ inb, View.readAt (Elt Ideal) arg13.view (Rect.unit (s := S2048x2) (k0_off11 k) ![512, 1] inb).toLoadRect f13 = col (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr (⟨k.val, hk⟩ : Fin 4) 0 :=
      fun inb => (View.readAt_unit _ _ inb (k0_off11_eq k) (col_inb (⟨k.val, hk⟩ : Fin 4) 0)).trans (by rw [h13]; rfl)
    have r131 : ∀ inb, View.readAt (Elt Ideal) arg13.view (Rect.unit (s := S2048x2) (k0_off12 k) ![512, 1] inb).toLoadRect f13 = col (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr (⟨k.val, hk⟩ : Fin 4) 1 :=
      fun inb => (View.readAt_unit _ _ inb (k0_off12_eq k) (col_inb (⟨k.val, hk⟩ : Fin 4) 1)).trans (by rw [h13]; rfl)
    have w11 : ∀ inb w, arg11.view.read (Elt Ideal) (arg11.view.writes (Elt Ideal) f11 [⟨Rect.unit (s := S2048x128) (k0_off6 k) ![512, 128] inb, w⟩]) = VecWindow.put (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dq ![512 * k.val, 0] ![512, 128] w :=
      fun inb w => (View.read_writes_cons_put _ _ _ _ _ (k0_off6_eq k)).trans (by rw [View.writes_nil, h11])
    have w13 : ∀ inb inb' w w', arg13.view.read (Elt Ideal) (arg13.view.writes (Elt Ideal) f13 [⟨Rect.unit (s := S2048x2) (k0_off12 k) ![512, 1] inb, w⟩, ⟨Rect.unit (s := S2048x2) (k0_off11 k) ![512, 1] inb', w'⟩]) = VecWindow.put (VecWindow.put (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr ![512 * k.val, 0] ![512, 1] w') ![512 * k.val, 1] ![512, 1] w :=
      fun inb inb' w w' => (View.read_writes_cons_put _ _ _ _ _ (k0_off12_eq k)).trans (by rw [View.read_writes_cons_put _ _ _ _ _ (k0_off11_eq k), View.writes_nil, h13])
    sl_step
    isplitl [H2]; · iexact H2
    isplitl [H3]; · iexact H3
    isplitl [H6]; · iexact H6
    isplitl [H7]; · iexact H7
    isplitl [H12]; · iexact H12
    isplitl [H14]; · iexact H14
    isplitl [H15]; · iexact H15
    isplitl [H16]; · iexact H16
    isplitl [H8]
    · iexists _; isplitl [H8]; · iexact H8
      ipureintro
      clear hL5 hL7
      refine (View.read_writes_cons_put _ _ _ _ _ (k0_off26_eq k)).trans ?_
      rw [View.read_writes_cons_put _ _ _ _ _ (k0_off25_eq k), View.writes_nil, h8, big_succ _ _ _ _ _ _ _ _ _ _ _ hk]
      refine put_congr (put_congr rfl ?_) ?_
      · skip
        simp only [r2, r3, r14, r15, r16, r70, r71, r60, r61, r120, r121, r11, r130, r131]
        refine congrArg (fun s : St => k0_pay63 s.acc.1) (off_congr _ _ _ _ _ _ _ _ _ (s' := (diag (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) (⟨k.val, hk⟩ : Fin 4) (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dq (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr)) ?_ ?_ ?_ (t3_trips k))
        · rfl
        · exact w11 _ _
        · refine (w13 _ _ _ _).trans (put_congr (put_congr rfl ?_) (congrArg₂ k0_pay47 ?_ (r131 _)))
          · rfl
          · rfl
      · skip
        simp only [r2, r3, r14, r15, r16, r70, r71, r60, r61, r120, r121, r11, r130, r131]
        refine congrArg (fun s : St => k0_pay7 (k0_pay64 s.acc.2.1)) (off_congr _ _ _ _ _ _ _ _ _ (s' := (diag (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) (⟨k.val, hk⟩ : Fin 4) (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dq (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr)) ?_ ?_ ?_ (t3_trips k))
        · rfl
        · exact w11 _ _
        · refine (w13 _ _ _ _).trans (put_congr (put_congr rfl ?_) (congrArg₂ k0_pay47 ?_ (r131 _)))
          · rfl
          · rfl
    isplitl [H9]
    · iexists _; isplitl [H9]; · iexact H9
      ipureintro
      clear hL5 hL7
      refine (View.read_writes_cons_put _ _ _ _ _ (k0_off8_eq i k 1)).trans ?_
      rw [View.read_writes_cons_put _ _ _ _ _ (k0_off8_eq i k 0), View.writes_nil, h9, big_succ _ _ _ _ _ _ _ _ _ _ _ hk]
      refine put_congr (put_congr rfl ?_) ?_
      · skip
        simp only [r2, r3, r14, r15, r16, r70, r71, r60, r61, r120, r121, r11, r130, r131]
        refine congrArg (fun s : St => s.acc.2.2.1) (off_congr _ _ _ _ _ _ _ _ _ (s' := (diag (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) (⟨k.val, hk⟩ : Fin 4) (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dq (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr)) ?_ ?_ ?_ (t3_trips k))
        · rfl
        · exact w11 _ _
        · refine (w13 _ _ _ _).trans (put_congr (put_congr rfl ?_) (congrArg₂ k0_pay47 ?_ (r131 _)))
          · rfl
          · rfl
      · skip
        simp only [r2, r3, r14, r15, r16, r70, r71, r60, r61, r120, r121, r11, r130, r131]
        refine congrArg (fun s : St => s.acc.2.2.2) (off_congr _ _ _ _ _ _ _ _ _ (s' := (diag (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) (⟨k.val, hk⟩ : Fin 4) (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dq (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr)) ?_ ?_ ?_ (t3_trips k))
        · rfl
        · exact w11 _ _
        · refine (w13 _ _ _ _).trans (put_congr (put_congr rfl ?_) (congrArg₂ k0_pay47 ?_ (r131 _)))
          · rfl
          · rfl
    isplitl [H11]
    · iexists _; isplitl [H11]; · iexact H11
      ipureintro
      rw [hL5, big_succ _ _ _ _ _ _ _ _ _ _ _ hk]
      clear hL5 hL7
      simp only [r2, r3, r14, r15, r16, r70, r71, r60, r61, r120, r121, r11, r130, r131]
      refine congrArg (fun s : St => s.dq) (off_congr _ _ _ _ _ _ _ _ _ (s' := (diag (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) (⟨k.val, hk⟩ : Fin 4) (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dq (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr)) ?_ ?_ ?_ (t3_trips k))
      · rfl
      · exact w11 _ _
      · refine (w13 _ _ _ _).trans (put_congr (put_congr rfl ?_) (congrArg₂ k0_pay47 ?_ (r131 _)))
        · rfl
        · rfl
    iexists _; isplitl [H13]; · iexact H13
    ipureintro
    rw [hL7, big_succ _ _ _ _ _ _ _ _ _ _ _ hk]
    clear hL5 hL7
    simp only [r2, r3, r14, r15, r16, r70, r71, r60, r61, r120, r121, r11, r130, r131]
    refine congrArg (fun s : St => s.dr) (off_congr _ _ _ _ _ _ _ _ _ (s' := (diag (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) (⟨k.val, hk⟩ : Fin 4) (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dq (big (pair i) (arg2.view.read (Elt Ideal) X2) (arg3.view.read (Elt Ideal) X3) (arg6.view.read (Elt Ideal) X6) (arg7.view.read (Elt Ideal) X7) (arg12.view.read (Elt Ideal) X12) (arg14.view.read (Elt Ideal) X14) (arg15.view.read (Elt Ideal) X15) (arg16.view.read (Elt Ideal) X16) ⟨G8, G9, G11, G13⟩ k.val).dr)) ?_ ?_ ?_ (t3_trips k))
    · rfl
    · exact w11 _ _
    · refine (w13 _ _ _ _).trans (put_congr (put_congr rfl ?_) (congrArg₂ k0_pay47 ?_ (r131 _)))
      · rfl
      · rfl

end Cert.KernelIdeal.Hand

end
-- ==== Proof.TileLoop.lean ====
module

public import proofs.«01_k».proof.Proof.Tiles
public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-! The loop over the row tiles. -/

theorem t1_lt (j : Fin k0_t1_loop.trips) : j.val < 4 := Nat.lt_of_lt_of_le j.isLt k0_t1_abs.2.1

set_option maxHeartbeats 2000000 in
set_option warn.classDefReducibility false in
/-- The loop over the row tiles: the six buffers it writes follow `scr`. -/
@[sl_loop] def tileLoop (𝒱 : Variants) (c : Dev nD) (bd : Option 𝒱.V) (E : Set ℕ) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S1x2048x2 .f32) (harg6 : arg6.IsWhole) (arg7 : Memref sig .tc .vmem S32x512 .f32) (harg7 : arg7.IsWhole) (arg8 : Memref sig .tc .vmem S3x2048x128 .bf16) (harg8 : arg8.IsWhole) (arg9 : Memref sig .tc .vmem S32x512 .f32) (harg9 : arg9.IsWhole) (arg10 : Memref sig .tc .vmem S1x2048x2 .f32) (harg10 : arg10.IsWhole) (arg11 : Memref sig .tc .vmem S2048x128 .f32) (harg11 : arg11.IsWhole) (arg12 : Memref sig .tc .vmem S2048x2 .f32) (harg12 : arg12.IsWhole) (arg13 : Memref sig .tc .vmem S2048x2 .f32) (harg13 : arg13.IsWhole) (arg14 : Memref sig .tc .vmem S4x1024x128 .bf16) (harg14 : arg14.IsWhole) (arg15 : Memref sig .tc .vmem S4x1024x128 .bf16) (harg15 : arg15.IsWhole) (arg16 : Memref sig .tc .vmem S4x1024x128 .bf16) (harg16 : arg16.IsWhole) (X1 : BufTy.Contents (Elt Ideal) arg1.view.ty) (X2 : BufTy.Contents (Elt Ideal) arg2.view.ty) (X4 : BufTy.Contents (Elt Ideal) arg4.view.ty) (X5 : BufTy.Contents (Elt Ideal) arg5.view.ty)
    (G11 : Vec Ideal S2048x128 .f32) (G12 : Vec Ideal S2048x2 .f32) (G13 : Vec Ideal S2048x2 .f32) (G14 G15 G16 : Vec Ideal S4x1024x128 .bf16) :
    Gen.LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k _ => iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (∃ f, (arg12.view.loc (c : Thread nD τ) ↦[arg12.view.set]{fullShare} f) ∗ ⌜arg12.view.read (Elt Ideal) f = (scr (arg1.view.read (Elt Ideal) X1) (arg2.view.read (Elt Ideal) X2) (arg4.view.read (Elt Ideal) X4) (arg5.view.read (Elt Ideal) X5) ⟨G12, G14, G15, G16, G11, G13⟩ k).del⌝) ∗ (∃ f, (arg14.view.loc (c : Thread nD τ) ↦[arg14.view.set]{fullShare} f) ∗ ⌜arg14.view.read (Elt Ideal) f = (scr (arg1.view.read (Elt Ideal) X1) (arg2.view.read (Elt Ideal) X2) (arg4.view.read (Elt Ideal) X4) (arg5.view.read (Elt Ideal) X5) ⟨G12, G14, G15, G16, G11, G13⟩ k).qs⌝) ∗ (∃ f, (arg15.view.loc (c : Thread nD τ) ↦[arg15.view.set]{fullShare} f) ∗ ⌜arg15.view.read (Elt Ideal) f = (scr (arg1.view.read (Elt Ideal) X1) (arg2.view.read (Elt Ideal) X2) (arg4.view.read (Elt Ideal) X4) (arg5.view.read (Elt Ideal) X5) ⟨G12, G14, G15, G16, G11, G13⟩ k).dos⌝) ∗ (∃ f, (arg16.view.loc (c : Thread nD τ) ↦[arg16.view.set]{fullShare} f) ∗ ⌜arg16.view.read (Elt Ideal) f = (scr (arg1.view.read (Elt Ideal) X1) (arg2.view.read (Elt Ideal) X2) (arg4.view.read (Elt Ideal) X4) (arg5.view.read (Elt Ideal) X5) ⟨G12, G14, G15, G16, G11, G13⟩ k).kbd⌝) ∗ (∃ f, (arg11.view.loc (c : Thread nD τ) ↦[arg11.view.set]{fullShare} f) ∗ ⌜arg11.view.read (Elt Ideal) f = (scr (arg1.view.read (Elt Ideal) X1) (arg2.view.read (Elt Ideal) X2) (arg4.view.read (Elt Ideal) X4) (arg5.view.read (Elt Ideal) X5) ⟨G12, G14, G15, G16, G11, G13⟩ k).dq⌝) ∗ (∃ f, (arg13.view.loc (c : Thread nD τ) ↦[arg13.view.set]{fullShare} f) ∗ ⌜arg13.view.read (Elt Ideal) f = (scr (arg1.view.read (Elt Ideal) X1) (arg2.view.read (Elt Ideal) X2) (arg4.view.read (Elt Ideal) X4) (arg5.view.read (Elt Ideal) X5) ⟨G12, G14, G15, G16, G11, G13⟩ k).dr⌝))
  step k acc := by
    have hk := t1_lt k
    unfold k0_t1_body
    simp only [k0_part1_eq_skeleton]
    unfold k0_part1_skel
    simp only [bind_assoc, pure_bind]
    iintro ⟨H1, H2, H4, H5, ⟨%f12, H12, %h12⟩, ⟨%f14, H14, %h14⟩, ⟨%f15, H15, %h15⟩, ⟨%f16, H16, %h16⟩, ⟨%f11, H11, %h11⟩, ⟨%f13, H13, %h13⟩⟩
    sl_exec
    have r1 : ∀ inb, View.readAt (Elt Ideal) arg1.view (Rect.unit (s := S2048x128) (k0_off1 k) S512x128.size inb).toLoadRect X1 = rows (arg1.view.read (Elt Ideal) X1) ⟨k.val, hk⟩ :=
      fun inb => View.readAt_unit _ _ inb (k0_off1_eq k) (rows_inb ⟨k.val, hk⟩)
    have r2 : ∀ inb, View.readAt (Elt Ideal) arg2.view (Rect.unit (s := S2048x128) (k0_off1 k) S512x128.size inb).toLoadRect X2 = rows (arg2.view.read (Elt Ideal) X2) ⟨k.val, hk⟩ :=
      fun inb => View.readAt_unit _ _ inb (k0_off1_eq k) (rows_inb ⟨k.val, hk⟩)
    have r4 : ∀ inb, View.readAt (Elt Ideal) arg4.view (Rect.unit (s := S2048x128) (k0_off1 k) S512x128.size inb).toLoadRect X4 = rows (arg4.view.read (Elt Ideal) X4) ⟨k.val, hk⟩ :=
      fun inb => View.readAt_unit _ _ inb (k0_off1_eq k) (rows_inb ⟨k.val, hk⟩)
    have r5 : ∀ inb, View.readAt (Elt Ideal) arg5.view (Rect.unit (s := S2048x128) (k0_off1 k) S512x128.size inb).toLoadRect X5 = rows (arg5.view.read (Elt Ideal) X5) ⟨k.val, hk⟩ :=
      fun inb => View.readAt_unit _ _ inb (k0_off1_eq k) (rows_inb ⟨k.val, hk⟩)
    sl_step
    isplitl [H1]; · iexact H1
    isplitl [H2]; · iexact H2
    isplitl [H4]; · iexact H4
    isplitl [H5]; · iexact H5
    isplitl [H12]
    · iexists _; isplitl [H12]; · iexact H12
      ipureintro
      refine (View.read_writes_cons_put _ _ _ _ _ (k0_off3_eq k)).trans ?_
      rw [View.read_writes_cons_put _ _ _ _ _ (k0_off2_eq k), View.writes_nil, h12, scr_succ _ _ _ _ _ _ hk]
      refine put_congr (put_congr rfl ?_) ?_
      · exact congrArg₂ (k0_pay11 k0_pay1) (r4 _) (r5 _)
      · exact congrArg₂ (k0_pay12 k0_pay2) (r4 _) (r5 _)
    isplitl [H14]
    · iexists _; isplitl [H14]; · iexact H14
      ipureintro
      refine (View.read_writes_cons_put _ _ _ _ _ (k0_off4_eq k)).trans ?_
      rw [View.writes_nil, h14, scr_succ _ _ _ _ _ _ hk]
      exact put_congr rfl (congrArg (k0_pay13 k0_pay1 k0_pay2) (r1 _))
    isplitl [H15]
    · iexists _; isplitl [H15]; · iexact H15
      ipureintro
      refine (View.read_writes_cons_put _ _ _ _ _ (k0_off4_eq k)).trans ?_
      rw [View.writes_nil, h15, scr_succ _ _ _ _ _ _ hk]
      exact put_congr rfl (congrArg (fun x => k0_pay3 (k0_pay14 k0_pay1 x) (k0_pay15 k0_pay2 x)) (r4 _))
    isplitl [H16]
    · iexists _; isplitl [H16]; · iexact H16
      ipureintro
      refine (View.read_writes_cons_put _ _ _ _ _ (k0_off4_eq k)).trans ?_
      rw [View.writes_nil, h16, scr_succ _ _ _ _ _ _ hk]
      exact put_congr rfl (congrArg k0_pay4 (r2 _))
    isplitl [H11]
    · iexists _; isplitl [H11]; · iexact H11
      ipureintro
      refine (View.read_writes_cons_put _ _ _ _ _ (k0_off1_eq k)).trans ?_
      rw [View.writes_nil, h11, scr_succ _ _ _ _ _ _ hk]
      rfl
    iexists _; isplitl [H13]; · iexact H13
    ipureintro
    refine (View.read_writes_cons_put _ _ _ _ _ (k0_off5_eq k)).trans ?_
    rw [View.writes_nil, h13, scr_succ _ _ _ _ _ _ hk]
    rfl

end Cert.KernelIdeal.Hand

end
-- ==== Proof.BodyI.lean ====
module

public import proofs.«01_k».proof.Proof.KeyLoopI
public import proofs.«01_k».proof.Proof.TileLoop
public import proofs.«01_k».proof.Proof.Gen.KernelIdeal.Launch
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-! ### What the body leaves -/

section
variable (g : Fin 4) (x1 x2 x3 : Vec Ideal S2048x128 .bf16) (x4 : Vec Ideal S2048x128 .f32) (x5 : Vec Ideal S2048x128 .bf16)
  (x6 : Vec Ideal S1x2048x2 .f32) (x7 : Vec Ideal S32x512 .f32) (s : Scr) (d8 : Vec Ideal S3x2048x128 .bf16) (d9 : Vec Ideal S32x512 .f32)

/-- The scratch when the loop over the key tiles starts. -/
def ready : Scr := scr x1 x2 x4 x5 s 4

/-- What the loop over the key tiles leaves. -/
def total : Big :=
  big g x2 x3 x6 x7 (ready x1 x2 x4 x5 s).del (ready x1 x2 x4 x5 s).qs (ready x1 x2 x4 x5 s).dos (ready x1 x2 x4 x5 s).kbd
    ⟨d8, d9, (ready x1 x2 x4 x5 s).dq, (ready x1 x2 x4 x5 s).dr⟩ 4

/-- The stacked gradients of the queries, keys and values. -/
def out8 : Vec Ideal S3x2048x128 .bf16 :=
  VecWindow.put (total g x1 x2 x3 x4 x5 x6 x7 s d8 d9).dqkv ![0, 0, 0] S1x2048x128.size (k0_pay8 (total g x1 x2 x3 x4 x5 x6 x7 s d8 d9).dq)

/-- The gradients of the running sums on the key side. -/
def out9 : Vec Ideal S32x512 .f32 := (total g x1 x2 x3 x4 x5 x6 x7 s d8 d9).dc

/-- The row sums of the score gradients. -/
def out10 : Vec Ideal S1x2048x2 .f32 := k0_pay9 (total g x1 x2 x3 x4 x5 x6 x7 s d8 d9).dr

end

theorem t1_trips : Scf.trips k0_t1_loop.lb k0_t1_loop.ub k0_t1_loop.st = 4 := by decide +kernel
theorem t2_trips : Scf.trips k0_t2_loop.lb k0_t2_loop.ub k0_t2_loop.st = 4 := by decide +kernel

set_option maxHeartbeats 4000000 in
/-- The body's triple: the inputs stay, the results end at what the body leaves, the scratch at some contents. -/
theorem bodyRun (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S1x2048x2 .f32) (harg6 : arg6.IsWhole) (arg7 : Memref sig .tc .vmem S32x512 .f32) (harg7 : arg7.IsWhole) (arg8 : Memref sig .tc .vmem S3x2048x128 .bf16) (harg8 : arg8.IsWhole) (arg9 : Memref sig .tc .vmem S32x512 .f32) (harg9 : arg9.IsWhole) (arg10 : Memref sig .tc .vmem S1x2048x2 .f32) (harg10 : arg10.IsWhole) (arg11 : Memref sig .tc .vmem S2048x128 .f32) (harg11 : arg11.IsWhole) (arg12 : Memref sig .tc .vmem S2048x2 .f32) (harg12 : arg12.IsWhole) (arg13 : Memref sig .tc .vmem S2048x2 .f32) (harg13 : arg13.IsWhole) (arg14 : Memref sig .tc .vmem S4x1024x128 .bf16) (harg14 : arg14.IsWhole) (arg15 : Memref sig .tc .vmem S4x1024x128 .bf16) (harg15 : arg15.IsWhole) (arg16 : Memref sig .tc .vmem S4x1024x128 .bf16) (harg16 : arg16.IsWhole)
    (x1 : Vec Ideal S2048x128 .bf16) (x2 : Vec Ideal S2048x128 .bf16) (x3 : Vec Ideal S2048x128 .bf16) (x4 : Vec Ideal S2048x128 .f32) (x5 : Vec Ideal S2048x128 .bf16) (x6 : Vec Ideal S1x2048x2 .f32) (x7 : Vec Ideal S32x512 .f32) (d8 : Vec Ideal S3x2048x128 .bf16) (d9 : Vec Ideal S32x512 .f32) (d10 : Vec Ideal S1x2048x2 .f32) (d11 : Vec Ideal S2048x128 .f32) (d12 : Vec Ideal S2048x2 .f32) (d13 : Vec Ideal S2048x2 .f32) (d14 : Vec Ideal S4x1024x128 .bf16) (d15 : Vec Ideal S4x1024x128 .bf16) (d16 : Vec Ideal S4x1024x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out8 (pair i) x1 x2 x3 x4 x5 x6 x7 ⟨d12, d14, d15, d16, d11, d13⟩ d8 d9) ∗ owns (c : Thread nD τ) arg9 fullShare (out9 (pair i) x1 x2 x3 x4 x5 x6 x7 ⟨d12, d14, d15, d16, d11, d13⟩ d8 d9) ∗ owns (c : Thread nD τ) arg10 fullShare (out10 (pair i) x1 x2 x3 x4 x5 x6 x7 ⟨d12, d14, d15, d16, d11, d13⟩ d8 d9) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_eq_skeleton]; unfold cc0_attn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  subst hf8 hf9 hf10 hf11 hf12 hf13 hf14 hf15 hf16
  have e12 : arg12.view.read (Elt Ideal) fL0 = (ready x1 x2 x4 x5 ⟨arg12.view.read (Elt Ideal) f12, arg14.view.read (Elt Ideal) f14, arg15.view.read (Elt Ideal) f15, arg16.view.read (Elt Ideal) f16, arg11.view.read (Elt Ideal) f11, arg13.view.read (Elt Ideal) f13⟩).del := hL5.trans (by rw [hf1, hf2, hf4, hf5, t1_trips]; rfl)
  have e14 : arg14.view.read (Elt Ideal) fL1 = (ready x1 x2 x4 x5 ⟨arg12.view.read (Elt Ideal) f12, arg14.view.read (Elt Ideal) f14, arg15.view.read (Elt Ideal) f15, arg16.view.read (Elt Ideal) f16, arg11.view.read (Elt Ideal) f11, arg13.view.read (Elt Ideal) f13⟩).qs := hL7.trans (by rw [hf1, hf2, hf4, hf5, t1_trips]; rfl)
  have e15 : arg15.view.read (Elt Ideal) fL2 = (ready x1 x2 x4 x5 ⟨arg12.view.read (Elt Ideal) f12, arg14.view.read (Elt Ideal) f14, arg15.view.read (Elt Ideal) f15, arg16.view.read (Elt Ideal) f16, arg11.view.read (Elt Ideal) f11, arg13.view.read (Elt Ideal) f13⟩).dos := hL9.trans (by rw [hf1, hf2, hf4, hf5, t1_trips]; rfl)
  have e16 : arg16.view.read (Elt Ideal) fL3 = (ready x1 x2 x4 x5 ⟨arg12.view.read (Elt Ideal) f12, arg14.view.read (Elt Ideal) f14, arg15.view.read (Elt Ideal) f15, arg16.view.read (Elt Ideal) f16, arg11.view.read (Elt Ideal) f11, arg13.view.read (Elt Ideal) f13⟩).kbd := hL11.trans (by rw [hf1, hf2, hf4, hf5, t1_trips]; rfl)
  have e11 : arg11.view.read (Elt Ideal) fL4 = (ready x1 x2 x4 x5 ⟨arg12.view.read (Elt Ideal) f12, arg14.view.read (Elt Ideal) f14, arg15.view.read (Elt Ideal) f15, arg16.view.read (Elt Ideal) f16, arg11.view.read (Elt Ideal) f11, arg13.view.read (Elt Ideal) f13⟩).dq := hL13.trans (by rw [hf1, hf2, hf4, hf5, t1_trips]; rfl)
  have e13 : arg13.view.read (Elt Ideal) fL5 = (ready x1 x2 x4 x5 ⟨arg12.view.read (Elt Ideal) f12, arg14.view.read (Elt Ideal) f14, arg15.view.read (Elt Ideal) f15, arg16.view.read (Elt Ideal) f16, arg11.view.read (Elt Ideal) f11, arg13.view.read (Elt Ideal) f13⟩).dr := hL15.trans (by rw [hf1, hf2, hf4, hf5, t1_trips]; rfl)
  have t8 : arg8.view.read (Elt Ideal) fL6 = (total (pair i) x1 x2 x3 x4 x5 x6 x7 ⟨arg12.view.read (Elt Ideal) f12, arg14.view.read (Elt Ideal) f14, arg15.view.read (Elt Ideal) f15, arg16.view.read (Elt Ideal) f16, arg11.view.read (Elt Ideal) f11, arg13.view.read (Elt Ideal) f13⟩ (arg8.view.read (Elt Ideal) f8) (arg9.view.read (Elt Ideal) f9)).dqkv := hL25.trans (by
    rw [hf2, hf3, hf6, hf7, e12, e14, e15, e16, t2_trips]
    show (big _ _ _ _ _ _ _ _ _ ⟨_, _, arg11.view.read (Elt Ideal) fL4, arg13.view.read (Elt Ideal) fL5⟩ 4).dqkv = _
    rw [e11, e13]; rfl)
  have t9 : arg9.view.read (Elt Ideal) fL7 = (total (pair i) x1 x2 x3 x4 x5 x6 x7 ⟨arg12.view.read (Elt Ideal) f12, arg14.view.read (Elt Ideal) f14, arg15.view.read (Elt Ideal) f15, arg16.view.read (Elt Ideal) f16, arg11.view.read (Elt Ideal) f11, arg13.view.read (Elt Ideal) f13⟩ (arg8.view.read (Elt Ideal) f8) (arg9.view.read (Elt Ideal) f9)).dc := hL27.trans (by
    rw [hf2, hf3, hf6, hf7, e12, e14, e15, e16, t2_trips]
    show (big _ _ _ _ _ _ _ _ _ ⟨_, _, arg11.view.read (Elt Ideal) fL4, arg13.view.read (Elt Ideal) fL5⟩ 4).dc = _
    rw [e11, e13]; rfl)
  have t11 : arg11.view.read (Elt Ideal) fL8 = (total (pair i) x1 x2 x3 x4 x5 x6 x7 ⟨arg12.view.read (Elt Ideal) f12, arg14.view.read (Elt Ideal) f14, arg15.view.read (Elt Ideal) f15, arg16.view.read (Elt Ideal) f16, arg11.view.read (Elt Ideal) f11, arg13.view.read (Elt Ideal) f13⟩ (arg8.view.read (Elt Ideal) f8) (arg9.view.read (Elt Ideal) f9)).dq := hL29.trans (by
    rw [hf2, hf3, hf6, hf7, e12, e14, e15, e16, t2_trips]
    show (big _ _ _ _ _ _ _ _ _ ⟨_, _, arg11.view.read (Elt Ideal) fL4, arg13.view.read (Elt Ideal) fL5⟩ 4).dq = _
    rw [e11, e13]; rfl)
  have t13 : arg13.view.read (Elt Ideal) fL9 = (total (pair i) x1 x2 x3 x4 x5 x6 x7 ⟨arg12.view.read (Elt Ideal) f12, arg14.view.read (Elt Ideal) f14, arg15.view.read (Elt Ideal) f15, arg16.view.read (Elt Ideal) f16, arg11.view.read (Elt Ideal) f11, arg13.view.read (Elt Ideal) f13⟩ (arg8.view.read (Elt Ideal) f8) (arg9.view.read (Elt Ideal) f9)).dr := hL31.trans (by
    rw [hf2, hf3, hf6, hf7, e12, e14, e15, e16, t2_trips]
    show (big _ _ _ _ _ _ _ _ _ ⟨_, _, arg11.view.read (Elt Ideal) fL4, arg13.view.read (Elt Ideal) fL5⟩ 4).dr = _
    rw [e11, e13]; rfl)
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (View.read_writes_cons_put _ _ _ _ _ rfl).trans ?_
    rw [View.writes_nil, t8]
    refine put_congr rfl (congrArg k0_pay8 ?_)
    exact (View.readAt_full _ _ _).trans t11
  isplitl [H9]
  · iexists _; isplitr; swap; · iexact H9
    ipureintro; exact t9
  isplitl [H10]
  · iexists _; isplitr; swap; · iexact H10
    ipureintro
    refine (View.read_writes_full _ _ _ _ _).trans (congrArg k0_pay9 ?_)
    exact (View.readAt_full _ _ _).trans t13
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.KernelIdeal.Hand

end
-- ==== Proof.FramesI.lean ====
module

public import proofs.«01_k».proof.Proof.BodyI
public import proofs.«01_k».proof.Proof.Gen.KernelIdeal.Launch
public import proofs.«01_k».proof.Proof.Gen.KernelIdeal.Points

public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Each window's staging memref at a point, as the body is called with it. -/
abbrev ms0_0 (t : Fin cfg0.N) : Memref sig .tc .vmem S2048x128 .bf16 := win0_0.stage (cfg0.slots t 0)
abbrev ms0_1 (t : Fin cfg0.N) : Memref sig .tc .vmem S2048x128 .bf16 := win0_1.stage (cfg0.slots t 1)
abbrev ms0_2 (t : Fin cfg0.N) : Memref sig .tc .vmem S2048x128 .bf16 := win0_2.stage (cfg0.slots t 2)
abbrev ms0_3 (t : Fin cfg0.N) : Memref sig .tc .vmem S2048x128 .f32 := win0_3.stage (cfg0.slots t 3)
abbrev ms0_4 (t : Fin cfg0.N) : Memref sig .tc .vmem S2048x128 .bf16 := win0_4.stage (cfg0.slots t 4)
abbrev ms0_5 (t : Fin cfg0.N) : Memref sig .tc .vmem S1x2048x2 .f32 := win0_5.stage (cfg0.slots t 5)
abbrev ms0_6 (t : Fin cfg0.N) : Memref sig .tc .vmem S32x512 .f32 := win0_6.stage (cfg0.slots t 6)
abbrev ms0_7 (t : Fin cfg0.N) : Memref sig .tc .vmem S3x2048x128 .bf16 := win0_7.stage (cfg0.slots t 7)
abbrev ms0_8 (t : Fin cfg0.N) : Memref sig .tc .vmem S32x512 .f32 := win0_8.stage (cfg0.slots t 8)
abbrev ms0_9 (t : Fin cfg0.N) : Memref sig .tc .vmem S1x2048x2 .f32 := win0_9.stage (cfg0.slots t 9)

/-- The invariant of the region: the six scratch buffers at some contents, and the generator register. -/
theorem phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The body's blocks at a point, before the three results' windows. -/
theorem pair_val (t : Fin cfg0.N) : (pair (grid0.coords t)).val = t.val := by
  rcases fin_N0 t with h | h | h | h <;> subst h <;> decide

theorem big_dc_keep (g : Fin 4) (x2 x3 : Vec Ideal S2048x128 .bf16) (x6 : Vec Ideal S1x2048x2 .f32) (x7 : Vec Ideal S32x512 .f32)
    (x12 : Vec Ideal S2048x2 .f32) (x14 x15 x16 : Vec Ideal S4x1024x128 .bf16) (s : Big) (i : S32x512.Idx)
    (h : (i 0).val < 8 * g.val ∨ 8 * g.val + 8 ≤ (i 0).val) (k : ℕ) :
    (big g x2 x3 x6 x7 x12 x14 x15 x16 s k).dc i = s.dc i := by
  induction k with
  | zero => rfl
  | succ k ih =>
    rw [big]
    split
    · rename_i hk
      rw [← ih]
      show VecWindow.put (VecWindow.put _ _ _ _) _ _ _ i = _
      unfold VecWindow.put
      rw [dif_neg, dif_neg]
      · intro hh
        have h0 : 8 * g.val + 4 * 0 + k ≤ (i 0).val ∧ (i 0).val < 8 * g.val + 4 * 0 + k + 1 := hh 0
        omega
      · intro hh
        have h0 : 8 * g.val + 4 * 1 + k ≤ (i 0).val ∧ (i 0).val < 8 * g.val + 4 * 1 + k + 1 := hh 0
        omega
    · exact ih

/-- The results: what the body leaves in their windows is told by `Rl`. -/
def results : Fin 10 → Bool := fun w => 7 ≤ w.val

/-- What the body leaves in the results' windows at a point: the stacked gradients and the row sums of the point's pair of
    heads, and the bias gradients of all pairs so far. -/
def Rl (c : Dev nD) (w : Fin cfg0.W) (t : Fin cfg0.N) : ((cfg0.win w).block.Idx → Elt Ideal (cfg0.win w).elt) → Prop :=
  match w with
  | ⟨7, _⟩ => fun X => ∃ s d8 d9, X = out8 (pair (grid0.coords t)) (iblk m c 0 t) (iblk m c 1 t) (iblk m c 2 t) (iblk m c 3 t) (iblk m c 4 t) (iblk m c 5 t) (iblk m c 6 t) s d8 d9
  | ⟨8, _⟩ => fun X => ∀ u : Fin cfg0.N, u.val ≤ t.val → ∀ i : S32x512.Idx, 8 * u.val ≤ (i 0).val → (i 0).val < 8 * u.val + 8 →
      ∃ s d8 d9, X i = out9 (pair (grid0.coords u)) (iblk m c 0 u) (iblk m c 1 u) (iblk m c 2 u) (iblk m c 3 u) (iblk m c 4 u) (iblk m c 5 u) (iblk m c 6 u) s d8 d9 i
  | ⟨9, _⟩ => fun X => ∃ s d8 d9, X = out10 (pair (grid0.coords t)) (iblk m c 0 t) (iblk m c 1 t) (iblk m c 2 t) (iblk m c 3 t) (iblk m c 4 t) (iblk m c 5 t) (iblk m c 6 t) s d8 d9
  | _ => fun _ => True

/-- The proof data: the arrays as the region finds them, the inputs' buffers at their blocks after every point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Before a point after the first, the bias gradients' window holds those of the pairs so far. -/
theorem finds8 (c : Dev nD) (t : Fin cfg0.N) (Y : (cfg0.win 8).block.Idx → Elt Ideal (cfg0.win 8).elt)
    (h : ((dats m 0 c).toRRel results (Rl m c)).Finds 8 t Y) (u : Fin cfg0.N) (hu : u.val < t.val) :
    Rl m c 8 ⟨t.val - 1, by have := t.isLt; omega⟩ Y := by
  have ht : t.val ≠ 0 := by omega
  rw [RDat.finds_of_pos _ (Pipeline.Window.fetch_out _ rfl t) ht] at h
  rcases h with h | h
  · exfalso
    have h' := (flush0_8 _).mp h
    have := t.isLt
    have hN : cfg0.N = 4 := N_0
    simp only [] at h'
    omega
  · exact (dats m 0 c).toRRel_leaves rfl h

/-- What the body leaves in the bias gradients' window. -/
theorem leaves8 (c : Dev nD) (t : Fin cfg0.N) (Y : S32x512.Idx → Elt Ideal .f32)
    (h : ((dats m 0 c).toRRel results (Rl m c)).Finds 8 t Y) (s : Scr) (d8) :
    Rl m c 8 t (out9 (pair (grid0.coords t)) (iblk m c 0 t) (iblk m c 1 t) (iblk m c 2 t) (iblk m c 3 t) (iblk m c 4 t) (iblk m c 5 t) (iblk m c 6 t) s d8 Y) := by
  show ∀ u : Fin cfg0.N, _
  intro u hu i h1 h2
  by_cases e : u.val = t.val
  · have e' : u = t := Fin.ext e
    subst e'
    exact ⟨s, d8, Y, rfl⟩
  · have hlt : u.val < t.val := by omega
    have hY := finds8 m c t Y h u hlt
    obtain ⟨s', d8', d9', e'⟩ := hY u (show u.val ≤ t.val - 1 by omega) i h1 h2
    refine ⟨s', d8', d9', ?_⟩
    rw [← e']
    unfold out9 total
    exact big_dc_keep _ _ _ _ _ _ _ _ _ _ i (by rw [pair_val]; omega) 4

set_option maxHeartbeats 2000000 in
/-- The body at any point. -/
theorem bodyAt (c : Dev nD) (t : Fin cfg0.N) :
    iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ Y, ⌜((dats m 0 c).toRRel results (Rl m c)).Finds 7 t Y⌝ ∗ owns (c : Thread nD τ) (ms0_7 t) fullShare Y) ∗ (∃ Y, ⌜((dats m 0 c).toRRel results (Rl m c)).Finds 8 t Y⌝ ∗ owns (c : Thread nD τ) (ms0_8 t) fullShare Y) ∗ (∃ Y, ⌜((dats m 0 c).toRRel results (Rl m c)).Finds 9 t Y⌝ ∗ owns (c : Thread nD τ) (ms0_9 t) fullShare Y))
      ⊢ wp frame (wpE (defs₀ (F := Ideal)) Variants.none c none) Set.univ (bodyAt0 t)
        (fun _ => iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ (∃ X, ⌜Rl m c 7 t X⌝ ∗ owns (c : Thread nD τ) (ms0_7 t) fullShare X) ∗ (∃ X, ⌜Rl m c 8 t X⌝ ∗ owns (c : Thread nD τ) (ms0_8 t) fullShare X) ∗ (∃ X, ⌜Rl m c 9 t X⌝ ∗ owns (c : Thread nD τ) (ms0_9 t) fullShare X))) := by
  unfold bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, phi_eq]
  iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, %hd8, H8⟩, ⟨%d9, -, H9⟩⟩
  iapply ((bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d7 d8 d9 e0 e1 e2 e3 e4 e5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact ⟨_, _, _, rfl⟩
  isplitl [H8]
  · iexists _; isplitr; swap; · iexact H8
    ipureintro; exact leaves8 m c t d8 hd8 _ _
  iexists _; isplitr; swap; · iexact H9
  ipureintro; exact ⟨_, _, _, rfl⟩

/-- The body table's row at a point's slots. -/
theorem row_eq (t : Fin cfg0.N) :
    defs₀ (F := Ideal) .tc cfg0.body (cfg0.bodyArgs t (cfg0.slots t)) = bodyAt0 t := by
  unfold defs₀; rw [Defs.onTc_tc]

theorem obligation (c : Dev nD) : Pipeline.BodyObligationRel (dats m 0 c) (defs₀ (F := Ideal)) Variants.none () Set.univ results (Rl m c) := fun t => by
  rw [bigSep_W0, bigSep_W0, row_eq]
  exact triple_restated (bodyAt m c t) rfl .rfl fun _ => .rfl

set_option backward.isDefEq.respectTransparency.types false in
/-- The launch: the arrays as the points' results say, every counter at zero. -/
theorem launched : θ_run defs (onTc (τ := τ) (main (F := Ideal))) (s₀ m ρ)
    (fun r => (RDat.FramePost (cfgs 0) (fun c => (dats m 0 c).toRRel results (Rl m c)) (V m)) r ∧ r.2.sem = fun _ => 0) :=
  RDat.θ_run_frame_track_shared (Q' := _) cfgs (0 : Fin 1) launch₀0 defs₀ Variants.none (fun c => (dats m 0 c).toRRel results (Rl m c)) m ρ main
    (hbody := fun c => (obligation m c).toRRel) (hq := fun _ _ _ => rfl)
    (howed := fun _ _ => rfl) (V := V m) (hmain := hmain m Variants.none) (hA := A_eq m)
    (hin := fun _ => .rfl) (hout := fun _ => .rfl)

/-- The frame: every fair run ends, the arguments as launched and every counter at zero. -/
theorem frames : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(RDat.FramePost.arr_in h.1 c 2 rfl).trans ((A_eq m c 2).trans (V_main_arg0 m c)),
      (RDat.FramePost.arr_in h.1 c 3 rfl).trans ((A_eq m c 3).trans (V_main_arg1 m c)),
      ((h.1 c).2 main_arg2 (Pipeline.mem_restRefs_of main_arg2 (by decide) (by decide))).trans (V_main_arg2 m c)⟩, h.2⟩)
    (launched m ρ)

end Cert.KernelIdeal.Hand

end
-- ==== Proof.Payloads.lean ====
module

public import proofs.«01_k».proof.Proof.Tiles
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic

/-! The payloads of the program read at real arrays: each is the real formula that its name says. -/

/-! ### Real numbers inside the extended reals -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem eighth : Ideal.ofBits .f32 0x3E000000#32 = (((1 : ℝ) / 8 : ℝ) : EReal) := by
  simp [Ideal.ofBits, Ideal.ieee, -EReal.coe_mul]; norm_num

/-- Row `r` of head `h` in a stacked tile. -/
def st (h : Fin 2) (r : Fin 512) : Fin 1024 := ⟨512 * h.val + r.val, by omega⟩

theorem sum_st {M : Type} [AddCommMonoid M] (f : Fin 1024 → M) : ∑ R, f R = ∑ h : Fin 2, ∑ r : Fin 512, f (st h r) := by
  rw [Fin.sum_univ_two_halves 512 512 rfl f, Fin.sum_univ_two]
  congr 1 <;> refine Finset.sum_congr rfl fun r _ => congrArg f (Fin.ext ?_) <;> simp [st]

theorem st0_lt (r : Fin 512) : (st 0 r).val < 512 := by simp [st]
theorem st1_lt (r : Fin 512) : ¬ (st 1 r).val < 512 := by simp [st]
theorem st0_eq (r : Fin 512) (h : (st 0 r).val < 512) : (⟨(st 0 r).val, h⟩ : Fin 512) = r := Fin.ext (by simp [st])
theorem st1_eq (r : Fin 512) (h : (st 1 r).val - 512 < 512) : (⟨(st 1 r).val - 512, h⟩ : Fin 512) = r := Fin.ext (by simp [st])
theorem st0_mk (r : Fin 512) (h : 0 + r.val < 1024) : (⟨0 + r.val, h⟩ : Fin 1024) = st 0 r := Fin.ext (by simp [st])
theorem st0_mk' (r : Fin 512) (h : r.val < 1024) : (⟨r.val, h⟩ : Fin 1024) = st 0 r := Fin.ext (by simp [st])
theorem st1_mk (r : Fin 512) (h : 512 + r.val < 1024) : (⟨512 + r.val, h⟩ : Fin 1024) = st 1 r := Fin.ext (by simp [st])

/-! ### Lane masks -/

theorem pay1_at (r : Fin 512) (l : Fin 128) : k0_pay1 (ix2 r l) = BitVec.ofBool (decide (l.val / 64 = 0)) := by
  pointwise [k0_pay1]
  revert l; decide +kernel

theorem pay2_at (r : Fin 512) (l : Fin 128) : k0_pay2 (ix2 r l) = BitVec.ofBool (decide (l.val / 64 = 1)) := by
  pointwise [k0_pay2]
  revert l; decide +kernel

theorem sel_ofBool {α : Type} (p : Prop) [Decidable p] (x y : α) : Scalar.select (BitVec.ofBool (decide p)) x y = if p then x else y := by
  by_cases h : p <;> simp [Scalar.select, h]

theorem sle_small (a b : ℕ) (ha : a < 2048) (hb : b < 2048) :
    IntOp.cmpi .sle (BitVec.ofNat 32 a) (BitVec.ofNat 32 b) = BitVec.ofBool (decide (a ≤ b)) := by
  have e : ∀ n : ℕ, n < 2048 → (BitVec.ofNat 32 n).toInt = n := fun n hn => by
    rw [BitVec.toInt_ofNat']; simp [Int.bmod]; omega
  simp [IntOp.cmpi, BitVec.sle, e a ha, e b hb]

theorem pay13_at (x : Vec Ideal S512x128 .bf16) (h : Fin 2) (r : Fin 512) (l : Fin 128) :
    k0_pay13 k0_pay1 k0_pay2 x (ix3 0 (st h r) l) = if l.val / 64 = h.val then x (ix2 r l) else 0 := by
  match h with
  | 0 =>
    pointwise [k0_pay13]
    simp only [st0_lt, ↓reduceDIte, st0_eq, pay1_at, sel_ofBool]
  | 1 =>
    pointwise [k0_pay13]
    simp only [st1_lt, ↓reduceDIte, st1_eq, pay2_at, sel_ofBool]

theorem pay4_at (x : Vec Ideal S512x128 .bf16) (h : Fin 2) (r : Fin 512) (l : Fin 128) :
    k0_pay4 x (ix3 0 (st h r) l) = if l.val / 64 = h.val then x (ix2 r l) else 0 := by
  match h with
  | 0 =>
    pointwise [k0_pay4]
    simp only [st0_lt, ↓reduceDIte, st0_eq, pay1_at, sel_ofBool]
  | 1 =>
    pointwise [k0_pay4]
    simp only [st1_lt, ↓reduceDIte, st1_eq, pay2_at, sel_ofBool]

theorem pay3_at (x : Vec Ideal S512x128 .f32) (h : Fin 2) (r : Fin 512) (l : Fin 128) :
    k0_pay3 (k0_pay14 k0_pay1 x) (k0_pay15 k0_pay2 x) (ix3 0 (st h r) l) = if l.val / 64 = h.val then x (ix2 r l) else 0 := by
  match h with
  | 0 =>
    pointwise [k0_pay3, k0_pay14, k0_pay15]
    simp only [st0_lt, ↓reduceDIte, st0_eq, pay1_at, sel_ofBool]
  | 1 =>
    pointwise [k0_pay3, k0_pay14, k0_pay15]
    simp only [st1_lt, ↓reduceDIte, st1_eq, pay2_at, sel_ofBool]

theorem pay11_at (x : Vec Ideal S512x128 .f32) (y : Vec Ideal S512x128 .bf16) (r : Fin 512) :
    k0_pay11 k0_pay1 x y (ix2 r 0) = ∑ l : Fin 128, if l.val / 64 = 0 then x (ix2 r l) * y (ix2 r l) else 0 := by
  pointwise [k0_pay11, k0_pay10]
  simp only [pay1_at, sel_ofBool]

theorem pay12_at (x : Vec Ideal S512x128 .f32) (y : Vec Ideal S512x128 .bf16) (r : Fin 512) :
    k0_pay12 k0_pay2 x y (ix2 r 0) = ∑ l : Fin 128, if l.val / 64 = 1 then x (ix2 r l) * y (ix2 r l) else 0 := by
  pointwise [k0_pay12, k0_pay10]
  simp only [pay2_at, sel_ofBool]

theorem pay31_at (x y : Vec Ideal S1x512 .f32) (h : Fin 2) (r C : Fin 512) :
    k0_pay31 x y (ix2 (st h r) C) = if h = 0 then x (ix2 0 C) else y (ix2 0 C) := by
  match h with
  | 0 =>
    pointwise [k0_pay31]
    simp only [st0_lt, ↓reduceDIte, ↓reduceIte]
  | 1 =>
    pointwise [k0_pay31]
    simp only [st1_lt, ↓reduceDIte]

section
variable {kt vt : Vec Ideal S512x128 .bf16} {b : FVec Ideal S1024x512 .f32} {q dO : Vec Ideal S1x1024x128 .bf16} {l0 l1 : Vec Ideal S1x512x1 .f32} {d0 d1 : Vec Ideal S512x1 .f32}
  {k v : Fin 512 → Fin 128 → ℝ} {c : Fin 2 → Fin 512 → ℝ} {qm dm : Fin 2 → Fin 512 → Fin 128 → ℝ} {ls de : Fin 2 → Fin 512 → ℝ}
  (hk : ∀ C l, kt (ix2 C l) = ((k C l : ℝ) : EReal)) (hv : ∀ C l, vt (ix2 C l) = ((v C l : ℝ) : EReal))
  (hb : ∀ h r C, b (ix2 (st h r) C) = ((c h C : ℝ) : EReal))
  (hq : ∀ h r l, q (ix3 0 (st h r) l) = ((qm h r l : ℝ) : EReal)) (hdo : ∀ h r l, dO (ix3 0 (st h r) l) = ((dm h r l : ℝ) : EReal))
  (hl0 : ∀ r, l0 (ix3 0 r 0) = ((ls 0 r : ℝ) : EReal)) (hl1 : ∀ r, l1 (ix3 0 r 0) = ((ls 1 r : ℝ) : EReal))
  (hd0 : ∀ r, d0 (ix2 r 0) = ((de 0 r : ℝ) : EReal)) (hd1 : ∀ r, d1 (ix2 r 0) = ((de 1 r : ℝ) : EReal))

include hk hb hq hl0 hl1 in
theorem pay18_real (h : Fin 2) (r C : Fin 512) :
    k0_pay18 kt b q l0 l1 (ix2 (st h r) C) = ((Real.exp ((∑ l, qm h r l * k C l) * (1 / 8) - c h C - ls h r) : ℝ) : EReal) := by
  match h with
  | 0 =>
    pointwise [k0_pay18, k0_pay16]
    simp only [st0_lt, ↓reduceDIte, st0_eq, hq, hk, hb, hl0, eighth, ← EReal.coe_mul, ← coe_sum, ← EReal.coe_sub, Ideal.exp_coe]
  | 1 =>
    pointwise [k0_pay18, k0_pay16]
    simp only [st1_lt, ↓reduceDIte, st1_eq, hq, hk, hb, hl1, eighth, ← EReal.coe_mul, ← coe_sum, ← EReal.coe_sub, Ideal.exp_coe]

theorem mask_real (p : Prop) [Decidable p] (x y : ℝ) :
    Ideal.exp ((if p then ((x : ℝ) : EReal) else (Named.named κ "mask" 0xF149F2CA#32 : Ideal .f32)) - ((y : ℝ) : EReal))
      = ((if p then Real.exp (x - y) else 0 : ℝ) : EReal) := by
  by_cases h : p
  · simp only [if_pos h, ← EReal.coe_sub, Ideal.exp_coe]
  · rw [if_neg h, if_neg h, show (Named.named κ "mask" 0xF149F2CA#32 : Ideal .f32) = (⊥ : EReal) from IdealRules.named_const.ideal_named_scalar _ _ _ _ rfl]
    rfl

include hk hb hq hl0 hl1 in
theorem pay39_real (h : Fin 2) (r C : Fin 512) :
    k0_pay39 b (k0_pay38 kt q) l0 l1 (ix2 (st h r) C)
      = ((if C.val ≤ r.val then Real.exp ((∑ l, qm h r l * k C l) * (1 / 8) - c h C - ls h r) else 0 : ℝ) : EReal) := by
  match h with
  | 0 =>
    pointwise [k0_pay39, k0_pay38, k0_pay36]
    simp only [st0_lt, ↓reduceDIte, st0_eq, hq, hk, hb, hl0, eighth, ← EReal.coe_mul, ← coe_sum, ← EReal.coe_sub]
    rw [sle_small _ _ (by omega) (by omega), sel_ofBool, mask_real]
    simp [st]
  | 1 =>
    pointwise [k0_pay39, k0_pay38, k0_pay36]
    simp only [st1_lt, ↓reduceDIte, st1_eq, hq, hk, hb, hl1, eighth, ← EReal.coe_mul, ← coe_sum, ← EReal.coe_sub]
    rw [sle_small _ _ (by omega) (by omega), sel_ofBool, mask_real]
    simp [st]

end

/-! ### A tile's results from its weights and its score gradients -/

section
variable {vt : Vec Ideal S512x128 .bf16} {dO q : Vec Ideal S1x1024x128 .bf16} {d0 d1 : Vec Ideal S512x1 .f32}
  {v : Fin 512 → Fin 128 → ℝ} {qm dm km : Fin 2 → Fin 512 → Fin 128 → ℝ} {de : Fin 2 → Fin 512 → ℝ} {p ds : Fin 2 → Fin 512 → Fin 512 → ℝ}
  (hv : ∀ C l, vt (ix2 C l) = ((v C l : ℝ) : EReal))
  (hq : ∀ h r l, q (ix3 0 (st h r) l) = ((qm h r l : ℝ) : EReal)) (hdo : ∀ h r l, dO (ix3 0 (st h r) l) = ((dm h r l : ℝ) : EReal))
  (hd0 : ∀ r, d0 (ix2 r 0) = ((de 0 r : ℝ) : EReal)) (hd1 : ∀ r, d1 (ix2 r 0) = ((de 1 r : ℝ) : EReal))

section
variable {kt : Vec Ideal S512x128 .bf16} {b : FVec Ideal S1024x512 .f32} {l0 l1 : Vec Ideal S1x512x1 .f32}

include hdo in
theorem pay19_real {acc : FVec Ideal S512x128 .f32} (hp : ∀ h r C, k0_pay18 kt b q l0 l1 (ix2 (st h r) C) = ((p h r C : ℝ) : EReal))
    (C : Fin 512) (l : Fin 128) (a : ℝ) (ha : acc (ix2 C l) = ((a : ℝ) : EReal)) :
    k0_pay19 kt b acc q dO l0 l1 (ix2 C l) = ((a + ∑ h, ∑ r, p h r C * dm h r l : ℝ) : EReal) := by
  pointwise [k0_pay19, k0_pay17]
  rw [sum_st]
  simp only [hp, hdo, ha, ← EReal.coe_mul, ← coe_sum, ← EReal.coe_sub, ← EReal.coe_add]

include hv hdo hd0 hd1 in
theorem pay20_real (hp : ∀ h r C, k0_pay18 kt b q l0 l1 (ix2 (st h r) C) = ((p h r C : ℝ) : EReal)) (h : Fin 2) (r C : Fin 512) :
    k0_pay20 kt vt b q dO l0 l1 d0 d1 (ix2 (st h r) C) = ((p h r C * (∑ l, dm h r l * v C l - de h r) : ℝ) : EReal) := by
  match h with
  | 0 =>
    pointwise [k0_pay20, k0_pay17]
    simp only [st0_lt, ↓reduceDIte, st0_eq, hp, hdo, hv, hd0, ← EReal.coe_mul, ← coe_sum, ← EReal.coe_sub, ← EReal.coe_add]
  | 1 =>
    pointwise [k0_pay20, k0_pay17]
    simp only [st1_lt, ↓reduceDIte, st1_eq, hp, hdo, hv, hd1, ← EReal.coe_mul, ← coe_sum, ← EReal.coe_sub, ← EReal.coe_add]

theorem pay21_real {acc : FVec Ideal S1x512 .f32} (hds : ∀ h r C, k0_pay20 kt vt b q dO l0 l1 d0 d1 (ix2 (st h r) C) = ((ds h r C : ℝ) : EReal))
    (C : Fin 512) (a : ℝ) (ha : acc (ix2 0 C) = ((a : ℝ) : EReal)) :
    k0_pay21 kt vt b acc q dO l0 l1 d0 d1 (ix2 0 C) = ((a - ∑ r, ds 0 r C : ℝ) : EReal) := by
  pointwise [k0_pay21]
  simp only [st0_mk, st0_mk', hds, ha, ← EReal.coe_mul, ← coe_sum, ← EReal.coe_sub, ← EReal.coe_add]

theorem pay22_real {acc : FVec Ideal S1x512 .f32} (hds : ∀ h r C, k0_pay20 kt vt b q dO l0 l1 d0 d1 (ix2 (st h r) C) = ((ds h r C : ℝ) : EReal))
    (C : Fin 512) (a : ℝ) (ha : acc (ix2 0 C) = ((a : ℝ) : EReal)) :
    k0_pay22 kt vt b acc q dO l0 l1 d0 d1 (ix2 0 C) = ((a - ∑ r, ds 1 r C : ℝ) : EReal) := by
  pointwise [k0_pay22]
  simp only [st1_mk, hds, ha, ← EReal.coe_mul, ← coe_sum, ← EReal.coe_sub, ← EReal.coe_add]

/-! The same on the diagonal. -/

include hdo in
theorem pay40_real {acc : FVec Ideal S512x128 .f32} (hp : ∀ h r C, k0_pay39 b (k0_pay38 kt q) l0 l1 (ix2 (st h r) C) = ((p h r C : ℝ) : EReal))
    (C : Fin 512) (l : Fin 128) (a : ℝ) (ha : acc (ix2 C l) = ((a : ℝ) : EReal)) :
    k0_pay40 b acc (k0_pay37 dO) (k0_pay38 kt q) l0 l1 (ix2 C l) = ((a + ∑ h, ∑ r, p h r C * dm h r l : ℝ) : EReal) := by
  pointwise [k0_pay40, k0_pay37]
  rw [sum_st]
  simp only [hp, hdo, ha, ← EReal.coe_mul, ← coe_sum, ← EReal.coe_sub, ← EReal.coe_add]

include hv hdo hd0 hd1 in
theorem pay41_real (hp : ∀ h r C, k0_pay39 b (k0_pay38 kt q) l0 l1 (ix2 (st h r) C) = ((p h r C : ℝ) : EReal)) (h : Fin 2) (r C : Fin 512) :
    k0_pay41 vt b (k0_pay37 dO) (k0_pay38 kt q) l0 l1 d0 d1 (ix2 (st h r) C) = ((p h r C * (∑ l, dm h r l * v C l - de h r) : ℝ) : EReal) := by
  match h with
  | 0 =>
    pointwise [k0_pay41, k0_pay37]
    simp only [st0_lt, ↓reduceDIte, st0_eq, hp, hdo, hv, hd0, ← EReal.coe_mul, ← coe_sum, ← EReal.coe_sub, ← EReal.coe_add]
  | 1 =>
    pointwise [k0_pay41, k0_pay37]
    simp only [st1_lt, ↓reduceDIte, st1_eq, hp, hdo, hv, hd1, ← EReal.coe_mul, ← coe_sum, ← EReal.coe_sub, ← EReal.coe_add]

section
variable (hds : ∀ h r C, k0_pay41 vt b (k0_pay37 dO) (k0_pay38 kt q) l0 l1 d0 d1 (ix2 (st h r) C) = ((ds h r C : ℝ) : EReal))

include hds in
theorem pay42_real {acc : FVec Ideal S1x512 .f32} (C : Fin 512) (a : ℝ) (ha : acc (ix2 0 C) = ((a : ℝ) : EReal)) :
    k0_pay42 vt b acc (k0_pay37 dO) (k0_pay38 kt q) l0 l1 d0 d1 (ix2 0 C) = ((a - ∑ r, ds 0 r C : ℝ) : EReal) := by
  pointwise [k0_pay42]
  simp only [st0_mk, st0_mk', hds, ha, ← EReal.coe_mul, ← coe_sum, ← EReal.coe_sub, ← EReal.coe_add]

include hds in
theorem pay43_real {acc : FVec Ideal S1x512 .f32} (C : Fin 512) (a : ℝ) (ha : acc (ix2 0 C) = ((a : ℝ) : EReal)) :
    k0_pay43 vt b acc (k0_pay37 dO) (k0_pay38 kt q) l0 l1 d0 d1 (ix2 0 C) = ((a - ∑ r, ds 1 r C : ℝ) : EReal) := by
  pointwise [k0_pay43]
  simp only [st1_mk, hds, ha, ← EReal.coe_mul, ← coe_sum, ← EReal.coe_sub, ← EReal.coe_add]

include hds in
theorem pay46_real {y : Vec Ideal S512x1 .f32} (r : Fin 512) (a : ℝ) (ha : y (ix2 r 0) = ((a : ℝ) : EReal)) :
    k0_pay46 (k0_pay45 vt b (k0_pay37 dO) (k0_pay38 kt q) l0 l1 d0 d1 y) (ix2 r 0) = ((a + ∑ C, ds 0 r C : ℝ) : EReal) := by
  pointwise [k0_pay46, k0_pay45, k0_pay44]
  simp only [st0_mk, st0_mk', hds, ha, ← EReal.coe_mul, ← coe_sum, ← EReal.coe_sub, ← EReal.coe_add]

include hds in
theorem pay47_real {y : Vec Ideal S512x1 .f32} (r : Fin 512) (a : ℝ) (ha : y (ix2 r 0) = ((a : ℝ) : EReal)) :
    k0_pay47 (k0_pay44 vt b (k0_pay37 dO) (k0_pay38 kt q) l0 l1 d0 d1) y (ix2 r 0) = ((a + ∑ C, ds 1 r C : ℝ) : EReal) := by
  pointwise [k0_pay47, k0_pay44]
  simp only [st1_mk, hds, ha, ← EReal.coe_mul, ← coe_sum, ← EReal.coe_sub, ← EReal.coe_add]

end

end

section
variable {x : FVec Ideal S1024x512 .f32} (hx : ∀ h r C, x (ix2 (st h r) C) = ((ds h r C : ℝ) : EReal))

include hx hq in
theorem pay49_real {acc : FVec Ideal S512x128 .f32} (C : Fin 512) (l : Fin 128) (a : ℝ) (ha : acc (ix2 C l) = ((a : ℝ) : EReal)) :
    k0_pay49 acc (k0_pay36 q) x (ix2 C l) = ((a + ∑ h, ∑ r, ds h r C * (1 / 8) * qm h r l : ℝ) : EReal) := by
  pointwise [k0_pay49, k0_pay48, k0_pay36]
  rw [sum_st]
  simp only [hx, hq, ha, eighth, ← EReal.coe_mul, ← coe_sum, ← EReal.coe_sub, ← EReal.coe_add]

include hx in
theorem pay50_real {kb : Vec Ideal S1x1024x128 .bf16} (hkb : ∀ h r l, kb (ix3 0 (st h r) l) = ((km h r l : ℝ) : EReal))
    {y : Vec Ideal S512x128 .f32} (r : Fin 512) (l : Fin 128) (a : ℝ) (ha : y (ix2 r l) = ((a : ℝ) : EReal)) :
    k0_pay50 (k0_pay30 kb) x y (ix2 r l) = ((a + ∑ h, ∑ C, ds h r C * (1 / 8) * km h C l : ℝ) : EReal) := by
  pointwise [k0_pay50, k0_pay48, k0_pay30]
  simp only [Fin.sum_univ_two, st0_mk, st0_mk', st1_mk, hx, hkb, ha, eighth, ← EReal.coe_mul, ← coe_sum, ← EReal.coe_sub, ← EReal.coe_add]

include hx in
theorem pay52_real {y : Vec Ideal S512x1 .f32} (r : Fin 512) (a : ℝ) (ha : y (ix2 r 0) = ((a : ℝ) : EReal)) :
    k0_pay52 x y (ix2 r 0) = ((a + ∑ C, ds 0 r C : ℝ) : EReal) := by
  pointwise [k0_pay52, k0_pay51]
  simp only [st0_mk, st0_mk', hx, ha, ← EReal.coe_mul, ← coe_sum, ← EReal.coe_sub, ← EReal.coe_add]

include hx in
theorem pay53_real {y : Vec Ideal S512x1 .f32} (r : Fin 512) (a : ℝ) (ha : y (ix2 r 0) = ((a : ℝ) : EReal)) :
    k0_pay53 x y (ix2 r 0) = ((a + ∑ C, ds 1 r C : ℝ) : EReal) := by
  pointwise [k0_pay53, k0_pay51]
  simp only [st1_mk, hx, ha, ← EReal.coe_mul, ← coe_sum, ← EReal.coe_sub, ← EReal.coe_add]

include hx hq in
theorem pay55_real {acc : FVec Ideal S512x128 .f32} (C : Fin 512) (l : Fin 128) (a : ℝ) (ha : acc (ix2 C l) = ((a : ℝ) : EReal)) :
    k0_pay55 acc (k0_pay16 q) x (ix2 C l) = ((a + ∑ h, ∑ r, ds h r C * (1 / 8) * qm h r l : ℝ) : EReal) := by
  pointwise [k0_pay55, k0_pay54, k0_pay16]
  rw [sum_st]
  simp only [hx, hq, ha, eighth, ← EReal.coe_mul, ← coe_sum, ← EReal.coe_sub, ← EReal.coe_add]

include hx in
theorem pay56_real {kb : Vec Ideal S1x1024x128 .bf16} (hkb : ∀ h r l, kb (ix3 0 (st h r) l) = ((km h r l : ℝ) : EReal))
    {y : Vec Ideal S512x128 .f32} (r : Fin 512) (l : Fin 128) (a : ℝ) (ha : y (ix2 r l) = ((a : ℝ) : EReal)) :
    k0_pay56 (k0_pay30 kb) x y (ix2 r l) = ((a + ∑ h, ∑ C, ds h r C * (1 / 8) * km h C l : ℝ) : EReal) := by
  pointwise [k0_pay56, k0_pay54, k0_pay30]
  simp only [Fin.sum_univ_two, st0_mk, st0_mk', st1_mk, hx, hkb, ha, eighth, ← EReal.coe_mul, ← coe_sum, ← EReal.coe_sub, ← EReal.coe_add]

end

end

theorem pay5_at (i : S512x128.Idx) : k0_pay5 (F := Ideal) i = 0 := by pointwise [k0_pay5]
theorem pay6_at (i : S512x2.Idx) : k0_pay6 (F := Ideal) i = 0 := by pointwise [k0_pay6]
theorem pay32_at (i : S512x128.Idx) : k0_pay32 (F := Ideal) i = 0 := by pointwise [k0_pay32]
theorem pay33_at (i : S512x128.Idx) : k0_pay33 (F := Ideal) i = 0 := by pointwise [k0_pay33]
theorem pay34_at (i : S1x512.Idx) : k0_pay34 (F := Ideal) i = 0 := by pointwise [k0_pay34]
theorem pay35_at (i : S1x512.Idx) : k0_pay35 (F := Ideal) i = 0 := by pointwise [k0_pay35]
theorem pay63_at (x : FVec Ideal S512x128 .f32) (r : Fin 512) (l : Fin 128) : k0_pay63 x (ix3 0 r l) = x (ix2 r l) := by pointwise [k0_pay63]
theorem pay7_at (x : FVec Ideal S512x128 .f32) (r : Fin 512) (l : Fin 128) : k0_pay7 (k0_pay64 x) (ix3 0 r l) = x (ix2 r l) := by pointwise [k0_pay7, k0_pay64]
theorem pay8_at (x : Vec Ideal S2048x128 .f32) (r : Fin 2048) (l : Fin 128) : k0_pay8 x (ix3 0 r l) = x (ix2 r l) := by pointwise [k0_pay8]
theorem pay9_at (x : Vec Ideal S2048x2 .f32) (r : Fin 2048) (h : Fin 2) : k0_pay9 x (ix3 0 r h) = x (ix2 r h) := by pointwise [k0_pay9]

end Cert.KernelIdeal.Hand

end
-- ==== Proof.Windows.lean ====
module

public import proofs.«01_k».proof.Proof.Payloads
public import proofs.«01_k».proof.Proof.BodyI

@[expose] public section

set_option maxRecDepth 16384

noncomputable section

namespace Cert.KernelIdeal.Hand

open Cert.KernelIdeal Cert.KernelIdeal.Gen
open Idealize.ShloMosaic

/-! The windows of a grid point read entry by entry, and what the scratch holds after the first loop. -/

/-- Row `r` of tile `n`. -/
def rt (n : Fin 4) (r : Fin 512) : Fin 2048 := ⟨512 * n.val + r.val, by omega⟩

theorem rt_surj (R : Fin 2048) : ∃ n r, R = rt n r :=
  ⟨⟨R.val / 512, by omega⟩, ⟨R.val % 512, by omega⟩, Fin.ext (by show R.val = 512 * (R.val / 512) + R.val % 512; omega)⟩

theorem sum_rt {M : Type} [AddCommMonoid M] (f : Fin 2048 → M) : ∑ R, f R = ∑ n : Fin 4, ∑ r : Fin 512, f (rt n r) := by
  rw [Fin.sum_univ_two_halves 1024 1024 rfl f, Fin.sum_univ_two_halves 512 512 rfl, Fin.sum_univ_two_halves 512 512 rfl, Fin.sum_univ_four, ← add_assoc]
  congr 1

theorem rows_at {e : EltTy} (x : Vec Ideal S2048x128 e) (n : Fin 4) (r : Fin 512) (l : Fin 128) : rows x n (ix2 r l) = x (ix2 (rt n r) l) :=
  congrArg x (funext fun a => Fin.ext (by
    match a with
    | 0 => show 512 * n.val + 1 * r.val = 512 * n.val + r.val; omega
    | 1 => show 0 + 1 * l.val = l.val; omega))

theorem col_at (x : Vec Ideal S2048x2 .f32) (n : Fin 4) (h : Fin 2) (r : Fin 512) : col x n h (ix2 r 0) = x (ix2 (rt n r) h) :=
  congrArg x (funext fun a => Fin.ext (by
    match a with
    | 0 => show 512 * n.val + 1 * r.val = 512 * n.val + r.val; omega
    | 1 => show h.val + 1 * 0 = h.val; omega))

theorem lse_at (x : Vec Ideal S1x2048x2 .f32) (n : Fin 4) (h : Fin 2) (r : Fin 512) : lse x n h (ix3 0 r 0) = x (ix3 0 (rt n r) h) :=
  congrArg x (funext fun a => Fin.ext (by
    match a with
    | 0 => show 0 + 1 * 0 = 0; omega
    | 1 => show 512 * n.val + 1 * r.val = 512 * n.val + r.val; omega
    | 2 => show h.val + 1 * 0 = h.val; omega))

/-- The row of the running sums of head `h` of the group `g` at tile `n`. -/
def crow (g : Fin 4) (h : Fin 2) (n : Fin 4) : Fin 32 := ⟨8 * g.val + 4 * h.val + n.val, by omega⟩

theorem cum_at (x : Vec Ideal S32x512 .f32) (g : Fin 4) (h : Fin 2) (n : Fin 4) (c : Fin 512) : cum x g h n (ix2 0 c) = x (ix2 (crow g h n) c) :=
  congrArg x (funext fun a => Fin.ext (by
    match a with
    | 0 => show 8 * g.val + 4 * h.val + n.val + 1 * 0 = 8 * g.val + 4 * h.val + n.val; omega
    | 1 => show 0 + 1 * c.val = c.val; omega))

theorem put_at {s : Shape} {α : Type} (x : s.Idx → α) (off size : Fin s.rank → ℕ) (w : ((a : Fin s.rank) → Fin (size a)) → α)
    (y : s.Idx) (z : (a : Fin s.rank) → Fin (size a)) (h : ∀ a, (y a).val = off a + (z a).val) : VecWindow.put x off size w y = w z := by
  have hh : ∀ a, off a ≤ (y a).val ∧ (y a).val < off a + size a := fun a => by have := h a; have := (z a).isLt; omega
  have e : VecWindow.put x off size w y = w (Rect.unitLocal (s := s) (off := off) (size := size) y hh) := dif_pos hh
  exact e.trans (congrArg w (funext fun a => Fin.ext (by show (y a).val - off a = (z a).val; have := h a; omega)))

theorem put_off {s : Shape} {α : Type} (x : s.Idx → α) (off size : Fin s.rank → ℕ) (w : ((a : Fin s.rank) → Fin (size a)) → α)
    (y : s.Idx) (a : Fin s.rank) (h : (y a).val < off a ∨ off a + size a ≤ (y a).val) : VecWindow.put x off size w y = x y :=
  dif_neg fun hh => by have := hh a; omega

theorem put_rows {e : EltTy} (x : Vec Ideal S2048x128 e) (n m : Fin 4) (w : Vec Ideal S512x128 e) (r : Fin 512) (l : Fin 128) :
    VecWindow.put x ![512 * n.val, 0] S512x128.size w (ix2 (rt m r) l) = if m = n then w (ix2 r l) else x (ix2 (rt m r) l) := by
  by_cases h : m = n
  · subst h
    rw [if_pos rfl]
    exact put_at x ![512 * m.val, 0] S512x128.size w (ix2 (rt m r) l) (ix2 r l) fun a => by
      match a with
      | 0 => rfl
      | 1 => show l.val = 0 + l.val; omega
  · rw [if_neg h]
    refine put_off _ _ _ _ _ 0 ?_
    show 512 * m.val + r.val < 512 * n.val ∨ 512 * n.val + 512 ≤ 512 * m.val + r.val
    have : m.val ≠ n.val := fun e => h (Fin.ext e)
    omega

theorem put_col (x : Vec Ideal S2048x2 .f32) (n m : Fin 4) (h g : Fin 2) (w : Vec Ideal S512x1 .f32) (r : Fin 512) :
    VecWindow.put x ![512 * n.val, h.val] S512x1.size w (ix2 (rt m r) g) = if m = n ∧ g = h then w (ix2 r 0) else x (ix2 (rt m r) g) := by
  by_cases hm : m = n
  · by_cases hg : g = h
    · subst hm; subst hg
      rw [if_pos ⟨rfl, rfl⟩]
      exact put_at x ![512 * m.val, g.val] S512x1.size w (ix2 (rt m r) g) (ix2 r (0 : Fin 1)) fun a => by
        match a with
        | 0 => rfl
        | 1 => show g.val = g.val + 0; omega
    · rw [if_neg fun e => hg e.2]
      refine put_off _ _ _ _ _ 1 ?_
      show g.val < h.val ∨ h.val + 1 ≤ g.val
      have : g.val ≠ h.val := fun e => hg (Fin.ext e)
      omega
  · rw [if_neg fun e => hm e.1]
    refine put_off _ _ _ _ _ 0 ?_
    show 512 * m.val + r.val < 512 * n.val ∨ 512 * n.val + 512 ≤ 512 * m.val + r.val
    have : m.val ≠ n.val := fun e => hm (Fin.ext e)
    omega

theorem put_both (x : Vec Ideal S2048x2 .f32) (n m : Fin 4) (w : Vec Ideal S512x2 .f32) (r : Fin 512) (g : Fin 2) :
    VecWindow.put x ![512 * n.val, 0] S512x2.size w (ix2 (rt m r) g) = if m = n then w (ix2 r g) else x (ix2 (rt m r) g) := by
  by_cases hm : m = n
  · subst hm
    rw [if_pos rfl]
    exact put_at x ![512 * m.val, 0] S512x2.size w (ix2 (rt m r) g) (ix2 r g) fun a => by
      match a with
      | 0 => rfl
      | 1 => show g.val = 0 + g.val; omega
  · rw [if_neg hm]
    refine put_off _ _ _ _ _ 0 ?_
    show 512 * m.val + r.val < 512 * n.val ∨ 512 * n.val + 512 ≤ 512 * m.val + r.val
    have : m.val ≠ n.val := fun e => hm (Fin.ext e)
    omega

theorem tile_put (x : Vec Ideal S4x1024x128 .bf16) (n m : Fin 4) (w : Vec Ideal S1x1024x128 .bf16) :
    tile (VecWindow.put x ![n.val, 0, 0] S1x1024x128.size w) m = if m = n then w else tile x m := by
  by_cases hm : m = n
  · subst hm
    rw [if_pos rfl]
    exact VecWindow.window_put_same _ _ _ _ _
  · rw [if_neg hm]
    refine VecWindow.window_put_of_disjoint _ _ _ _ _ _ _ 0 ?_
    show m.val + 1 ≤ n.val ∨ n.val + 1 ≤ m.val
    have : m.val ≠ n.val := fun e => hm (Fin.ext e)
    omega

theorem put_plane (x : Vec Ideal S3x2048x128 .bf16) (p q : Fin 3) (n m : Fin 4) (w : Vec Ideal S1x512x128 .bf16) (r : Fin 512) (l : Fin 128) :
    VecWindow.put x ![p.val, 512 * n.val, 0] S1x512x128.size w (ix3 q (rt m r) l) = if q = p ∧ m = n then w (ix3 0 r l) else x (ix3 q (rt m r) l) := by
  by_cases hq : q = p
  · by_cases hm : m = n
    · subst hm; subst hq
      rw [if_pos ⟨rfl, rfl⟩]
      exact put_at x ![q.val, 512 * m.val, 0] S1x512x128.size w (ix3 q (rt m r) l) (ix3 (0 : Fin 1) r l) fun a => by
        match a with
        | 0 => show q.val = q.val + 0; omega
        | 1 => rfl
        | 2 => show l.val = 0 + l.val; omega
    · rw [if_neg fun e => hm e.2]
      refine put_off _ _ _ _ _ 1 ?_
      show 512 * m.val + r.val < 512 * n.val ∨ 512 * n.val + 512 ≤ 512 * m.val + r.val
      have : m.val ≠ n.val := fun e => hm (Fin.ext e)
      omega
  · rw [if_neg fun e => hq e.1]
    refine put_off _ _ _ _ _ 0 ?_
    show q.val < p.val ∨ p.val + 1 ≤ q.val
    have : q.val ≠ p.val := fun e => hq (Fin.ext e)
    omega

theorem put_full (x : Vec Ideal S3x2048x128 .bf16) (q : Fin 3) (w : Vec Ideal S1x2048x128 .bf16) (R : Fin 2048) (l : Fin 128) :
    VecWindow.put x ![0, 0, 0] S1x2048x128.size w (ix3 q R l) = if q = 0 then w (ix3 0 R l) else x (ix3 q R l) := by
  by_cases hq : q = 0
  · subst hq
    rw [if_pos rfl]
    exact put_at x ![0, 0, 0] S1x2048x128.size w (ix3 0 R l) (ix3 (0 : Fin 1) R l) fun a => by
      match a with
      | 0 => rfl
      | 1 => show R.val = 0 + R.val; omega
      | 2 => show l.val = 0 + l.val; omega
  · rw [if_neg hq]
    refine put_off _ _ _ _ _ 0 (Or.inr ?_)
    show 0 + 1 ≤ q.val
    have : q.val ≠ 0 := fun e => hq (Fin.ext e)
    omega

theorem put_crow (x : Vec Ideal S32x512 .f32) (g : Fin 4) (h h' : Fin 2) (n m : Fin 4) (w : Vec Ideal S1x512 .f32) (c : Fin 512) :
    VecWindow.put x ![8 * g.val + 4 * h.val + n.val, 0] S1x512.size w (ix2 (crow g h' m) c)
      = if h' = h ∧ m = n then w (ix2 0 c) else x (ix2 (crow g h' m) c) := by
  by_cases hh : h' = h ∧ m = n
  · obtain ⟨e, e'⟩ := hh
    subst e; subst e'
    rw [if_pos ⟨rfl, rfl⟩]
    exact put_at x ![8 * g.val + 4 * h'.val + m.val, 0] S1x512.size w (ix2 (crow g h' m) c) (ix2 (0 : Fin 1) c) fun a => by
      match a with
      | 0 => rfl
      | 1 => show c.val = 0 + c.val; omega
  · rw [if_neg hh]
    refine put_off _ _ _ _ _ 0 ?_
    show 8 * g.val + 4 * h'.val + m.val < 8 * g.val + 4 * h.val + n.val ∨ 8 * g.val + 4 * h.val + n.val + 1 ≤ 8 * g.val + 4 * h'.val + m.val
    have : ¬ (h'.val = h.val ∧ m.val = n.val) := fun e => hh ⟨Fin.ext e.1, Fin.ext e.2⟩
    omega

/-! ### After the first loop -/

section
variable (x1 x2 : Vec Ideal S2048x128 .bf16) (x4 : Vec Ideal S2048x128 .f32) (x5 : Vec Ideal S2048x128 .bf16) (s : Scr)

theorem scr_four : scr x1 x2 x4 x5 s 4 = scrStep x1 x2 x4 x5 3 (scrStep x1 x2 x4 x5 2 (scrStep x1 x2 x4 x5 1 (scrStep x1 x2 x4 x5 0 s))) := by
  rw [scr_succ _ _ _ _ _ 3 (by omega), scr_succ _ _ _ _ _ 2 (by omega), scr_succ _ _ _ _ _ 1 (by omega), scr_succ _ _ _ _ _ 0 (by omega)]
  rfl

theorem step_qs (n m : Fin 4) : tile (scrStep x1 x2 x4 x5 n s).qs m = if m = n then k0_pay13 k0_pay1 k0_pay2 (rows x1 n) else tile s.qs m :=
  tile_put s.qs n m _

theorem step_dos (n m : Fin 4) : tile (scrStep x1 x2 x4 x5 n s).dos m
    = if m = n then k0_pay3 (k0_pay14 k0_pay1 (rows x4 n)) (k0_pay15 k0_pay2 (rows x4 n)) else tile s.dos m :=
  tile_put s.dos n m _

theorem step_kbd (n m : Fin 4) : tile (scrStep x1 x2 x4 x5 n s).kbd m = if m = n then k0_pay4 (rows x2 n) else tile s.kbd m :=
  tile_put s.kbd n m _

theorem step_dq (n m : Fin 4) (r : Fin 512) (l : Fin 128) :
    (scrStep x1 x2 x4 x5 n s).dq (ix2 (rt m r) l) = if m = n then k0_pay5 (F := Ideal) (ix2 r l) else s.dq (ix2 (rt m r) l) :=
  put_rows s.dq n m _ r l

theorem step_dr (n m : Fin 4) (r : Fin 512) (h : Fin 2) :
    (scrStep x1 x2 x4 x5 n s).dr (ix2 (rt m r) h) = if m = n then k0_pay6 (F := Ideal) (ix2 r h) else s.dr (ix2 (rt m r) h) :=
  put_both s.dr n m _ r h

theorem put_del (x : Vec Ideal S2048x2 .f32) (n m : Fin 4) (w0 w1 : Vec Ideal S512x1 .f32) (r : Fin 512) (g : Fin 2) :
    VecWindow.put (VecWindow.put x ![512 * n.val, 0] S512x1.size w0) ![512 * n.val, 1] S512x1.size w1 (ix2 (rt m r) g)
      = if m = n then (if g = 0 then w0 (ix2 r 0) else w1 (ix2 r 0)) else x (ix2 (rt m r) g) := by
  refine (put_col _ n m 1 g w1 r).trans ?_
  rw [show VecWindow.put x ![512 * n.val, 0] S512x1.size w0 (ix2 (rt m r) g) = _ from put_col _ n m 0 g w0 r]
  by_cases hm : m = n
  · match g with
    | 0 => simp [hm]
    | 1 => simp [hm]
  · simp [hm]

theorem step_del (n m : Fin 4) (r : Fin 512) (h : Fin 2) : (scrStep x1 x2 x4 x5 n s).del (ix2 (rt m r) h)
    = if m = n then (if h = 0 then k0_pay11 k0_pay1 (rows x4 n) (rows x5 n) (ix2 r 0) else k0_pay12 k0_pay2 (rows x4 n) (rows x5 n) (ix2 r 0))
      else s.del (ix2 (rt m r) h) :=
  put_del s.del n m _ _ r h

theorem ready_qs (n : Fin 4) : tile (ready x1 x2 x4 x5 s).qs n = k0_pay13 k0_pay1 k0_pay2 (rows x1 n) := by
  rw [ready, scr_four]
  match n with
  | 0 => simp only [step_qs]; simp
  | 1 => simp only [step_qs]; simp
  | 2 => simp only [step_qs]; simp
  | 3 => simp only [step_qs]; simp

theorem ready_dos (n : Fin 4) : tile (ready x1 x2 x4 x5 s).dos n = k0_pay3 (k0_pay14 k0_pay1 (rows x4 n)) (k0_pay15 k0_pay2 (rows x4 n)) := by
  rw [ready, scr_four]
  match n with
  | 0 => simp only [step_dos]; simp
  | 1 => simp only [step_dos]; simp
  | 2 => simp only [step_dos]; simp
  | 3 => simp only [step_dos]; simp

theorem ready_kbd (n : Fin 4) : tile (ready x1 x2 x4 x5 s).kbd n = k0_pay4 (rows x2 n) := by
  rw [ready, scr_four]
  match n with
  | 0 => simp only [step_kbd]; simp
  | 1 => simp only [step_kbd]; simp
  | 2 => simp only [step_kbd]; simp
  | 3 => simp only [step_kbd]; simp

theorem ready_dq (n : Fin 4) (r : Fin 512) (l : Fin 128) : (ready x1 x2 x4 x5 s).dq (ix2 (rt n r) l) = 0 := by
  rw [ready, scr_four]
  match n with
  | 0 => simp only [step_dq]; simp [pay5_at]
  | 1 => simp only [step_dq]; simp [pay5_at]
  | 2 => simp only [step_dq]; simp [pay5_at]
  | 3 => simp only [step_dq]; simp [pay5_at]

theorem ready_dr (n : Fin 4) (r : Fin 512) (h : Fin 2) : (ready x1 x2 x4 x5 s).dr (ix2 (rt n r) h) = 0 := by
  rw [ready, scr_four]
  match n with
  | 0 => simp only [step_dr]; simp [pay6_at]
  | 1 => simp only [step_dr]; simp [pay6_at]
  | 2 => simp only [step_dr]; simp [pay6_at]
  | 3 => simp only [step_dr]; simp [pay6_at]

theorem ready_del (n : Fin 4) (r : Fin 512) (h : Fin 2) : (ready x1 x2 x4 x5 s).del (ix2 (rt n r) h)
    = if h = 0 then k0_pay11 k0_pay1 (rows x4 n) (rows x5 n) (ix2 r 0) else k0_pay12 k0_pay2 (rows x4 n) (rows x5 n) (ix2 r 0) := by
  rw [ready, scr_four]
  match n with
  | 0 => simp only [step_del]; simp
  | 1 => simp only [step_del]; simp
  | 2 => simp only [step_del]; simp
  | 3 => simp only [step_del]; simp

end

end Cert.KernelIdeal.Hand

end
-- ==== Proof.Values.lean ====
module

public import proofs.«01_k».proof.Proof.Windows

@[expose] public section

set_option maxRecDepth 16384

noncomputable section

namespace Cert.KernelIdeal.Hand

open Cert.KernelIdeal Cert.KernelIdeal.Gen
open Idealize.ShloMosaic

/-! What a grid point computes from real inputs: the attention's weights of one pair of heads, their gradients, and the
sums over rows and columns that the loops accumulate tile by tile. -/

/-- The real inputs of a grid point: one pair of heads, side by side in the 128 columns. -/
structure Pt where
  Q : Fin 2048 → Fin 128 → ℝ
  K : Fin 2048 → Fin 128 → ℝ
  V : Fin 2048 → Fin 128 → ℝ
  G : Fin 2048 → Fin 128 → ℝ
  O : Fin 2048 → Fin 128 → ℝ
  L : Fin 2 → Fin 2048 → ℝ
  c : Fin 2 → Fin 2048 → ℝ

namespace Pt

/-- A value kept in the columns of head `h`. -/
def only (h : Fin 2) (l : Fin 128) (x : ℝ) : ℝ := if l.val / 64 = h.val then x else 0

variable (d : Pt)

/-- The attention's weight of column `C` at row `R`, below the diagonal. -/
def W (h : Fin 2) (R C : Fin 2048) : ℝ := Real.exp ((∑ l, only h l (d.Q R l) * d.K C l) * (1 / 8) - d.c h C - d.L h R)

/-- The attention's weight, zero above the diagonal. -/
def P (h : Fin 2) (R C : Fin 2048) : ℝ := if C.val ≤ R.val then d.W h R C else 0

/-- The correction of a row. -/
def D (h : Fin 2) (R : Fin 2048) : ℝ := ∑ l : Fin 128, if l.val / 64 = h.val then d.G R l * d.O R l else 0

/-- The score's gradient. -/
def S (h : Fin 2) (R C : Fin 2048) : ℝ := d.P h R C * (∑ l, only h l (d.G R l) * d.V C l - d.D h R)

/-- Row tile `n`'s part of the key gradient of key tile `j`. -/
def tk (n j : Fin 4) (C : Fin 512) (l : Fin 128) : ℝ := ∑ h, ∑ r, d.S h (rt n r) (rt j C) * (1 / 8) * only h l (d.Q (rt n r) l)

/-- Row tile `n`'s part of the value gradient of key tile `j`. -/
def tv (n j : Fin 4) (C : Fin 512) (l : Fin 128) : ℝ := ∑ h, ∑ r, d.P h (rt n r) (rt j C) * only h l (d.G (rt n r) l)

/-- Row tile `n`'s part of the column sums of key tile `j`. -/
def tc (h : Fin 2) (n j : Fin 4) (C : Fin 512) : ℝ := ∑ r, d.S h (rt n r) (rt j C)

/-- Key tile `j`'s part of the query gradient of row tile `n`. -/
def tq (n j : Fin 4) (r : Fin 512) (l : Fin 128) : ℝ := ∑ h, ∑ C, d.S h (rt n r) (rt j C) * (1 / 8) * only h l (d.K (rt j C) l)

/-- Key tile `j`'s part of the row sums of row tile `n`. -/
def tr (h : Fin 2) (n j : Fin 4) (r : Fin 512) : ℝ := ∑ C, d.S h (rt n r) (rt j C)

theorem P_above {h : Fin 2} {n j : Fin 4} (hn : n.val < j.val) (r C : Fin 512) : d.P h (rt n r) (rt j C) = 0 :=
  if_neg (by show ¬ 512 * j.val + C.val ≤ 512 * n.val + r.val; omega)

theorem P_below {h : Fin 2} {n j : Fin 4} (hn : j.val < n.val) (r C : Fin 512) : d.P h (rt n r) (rt j C) = d.W h (rt n r) (rt j C) :=
  if_pos (by show 512 * j.val + C.val ≤ 512 * n.val + r.val; omega)

theorem P_diag {h : Fin 2} {j : Fin 4} (r C : Fin 512) : d.P h (rt j r) (rt j C) = if C.val ≤ r.val then d.W h (rt j r) (rt j C) else 0 := by
  unfold P
  congr 1
  exact propext ⟨fun e => by have e' : 512 * j.val + C.val ≤ 512 * j.val + r.val := e; omega, fun e => by show 512 * j.val + C.val ≤ 512 * j.val + r.val; omega⟩

theorem S_above {h : Fin 2} {n j : Fin 4} (hn : n.val < j.val) (r C : Fin 512) : d.S h (rt n r) (rt j C) = 0 := by
  rw [S, P_above d hn, zero_mul]

theorem tq_above {n j : Fin 4} (hn : n.val < j.val) (r : Fin 512) (l : Fin 128) : d.tq n j r l = 0 :=
  Finset.sum_eq_zero fun h _ => Finset.sum_eq_zero fun C _ => by rw [S_above d hn, zero_mul, zero_mul]

theorem tr_above {h : Fin 2} {n j : Fin 4} (hn : n.val < j.val) (r : Fin 512) : d.tr h n j r = 0 :=
  Finset.sum_eq_zero fun C _ => S_above d hn r C

theorem tk_above {n j : Fin 4} (hn : n.val < j.val) (C : Fin 512) (l : Fin 128) : d.tk n j C l = 0 :=
  Finset.sum_eq_zero fun h _ => Finset.sum_eq_zero fun r _ => by rw [S_above d hn, zero_mul, zero_mul]

theorem tv_above {n j : Fin 4} (hn : n.val < j.val) (C : Fin 512) (l : Fin 128) : d.tv n j C l = 0 :=
  Finset.sum_eq_zero fun h _ => Finset.sum_eq_zero fun r _ => by rw [P_above d hn, zero_mul]

theorem tc_above {h : Fin 2} {n j : Fin 4} (hn : n.val < j.val) (C : Fin 512) : d.tc h n j C = 0 :=
  Finset.sum_eq_zero fun r _ => S_above d hn r C

end Pt

/-- The buffers of a grid point at the group `g` hold the real inputs `d`. -/
structure Holds (g : Fin 4) (x1 x2 x3 : Vec Ideal S2048x128 .bf16) (x4 : Vec Ideal S2048x128 .f32) (x5 : Vec Ideal S2048x128 .bf16)
    (x6 : Vec Ideal S1x2048x2 .f32) (x7 : Vec Ideal S32x512 .f32) (d : Pt) : Prop where
  q : ∀ R l, x1 (ix2 R l) = ((d.Q R l : ℝ) : EReal)
  k : ∀ R l, x2 (ix2 R l) = ((d.K R l : ℝ) : EReal)
  v : ∀ R l, x3 (ix2 R l) = ((d.V R l : ℝ) : EReal)
  go : ∀ R l, x4 (ix2 R l) = ((d.G R l : ℝ) : EReal)
  o : ∀ R l, x5 (ix2 R l) = ((d.O R l : ℝ) : EReal)
  l : ∀ R h, x6 (ix3 0 R h) = ((d.L h R : ℝ) : EReal)
  c : ∀ h n C, x7 (ix2 (crow g h n) C) = ((d.c h (rt n C) : ℝ) : EReal)

section
variable {g : Fin 4} {x1 x2 x3 : Vec Ideal S2048x128 .bf16} {x4 : Vec Ideal S2048x128 .f32} {x5 : Vec Ideal S2048x128 .bf16}
  {x6 : Vec Ideal S1x2048x2 .f32} {x7 : Vec Ideal S32x512 .f32} {d : Pt} (H : Holds g x1 x2 x3 x4 x5 x6 x7 d) (s : Scr)

theorem coe_if (p : Prop) [Decidable p] (x : ℝ) : (if p then ((x : ℝ) : EReal) else 0) = ((if p then x else 0 : ℝ) : EReal) := by
  by_cases h : p <;> simp [h]

include H in
theorem qs_real (n : Fin 4) (h : Fin 2) (r : Fin 512) (l : Fin 128) :
    tile (ready x1 x2 x4 x5 s).qs n (ix3 0 (st h r) l) = ((Pt.only h l (d.Q (rt n r) l) : ℝ) : EReal) := by
  rw [ready_qs, pay13_at, rows_at, H.q, coe_if]; rfl

include H in
theorem dos_real (n : Fin 4) (h : Fin 2) (r : Fin 512) (l : Fin 128) :
    tile (ready x1 x2 x4 x5 s).dos n (ix3 0 (st h r) l) = ((Pt.only h l (d.G (rt n r) l) : ℝ) : EReal) := by
  rw [ready_dos, pay3_at, rows_at, H.go, coe_if]; rfl

include H in
theorem kbd_real (n : Fin 4) (h : Fin 2) (r : Fin 512) (l : Fin 128) :
    tile (ready x1 x2 x4 x5 s).kbd n (ix3 0 (st h r) l) = ((Pt.only h l (d.K (rt n r) l) : ℝ) : EReal) := by
  rw [ready_kbd, pay4_at, rows_at, H.k, coe_if]; rfl

include H in
theorem del_real (n : Fin 4) (h : Fin 2) (r : Fin 512) : col (ready x1 x2 x4 x5 s).del n h (ix2 r 0) = ((d.D h (rt n r) : ℝ) : EReal) := by
  rw [col_at, ready_del]
  match h with
  | 0 =>
    rw [if_pos rfl, pay11_at]
    simp only [rows_at, H.go, H.o, ← EReal.coe_mul, coe_if, ← coe_sum]
    rfl
  | 1 =>
    rw [if_neg (by decide), pay12_at]
    simp only [rows_at, H.go, H.o, ← EReal.coe_mul, coe_if, ← coe_sum]
    rfl

include H in
theorem bias_real (j : Fin 4) (h : Fin 2) (r C : Fin 512) : bias g x7 j (ix2 (st h r) C) = ((d.c h (rt j C) : ℝ) : EReal) := by
  rw [bias, pay31_at]
  match h with
  | 0 => rw [if_pos rfl, cum_at, H.c]
  | 1 => rw [if_neg (by decide), cum_at, H.c]

include H in
theorem lse_real (n : Fin 4) (h : Fin 2) (r : Fin 512) : lse x6 n h (ix3 0 r 0) = ((d.L h (rt n r) : ℝ) : EReal) := by rw [lse_at, H.l]

/-- The weights of row tile `n` below the diagonal. -/
theorem off_weight (H : Holds g x1 x2 x3 x4 x5 x6 x7 d) {n j : Fin 4} (hn : j.val < n.val) (h : Fin 2) (r C : Fin 512) :
    k0_pay18 (rows x2 j) (bias g x7 j) (tile (ready x1 x2 x4 x5 s).qs n) (lse x6 n 0) (lse x6 n 1) (ix2 (st h r) C) = ((d.P h (rt n r) (rt j C) : ℝ) : EReal) := by
  rw [Pt.P_below d hn]
  exact pay18_real (k := fun C l => d.K (rt j C) l) (c := fun h C => d.c h (rt j C)) (qm := fun h r l => Pt.only h l (d.Q (rt n r) l)) (ls := fun h r => d.L h (rt n r))
    (fun C l => by rw [rows_at, H.k]) (bias_real H j) (qs_real H s n) (lse_real H n 0) (lse_real H n 1) h r C

theorem diag_weight (H : Holds g x1 x2 x3 x4 x5 x6 x7 d) (j : Fin 4) (h : Fin 2) (r C : Fin 512) :
    k0_pay39 (bias g x7 j) (k0_pay38 (rows x2 j) (tile (ready x1 x2 x4 x5 s).qs j)) (lse x6 j 0) (lse x6 j 1) (ix2 (st h r) C) = ((d.P h (rt j r) (rt j C) : ℝ) : EReal) := by
  rw [Pt.P_diag d]
  exact pay39_real (k := fun C l => d.K (rt j C) l) (c := fun h C => d.c h (rt j C)) (qm := fun h r l => Pt.only h l (d.Q (rt j r) l)) (ls := fun h r => d.L h (rt j r))
    (fun C l => by rw [rows_at, H.k]) (bias_real H j) (qs_real H s j) (lse_real H j 0) (lse_real H j 1) h r C

theorem off_grad (H : Holds g x1 x2 x3 x4 x5 x6 x7 d) {n j : Fin 4} (hn : j.val < n.val) (h : Fin 2) (r C : Fin 512) :
    dsOff x6 (ready x1 x2 x4 x5 s).del (ready x1 x2 x4 x5 s).qs (ready x1 x2 x4 x5 s).dos (rows x2 j) (rows x3 j) (bias g x7 j) n (ix2 (st h r) C)
      = ((d.S h (rt n r) (rt j C) : ℝ) : EReal) :=
  pay20_real (v := fun C l => d.V (rt j C) l) (dm := fun h r l => Pt.only h l (d.G (rt n r) l)) (de := fun h r => d.D h (rt n r)) (p := fun h r C => d.P h (rt n r) (rt j C))
    (fun C l => by rw [rows_at, H.v]) (dos_real H s n) (del_real H s n 0) (del_real H s n 1) (off_weight s H hn) h r C

theorem diag_grad (H : Holds g x1 x2 x3 x4 x5 x6 x7 d) (j : Fin 4) (h : Fin 2) (r C : Fin 512) :
    dsDiag g x2 x3 x6 x7 (ready x1 x2 x4 x5 s).del (ready x1 x2 x4 x5 s).qs (ready x1 x2 x4 x5 s).dos j (ix2 (st h r) C)
      = ((d.S h (rt j r) (rt j C) : ℝ) : EReal) :=
  pay41_real (v := fun C l => d.V (rt j C) l) (dm := fun h r l => Pt.only h l (d.G (rt j r) l)) (de := fun h r => d.D h (rt j r)) (p := fun h r C => d.P h (rt j r) (rt j C))
    (fun C l => by rw [rows_at, H.v]) (dos_real H s j) (del_real H s j 0) (del_real H s j 1) (diag_weight s H j) h r C

/-! ### The loop over the row tiles -/

/-- The sum of the first tiles, up to tile `m`. -/
def upto (m : ℕ) (f : Fin 4 → ℝ) : ℝ := ∑ n, if n.val ≤ m then f n else 0

theorem upto_step (n : Fin 4) (m : ℕ) (hm : n.val = m + 1) (f : Fin 4 → ℝ) : upto n.val f = upto m f + f n := by
  unfold upto
  rw [Fin.sum_univ_four, Fin.sum_univ_four]
  match n, hm with
  | 1, hm => cases hm; simp
  | 2, hm => cases hm; simp
  | 3, hm => cases hm; simp

theorem upto_first (j : Fin 4) (f : Fin 4 → ℝ) (h : ∀ n, n.val < j.val → f n = 0) : upto j.val f = f j := by
  unfold upto
  rw [Finset.sum_eq_single j]
  · exact if_pos le_rfl
  · intro n _ hn
    by_cases hh : n.val ≤ j.val
    · rw [if_pos hh]; exact h n (lt_of_le_of_ne hh fun e => hn (Fin.ext e))
    · exact if_neg hh
  · intro hh; exact absurd (Finset.mem_univ _) hh

theorem upto_all (f : Fin 4 → ℝ) : upto 3 f = ∑ n, f n := by
  unfold upto
  exact Finset.sum_congr rfl fun n _ => if_pos (by omega)

/-- The state at key tile `j` after the row tiles up to `m`, started at a query gradient `bq` and row sums `br`. -/
structure Inv (d : Pt) (j : Fin 4) (bq : Fin 4 → Fin 512 → Fin 128 → ℝ) (br : Fin 2 → Fin 4 → Fin 512 → ℝ) (m : ℕ) (t : St) : Prop where
  dk : ∀ C l, t.acc.1 (ix2 C l) = ((upto m (fun n => d.tk n j C l) : ℝ) : EReal)
  dv : ∀ C l, t.acc.2.1 (ix2 C l) = ((upto m (fun n => d.tv n j C l) : ℝ) : EReal)
  c0 : ∀ C, t.acc.2.2.1 (ix2 0 C) = ((-upto m (fun n => d.tc 0 n j C) : ℝ) : EReal)
  c1 : ∀ C, t.acc.2.2.2 (ix2 0 C) = ((-upto m (fun n => d.tc 1 n j C) : ℝ) : EReal)
  dq : ∀ n r l, t.dq (ix2 (rt n r) l) = ((bq n r l + (if n.val ≤ m then d.tq n j r l else 0) : ℝ) : EReal)
  dr : ∀ n r h, t.dr (ix2 (rt n r) h) = ((br h n r + (if n.val ≤ m then d.tr h n j r else 0) : ℝ) : EReal)

theorem put_cols (x : Vec Ideal S2048x2 .f32) (n m : Fin 4) (w0 w1 : Vec Ideal S512x1 .f32) (r : Fin 512) (g : Fin 2) :
    VecWindow.put (VecWindow.put x ![512 * n.val, 0] S512x1.size w0) ![512 * n.val, 1] S512x1.size w1 (ix2 (rt m r) g)
      = if m = n then (if g = 0 then w0 (ix2 r 0) else w1 (ix2 r 0)) else x (ix2 (rt m r) g) := put_del x n m w0 w1 r g

theorem off_inv (H : Holds g x1 x2 x3 x4 x5 x6 x7 d) {j n : Fin 4} {m : ℕ} (hn : n.val = m + 1) (hj : j.val ≤ m) {bq : Fin 4 → Fin 512 → Fin 128 → ℝ}
    {br : Fin 2 → Fin 4 → Fin 512 → ℝ} {t : St} (I : Inv d j bq br m t) :
    Inv d j bq br n.val (offStep x6 (ready x1 x2 x4 x5 s).del (ready x1 x2 x4 x5 s).qs (ready x1 x2 x4 x5 s).dos (rows x2 j) (rows x3 j)
      (k0_pay30 (tile (ready x1 x2 x4 x5 s).kbd j)) (bias g x7 j) n t) where
  dk := fun C l => by
    rw [upto_step n m hn]
    exact pay55_real (qs_real H s n) (off_grad s H (by omega)) C l _ (I.dk C l)
  dv := fun C l => by
    rw [upto_step n m hn]
    exact pay19_real (dos_real H s n) (off_weight s H (by omega)) C l _ (I.dv C l)
  c0 := fun C => by
    rw [upto_step n m hn, neg_add, ← sub_eq_add_neg]
    exact pay21_real (off_grad s H (by omega)) C _ (I.c0 C)
  c1 := fun C => by
    rw [upto_step n m hn, neg_add, ← sub_eq_add_neg]
    exact pay22_real (off_grad s H (by omega)) C _ (I.c1 C)
  dq := fun k r l => by
    refine (put_rows _ n k _ r l).trans ?_
    by_cases h : k = n
    · subst h
      rw [if_pos rfl, if_pos le_rfl]
      refine pay56_real (off_grad s H (by omega)) (kbd_real H s j) r l _ ?_
      rw [rows_at, I.dq, if_neg (by omega), add_zero]
    · rw [if_neg h, I.dq]
      have : k.val ≠ n.val := fun e => h (Fin.ext e)
      by_cases hk : k.val ≤ m
      · rw [if_pos hk, if_pos (by omega)]
      · rw [if_neg hk, if_neg (by omega)]
  dr := fun k r h => by
    refine (put_cols _ n k _ _ r h).trans ?_
    by_cases hk : k = n
    · subst hk
      rw [if_pos rfl, if_pos le_rfl]
      match h with
      | 0 =>
        rw [if_pos rfl]
        refine pay52_real (off_grad s H (by omega)) r _ ?_
        rw [col_at, I.dr, if_neg (by omega), add_zero]
      | 1 =>
        rw [if_neg (by decide)]
        refine pay53_real (off_grad s H (by omega)) r _ ?_
        rw [col_at, I.dr, if_neg (by omega), add_zero]
    · rw [if_neg hk, I.dr]
      have : k.val ≠ n.val := fun e => hk (Fin.ext e)
      by_cases hh : k.val ≤ m
      · rw [if_pos hh, if_pos (by omega)]
      · rw [if_neg hh, if_neg (by omega)]

theorem diag_inv (H : Holds g x1 x2 x3 x4 x5 x6 x7 d) (j : Fin 4) {bq : Fin 4 → Fin 512 → Fin 128 → ℝ} {br : Fin 2 → Fin 4 → Fin 512 → ℝ}
    {dq : Vec Ideal S2048x128 .f32} {dr : Vec Ideal S2048x2 .f32}
    (hq : ∀ n r l, dq (ix2 (rt n r) l) = ((bq n r l : ℝ) : EReal)) (hr : ∀ n r h, dr (ix2 (rt n r) h) = ((br h n r : ℝ) : EReal)) :
    Inv d j bq br j.val (diag g x2 x3 x6 x7 (ready x1 x2 x4 x5 s).del (ready x1 x2 x4 x5 s).qs (ready x1 x2 x4 x5 s).dos (ready x1 x2 x4 x5 s).kbd j dq dr) where
  dk := fun C l => by
    rw [upto_first j _ fun n hn => Pt.tk_above d hn C l, ← zero_add (d.tk j j C l)]
    exact pay49_real (qs_real H s j) (diag_grad s H j) C l 0 (by rw [pay32_at]; rfl)
  dv := fun C l => by
    rw [upto_first j _ fun n hn => Pt.tv_above d hn C l, ← zero_add (d.tv j j C l)]
    exact pay40_real (dos_real H s j) (diag_weight s H j) C l 0 (by rw [pay33_at]; rfl)
  c0 := fun C => by
    rw [upto_first j _ fun n hn => Pt.tc_above d hn C, ← zero_sub]
    exact pay42_real (diag_grad s H j) C 0 (by rw [pay34_at]; rfl)
  c1 := fun C => by
    rw [upto_first j _ fun n hn => Pt.tc_above d hn C, ← zero_sub]
    exact pay43_real (diag_grad s H j) C 0 (by rw [pay35_at]; rfl)
  dq := fun k r l => by
    refine (put_rows _ j k _ r l).trans ?_
    by_cases h : k = j
    · subst h
      rw [if_pos rfl, if_pos le_rfl]
      refine pay50_real (diag_grad s H k) (kbd_real H s k) r l _ ?_
      rw [rows_at, hq]
    · rw [if_neg h, hq]
      have : k.val ≠ j.val := fun e => h (Fin.ext e)
      by_cases hk : k.val ≤ j.val
      · rw [if_pos hk, Pt.tq_above d (by omega), add_zero]
      · rw [if_neg hk, add_zero]
  dr := fun k r h => by
    refine (put_cols _ j k _ _ r h).trans ?_
    by_cases hk : k = j
    · subst hk
      rw [if_pos rfl, if_pos le_rfl]
      match h with
      | 0 =>
        rw [if_pos rfl]
        refine pay46_real (diag_grad s H k) r _ ?_
        rw [col_at, hr]
      | 1 =>
        rw [if_neg (by decide)]
        refine pay47_real (diag_grad s H k) r _ ?_
        rw [col_at, hr]
    · rw [if_neg hk, hr]
      have : k.val ≠ j.val := fun e => hk (Fin.ext e)
      by_cases hh : k.val ≤ j.val
      · rw [if_pos hh, Pt.tr_above d (by omega), add_zero]
      · rw [if_neg hh, add_zero]

theorem key_inv (H : Holds g x1 x2 x3 x4 x5 x6 x7 d) (j : Fin 4) {bq : Fin 4 → Fin 512 → Fin 128 → ℝ} {br : Fin 2 → Fin 4 → Fin 512 → ℝ}
    {dq : Vec Ideal S2048x128 .f32} {dr : Vec Ideal S2048x2 .f32}
    (hq : ∀ n r l, dq (ix2 (rt n r) l) = ((bq n r l : ℝ) : EReal)) (hr : ∀ n r h, dr (ix2 (rt n r) h) = ((br h n r : ℝ) : EReal)) :
    Inv d j bq br 3 (keyEnd g x2 x3 x6 x7 (ready x1 x2 x4 x5 s).del (ready x1 x2 x4 x5 s).qs (ready x1 x2 x4 x5 s).dos (ready x1 x2 x4 x5 s).kbd j dq dr) := by
  have main : ∀ k, j.val + k < 4 → Inv d j bq br (j.val + k) (off x6 (ready x1 x2 x4 x5 s).del (ready x1 x2 x4 x5 s).qs (ready x1 x2 x4 x5 s).dos (rows x2 j) (rows x3 j)
      (k0_pay30 (tile (ready x1 x2 x4 x5 s).kbd j)) (bias g x7 j) j.val
      (diag g x2 x3 x6 x7 (ready x1 x2 x4 x5 s).del (ready x1 x2 x4 x5 s).qs (ready x1 x2 x4 x5 s).dos (ready x1 x2 x4 x5 s).kbd j dq dr) k) := by
    intro k
    induction k with
    | zero => intro _; exact diag_inv s H j hq hr
    | succ k ih =>
      intro hk
      rw [off_succ _ _ _ _ _ _ _ _ _ _ _ (by omega)]
      exact off_inv s H (n := ⟨j.val + k + 1, by omega⟩) rfl (by omega) (ih (by omega))
  have e := main (3 - j.val) (by omega)
  rw [show j.val + (3 - j.val) = 3 by omega] at e
  exact e

/-! ### The loop over the key tiles -/

/-- The sum of the key tiles before tile `k`. -/
def below (k : ℕ) (f : Fin 4 → ℝ) : ℝ := ∑ j, if j.val < k then f j else 0

theorem below_step (j : Fin 4) (f : Fin 4 → ℝ) : below (j.val + 1) f = below j.val f + f j := by
  unfold below
  rw [Fin.sum_univ_four, Fin.sum_univ_four]
  match j with
  | 0 => simp
  | 1 => simp
  | 2 => simp
  | 3 => simp

theorem below_all (f : Fin 4 → ℝ) : below 4 f = ∑ j, f j := Finset.sum_congr rfl fun j _ => if_pos j.isLt

/-- The state before key tile `k`. -/
structure BigInv (d : Pt) (g : Fin 4) (k : ℕ) (b : Big) : Prop where
  dk : ∀ j : Fin 4, j.val < k → ∀ C l, b.dqkv (ix3 1 (rt j C) l) = ((∑ n, d.tk n j C l : ℝ) : EReal)
  dv : ∀ j : Fin 4, j.val < k → ∀ C l, b.dqkv (ix3 2 (rt j C) l) = ((∑ n, d.tv n j C l : ℝ) : EReal)
  dc : ∀ j : Fin 4, j.val < k → ∀ h C, b.dc (ix2 (crow g h j) C) = ((-∑ n, d.tc h n j C : ℝ) : EReal)
  dq : ∀ n r l, b.dq (ix2 (rt n r) l) = ((below k (fun j => d.tq n j r l) : ℝ) : EReal)
  dr : ∀ n r h, b.dr (ix2 (rt n r) h) = ((below k (fun j => d.tr h n j r) : ℝ) : EReal)

theorem put_planes (x : Vec Ideal S3x2048x128 .bf16) (q : Fin 3) (n m : Fin 4) (w1 w2 : Vec Ideal S1x512x128 .bf16) (r : Fin 512) (l : Fin 128) :
    VecWindow.put (VecWindow.put x ![1, 512 * n.val, 0] S1x512x128.size w1) ![2, 512 * n.val, 0] S1x512x128.size w2 (ix3 q (rt m r) l)
      = if q = 2 ∧ m = n then w2 (ix3 0 r l) else if q = 1 ∧ m = n then w1 (ix3 0 r l) else x (ix3 q (rt m r) l) := by
  refine (put_plane _ 2 q n m w2 r l).trans ?_
  congr 1
  exact put_plane x 1 q n m w1 r l

theorem put_crows (x : Vec Ideal S32x512 .f32) (g : Fin 4) (h : Fin 2) (n m : Fin 4) (w0 w1 : Vec Ideal S1x512 .f32) (c : Fin 512) :
    VecWindow.put (VecWindow.put x ![8 * g.val + 4 * 0 + n.val, 0] S1x512.size w0) ![8 * g.val + 4 * 1 + n.val, 0] S1x512.size w1 (ix2 (crow g h m) c)
      = if h = 1 ∧ m = n then w1 (ix2 0 c) else if h = 0 ∧ m = n then w0 (ix2 0 c) else x (ix2 (crow g h m) c) := by
  refine (put_crow _ g 1 h n m w1 c).trans ?_
  congr 1
  exact put_crow x g 0 h n m w0 c

theorem big_inv (H : Holds g x1 x2 x3 x4 x5 x6 x7 d) (j : Fin 4) {b : Big} (I : BigInv d g j.val b) :
    BigInv d g (j.val + 1) (bigStep g x2 x3 x6 x7 (ready x1 x2 x4 x5 s).del (ready x1 x2 x4 x5 s).qs (ready x1 x2 x4 x5 s).dos (ready x1 x2 x4 x5 s).kbd j b) where
  dk := fun n hn C l => by
    refine (put_planes b.dqkv 1 j n _ (k0_pay7 (k0_pay64 (keyEnd g x2 x3 x6 x7 (ready x1 x2 x4 x5 s).del (ready x1 x2 x4 x5 s).qs (ready x1 x2 x4 x5 s).dos (ready x1 x2 x4 x5 s).kbd j b.dq b.dr).acc.2.1)) C l).trans ?_
    rw [if_neg fun e : (1 : Fin 3) = 2 ∧ n = j => absurd e.1 (by decide)]
    by_cases h : n = j
    · subst h
      rw [if_pos ⟨rfl, rfl⟩, pay63_at, ← upto_all]
      exact (key_inv s H n I.dq I.dr).dk C l
    · rw [if_neg fun e => h e.2]
      exact I.dk n (by have : n.val ≠ j.val := fun e => h (Fin.ext e)
                       omega) C l
  dv := fun n hn C l => by
    refine (put_planes b.dqkv 2 j n _ _ C l).trans ?_
    by_cases h : n = j
    · subst h
      rw [if_pos ⟨rfl, rfl⟩, pay7_at, ← upto_all]
      exact (key_inv s H n I.dq I.dr).dv C l
    · rw [if_neg fun e => h e.2, if_neg fun e => h e.2]
      exact I.dv n (by have : n.val ≠ j.val := fun e => h (Fin.ext e)
                       omega) C l
  dc := fun n hn h C => by
    refine (put_crows b.dc g h j n _ _ C).trans ?_
    by_cases hh : n = j
    · subst hh
      rw [← upto_all]
      match h with
      | 0 =>
        rw [if_neg fun e : (0 : Fin 2) = 1 ∧ n = n => absurd e.1 (by decide), if_pos ⟨rfl, rfl⟩]
        exact (key_inv s H n I.dq I.dr).c0 C
      | 1 =>
        rw [if_pos ⟨rfl, rfl⟩]
        exact (key_inv s H n I.dq I.dr).c1 C
    · rw [if_neg fun e => hh e.2, if_neg fun e => hh e.2]
      exact I.dc n (by have : n.val ≠ j.val := fun e => hh (Fin.ext e)
                       omega) h C
  dq := fun n r l => by
    refine ((key_inv s H j I.dq I.dr).dq n r l).trans ?_
    rw [if_pos (by omega), below_step]
  dr := fun n r h => by
    refine ((key_inv s H j I.dq I.dr).dr n r h).trans ?_
    rw [if_pos (by omega), below_step]

theorem total_inv (H : Holds g x1 x2 x3 x4 x5 x6 x7 d) (d8 : Vec Ideal S3x2048x128 .bf16) (d9 : Vec Ideal S32x512 .f32) :
    BigInv d g 4 (total g x1 x2 x3 x4 x5 x6 x7 s d8 d9) := by
  have main : ∀ k, k ≤ 4 → BigInv d g k (big g x2 x3 x6 x7 (ready x1 x2 x4 x5 s).del (ready x1 x2 x4 x5 s).qs (ready x1 x2 x4 x5 s).dos (ready x1 x2 x4 x5 s).kbd
      ⟨d8, d9, (ready x1 x2 x4 x5 s).dq, (ready x1 x2 x4 x5 s).dr⟩ k) := by
    intro k
    induction k with
    | zero =>
      intro _
      refine ⟨fun j hj => absurd hj (by omega), fun j hj => absurd hj (by omega), fun j hj => absurd hj (by omega), fun n r l => ?_, fun n r h => ?_⟩
      · exact (ready_dq x1 x2 x4 x5 s n r l).trans (by simp [below])
      · exact (ready_dr x1 x2 x4 x5 s n r h).trans (by simp [below])
    | succ k ih =>
      intro hk
      rw [big_succ _ _ _ _ _ _ _ _ _ _ _ (by omega)]
      exact big_inv s H ⟨k, by omega⟩ (ih (by omega))
  exact main 4 le_rfl

namespace Pt

/-- The query gradient. -/
def dq (d : Pt) (R : Fin 2048) (l : Fin 128) : ℝ := ∑ h, ∑ C, d.S h R C * (1 / 8) * only h l (d.K C l)
/-- The key gradient. -/
def dk (d : Pt) (C : Fin 2048) (l : Fin 128) : ℝ := ∑ h, ∑ R, d.S h R C * (1 / 8) * only h l (d.Q R l)
/-- The value gradient. -/
def dv (d : Pt) (C : Fin 2048) (l : Fin 128) : ℝ := ∑ h, ∑ R, d.P h R C * only h l (d.G R l)

end Pt

theorem out8_dq (H : Holds g x1 x2 x3 x4 x5 x6 x7 d) (d8 : Vec Ideal S3x2048x128 .bf16) (d9 : Vec Ideal S32x512 .f32) (R : Fin 2048) (l : Fin 128) :
    out8 g x1 x2 x3 x4 x5 x6 x7 s d8 d9 (ix3 0 R l) = ((d.dq R l : ℝ) : EReal) := by
  obtain ⟨n, r, rfl⟩ := rt_surj R
  refine (put_full _ 0 _ (rt n r) l).trans ?_
  rw [if_pos rfl, pay8_at, (total_inv s H d8 d9).dq, below_all, Pt.dq]
  simp only [Pt.tq, sum_rt]
  rw [Finset.sum_comm]

theorem out8_dk (H : Holds g x1 x2 x3 x4 x5 x6 x7 d) (d8 : Vec Ideal S3x2048x128 .bf16) (d9 : Vec Ideal S32x512 .f32) (C : Fin 2048) (l : Fin 128) :
    out8 g x1 x2 x3 x4 x5 x6 x7 s d8 d9 (ix3 1 C l) = ((d.dk C l : ℝ) : EReal) := by
  obtain ⟨n, r, rfl⟩ := rt_surj C
  refine (put_full _ 1 _ (rt n r) l).trans ?_
  rw [if_neg (by decide), (total_inv s H d8 d9).dk n n.isLt, Pt.dk]
  simp only [Pt.tk, sum_rt]
  rw [Finset.sum_comm]

theorem out8_dv (H : Holds g x1 x2 x3 x4 x5 x6 x7 d) (d8 : Vec Ideal S3x2048x128 .bf16) (d9 : Vec Ideal S32x512 .f32) (C : Fin 2048) (l : Fin 128) :
    out8 g x1 x2 x3 x4 x5 x6 x7 s d8 d9 (ix3 2 C l) = ((d.dv C l : ℝ) : EReal) := by
  obtain ⟨n, r, rfl⟩ := rt_surj C
  refine (put_full _ 2 _ (rt n r) l).trans ?_
  rw [if_neg (by decide), (total_inv s H d8 d9).dv n n.isLt, Pt.dv]
  simp only [Pt.tv, sum_rt]
  rw [Finset.sum_comm]

theorem out9_at (H : Holds g x1 x2 x3 x4 x5 x6 x7 d) (d8 : Vec Ideal S3x2048x128 .bf16) (d9 : Vec Ideal S32x512 .f32) (h : Fin 2) (n : Fin 4) (C : Fin 512) :
    out9 g x1 x2 x3 x4 x5 x6 x7 s d8 d9 (ix2 (crow g h n) C) = ((-∑ R, d.S h R (rt n C) : ℝ) : EReal) := by
  refine ((total_inv s H d8 d9).dc n n.isLt h C).trans ?_
  simp only [Pt.tc, sum_rt]

theorem out10_at (H : Holds g x1 x2 x3 x4 x5 x6 x7 d) (d8 : Vec Ideal S3x2048x128 .bf16) (d9 : Vec Ideal S32x512 .f32) (R : Fin 2048) (h : Fin 2) :
    out10 g x1 x2 x3 x4 x5 x6 x7 s d8 d9 (ix3 0 R h) = ((∑ C, d.S h R C : ℝ) : EReal) := by
  obtain ⟨n, r, rfl⟩ := rt_surj R
  refine (pay9_at _ _ _).trans ?_
  rw [(total_inv s H d8 d9).dr, below_all]
  simp only [Pt.tr, sum_rt]

end

end Cert.KernelIdeal.Hand

end
-- ==== Proof.Model.lean ====
module

public import Mathlib.Analysis.SpecialFunctions.Log.Basic
public import Mathlib.Algebra.BigOperators.Fin
public import Mathlib.Algebra.BigOperators.Field

@[expose] public section

/-! The gradients of causal attention over real numbers, one head at a time. `a` holds the columns of q, k and v, `b` the
    gradient of the attention's result, `u` the running sums of the forget gate. -/

namespace Cert.Attn

/-- Column `e` of head `H` among the columns of q. -/
def qi (H : Fin 8) (e : Fin 64) : Fin 1536 := ⟨64 * H.val + e.val, by have := H.isLt; have := e.isLt; omega⟩
/-- Column `e` of head `H` among the columns of k. -/
def ki (H : Fin 8) (e : Fin 64) : Fin 1536 := ⟨512 + 64 * H.val + e.val, by have := H.isLt; have := e.isLt; omega⟩
/-- Column `e` of head `H` among the columns of v. -/
def vi (H : Fin 8) (e : Fin 64) : Fin 1536 := ⟨1024 + 64 * H.val + e.val, by have := H.isLt; have := e.isLt; omega⟩
/-- Column `e` of head `H` in the gradient of the result. -/
def gi (H : Fin 8) (e : Fin 64) : Fin 1024 := ⟨64 * H.val + e.val, by have := H.isLt; have := e.isLt; omega⟩
/-- Column `e` of head `H` in a result. -/
def oi (H : Fin 8) (e : Fin 64) : Fin 512 := ⟨64 * H.val + e.val, by have := H.isLt; have := e.isLt; omega⟩

variable (a : Fin 2048 → Fin 1536 → ℝ) (b : Fin 2048 → Fin 1024 → ℝ) (u : Fin 8 → Fin 2048 → ℝ)

/-- The score of query row `R` and key row `C`, without the part that depends on the query row only. -/
noncomputable def score (H : Fin 8) (R C : Fin 2048) : ℝ := (∑ e, a R (qi H e) * a C (ki H e)) * (1 / 8) - u H C
/-- The weight of key row `C` for query row `R`, not normalised. -/
noncomputable def wt (H : Fin 8) (R C : Fin 2048) : ℝ := if C.val ≤ R.val then Real.exp (score a u H R C) else 0
/-- The normaliser of a query row. -/
noncomputable def Z (H : Fin 8) (R : Fin 2048) : ℝ := ∑ C, wt a u H R C
/-- The attention's probabilities. -/
noncomputable def p (H : Fin 8) (R C : Fin 2048) : ℝ := wt a u H R C / Z a u H R
/-- The gradient of the probabilities. -/
noncomputable def dP (H : Fin 8) (R C : Fin 2048) : ℝ := ∑ e, b R (gi H e) * a C (vi H e)
/-- The attention's result. -/
noncomputable def o (H : Fin 8) (R : Fin 2048) (e : Fin 64) : ℝ := ∑ C, p a u H R C * a C (vi H e)
/-- The gradient of the probabilities, averaged over a query row. -/
noncomputable def delta (H : Fin 8) (R : Fin 2048) : ℝ := ∑ C, p a u H R C * dP a b H R C
/-- The gradient of the scores. -/
noncomputable def ds (H : Fin 8) (R C : Fin 2048) : ℝ := p a u H R C * (dP a b H R C - delta a b u H R)
/-- The gradient of q. -/
noncomputable def dq (H : Fin 8) (R : Fin 2048) (e : Fin 64) : ℝ := ∑ C, ds a b u H R C * (1 / 8) * a C (ki H e)
/-- The gradient of k. -/
noncomputable def dk (H : Fin 8) (C : Fin 2048) (e : Fin 64) : ℝ := ∑ R, ds a b u H R C * (1 / 8) * a R (qi H e)
/-- The gradient of v. -/
noncomputable def dv (H : Fin 8) (C : Fin 2048) (e : Fin 64) : ℝ := ∑ R, p a u H R C * b R (gi H e)

theorem wt_nonneg (H R C) : 0 ≤ wt a u H R C := by
  unfold wt; split
  · exact (Real.exp_pos _).le
  · exact le_rfl

theorem Z_pos (H R) : 0 < Z a u H R :=
  Finset.sum_pos' (fun C _ => wt_nonneg a u H R C) ⟨R, Finset.mem_univ _, by simp [wt, Real.exp_pos]⟩

/-- The kernel's D: the gradient of the result times the result, over one head's columns. -/
theorem delta_eq (H R) : ∑ e, b R (gi H e) * o a u H R e = delta a b u H R := by
  simp only [o, delta, dP, Finset.mul_sum]
  rw [Finset.sum_comm]
  exact Finset.sum_congr rfl fun C _ => Finset.sum_congr rfl fun e _ => by ring

/-- A row's weights with another number `t` added to every score. -/
noncomputable def wts (t : ℝ) (H : Fin 8) (R C : Fin 2048) : ℝ :=
  if C.val ≤ R.val then Real.exp (score a u H R C + t) else 0

theorem wts_eq (t H R C) : wts a u t H R C = wt a u H R C * Real.exp t := by
  unfold wts wt; split
  · rw [Real.exp_add]
  · simp

theorem sum_wts (t H R) : ∑ C, wts a u t H R C = Z a u H R * Real.exp t := by
  simp only [wts_eq, Z, Finset.sum_mul]

theorem sum_wts_pos (t H R) : 0 < ∑ C, wts a u t H R C := by
  rw [sum_wts]; exact mul_pos (Z_pos ..) (Real.exp_pos _)

theorem p_of_wts (t H R C) : wts a u t H R C / ∑ C, wts a u t H R C = p a u H R C := by
  rw [sum_wts, wts_eq, p, mul_div_mul_right _ _ (Real.exp_pos t).ne']

/-- The log of the normaliser, as it is saved by the forward call: shifted by a row maximum `M`. -/
theorem exp_lse (M H R C) :
    (if C.val ≤ R.val then Real.exp (score a u H R C - (M + Real.log (∑ C, wts a u (-M) H R C))) else 0)
      = p a u H R C := by
  rw [← p_of_wts a u (-M)]
  have hp := sum_wts_pos a u (-M) H R
  conv_rhs => rw [wts]
  split
  · rw [sub_add_eq_sub_sub, Real.exp_sub, Real.exp_log hp, sub_eq_add_neg]
  · simp

/-- The gradient of the scores as the reference writes it: the weights not yet divided by their sum. -/
theorem ds_of_wts (t H R C) :
    (dP a b H R C / (∑ C, wts a u t H R C)
      + -(∑ C, dP a b H R C * (1 / ((∑ C, wts a u t H R C) * ∑ C, wts a u t H R C)) * wts a u t H R C))
        * wts a u t H R C = ds a b u H R C := by
  have hp := (sum_wts_pos a u t H R).ne'
  unfold ds delta
  simp only [← p_of_wts a u t]
  generalize (∑ C, wts a u t H R C) = l at *
  have : ∑ C, dP a b H R C * (1 / (l * l)) * wts a u t H R C = (∑ C, wts a u t H R C / l * dP a b H R C) / l := by
    rw [Finset.sum_div]
    exact Finset.sum_congr rfl fun C _ => by field_simp
  rw [this]
  field_simp
  ring

theorem ds_zero (H R) (C : Fin 2048) (h : ¬ C.val ≤ R.val) : ds a b u H R C = 0 := by
  simp [ds, p, wt, h]

/-- One of a group's 128 columns as a head and a column of the head. -/
def lane (h : Fin 2) (e : Fin 64) : Fin 128 := ⟨64 * h.val + e.val, by have := h.isLt; have := e.isLt; omega⟩

theorem lane_surj (l : Fin 128) : ∃ h e, l = lane h e :=
  ⟨⟨l.val / 64, by have := l.isLt; omega⟩, ⟨l.val % 64, by omega⟩, by ext; simp only [lane]; omega⟩

theorem sum_lane (f : Fin 128 → ℝ) : ∑ l, f l = ∑ h, ∑ e, f (lane h e) := by
  rw [← Fintype.sum_prod_type']
  refine (Fintype.sum_bijective (fun x : Fin 2 × Fin 64 => lane x.1 x.2) ⟨?_, ?_⟩ _ _ fun _ => rfl).symm
  · rintro ⟨h, e⟩ ⟨h', e'⟩ hh
    have := congrArg Fin.val hh
    simp only [lane] at this
    have := e.isLt; have := e'.isLt
    refine Prod.ext ?_ ?_ <;> ext <;> dsimp only <;> omega
  · intro l
    obtain ⟨h, e, rfl⟩ := lane_surj l
    exact ⟨(h, e), rfl⟩

theorem lane_div (h : Fin 2) (e : Fin 64) : (lane h e).val / 64 = h.val := by
  have := e.isLt; simp only [lane]; omega

/-- A sum over a group's columns that keeps one head's columns only. -/
theorem sum_only (h : Fin 2) (f : Fin 128 → ℝ) :
    (∑ l, if l.val / 64 = h.val then f l else 0) = ∑ e, f (lane h e) := by
  rw [sum_lane]
  simp only [lane_div]
  rw [Finset.sum_eq_single h (fun h' _ ne => by simp [Fin.val_inj, ne]) (by simp)]
  simp

end Cert.Attn
-- ==== Proof.HostV.lean ====
module

public import proofs.«01_k».proof.Proof.Values
public import proofs.«01_k».proof.Proof.Model
public import proofs.«01_k».proof.Proof.Gen.KernelIdeal.Frame
public import Idealize.ShloMosaic.Lib.StableHlo.RunRead

@[expose] public section

set_option maxRecDepth 16384

noncomputable section

namespace Cert.KernelIdeal.Hand

open Cert.KernelIdeal Cert.KernelIdeal.Gen Cert.KernelIdeal.Facts
open Idealize.ShloMosaic Idealize.ShloMosaic.StableHlo

/-! What the operations before the launch compute: the forward call's saved result and the logs of its normalisers. -/

theorem ninf : Ideal.ofBits .f32 0xFF800000#32 = (⊥ : EReal) := by
  simp [Ideal.ofBits, Ideal.ieee]

/-- A row's maximum is a real number when no entry is `+∞` and some entry is a real number. -/
theorem fold_max_real {n : ℕ} (f : Fin n → EReal) (h : ∀ k, f k ≠ ⊤) (k : Fin n) (r : ℝ) (hk : f k = (r : EReal)) :
    ∃ M : ℝ, Finset.univ.fold max (⊥ : EReal) f = (M : EReal) := by
  have h1 : Finset.univ.fold max (⊥ : EReal) f < ⊤ :=
    Finset.fold_max_lt _ |>.2 ⟨bot_lt_top, fun k _ => lt_top_iff_ne_top.2 (h k)⟩
  have h2 : (⊥ : EReal) < Finset.univ.fold max (⊥ : EReal) f :=
    Finset.lt_fold_max _ |>.2 (Or.inr ⟨k, Finset.mem_univ _, by rw [hk]; exact EReal.bot_lt_coe r⟩)
  exact ⟨_, (EReal.coe_toReal h1.ne h2.ne').symm⟩

/-- The inputs are real arrays. -/
structure Reals (x0 : Vec Ideal S2048x1536 .bf16) (x1 : Vec Ideal S2048x1024 .f32) (x2 : Vec Ideal S8x2048 .f32)
    (a : Fin 2048 → Fin 1536 → ℝ) (b : Fin 2048 → Fin 1024 → ℝ) (u : Fin 8 → Fin 2048 → ℝ) : Prop where
  x0 : ∀ R J, x0 (ix2 R J) = ((a R J : ℝ) : EReal)
  x1 : ∀ R J, x1 (ix2 R J) = ((b R J : ℝ) : EReal)
  x2 : ∀ H R, x2 (ix2 H R) = ((u H R : ℝ) : EReal)

section
variable (x0 : Vec Ideal S2048x1536 .bf16) (x2 : Vec Ideal S8x2048 .f32)

/-- The columns of q, k and v. -/
def hx : FVec Ideal S2048x1536 .f32 := extf .f32 (x0 : FVec Ideal S2048x1536 .bf16) bitsLt_bf16_f32
def hq : FVec Ideal S2048x8x64 .f32 :=
  fun i => shapeCast main_v4.ty.shape (extractStridedSlice S2048x512 ![0, 0] (hx x0) slices_S2048x1536_S2048x512_0_0) shapeCasts_S2048x512_S2048x8x64 i
def hk : FVec Ideal S2048x8x64 .f32 :=
  fun i => shapeCast main_v5.ty.shape (extractStridedSlice S2048x512 ![0, 512] (hx x0) slices_S2048x1536_S2048x512_0_512) shapeCasts_S2048x512_S2048x8x64 i
def hv : FVec Ideal S2048x8x64 .f32 :=
  fun i => shapeCast main_v6.ty.shape (extractStridedSlice S2048x512 ![0, 1024] (hx x0) slices_S2048x1536_S2048x512_0_1024) shapeCasts_S2048x512_S2048x8x64 i

def hmask : IVec S8x2048x2048 1 :=
  broadcastInDim S8x2048x2048 ![0, 1, 2] bcast_S1x2048x2048_S8x2048x2048_0_1_2 (broadcastInDim S1x2048x2048 ![1, 2] bcast_S2048x2048_S1x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))

/-- The masked scores. -/
def hS : FVec Ideal S8x2048x2048 .f32 :=
  select hmask (subf (mulf (Host.dotGeneral dot_S2048x8x64_S2048x8x64_S8x2048x2048_2_2_0_0_1_1 none (hq x0) (hk x0)) (broadcastInDim S8x2048x2048 ![] bcast_S_S8x2048x2048 (constant S_ .f32 0x3E000000#32))) (broadcastInDim S8x2048x2048 ![0, 1, 2] bcast_S8x1x2048_S8x2048x2048_0_1_2 (broadcastInDim S8x1x2048 ![0, 2] bcast_S8x2048_S8x1x2048_0_2 x2))) (broadcastInDim S8x2048x2048 ![] bcast_S_S8x2048x2048 (id (constant (F := Ideal) S_ .f32 0xFF800000#32)))

/-- The row maxima. -/
def hM : FVec Ideal S8x2048 .f32 :=
  Host.reduce (FloatOps.maximumf (F := Ideal) (φ := .f32)) (hS x0 x2) (constant S_ .f32 0xFF800000#32) reducesTo_S8x2048x2048_S8x2048_d2 h_S_

/-- The weights, not normalised. -/
def hE : FVec Ideal S8x2048x2048 .f32 :=
  Host.exp (subf (hS x0 x2) (broadcastInDim S8x2048x2048 ![0, 1, 2] bcast_S8x2048x1_S8x2048x2048_0_1_2 (broadcastInDim S8x2048x1 ![0, 1] bcast_S8x2048_S8x2048x1_0_1 (hM x0 x2))))

/-- The normalisers. -/
def hL : FVec Ideal S8x2048x1 .f32 :=
  broadcastInDim S8x2048x1 ![0, 1] bcast_S8x2048_S8x2048x1_0_1 (Host.reduceAdd (hE x0 x2) (constant S_ .f32 0#32) reducesTo_S8x2048x2048_S8x2048_d2 h_S_)

/-- The attention's result. -/
def hO : FVec Ideal S2048x512 .bf16 :=
  truncf .bf16 (fun i => shapeCast main_v37.ty.shape (transpose S2048x8x64 [2, 0, 1] (Host.dotGeneral dot_S2048x8x64_S8x2048x2048_S8x64x2048_0_2_2_1_1_0 none (hv x0) (Host.divf (hE x0 x2) (broadcastInDim S8x2048x2048 ![0, 1, 2] bcast_S8x2048x1_S8x2048x2048_0_1_2 (hL x0 x2)))) transposes_S8x64x2048_S2048x8x64_2_0_1) shapeCasts_S2048x8x64_S2048x512 i) bitsLt_bf16_f32

/-- The logs of the normalisers. -/
def hT : FVec Ideal S8x2048 .f32 :=
  shapeCast S8x2048 (addf (broadcastInDim S8x2048x1 ![0, 1] bcast_S8x2048_S8x2048x1_0_1 (hM x0 x2)) (Host.log (hL x0 x2))) shapeCasts_S8x2048x1_S8x2048

/-- The logs of the normalisers, one pair of heads after the other. -/
def hLse : FVec Ideal S4x2048x2 .f32 :=
  transpose S4x2048x2 [0, 2, 1] (fun i => shapeCast main_v35.ty.shape (hT x0 x2) shapeCasts_S8x2048_S4x2x2048 i) transposes_S4x2x2048_S4x2048x2_0_2_1

/-- The running sums, a row for each tile of 512. -/
def hC : FVec Ideal S32x512 .f32 := fun i => shapeCast main_v39.ty.shape x2 shapeCasts_S8x2048_S32x512 i
end

section
variable (m : (ℓ : Loc nD τ sig) → Buf (Elt Ideal) ℓ) (c : Dev nD)

theorem V_main_v36 : (V m c main_v36 : Buf (Elt Ideal) ((c.tc : Thread nD τ).loc main_v36)) = hLse (m (c, Proc.tc.devRef main_arg0)) (m (c, Proc.tc.devRef main_arg2)) := by
  unfold V
  simp only [hostOps0, hostOps0_1, hostOps0_2, List.flatten_cons, List.flatten_nil, List.append_nil, List.cons_append, List.nil_append, TRef.nullary, TRef.ternary, TRef.unary, TRef.toBuf, TRef.ofBuf, cast_eq]
  after_results_simp
  delta hLse hT hL hE hM hS hmask hq hk hx
  rfl

theorem V_main_v38 : (V m c main_v38 : Buf (Elt Ideal) ((c.tc : Thread nD τ).loc main_v38)) = hO (m (c, Proc.tc.devRef main_arg0)) (m (c, Proc.tc.devRef main_arg2)) := by
  unfold V
  simp only [hostOps0, hostOps0_1, hostOps0_2, List.flatten_cons, List.flatten_nil, List.append_nil, List.cons_append, List.nil_append, TRef.nullary, TRef.ternary, TRef.unary, TRef.toBuf, TRef.ofBuf, cast_eq]
  after_results_simp
  delta hO hL hE hM hS hmask hq hk hv hx
  rfl

theorem V_main_v39 : (V m c main_v39 : Buf (Elt Ideal) ((c.tc : Thread nD τ).loc main_v39)) = hC (m (c, Proc.tc.devRef main_arg2)) := by
  unfold V
  simp only [hostOps0, hostOps0_1, hostOps0_2, List.flatten_cons, List.flatten_nil, List.append_nil, List.cons_append, List.nil_append, TRef.nullary, TRef.ternary, TRef.unary, TRef.toBuf, TRef.ofBuf, cast_eq]
  after_results_simp
  delta hC
  rfl

end

end Cert.KernelIdeal.Hand
-- ==== Proof.Ref.lean ====
module

public import proofs.«01_k».proof.Proof.HostV
public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Cert.KernelIdeal.Hand (Reals ninf fold_max_real)
open Cert.KernelIdeal.Hand
open Idealize.ShloMosaic

/-! The reference's operations at real inputs, one stage at a time. -/

section
variable {x0 : FVec Ideal S2048x1536 .bf16} {x1 : FVec Ideal S2048x1024 .f32} {x2 : FVec Ideal S8x2048 .f32}
  {a : Fin 2048 → Fin 1536 → ℝ} {b : Fin 2048 → Fin 1024 → ℝ} {u : Fin 8 → Fin 2048 → ℝ} (hr : Reals x0 x1 x2 a b u)

include hr

theorem q_at (H : Fin 8) (R : Fin 2048) (e : Fin 64) : val_main_v4 (F := Ideal) x0 (ix3 R H e) = ((a R (Attn.qi H e) : ℝ) : EReal) := by
  pointwise [val_main_v4, val_main_v1, val_main_v0]
  rw [hr.x0]
  congr 2; ext; simp only [Attn.qi]; omega

theorem k_at (H : Fin 8) (R : Fin 2048) (e : Fin 64) : val_main_v5 (F := Ideal) x0 (ix3 R H e) = ((a R (Attn.ki H e) : ℝ) : EReal) := by
  pointwise [val_main_v5, val_main_v2, val_main_v0]
  rw [hr.x0]
  congr 2; ext; simp only [Attn.ki]; omega

theorem v_at (H : Fin 8) (R : Fin 2048) (e : Fin 64) : val_main_v6 (F := Ideal) x0 (ix3 R H e) = ((a R (Attn.vi H e) : ℝ) : EReal) := by
  pointwise [val_main_v6, val_main_v3, val_main_v0]
  rw [hr.x0]
  congr 2; ext; simp only [Attn.vi]; omega

theorem g_at (H : Fin 8) (R : Fin 2048) (e : Fin 64) : val_main_v57 (F := Ideal) x1 (ix3 H e R) = ((b R (Attn.gi H e) : ℝ) : EReal) := by
  pointwise [val_main_v57, val_main_v56, val_main_v55]
  rw [hr.x1]
  congr 2; ext; simp only [Attn.gi]; omega

theorem s_at (H : Fin 8) (R C : Fin 2048) :
    val_main_v15 (F := Ideal) x0 x2 (ix3 H R C) = ((Attn.score a u H R C + u H R : ℝ) : EReal) := by
  pointwise [val_main_v15, val_main_v14, val_main_v13, val_main_v12, val_main_v11, val_main_v10, val_main_v9, val_main_v8, val_main_v7, val_main_cst]
  simp only [q_at hr, k_at hr, hr.x2, eighth, ← EReal.coe_mul, ← coe_sum, ← EReal.coe_sub, ← EReal.coe_add]
  refine congrArg Real.toEReal ?_
  rw [Attn.score]; ring

omit hr in
theorem mask_at (H : Fin 8) (R C : Fin 2048) (x y : EReal) :
    Scalar.select (val_main_v23_1 (F := Ideal) (ix3 H R C)) x y = if C.val ≤ R.val then x else y := by
  pointwise [val_main_v23_1, val_main_v22, val_main_v21, val_main_v20, val_main_v19, val_main_v18, val_main_v17, val_main_v16]
  rw [sle_small _ _ C.isLt R.isLt, sel_ofBool]

omit hr in
theorem low_at (H : Fin 8) (R C : Fin 2048) : val_main_call0_v2 (F := Ideal) (ix3 H R C) = (⊥ : EReal) := by
  rw [val_main_call0_v2_apply, val_main_call0_v0_apply, val_main_cst_0_apply]
  exact ninf

omit hr in
theorem w_sel (H : Fin 8) (R C : Fin 2048) : val_main_v23_0 (F := Ideal) x0 x2 (ix3 H R C)
    = Scalar.select (val_main_v23_1 (F := Ideal) (ix3 H R C)) (val_main_v15 (F := Ideal) x0 x2 (ix3 H R C)) (val_main_call0_v2 (F := Ideal) (ix3 H R C)) :=
  val_main_v23_0_apply _ _ _

theorem w_at (H : Fin 8) (R C : Fin 2048) :
    val_main_v23_0 (F := Ideal) x0 x2 (ix3 H R C) = if C.val ≤ R.val then ((Attn.score a u H R C + u H R : ℝ) : EReal) else ⊥ :=
  (w_sel H R C).trans ((mask_at H R C _ _).trans (if_congr Iff.rfl (s_at hr H R C) (low_at H R C)))

omit hr in
theorem top_at (y : FVec Ideal S8x2048x2048 .f32) (H : Fin 8) (R : Fin 2048) :
    Host.reduce FloatOps.maximumf y (val_main_cst_1 (F := Ideal)) reducesTo_S8x2048x2048_S8x2048_d2 h_S_ (ix2 H R)
      = Finset.univ.fold max (⊥ : EReal) (fun k => y (ix3 H R k)) := by
  pointwise [val_main_cst_1]
  rw [ninf]

omit hr in
theorem low2_at (H : Fin 8) (R : Fin 2048) : val_main_v30 (F := Ideal) (ix2 H R) = (⊥ : EReal) := by
  rw [val_main_v30_apply, val_main_cst_3_apply]
  exact ninf

omit hr in
theorem m_max (H : Fin 8) (R : Fin 2048) : val_main_v31 (F := Ideal) x0 x2 (ix2 H R)
    = max (val_main_v30 (F := Ideal) (ix2 H R)) (val_main_v24 (F := Ideal) x0 x2 (ix2 H R)) := val_main_v31_apply _ _ _

omit hr in
theorem m_fold (H : Fin 8) (R : Fin 2048) : val_main_v24 (F := Ideal) x0 x2 (ix2 H R)
    = Finset.univ.fold max (⊥ : EReal) (fun k => val_main_v23_0 (F := Ideal) x0 x2 (ix3 H R k)) := by
  unfold val_main_v24
  exact top_at _ H R

theorem m_at (H : Fin 8) (R : Fin 2048) : ∃ M : ℝ, val_main_v31 (F := Ideal) x0 x2 (ix2 H R) = (M : EReal) := by
  rw [m_max, m_fold, low2_at, max_bot_left]
  refine fold_max_real _ (fun k => ?_) R (Attn.score a u H R R + u H R) ?_
  · rw [w_at hr]; split
    · exact EReal.coe_ne_top _
    · exact bot_ne_top
  · rw [w_at hr, if_pos le_rfl]

omit hr in
theorem exp_at (y z : FVec Ideal S8x2048x2048 .f32) (i : S8x2048x2048.Idx) : Host.exp (subf y z) i = Ideal.exp (y i - z i) := rfl

omit hr in
theorem bc_at (y : FVec Ideal S8x2048 .f32) (H : Fin 8) (R C : Fin 2048) :
    broadcastInDim S8x2048x2048 ![0, 1, 2] bcast_S8x2048x1_S8x2048x2048_0_1_2 (broadcastInDim S8x2048x1 ![0, 1] bcast_S8x2048_S8x2048x1_0_1 y) (ix3 H R C) = y (ix2 H R) := by
  pointwise []

theorem e_at (H : Fin 8) (R C : Fin 2048) (M : ℝ) (h : val_main_v31 (F := Ideal) x0 x2 (ix2 H R) = (M : EReal)) :
    val_main_v44 (F := Ideal) x0 x2 (ix3 H R C) = ((Attn.wts a u (u H R - M) H R C : ℝ) : EReal) := by
  have e1 : val_main_v44 (F := Ideal) x0 x2 (ix3 H R C) = Ideal.exp (val_main_v23_0 (F := Ideal) x0 x2 (ix3 H R C) - val_main_v42 (F := Ideal) x0 x2 (ix3 H R C)) := by
    unfold val_main_v44 val_main_v43
    exact exp_at _ _ _
  have e2 : val_main_v42 (F := Ideal) x0 x2 (ix3 H R C) = val_main_v31 (F := Ideal) x0 x2 (ix2 H R) := by
    unfold val_main_v42 val_main_v41
    exact bc_at _ H R C
  rw [e1, e2, h, w_at hr, Attn.wts]
  split
  · rw [← EReal.coe_sub, Ideal.exp_coe, ← add_sub_assoc]
  · rw [EReal.bot_sub]; rfl

omit hr in
theorem sum_at (y : FVec Ideal S8x2048x2048 .f32) (z : FVec Ideal S_ .f32) (hz : ∀ i, z i = (0 : EReal)) (H : Fin 8) (R : Fin 2048) :
    Host.reduceAdd y z reducesTo_S8x2048x2048_S8x2048_d2 h_S_ (ix2 H R) = ∑ k, y (ix3 H R k) := by
  pointwise []
  rw [hz, zero_add]

omit hr in
theorem sum1_at (y : FVec Ideal S8x2048x2048 .f32) (z : FVec Ideal S_ .f32) (hz : ∀ i, z i = (0 : EReal)) (H : Fin 8) (C : Fin 2048) :
    Host.reduceAdd y z reducesTo_S8x2048x2048_S8x2048_d1 h_S_ (ix2 H C) = ∑ k, y (ix3 H k C) := by
  pointwise []
  rw [hz, zero_add]

omit hr in
theorem unit2_at (y : FVec Ideal S8x2048 .f32) (z : FVec Ideal S_ .f32) (hz : ∀ i, z i = (0 : EReal)) (H : Fin 8) (R : Fin 2048) :
    Host.reduceAdd (shapeCast S8x2048x1 y shapeCasts_S8x2048_S8x2048x1) z reducesTo_S8x2048x1_S8x2048_d2 h_S_ (ix2 H R) = y (ix2 H R) := by
  pointwise []
  rw [hz, zero_add]
  simp

omit hr in
theorem unit1_at (y : FVec Ideal S8x2048 .f32) (z : FVec Ideal S_ .f32) (hz : ∀ i, z i = (0 : EReal)) (H : Fin 8) (C : Fin 2048) :
    Host.reduceAdd (shapeCast S8x1x2048 y shapeCasts_S8x2048_S8x1x2048) z reducesTo_S8x1x2048_S8x2048_d1 h_S_ (ix2 H C) = y (ix2 H C) := by
  pointwise []
  rw [hz, zero_add]
  simp

omit hr in
theorem unitn_at (y : FVec Ideal S8x2048 .f32) (z : FVec Ideal S_ .f32) (hz : ∀ i, z i = (0 : EReal)) (H : Fin 8) (R : Fin 2048) :
    Host.reduceAdd (Host.negf (shapeCast S8x2048x1 y shapeCasts_S8x2048_S8x2048x1)) z reducesTo_S8x2048x1_S8x2048_d2 h_S_ (ix2 H R) = -y (ix2 H R) := by
  pointwise []
  rw [hz, zero_add]
  simp

end

end Cert.ReferenceIdeal.Hand
-- ==== Proof.Ref2.lean ====
module

public import proofs.«01_k».proof.Proof.Ref

@[expose] public section

set_option maxRecDepth 16384

noncomputable section

namespace Cert.ReferenceIdeal.Hand

open Cert.ReferenceIdeal Cert.ReferenceIdeal.Gen Cert.ReferenceIdeal.Read
open Cert.KernelIdeal.Hand (Reals ninf)
open Cert.KernelIdeal.Hand
open Idealize.ShloMosaic

/-! The reference's gradients at real inputs: each operation read at an index of any array, then the chain. -/

theorem zero_bits : Ideal.ofBits .f32 0x00000000#32 = (0 : EReal) := by
  simp [Ideal.ofBits, Ideal.ieee]

theorem one_bits : Ideal.ofBits .f32 0x3F800000#32 = ((1 : ℝ) : EReal) := by
  simp [Ideal.ofBits, Ideal.ieee, -EReal.coe_mul]
  exact_mod_cast congrArg Real.toEReal (show (8388608 : ℝ) * (2 ^ 23)⁻¹ = 1 by norm_num)

theorem div_at (y z : FVec Ideal S8x2048x2048 .f32) (i : S8x2048x2048.Idx) : Host.divf y z i = Ideal.div (y i) (z i) := rfl
theorem divu_at (y z : FVec Ideal S8x2048x1 .f32) (i : S8x2048x1.Idx) : Host.divf y z i = Ideal.div (y i) (z i) := rfl
theorem mul_at (y z : FVec Ideal S8x2048x2048 .f32) (i : S8x2048x2048.Idx) : mulf y z i = y i * z i := rfl
theorem mulu_at (y z : FVec Ideal S8x2048x1 .f32) (i : S8x2048x1.Idx) : mulf y z i = y i * z i := rfl
theorem add_at (y z : FVec Ideal S8x2048x2048 .f32) (i : S8x2048x2048.Idx) : addf y z i = y i + z i := rfl
theorem neg_at (y : FVec Ideal S8x2048x2048 .f32) (i : S8x2048x2048.Idx) : Host.negf y i = -y i := rfl

theorem unit_at (y : FVec Ideal S8x2048 .f32) (H : Fin 8) (R : Fin 2048) :
    broadcastInDim S8x2048x1 ![0, 1] bcast_S8x2048_S8x2048x1_0_1 y (ix3 H R 0) = y (ix2 H R) := by
  pointwise []
theorem bcu_at (y : FVec Ideal S8x2048x1 .f32) (H : Fin 8) (R C : Fin 2048) :
    broadcastInDim S8x2048x2048 ![0, 1, 2] bcast_S8x2048x1_S8x2048x2048_0_1_2 y (ix3 H R C) = y (ix3 H R 0) := by
  pointwise []
theorem bc01_at (y : FVec Ideal S8x2048 .f32) (H : Fin 8) (R C : Fin 2048) :
    broadcastInDim S8x2048x2048 ![0, 1] bcast_S8x2048_S8x2048x2048_0_1 y (ix3 H R C) = y (ix2 H R) := by
  pointwise []

theorem dot58 (y : FVec Ideal S8x64x2048 .f32) (z : FVec Ideal S2048x8x64 .f32) (H : Fin 8) (R C : Fin 2048) :
    Host.dotGeneral dot_S8x64x2048_S2048x8x64_S8x2048x2048_1_2_2_0_0_1 none y z (ix3 H R C) = ∑ e, y (ix3 H e R) * z (ix3 C H e) := by
  pointwise []
theorem dot59 (y : FVec Ideal S8x64x2048 .f32) (z : FVec Ideal S8x2048x2048 .f32) (H : Fin 8) (e : Fin 64) (C : Fin 2048) :
    Host.dotGeneral dot_S8x64x2048_S8x2048x2048_S8x64x2048_2_1_1_2_0_0 none y z (ix3 H e C) = ∑ R, y (ix3 H e R) * z (ix3 H R C) := by
  pointwise []
theorem dot83 (y : FVec Ideal S8x2048x2048 .f32) (z : FVec Ideal S2048x8x64 .f32) (H : Fin 8) (C : Fin 2048) (e : Fin 64) :
    Host.dotGeneral dot_S8x2048x2048_S2048x8x64_S8x2048x64_1_0_2_2_0_1 none y z (ix3 H C e) = ∑ R, y (ix3 H R C) * z (ix3 R H e) := by
  pointwise []
theorem dot85 (y : FVec Ideal S8x2048x2048 .f32) (z : FVec Ideal S2048x8x64 .f32) (H : Fin 8) (R : Fin 2048) (e : Fin 64) :
    Host.dotGeneral dot_S8x2048x2048_S2048x8x64_S8x2048x64_2_0_1_2_0_1 none y z (ix3 H R e) = ∑ C, y (ix3 H R C) * z (ix3 C H e) := by
  pointwise []

theorem rows_at (y : FVec Ideal S8x2048x64 .f32) (R : Fin 2048) (j : Fin 512) :
    shapeCast S2048x512 (transpose S2048x8x64 [1, 0, 2] y transposes_S8x2048x64_S2048x8x64_1_0_2) shapeCasts_S2048x8x64_S2048x512 (ix2 R j)
      = y (ix3 ⟨j.val / 64, by omega⟩ R ⟨j.val % 64, by omega⟩) := by
  pointwise []
theorem cols_at (y : FVec Ideal S8x64x2048 .f32) (R : Fin 2048) (j : Fin 512) :
    shapeCast S2048x512 (transpose S2048x8x64 [2, 0, 1] y transposes_S8x64x2048_S2048x8x64_2_0_1) shapeCasts_S2048x8x64_S2048x512 (ix2 R j)
      = y (ix3 ⟨j.val / 64, by omega⟩ ⟨j.val % 64, by omega⟩ R) := by
  pointwise []

section
variable {x0 : FVec Ideal S2048x1536 .bf16} {x1 : FVec Ideal S2048x1024 .f32} {x2 : FVec Ideal S8x2048 .f32}
  {a : Fin 2048 → Fin 1536 → ℝ} {b : Fin 2048 → Fin 1024 → ℝ} {u : Fin 8 → Fin 2048 → ℝ} (hr : Reals x0 x1 x2 a b u)

include hr

theorem Z_at (H : Fin 8) (R : Fin 2048) (M : ℝ) (h : val_main_v31 (F := Ideal) x0 x2 (ix2 H R) = (M : EReal)) :
    val_main_v45 (F := Ideal) x0 x2 (ix2 H R) = ((∑ C, Attn.wts a u (u H R - M) H R C : ℝ) : EReal) := by
  unfold val_main_v45
  rw [sum_at _ (val_main_cst_9 (F := Ideal)) (fun i => (val_main_cst_9_apply i).trans zero_bits), coe_sum]
  exact Finset.sum_congr rfl fun C _ => e_at hr H R C M h

omit hr in
theorem Zu_at (H : Fin 8) (R : Fin 2048) : val_main_v46 (F := Ideal) x0 x2 (ix3 H R 0) = val_main_v45 (F := Ideal) x0 x2 (ix2 H R) := by
  unfold val_main_v46; exact unit_at _ H R

omit hr in
theorem Zb_at (H : Fin 8) (R C : Fin 2048) : val_main_v47 (F := Ideal) x0 x2 (ix3 H R C) = val_main_v45 (F := Ideal) x0 x2 (ix2 H R) := by
  unfold val_main_v47; exact (bcu_at _ H R C).trans (Zu_at H R)

omit hr in
theorem Zc_at (H : Fin 8) (R C : Fin 2048) : val_main_v67 (F := Ideal) x0 x2 (ix3 H R C) = val_main_v45 (F := Ideal) x0 x2 (ix2 H R) := by
  unfold val_main_v67; exact (bcu_at _ H R C).trans (Zu_at H R)

theorem p_at (H : Fin 8) (R C : Fin 2048) : val_main_v48 (F := Ideal) x0 x2 (ix3 H R C) = ((Attn.p a u H R C : ℝ) : EReal) := by
  obtain ⟨M, h⟩ := m_at hr H R
  unfold val_main_v48
  rw [div_at, Zb_at, Z_at hr H R M h, e_at hr H R C M h, Ideal.div_coe (Attn.sum_wts_pos a u _ H R).ne', ← EReal.coe_mul]
  refine congrArg Real.toEReal ?_
  rw [← Attn.p_of_wts a u (u H R - M)]; ring

theorem dP_at (H : Fin 8) (R C : Fin 2048) : val_main_v58 (F := Ideal) x0 x1 (ix3 H R C) = ((Attn.dP a b H R C : ℝ) : EReal) := by
  unfold val_main_v58
  rw [dot58]
  simp only [g_at hr, v_at hr, ← EReal.coe_mul, ← coe_sum]
  rfl

omit hr in
theorem ones_at (H : Fin 8) (R : Fin 2048) : val_main_v50 (F := Ideal) (ix3 H R 0) = ((1 : ℝ) : EReal) := by
  rw [val_main_v50_apply, val_main_cst_10_apply]
  exact one_bits

theorem inv_at (H : Fin 8) (R C : Fin 2048) (M : ℝ) (h : val_main_v31 (F := Ideal) x0 x2 (ix2 H R) = (M : EReal)) :
    val_main_v61 (F := Ideal) x0 x2 (ix3 H R C) = ((1 / ((∑ C, Attn.wts a u (u H R - M) H R C) * ∑ C, Attn.wts a u (u H R - M) H R C) : ℝ) : EReal) := by
  unfold val_main_v61
  rw [bcu_at]
  unfold val_main_v51
  rw [divu_at, ones_at]
  unfold val_main_v49
  have hZ := (Attn.sum_wts_pos a u (u H R - M) H R).ne'
  rw [mulu_at, Zu_at, Z_at hr H R M h, ← EReal.coe_mul, Ideal.div_coe (mul_ne_zero hZ hZ), ← EReal.coe_mul, one_mul]

theorem prod_at (H : Fin 8) (R C : Fin 2048) (M : ℝ) (h : val_main_v31 (F := Ideal) x0 x2 (ix2 H R) = (M : EReal)) :
    val_main_v63 (F := Ideal) x0 x1 x2 (ix3 H R C) = ((Attn.dP a b H R C * (1 / ((∑ C, Attn.wts a u (u H R - M) H R C) * ∑ C, Attn.wts a u (u H R - M) H R C)) * Attn.wts a u (u H R - M) H R C : ℝ) : EReal) := by
  unfold val_main_v63
  rw [mul_at]
  unfold val_main_v62
  rw [mul_at, dP_at hr, inv_at hr H R C M h, e_at hr H R C M h, EReal.coe_mul, EReal.coe_mul]

theorem sumprod_at (H : Fin 8) (R : Fin 2048) (M : ℝ) (h : val_main_v31 (F := Ideal) x0 x2 (ix2 H R) = (M : EReal)) :
    val_main_v69 (F := Ideal) x0 x1 x2 (ix2 H R) = ((-∑ C, Attn.dP a b H R C * (1 / ((∑ C, Attn.wts a u (u H R - M) H R C) * ∑ C, Attn.wts a u (u H R - M) H R C)) * Attn.wts a u (u H R - M) H R C : ℝ) : EReal) := by
  have e1 : val_main_v69 (F := Ideal) x0 x1 x2 (ix2 H R) = -val_main_v64 (F := Ideal) x0 x1 x2 (ix2 H R) := by
    unfold val_main_v69 val_main_v66 val_main_v65
    exact unitn_at _ (val_main_cst_12 (F := Ideal)) (fun i => (val_main_cst_12_apply i).trans zero_bits) H R
  rw [e1]
  unfold val_main_v64
  rw [sum_at _ (val_main_cst_11 (F := Ideal)) (fun i => (val_main_cst_11_apply i).trans zero_bits), EReal.coe_neg, coe_sum]
  exact congrArg Neg.neg (Finset.sum_congr rfl fun C _ => prod_at hr H R C M h)

theorem ds_at (H : Fin 8) (R C : Fin 2048) : val_main_v73 (F := Ideal) x0 x1 x2 (ix3 H R C) = ((Attn.ds a b u H R C : ℝ) : EReal) := by
  obtain ⟨M, h⟩ := m_at hr H R
  have e1 : val_main_v73 (F := Ideal) x0 x1 x2 (ix3 H R C) = if C.val ≤ R.val then val_main_v72 (F := Ideal) x0 x1 x2 (ix3 H R C) else val_main_call1_v0 (F := Ideal) (ix3 H R C) :=
    (val_main_v73_apply _ _ _ _).trans (mask_at H R C _ _)
  rw [e1]
  split
  · have e2 : val_main_v70 (F := Ideal) x0 x1 x2 (ix3 H R C) = val_main_v69 (F := Ideal) x0 x1 x2 (ix2 H R) := by
      unfold val_main_v70; exact bc01_at _ H R C
    unfold val_main_v72
    rw [mul_at]
    unfold val_main_v71
    rw [add_at, e2, sumprod_at hr H R M h]
    unfold val_main_v68
    rw [div_at, Zc_at, Z_at hr H R M h, dP_at hr, e_at hr H R C M h, Ideal.div_coe (Attn.sum_wts_pos a u _ H R).ne',
      ← EReal.coe_mul, ← EReal.coe_add, ← EReal.coe_mul]
    refine congrArg Real.toEReal ?_
    rw [← Attn.ds_of_wts a b u (u H R - M)]; ring
  · rename_i hC
    rw [Attn.ds_zero _ _ _ _ _ _ hC, val_main_call1_v0_apply, val_main_call1_cst_apply]
    exact zero_bits

theorem scaled_at (H : Fin 8) (R C : Fin 2048) : val_main_v82 (F := Ideal) x0 x1 x2 (ix3 H R C) = ((Attn.ds a b u H R C * (1 / 8) : ℝ) : EReal) := by
  unfold val_main_v82
  have e1 : val_main_v81 (F := Ideal) (ix3 H R C) = ((1 / 8 : ℝ) : EReal) := by
    rw [val_main_v81_apply, val_main_cst_17_apply]; exact eighth
  rw [mul_at, ds_at hr, e1, EReal.coe_mul]

theorem dq_at (R : Fin 2048) (j : Fin 512) : val_main_v87 (F := Ideal) x0 x1 x2 (ix2 R j)
    = ((Attn.dq a b u ⟨j.val / 64, by omega⟩ R ⟨j.val % 64, by omega⟩ : ℝ) : EReal) := by
  unfold val_main_v87 val_main_v86
  refine (rows_at _ R j).trans ?_
  unfold val_main_v85
  rw [dot85]
  simp only [scaled_at hr, k_at hr, ← EReal.coe_mul, ← coe_sum]
  rfl

theorem dk_at (C : Fin 2048) (j : Fin 512) : val_main_v88 (F := Ideal) x0 x1 x2 (ix2 C j)
    = ((Attn.dk a b u ⟨j.val / 64, by omega⟩ C ⟨j.val % 64, by omega⟩ : ℝ) : EReal) := by
  unfold val_main_v88 val_main_v84
  refine (rows_at _ C j).trans ?_
  unfold val_main_v83
  rw [dot83]
  simp only [scaled_at hr, q_at hr, ← EReal.coe_mul, ← coe_sum]
  rfl

theorem dv_at (C : Fin 2048) (j : Fin 512) : val_main_v89 (F := Ideal) x0 x1 x2 (ix2 C j)
    = ((Attn.dv a b u ⟨j.val / 64, by omega⟩ C ⟨j.val % 64, by omega⟩ : ℝ) : EReal) := by
  unfold val_main_v89 val_main_v60
  refine (cols_at _ C j).trans ?_
  unfold val_main_v59
  rw [dot59]
  simp only [p_at hr, g_at hr, ← EReal.coe_mul, ← coe_sum]
  refine congrArg Real.toEReal ?_
  rw [Attn.dv]
  exact Finset.sum_congr rfl fun R _ => mul_comm _ _

theorem dck_at (H : Fin 8) (C : Fin 2048) : val_main_v77 (F := Ideal) x0 x1 x2 (ix2 H C) = ((-∑ R, Attn.ds a b u H R C : ℝ) : EReal) := by
  have e1 : val_main_v77 (F := Ideal) x0 x1 x2 (ix2 H C) = val_main_v75 (F := Ideal) x0 x1 x2 (ix2 H C) := by
    unfold val_main_v77 val_main_v76
    exact unit1_at _ (val_main_cst_14 (F := Ideal)) (fun i => (val_main_cst_14_apply i).trans zero_bits) H C
  rw [e1]
  unfold val_main_v75
  rw [sum1_at _ (val_main_cst_13 (F := Ideal)) (fun i => (val_main_cst_13_apply i).trans zero_bits)]
  unfold val_main_v74
  simp only [neg_at, ds_at hr, ← EReal.coe_neg, ← coe_sum, Finset.sum_neg_distrib]

theorem dcq_at (H : Fin 8) (R : Fin 2048) : val_main_v80 (F := Ideal) x0 x1 x2 (ix2 H R) = ((∑ C, Attn.ds a b u H R C : ℝ) : EReal) := by
  have e1 : val_main_v80 (F := Ideal) x0 x1 x2 (ix2 H R) = val_main_v78 (F := Ideal) x0 x1 x2 (ix2 H R) := by
    unfold val_main_v80 val_main_v79
    exact unit2_at _ (val_main_cst_16 (F := Ideal)) (fun i => (val_main_cst_16_apply i).trans zero_bits) H R
  rw [e1]
  unfold val_main_v78
  rw [sum_at _ (val_main_cst_15 (F := Ideal)) (fun i => (val_main_cst_15_apply i).trans zero_bits)]
  simp only [ds_at hr, ← coe_sum]

end

end Cert.ReferenceIdeal.Hand
-- ==== Proof.Host.lean ====
module

public import proofs.«01_k».proof.Proof.HostV
public import proofs.«01_k».proof.Proof.Model
public import proofs.«01_k».proof.Proof.Gen.KernelIdeal.Frame
public import Idealize.ShloMosaic.Lib.StableHlo.RunRead

@[expose] public section

set_option maxRecDepth 16384

noncomputable section

namespace Cert.KernelIdeal.Hand

open Cert.KernelIdeal Cert.KernelIdeal.Gen Cert.KernelIdeal.Facts
open Idealize.ShloMosaic Idealize.ShloMosaic.StableHlo

/-! The same values at real inputs. -/

theorem cast_unit (y : FVec Ideal S8x2048x1 .f32) (H : Fin 8) (R : Fin 2048) :
    shapeCast S8x2048 y shapeCasts_S8x2048x1_S8x2048 (ix2 H R) = y (ix3 H R 0) := by
  rw [Pointwise.shapeCast_apply]
  congr 1
  refine Shape.reshapeEquiv_eq_of_vals _ _ _ (H.val * 2048 + R.val) (H.val * 2048 + R.val) ?_ ?_ rfl
  · refine (rowMajor_val3 _ 2048 1 (by decide) rfl).trans ?_
    show H.val * 2048 + (R.val * 1 + 0) = _
    omega
  · exact rowMajor_val2 _ 2048 rfl

theorem log_unit (x : FVec Ideal S8x2048x1 .f32) (H : Fin 8) (R : Fin 2048) :
    Host.log x (ix3 H R 0) = Ideal.log (x (ix3 H R 0)) := rfl

theorem add_unit (x y : FVec Ideal S8x2048x1 .f32) (H : Fin 8) (R : Fin 2048) :
    addf x y (ix3 H R 0) = x (ix3 H R 0) + y (ix3 H R 0) := rfl

/-- Head `h` of the pair `g`. -/
def hd (g : Fin 4) (h : Fin 2) : Fin 8 := ⟨2 * g.val + h.val, by have := g.isLt; have := h.isLt; omega⟩

section
variable {x0 : Vec Ideal S2048x1536 .bf16} {x1 : Vec Ideal S2048x1024 .f32} {x2 : Vec Ideal S8x2048 .f32}
  {a : Fin 2048 → Fin 1536 → ℝ} {b : Fin 2048 → Fin 1024 → ℝ} {u : Fin 8 → Fin 2048 → ℝ} (hr : Reals x0 x1 x2 a b u)

include hr

theorem hq_at (H : Fin 8) (R : Fin 2048) (e : Fin 64) : hq x0 (ix3 R H e) = ((a R (Attn.qi H e) : ℝ) : EReal) := by
  have : hq x0 = shapeCast S2048x8x64 (extractStridedSlice S2048x512 ![0, 0] (hx x0) slices_S2048x1536_S2048x512_0_0) shapeCasts_S2048x512_S2048x8x64 := rfl
  rw [this]
  pointwise [hx]
  rw [hr.x0]
  congr 2; ext; simp only [Attn.qi]; omega

theorem hk_at (H : Fin 8) (R : Fin 2048) (e : Fin 64) : hk x0 (ix3 R H e) = ((a R (Attn.ki H e) : ℝ) : EReal) := by
  have : hk x0 = shapeCast S2048x8x64 (extractStridedSlice S2048x512 ![0, 512] (hx x0) slices_S2048x1536_S2048x512_0_512) shapeCasts_S2048x512_S2048x8x64 := rfl
  rw [this]
  pointwise [hx]
  rw [hr.x0]
  congr 2; ext; simp only [Attn.ki]; omega

theorem hv_at (H : Fin 8) (R : Fin 2048) (e : Fin 64) : hv x0 (ix3 R H e) = ((a R (Attn.vi H e) : ℝ) : EReal) := by
  have : hv x0 = shapeCast S2048x8x64 (extractStridedSlice S2048x512 ![0, 1024] (hx x0) slices_S2048x1536_S2048x512_0_1024) shapeCasts_S2048x512_S2048x8x64 := rfl
  rw [this]
  pointwise [hx]
  rw [hr.x0]
  congr 2; ext; simp only [Attn.vi]; omega

theorem hS_at (H : Fin 8) (R C : Fin 2048) :
    hS x0 x2 (ix3 H R C) = if C.val ≤ R.val then ((Attn.score a u H R C : ℝ) : EReal) else ⊥ := by
  pointwise [hS, hmask]
  rw [sle_small _ _ C.isLt R.isLt, sel_ofBool]
  refine if_congr Iff.rfl ?_ ninf
  simp only [hq_at hr, hk_at hr, hr.x2, eighth, ← EReal.coe_mul, ← coe_sum, ← EReal.coe_sub]
  rfl

theorem hM_at (H : Fin 8) (R : Fin 2048) : ∃ M : ℝ, hM x0 x2 (ix2 H R) = (M : EReal) := by
  pointwise [hM]
  rw [ninf]
  refine fold_max_real _ (fun k => ?_) R (Attn.score a u H R R) ?_
  · rw [hS_at hr]; split
    · exact EReal.coe_ne_top _
    · exact bot_ne_top
  · rw [hS_at hr, if_pos le_rfl]

theorem hE_at (H : Fin 8) (R C : Fin 2048) (M : ℝ) (h : hM x0 x2 (ix2 H R) = (M : EReal)) :
    hE x0 x2 (ix3 H R C) = ((Attn.wts a u (-M) H R C : ℝ) : EReal) := by
  pointwise [hE]
  rw [h, hS_at hr, Attn.wts]
  split
  · rw [← EReal.coe_sub, Ideal.exp_coe, sub_eq_add_neg]
  · rw [EReal.bot_sub]; rfl

omit hr in
theorem hL_sum (H : Fin 8) (R : Fin 2048) :
    hL x0 x2 (ix3 H R 0) = ∑ C, hE x0 x2 (ix3 H R C) := by
  pointwise [hL]

theorem hL_at (H : Fin 8) (R : Fin 2048) (M : ℝ) (h : hM x0 x2 (ix2 H R) = (M : EReal)) :
    hL x0 x2 (ix3 H R 0) = ((∑ C, Attn.wts a u (-M) H R C : ℝ) : EReal) := by
  rw [hL_sum, coe_sum]
  exact Finset.sum_congr rfl fun C _ => hE_at hr H R C M h

theorem hO_at (H : Fin 8) (R : Fin 2048) (e : Fin 64) :
    hO x0 x2 (ix2 R (Attn.oi H e)) = ((Attn.o a u H R e : ℝ) : EReal) := by
  obtain ⟨M, hm⟩ := hM_at hr H R
  have : hO x0 x2 = truncf .bf16 (shapeCast S2048x512 (transpose S2048x8x64 [2, 0, 1] (Host.dotGeneral dot_S2048x8x64_S8x2048x2048_S8x64x2048_0_2_2_1_1_0 none (hv x0) (Host.divf (hE x0 x2) (broadcastInDim S8x2048x2048 ![0, 1, 2] bcast_S8x2048x1_S8x2048x2048_0_1_2 (hL x0 x2)))) transposes_S8x64x2048_S2048x8x64_2_0_1) shapeCasts_S2048x8x64_S2048x512) bitsLt_bf16_f32 := rfl
  rw [this]
  pointwise []
  have e1 : ∀ h : (Attn.oi H e).val / 64 < 8, (⟨(Attn.oi H e).val / 64, h⟩ : Fin 8) = H := fun h => by
    ext; simp only [Attn.oi]; omega
  have e2 : ∀ h : (Attn.oi H e).val % 64 < 64, (⟨(Attn.oi H e).val % 64, h⟩ : Fin 64) = e := fun h => by
    ext; simp only [Attn.oi]; omega
  simp only [e1, e2, hv_at hr, hL_at hr H R M hm, hE_at hr H R _ M hm, Ideal.div_coe (Attn.sum_wts_pos a u (-M) H R).ne',
    ← EReal.coe_mul, ← coe_sum]
  refine congrArg Real.toEReal ?_
  rw [Attn.o]
  exact Finset.sum_congr rfl fun C _ => by rw [← Attn.p_of_wts a u (-M)]; ring

omit hr in
theorem hT_sum (H : Fin 8) (R : Fin 2048) : hT x0 x2 (ix2 H R) = hM x0 x2 (ix2 H R) + Ideal.log (hL x0 x2 (ix3 H R 0)) := by
  unfold hT
  rw [cast_unit]
  have e : broadcastInDim S8x2048x1 ![0, 1] bcast_S8x2048_S8x2048x1_0_1 (hM x0 x2) (ix3 H R 0) = hM x0 x2 (ix2 H R) := by pointwise []
  exact (add_unit _ _ H R).trans (by rw [e, log_unit])

theorem hT_at (H : Fin 8) (R : Fin 2048) (M : ℝ) (h : hM x0 x2 (ix2 H R) = (M : EReal)) :
    hT x0 x2 (ix2 H R) = ((M + Real.log (∑ C, Attn.wts a u (-M) H R C) : ℝ) : EReal) := by
  rw [hT_sum, h, hL_at hr H R M h, Ideal.log_coe, if_neg (Attn.sum_wts_pos a u (-M) H R).not_ge, EReal.coe_add]

/-- The saved log of the normaliser is a real number that gives the probabilities. -/
theorem hT_real (H : Fin 8) (R : Fin 2048) : ∃ L : ℝ, hT x0 x2 (ix2 H R) = (L : EReal) ∧
    ∀ C : Fin 2048, (if C.val ≤ R.val then Real.exp (Attn.score a u H R C - L) else 0) = Attn.p a u H R C := by
  obtain ⟨M, hm⟩ := hM_at hr H R
  exact ⟨_, hT_at hr H R M hm, fun C => Attn.exp_lse a u M H R C⟩

omit hr in
theorem hLse_at (g : Fin 4) (h : Fin 2) (R : Fin 2048) :
    hLse x0 x2 (ix3 g R h) = hT x0 x2 (ix2 (hd g h) R) := by
  have : hLse x0 x2 = transpose S4x2048x2 [0, 2, 1] (shapeCast S4x2x2048 (hT x0 x2) shapeCasts_S8x2048_S4x2x2048) transposes_S4x2x2048_S4x2048x2_0_2_1 := rfl
  rw [this]
  pointwise []
  congr 2; ext; simp only [hd]; omega

theorem hC_at (g : Fin 4) (h : Fin 2) (n : Fin 4) (C : Fin 512) :
    hC x2 (ix2 (crow g h n) C) = ((u (hd g h) (rt n C) : ℝ) : EReal) := by
  have : hC x2 = shapeCast S32x512 x2 shapeCasts_S8x2048_S32x512 := rfl
  rw [this]
  pointwise []
  rw [hr.x2]
  congr 2
  · ext; simp only [hd, crow]; omega
  · ext; simp only [rt, crow]; omega

end

end Cert.KernelIdeal.Hand
-- ==== Proof.Group.lean ====
module

public import proofs.«01_k».proof.Proof.Host

@[expose] public section

set_option maxRecDepth 16384

noncomputable section

namespace Cert.KernelIdeal.Hand

open Cert.KernelIdeal Cert.KernelIdeal.Gen
open Idealize.ShloMosaic

/-! One grid point's real inputs, cut from the whole arrays, and its results as the gradients of its two heads. -/

section
variable (a : Fin 2048 → Fin 1536 → ℝ) (b : Fin 2048 → Fin 1024 → ℝ) (u L : Fin 8 → Fin 2048 → ℝ) (g : Fin 4)

/-- The columns of the pair `g`, taken from the whole arrays. -/
def pt : Pt where
  Q R l := a R ⟨128 * g.val + l.val, by omega⟩
  K R l := a R ⟨512 + 128 * g.val + l.val, by omega⟩
  V R l := a R ⟨1024 + 128 * g.val + l.val, by omega⟩
  G R l := b R ⟨128 * g.val + l.val, by omega⟩
  O R l := Attn.o a u ⟨2 * g.val + l.val / 64, by omega⟩ R ⟨l.val % 64, by omega⟩
  L h R := L (hd g h) R
  c h R := u (hd g h) R

theorem pt_Q (R h e) : (pt a b u L g).Q R (Attn.lane h e) = a R (Attn.qi (hd g h) e) :=
  congrArg (a R) (Fin.ext (by simp only [Attn.lane, Attn.qi, hd]; omega))
theorem pt_K (R h e) : (pt a b u L g).K R (Attn.lane h e) = a R (Attn.ki (hd g h) e) :=
  congrArg (a R) (Fin.ext (by simp only [Attn.lane, Attn.ki, hd]; omega))
theorem pt_V (R h e) : (pt a b u L g).V R (Attn.lane h e) = a R (Attn.vi (hd g h) e) :=
  congrArg (a R) (Fin.ext (by simp only [Attn.lane, Attn.vi, hd]; omega))
theorem pt_G (R h e) : (pt a b u L g).G R (Attn.lane h e) = b R (Attn.gi (hd g h) e) :=
  congrArg (b R) (Fin.ext (by simp only [Attn.lane, Attn.gi, hd]; omega))
theorem pt_O (R h e) : (pt a b u L g).O R (Attn.lane h e) = Attn.o a u (hd g h) R e := by
  have h1 : (Attn.lane h e).val / 64 = h.val := Attn.lane_div h e
  have h2 : (Attn.lane h e).val % 64 = e.val := by have := e.isLt; simp only [Attn.lane]; omega
  show Attn.o a u ⟨2 * g.val + (Attn.lane h e).val / 64, _⟩ R ⟨(Attn.lane h e).val % 64, _⟩ = _
  simp only [h1, h2]
  rfl

theorem sum_only_mul (h : Fin 2) (f k : Fin 128 → ℝ) :
    ∑ l, Pt.only h l (f l) * k l = ∑ e, f (Attn.lane h e) * k (Attn.lane h e) := by
  rw [← Attn.sum_only h fun l => f l * k l]
  exact Finset.sum_congr rfl fun l _ => by rw [Pt.only, ite_mul, zero_mul]

variable {a b u L} (hL : ∀ H R C, (if C.val ≤ R.val then Real.exp (Attn.score a u H R C - L H R) else 0) = Attn.p a u H R C)
include hL

theorem pt_P (h R C) : (pt a b u L g).P h R C = Attn.p a u (hd g h) R C := by
  rw [← hL, Pt.P, Pt.W, sum_only_mul]
  simp only [pt_Q, pt_K]
  rfl

theorem pt_D (h R) : (pt a b u L g).D h R = Attn.delta a b u (hd g h) R := by
  rw [← Attn.delta_eq, Pt.D, Attn.sum_only]
  simp only [pt_G, pt_O]

theorem pt_S (h R C) : (pt a b u L g).S h R C = Attn.ds a b u (hd g h) R C := by
  rw [Pt.S, pt_P g hL, pt_D g hL, sum_only_mul]
  simp only [pt_G, pt_V]
  rfl

theorem pt_dq (R h e) : (pt a b u L g).dq R (Attn.lane h e) = Attn.dq a b u (hd g h) R e := by
  rw [Pt.dq]
  simp only [pt_K, pt_S g hL]
  rw [Finset.sum_eq_single h]
  · simp only [Pt.only, Attn.lane_div, if_true]; rfl
  · intro k _ hk
    have : ¬ h.val = k.val := fun hh => hk (Fin.ext hh.symm)
    simp [Pt.only, Attn.lane_div, this]
  · simp

theorem pt_dk (C h e) : (pt a b u L g).dk C (Attn.lane h e) = Attn.dk a b u (hd g h) C e := by
  rw [Pt.dk]
  simp only [pt_Q, pt_S g hL]
  rw [Finset.sum_eq_single h]
  · simp only [Pt.only, Attn.lane_div, if_true]; rfl
  · intro k _ hk
    have : ¬ h.val = k.val := fun hh => hk (Fin.ext hh.symm)
    simp [Pt.only, Attn.lane_div, this]
  · simp

theorem pt_dv (C h e) : (pt a b u L g).dv C (Attn.lane h e) = Attn.dv a b u (hd g h) C e := by
  rw [Pt.dv]
  simp only [pt_G, pt_P g hL]
  rw [Finset.sum_eq_single h]
  · simp only [Pt.only, Attn.lane_div, if_true]; rfl
  · intro k _ hk
    have : ¬ h.val = k.val := fun hh => hk (Fin.ext hh.symm)
    simp [Pt.only, Attn.lane_div, this]
  · simp

end

end Cert.KernelIdeal.Hand
-- ==== Proof.Blocks.lean ====
module

public import proofs.«01_k».proof.Proof.Group
public import proofs.«01_k».proof.Proof.FramesI
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe

/-! The blocks that a grid point finds, read at an index of the whole arrays. -/

section
variable (m : (ℓ : Loc nD τ sig) → Buf (Elt Ideal) ℓ) (c : Dev nD) (t : Fin cfg0.N)

/-- The pair of heads of a grid point. -/
abbrev gp : Fin 4 := pair (grid0.coords t)

theorem idx0 : ∀ t : Fin cfg0.N, win0_0.index t = ![0, t.val] := (by decide +kernel : ∀ t : Fin grid0.N, _)
theorem idx1 : ∀ t : Fin cfg0.N, win0_1.index t = ![0, 4 + t.val] := (by decide +kernel : ∀ t : Fin grid0.N, _)
theorem idx2 : ∀ t : Fin cfg0.N, win0_2.index t = ![0, 8 + t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![0, 0] := (by decide +kernel : ∀ t : Fin grid0.N, _)

theorem blk0 (R : Fin 2048) (l : Fin 128) :
    (iblk m c 0 t : Vec Ideal S2048x128 .bf16) (ix2 R l) = (m ((c.tc : Thread nD τ).loc main_arg0) : Vec Ideal S2048x1536 .bf16) (ix2 R ⟨128 * (gp t).val + l.val, by omega⟩) := by
  have ht : (gp t).val = t.val := pair_val t
  rw [← V_main_arg0 m c]
  blk_ext [iblk, idx0 t]

theorem blk1 (R : Fin 2048) (l : Fin 128) :
    (iblk m c 1 t : Vec Ideal S2048x128 .bf16) (ix2 R l) = (m ((c.tc : Thread nD τ).loc main_arg0) : Vec Ideal S2048x1536 .bf16) (ix2 R ⟨512 + 128 * (gp t).val + l.val, by omega⟩) := by
  have ht : (gp t).val = t.val := pair_val t
  rw [← V_main_arg0 m c]
  blk_ext [iblk, idx1 t]

theorem blk2 (R : Fin 2048) (l : Fin 128) :
    (iblk m c 2 t : Vec Ideal S2048x128 .bf16) (ix2 R l) = (m ((c.tc : Thread nD τ).loc main_arg0) : Vec Ideal S2048x1536 .bf16) (ix2 R ⟨1024 + 128 * (gp t).val + l.val, by omega⟩) := by
  have ht : (gp t).val = t.val := pair_val t
  rw [← V_main_arg0 m c]
  blk_ext [iblk, idx2 t]

theorem blk3 (R : Fin 2048) (l : Fin 128) :
    (iblk m c 3 t : Vec Ideal S2048x128 .f32) (ix2 R l) = (m ((c.tc : Thread nD τ).loc main_arg1) : Vec Ideal S2048x1024 .f32) (ix2 R ⟨128 * (gp t).val + l.val, by omega⟩) := by
  have ht : (gp t).val = t.val := pair_val t
  rw [← V_main_arg1 m c]
  blk_ext [iblk, idx3 t]

theorem blk4 (R : Fin 2048) (l : Fin 128) :
    (iblk m c 4 t : Vec Ideal S2048x128 .bf16) (ix2 R l) = (V m c main_v38 : Vec Ideal S2048x512 .bf16) (ix2 R ⟨128 * (gp t).val + l.val, by omega⟩) := by
  have ht : (gp t).val = t.val := pair_val t
  blk_ext [iblk, idx4 t]

omit m c in
theorem read5 (f : Vec Ideal S4x2048x2 .f32) (R : Fin 2048) (h : Fin 2) :
    (((cfg0.win 5).blk t).view.read (Elt Ideal) f : Vec Ideal S1x2048x2 .f32) (ix3 0 R h) = f (ix3 (gp t) R h) := by
  have ht : (gp t).val = t.val := pair_val t
  blk_ext [idx5 t]

theorem blk5 (R : Fin 2048) (h : Fin 2) :
    (iblk m c 5 t : Vec Ideal S1x2048x2 .f32) (ix3 0 R h) = (V m c main_v36 : Vec Ideal S4x2048x2 .f32) (ix3 (gp t) R h) :=
  read5 t (V m c main_v36) R h

theorem blk6 (r : Fin 32) (C : Fin 512) :
    (iblk m c 6 t : Vec Ideal S32x512 .f32) (ix2 r C) = (V m c main_v39 : Vec Ideal S32x512 .f32) (ix2 r C) := by
  blk_ext [iblk, idx6 t]

end

end Cert.KernelIdeal.Hand
-- ==== Proof.Result.lean ====
module

public import proofs.«01_k».proof.Proof.Blocks
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat RDat Cfg Window)

/-! The results of the launch as the attention's gradients at real inputs. -/

/-- The stacked gradients of q, k and v. -/
def g0 (a : Fin 2048 → Fin 1536 → ℝ) (b : Fin 2048 → Fin 1024 → ℝ) (u : Fin 8 → Fin 2048 → ℝ)
    (k : Fin 3) (R : Fin 2048) (j : Fin 512) : ℝ :=
  if k.val = 0 then Attn.dq a b u ⟨j.val / 64, by omega⟩ R ⟨j.val % 64, by omega⟩
  else if k.val = 1 then Attn.dk a b u ⟨j.val / 64, by omega⟩ R ⟨j.val % 64, by omega⟩
  else Attn.dv a b u ⟨j.val / 64, by omega⟩ R ⟨j.val % 64, by omega⟩

/-- The gradients of the running sums on the key side, four rows to a head. -/
def g1 (a : Fin 2048 → Fin 1536 → ℝ) (b : Fin 2048 → Fin 1024 → ℝ) (u : Fin 8 → Fin 2048 → ℝ)
    (r : Fin 32) (C : Fin 512) : ℝ :=
  -∑ R, Attn.ds a b u ⟨r.val / 4, by omega⟩ R (rt ⟨r.val % 4, by omega⟩ C)

/-- The gradients of the running sums on the query side. -/
def g2 (a : Fin 2048 → Fin 1536 → ℝ) (b : Fin 2048 → Fin 1024 → ℝ) (u : Fin 8 → Fin 2048 → ℝ)
    (g : Fin 4) (R : Fin 2048) (h : Fin 2) : ℝ := ∑ C, Attn.ds a b u (hd g h) R C

def G0 (a : Fin 2048 → Fin 1536 → ℝ) (b : Fin 2048 → Fin 1024 → ℝ) (u : Fin 8 → Fin 2048 → ℝ) : Vec Ideal S3x2048x512 .bf16 := fun i => ((g0 a b u (i 0) (i 1) (i 2) : ℝ) : EReal)
def G1 (a : Fin 2048 → Fin 1536 → ℝ) (b : Fin 2048 → Fin 1024 → ℝ) (u : Fin 8 → Fin 2048 → ℝ) : Vec Ideal S32x512 .f32 := fun i => ((g1 a b u (i 0) (i 1) : ℝ) : EReal)
def G2 (a : Fin 2048 → Fin 1536 → ℝ) (b : Fin 2048 → Fin 1024 → ℝ) (u : Fin 8 → Fin 2048 → ℝ) : Vec Ideal S4x2048x2 .f32 := fun i => ((g2 a b u (i 0) (i 1) (i 2) : ℝ) : EReal)

section
variable {a : Fin 2048 → Fin 1536 → ℝ} {b : Fin 2048 → Fin 1024 → ℝ} {u : Fin 8 → Fin 2048 → ℝ}

/-- Column `64 h + e` of the pair `g`. -/
def colOf (g : Fin 4) (h : Fin 2) (e : Fin 64) : Fin 512 := ⟨128 * g.val + (Attn.lane h e).val, by omega⟩

theorem col_div (g h e) (p : (colOf g h e).val / 64 < 8) : (⟨(colOf g h e).val / 64, p⟩ : Fin 8) = hd g h := by
  ext; simp only [colOf, Attn.lane, hd]; omega
theorem col_mod (g h e) (p : (colOf g h e).val % 64 < 64) : (⟨(colOf g h e).val % 64, p⟩ : Fin 64) = e := by
  ext; simp only [colOf, Attn.lane]; omega

theorem g0_q (R g h e) : g0 a b u 0 R (colOf g h e) = Attn.dq a b u (hd g h) R e := by
  unfold g0; rw [if_pos (by decide), col_div, col_mod]
theorem g0_k (R g h e) : g0 a b u 1 R (colOf g h e) = Attn.dk a b u (hd g h) R e := by
  unfold g0; rw [if_neg (by decide), if_pos (by decide), col_div, col_mod]
theorem g0_v (R g h e) : g0 a b u 2 R (colOf g h e) = Attn.dv a b u (hd g h) R e := by
  unfold g0; rw [if_neg (by decide), if_neg (by decide), col_div, col_mod]
theorem g1_at (g h n C) : g1 a b u (crow g h n) C = -∑ R, Attn.ds a b u (hd g h) R (rt n C) := by
  have e1 : ∀ p : (crow g h n).val / 4 < 8, (⟨(crow g h n).val / 4, p⟩ : Fin 8) = hd g h := fun p => by
    ext; simp only [crow, hd]; omega
  have e2 : ∀ p : (crow g h n).val % 4 < 4, (⟨(crow g h n).val % 4, p⟩ : Fin 4) = n := fun p => by
    ext; simp only [crow]; omega
  unfold g1; rw [e1, e2]

variable (m : (ℓ : Loc nD τ sig) → Buf (Elt Ideal) ℓ) (c : Dev nD) (t : Fin cfg0.N)
  {L : Fin 8 → Fin 2048 → ℝ}
  (hr : Reals (m ((c.tc : Thread nD τ).loc main_arg0)) (m ((c.tc : Thread nD τ).loc main_arg1)) (m ((c.tc : Thread nD τ).loc main_arg2)) a b u)
  (hT' : ∀ H R, hT (m ((c.tc : Thread nD τ).loc main_arg0)) (m ((c.tc : Thread nD τ).loc main_arg2)) (ix2 H R) = ((L H R : ℝ) : EReal))
  (hL : ∀ H R C, (if C.val ≤ R.val then Real.exp (Attn.score a u H R C - L H R) else 0) = Attn.p a u H R C)
include hr hT'

theorem holds : Holds (gp t) (iblk m c 0 t) (iblk m c 1 t) (iblk m c 2 t) (iblk m c 3 t) (iblk m c 4 t) (iblk m c 5 t) (iblk m c 6 t) (pt a b u L (gp t)) where
  q R l := (blk0 m c t R l).trans (hr.x0 _ _)
  k R l := (blk1 m c t R l).trans (hr.x0 _ _)
  v R l := (blk2 m c t R l).trans (hr.x0 _ _)
  go R l := (blk3 m c t R l).trans (hr.x1 _ _)
  o R l := by
    obtain ⟨h, e, rfl⟩ := Attn.lane_surj l
    refine (blk4 m c t R _).trans ?_
    rw [V_main_v38]
    have e1 : (⟨128 * (gp t).val + (Attn.lane h e).val, by omega⟩ : Fin 512) = Attn.oi (hd (gp t) h) e := by
      ext; simp only [Attn.lane, Attn.oi, hd]; omega
    rw [e1, pt_O]
    exact hO_at hr _ R e
  l R h := by
    refine (blk5 m c t R h).trans ?_
    rw [V_main_v36]
    exact (hLse_at _ h R).trans (hT' _ _)
  c h n C := by
    refine (blk6 m c t _ C).trans ?_
    rw [V_main_v39]
    exact hC_at hr _ h n C

include hL

theorem out8_G (s d8 d9) (k : Fin 3) (R : Fin 2048) (l : Fin 128) :
    out8 (gp t) (iblk m c 0 t) (iblk m c 1 t) (iblk m c 2 t) (iblk m c 3 t) (iblk m c 4 t) (iblk m c 5 t) (iblk m c 6 t) s d8 d9 (ix3 k R l)
      = ((g0 a b u k R ⟨128 * (gp t).val + l.val, by omega⟩ : ℝ) : EReal) := by
  obtain ⟨h, e, rfl⟩ := Attn.lane_surj l
  have H := holds m c t hr hT'
  match k with
  | ⟨0, _⟩ => exact (out8_dq s H d8 d9 R _).trans (congrArg Real.toEReal ((pt_dq (gp t) hL R h e).trans (g0_q R (gp t) h e).symm))
  | ⟨1, _⟩ => exact (out8_dk s H d8 d9 R _).trans (congrArg Real.toEReal ((pt_dk (gp t) hL R h e).trans (g0_k R (gp t) h e).symm))
  | ⟨2, _⟩ => exact (out8_dv s H d8 d9 R _).trans (congrArg Real.toEReal ((pt_dv (gp t) hL R h e).trans (g0_v R (gp t) h e).symm))

theorem out9_G (s d8 d9) (h : Fin 2) (n : Fin 4) (C : Fin 512) :
    out9 (gp t) (iblk m c 0 t) (iblk m c 1 t) (iblk m c 2 t) (iblk m c 3 t) (iblk m c 4 t) (iblk m c 5 t) (iblk m c 6 t) s d8 d9 (ix2 (crow (gp t) h n) C)
      = ((g1 a b u (crow (gp t) h n) C : ℝ) : EReal) := by
  refine (out9_at s (holds m c t hr hT') d8 d9 h n C).trans (congrArg Real.toEReal ?_)
  rw [g1_at]
  exact congrArg Neg.neg (Finset.sum_congr rfl fun R _ => pt_S (gp t) hL h R (rt n C))

theorem out10_G (s d8 d9) (R : Fin 2048) (h : Fin 2) :
    out10 (gp t) (iblk m c 0 t) (iblk m c 1 t) (iblk m c 2 t) (iblk m c 3 t) (iblk m c 4 t) (iblk m c 5 t) (iblk m c 6 t) s d8 d9 (ix3 0 R h)
      = ((g2 a b u (gp t) R h : ℝ) : EReal) := by
  refine (out10_at s (holds m c t hr hT') d8 d9 R h).trans (congrArg Real.toEReal ?_)
  exact Finset.sum_congr rfl fun C _ => pt_S (gp t) hL h R C

omit hr hT' hL m c t in
theorem idx7 : ∀ t : Fin cfg0.N, win0_7.index t = ![0, 0, t.val] := (by decide +kernel : ∀ t : Fin grid0.N, _)
omit hr hT' hL m c t in
theorem idx8 : ∀ t : Fin cfg0.N, win0_8.index t = ![0, 0] := (by decide +kernel : ∀ t : Fin grid0.N, _)
omit hr hT' hL m c t in
theorem idx9 : ∀ t : Fin cfg0.N, win0_9.index t = ![t.val, 0, 0] := (by decide +kernel : ∀ t : Fin grid0.N, _)

omit hr hT' hL in
theorem row_crow (i : S32x512.Idx) (h1 : 8 * t.val ≤ (i 0).val) (h2 : (i 0).val < 8 * t.val + 8) :
    ∃ h n C, i = ix2 (crow (gp t) h n) C := by
  refine ⟨⟨((i 0).val - 8 * t.val) / 4, by omega⟩, ⟨(i 0).val % 4, by omega⟩, i 1, ?_⟩
  have hg : (gp t).val = t.val := pair_val t
  refine (eq_ix2 i).trans (congrArg (fun x => ix2 x (i 1)) (Fin.ext ?_))
  simp only [crow, hg]
  omega

set_option maxHeartbeats 2000000 in
/-- The launch at real inputs. -/
theorem results_eq {r} (h : RDat.FramePost (cfgs 0) (fun c => (dats m 0 c).toRRel results (Rl m c)) (V m) r) :
    r.2.mem ((c.tc : Thread nD τ).loc main_v40_0) = G0 a b u
    ∧ r.2.mem ((c.tc : Thread nD τ).loc main_v40_1) = G1 a b u
    ∧ r.2.mem ((c.tc : Thread nD τ).loc main_v40_2) = G2 a b u := by
  obtain ⟨after, hLv, hA⟩ := h.exists_exact c
  refine ⟨(hA 7).trans ?_, (hA 8).trans ?_, (hA 9).trans ?_⟩
  · refine Dat.arrAt_eq_of_covers _ 7 _ (by decide +kernel) fun t hf y => ?_
    obtain ⟨s, d8, d9, e⟩ := (dats m 0 c).toRRel_leaves (Rl := Rl m c) rfl (hLv 7 t hf)
    blk_simp [RDat.withAfter_after]
    rw [e]
    have ey : y = (ix3 (y 0) (y 1) (y 2) : S3x2048x128.Idx) := eq_ix3 y
    have ee : (win0_7.blk t).view.emb y = (ix3 (y 0) (y 1) ⟨128 * (gp t).val + (y 2).val, by have := (y 2).isLt; have h2 : (y 2).val < 128 := (y 2).isLt; omega⟩ : S3x2048x512.Idx) := by
      have hg : (gp t).val = t.val := pair_val t
      blk_ext [idx7 t]
    rw [ee]
    refine Eq.trans ?_ (out8_G m c t hr hT' hL s d8 d9 (y 0) (y 1) (y 2))
    exact congrArg _ ey
  · refine Dat.arrAt_eq_of_covers _ 8 _ (by decide +kernel) fun t hf y => ?_
    have e := (dats m 0 c).toRRel_leaves (Rl := Rl m c) rfl (hLv 8 t hf)
    blk_simp [RDat.withAfter_after]
    have hf' := (flush0_8 t).mp hf
    have hN : cfg0.N = 4 := N_0
    have hy0 : (y 0).val < 32 := (y 0).isLt
    have ee : (win0_8.blk t).view.emb y = (y : S32x512.Idx) := by
      blk_ext [idx8 t]
    rw [ee]
    have htl := t.isLt
    let v : Fin cfg0.N := ⟨(y 0).val / 8, by omega⟩
    have h1 : 8 * v.val ≤ (y 0).val := by show 8 * ((y 0).val / 8) ≤ _; omega
    have h2 : (y 0).val < 8 * v.val + 8 := by show _ < 8 * ((y 0).val / 8) + 8; omega
    obtain ⟨s, d8, d9, e'⟩ := e v (by show (y 0).val / 8 ≤ _; omega) y h1 h2
    refine e'.trans ?_
    obtain ⟨h, n, C, ey⟩ := row_crow v y h1 h2
    rw [ey]
    exact out9_G m c v hr hT' hL s d8 d9 h n C
  · refine Dat.arrAt_eq_of_covers _ 9 _ (by decide +kernel) fun t hf y => ?_
    obtain ⟨s, d8, d9, e⟩ := (dats m 0 c).toRRel_leaves (Rl := Rl m c) rfl (hLv 9 t hf)
    blk_simp [RDat.withAfter_after]
    have e0 : (y 0) = (0 : Fin 1) := Subsingleton.elim (α := Fin 1) _ _
    have ey : y = (ix3 0 (y 1) (y 2) : S1x2048x2.Idx) := (eq_ix3 y).trans (congrArg (fun x => (ix3 x (y 1) (y 2) : S1x2048x2.Idx)) e0)
    have ee : (win0_9.blk t).view.emb y = (ix3 (gp t) (y 1) (y 2) : S4x2048x2.Idx) := by
      have hg : (gp t).val = t.val := pair_val t
      have h0 : (y 0).val = 0 := congrArg Fin.val e0
      blk_ext [idx9 t]
    rw [ee, e]
    refine Eq.trans ?_ (out10_G m c t hr hT' hL s d8 d9 (y 1) (y 2))
    exact congrArg _ ey

end

/-- A run of the kernel at real inputs ends with the attention's gradients in the results. -/
theorem run_real (m : (ℓ : Loc nD τ sig) → Buf (Elt Ideal) ℓ) (ρ) (a : Dev nD → Fin 2048 → Fin 1536 → ℝ) (b : Dev nD → Fin 2048 → Fin 1024 → ℝ) (u : Dev nD → Fin 8 → Fin 2048 → ℝ)
    (hr : ∀ c : Dev nD, Reals (m ((c.tc : Thread nD τ).loc main_arg0)) (m ((c.tc : Thread nD τ).loc main_arg1)) (m ((c.tc : Thread nD τ).loc main_arg2)) (a c) (b c) (u c)) :
    θ_run defs (onTc (τ := τ) (main (F := Ideal))) ⟨m, fun _ => 0, ρ⟩ (fun r => ∀ c : Dev nD,
      r.2.mem ((c.tc : Thread nD τ).loc main_v40_0) = G0 (a c) (b c) (u c)
      ∧ r.2.mem ((c.tc : Thread nD τ).loc main_v40_1) = G1 (a c) (b c) (u c)
      ∧ r.2.mem ((c.tc : Thread nD τ).loc main_v40_2) = G2 (a c) (b c) (u c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    choose L hT' hL using fun H R => hT_real (hr c) H R
    obtain ⟨h0, h1, h2⟩ := results_eq m c (hr c) hT' hL h.1
    exact ⟨h0, h1, h2, (RDat.FramePost.arr_in h.1 c 2 rfl).trans ((A_eq m c 2).trans (V_main_arg0 m c)),
      (RDat.FramePost.arr_in h.1 c 3 rfl).trans ((A_eq m c 3).trans (V_main_arg1 m c)),
      ((h.1 c).2 main_arg2 (Pipeline.mem_restRefs_of main_arg2 (by decide) (by decide))).trans (V_main_arg2 m c)⟩)
    (launched m ρ)

end Cert.KernelIdeal.Hand
-- ==== Proof.Tie.lean ====
module

public import proofs.«01_k».proof.Proof.Ref2
public import proofs.«01_k».proof.Proof.Result

@[expose] public section

set_option maxRecDepth 16384

noncomputable section

namespace Cert.ReferenceIdeal.Hand

open Cert.ReferenceIdeal Cert.ReferenceIdeal.Gen Cert.ReferenceIdeal.Read
open Cert.KernelIdeal.Hand (Reals g0 g1 g2 G0 G1 G2 hd rt)
open Idealize.ShloMosaic

/-! The reference's results are those of the kernel. -/

theorem lead_at (y : FVec Ideal S2048x512 .f32) (R : Fin 2048) (j : Fin 512) :
    broadcastInDim S1x2048x512 ![1, 2] bcast_S2048x512_S1x2048x512_1_2 y (ix3 0 R j) = y (ix2 R j) := by
  pointwise []

theorem cat0 (y0 y1 y2 : FVec Ideal S1x2048x512 .f32) (R : Fin 2048) (j : Fin 512) :
    concatenate S3x2048x512 0 [⟨S1x2048x512, y0⟩, ⟨S1x2048x512, y1⟩, ⟨S1x2048x512, y2⟩] concatenates_S1x2048x512_S1x2048x512_S1x2048x512_S3x2048x512_d0 (ix3 0 R j)
      = y0 (ix3 0 R j) := by
  pointwise []
theorem cat1 (y0 y1 y2 : FVec Ideal S1x2048x512 .f32) (R : Fin 2048) (j : Fin 512) :
    concatenate S3x2048x512 0 [⟨S1x2048x512, y0⟩, ⟨S1x2048x512, y1⟩, ⟨S1x2048x512, y2⟩] concatenates_S1x2048x512_S1x2048x512_S1x2048x512_S3x2048x512_d0 (ix3 1 R j)
      = y1 (ix3 0 R j) := by
  pointwise []
theorem cat2 (y0 y1 y2 : FVec Ideal S1x2048x512 .f32) (R : Fin 2048) (j : Fin 512) :
    concatenate S3x2048x512 0 [⟨S1x2048x512, y0⟩, ⟨S1x2048x512, y1⟩, ⟨S1x2048x512, y2⟩] concatenates_S1x2048x512_S1x2048x512_S1x2048x512_S3x2048x512_d0 (ix3 2 R j)
      = y2 (ix3 0 R j) := by
  pointwise []

theorem keys_at (y : FVec Ideal S8x2048 .f32) (r : Fin 32) (C : Fin 512) :
    shapeCast S32x512 y shapeCasts_S8x2048_S32x512 (ix2 r C) = y (ix2 ⟨r.val / 4, by omega⟩ (rt ⟨r.val % 4, by omega⟩ C)) := by
  pointwise []
  congr 2
  ext; simp only [rt]; omega

theorem queries_at (y : FVec Ideal S8x2048 .f32) (g : Fin 4) (R : Fin 2048) (h : Fin 2) :
    transpose S4x2048x2 [0, 2, 1] (shapeCast S4x2x2048 y shapeCasts_S8x2048_S4x2x2048) transposes_S4x2x2048_S4x2048x2_0_2_1 (ix3 g R h) = y (ix2 (hd g h) R) := by
  pointwise []
  refine congrArg (fun H => y (ix2 H R)) (Fin.ext ?_)
  simp only [hd]; omega

section
variable {x0 : FVec Ideal S2048x1536 .bf16} {x1 : FVec Ideal S2048x1024 .f32} {x2 : FVec Ideal S8x2048 .f32}
  {a : Fin 2048 → Fin 1536 → ℝ} {b : Fin 2048 → Fin 1024 → ℝ} {u : Fin 8 → Fin 2048 → ℝ} (hr : Reals x0 x1 x2 a b u)

include hr

theorem v93_at (k : Fin 3) (R : Fin 2048) (j : Fin 512) : val_main_v93 (F := Ideal) x0 x1 x2 (ix3 k R j) = ((g0 a b u k R j : ℝ) : EReal) := by
  unfold val_main_v93
  match k with
  | ⟨0, _⟩ => exact (cat0 _ _ _ R j).trans (by unfold val_main_v90; exact (lead_at _ R j).trans ((dq_at hr R j).trans (congrArg Real.toEReal (by unfold g0; rw [if_pos rfl]))))
  | ⟨1, _⟩ => exact (cat1 _ _ _ R j).trans (by unfold val_main_v91; exact (lead_at _ R j).trans ((dk_at hr R j).trans (congrArg Real.toEReal (by unfold g0; rw [if_neg (fun h => by simp at h), if_pos rfl]))))
  | ⟨2, _⟩ => exact (cat2 _ _ _ R j).trans (by unfold val_main_v92; exact (lead_at _ R j).trans ((dv_at hr R j).trans (congrArg Real.toEReal (by unfold g0; rw [if_neg (fun h => by simp at h), if_neg (fun h => by simp at h)]))))

theorem v94_eq : val_main_v94 (F := Ideal) x0 x1 x2 = G0 a b u := by
  funext i
  obtain ⟨k, R, j, rfl⟩ : ∃ k R j, i = (ix3 k R j : S3x2048x512.Idx) := ⟨i 0, i 1, i 2, eq_ix3 i⟩
  exact (val_main_v94_apply _ _ _ _).trans (v93_at hr k R j)

theorem v95_eq : val_main_v95 (F := Ideal) x0 x1 x2 = G1 a b u := by
  funext i
  obtain ⟨r, C, rfl⟩ : ∃ r C, i = (ix2 r C : S32x512.Idx) := ⟨i 0, i 1, eq_ix2 i⟩
  unfold val_main_v95
  exact (keys_at _ r C).trans (dck_at hr _ _)

theorem v97_eq : val_main_v97 (F := Ideal) x0 x1 x2 = G2 a b u := by
  funext i
  obtain ⟨g, R, h, rfl⟩ : ∃ g R h, i = (ix3 g R h : S4x2048x2.Idx) := ⟨i 0, i 1, i 2, eq_ix3 i⟩
  unfold val_main_v97 val_main_v96
  exact (queries_at _ g R h).trans (dcq_at hr _ _)

end

end Cert.ReferenceIdeal.Hand
-- ==== Proof.Finite.lean ====
module

public import proofs.«01_k».proof.Proof.HostV
public import proofs.«01_k».proof.Proof.Gen.Pre_finite
public import Idealize.ShloMosaic.Lib.ReduceAll
public import Idealize.ShloMosaic.Lib.WordArith

@[expose] public section

noncomputable section

namespace Cert.KernelIdeal.Hand

open Idealize.ShloMosaic
open Cert.Pre_finite.Gen

theorem pinf : Ideal.ofBits .f32 0x7F800000#32 = (⊤ : EReal) := by
  simp [Ideal.ofBits, Ideal.ieee]

/-- A number whose absolute value is below infinity is real. -/
theorem real_of_bit (x : EReal) (h : FloatOps.cmpf (F := Ideal) (φ := .f32) .olt (FloatOps.hostAbsf (F := Ideal) (φ := .f32) x) (Ideal.ofBits .f32 0x7F800000#32) = 1#1) : ∃ r : ℝ, x = (r : EReal) := by
  rw [pinf] at h
  induction x using EReal.rec with
  | coe r => exact ⟨r, rfl⟩
  | top =>
    exfalso
    have h2 : (FloatOps.hostAbsf (F := Ideal) (φ := .f32) (⊤ : EReal)) = (⊤ : EReal) := show max (⊤ : EReal) (-⊤) = ⊤ from by simp
    rw [h2] at h
    have h3 := (WordArith.ofBool_eq_one_iff _).mp (show BitVec.ofBool (decide ((⊤ : EReal) < ⊤)) = 1#1 from h)
    simp at h3
  | bot =>
    exfalso
    have h2 : (FloatOps.hostAbsf (F := Ideal) (φ := .f32) (⊥ : EReal)) = (⊤ : EReal) := show max (⊥ : EReal) (-⊥) = ⊤ from by simp
    rw [h2] at h
    have h3 := (WordArith.ofBool_eq_one_iff _).mp (show BitVec.ofBool (decide ((⊤ : EReal) < ⊤)) = 1#1 from h)
    simp at h3

theorem and_bits (p q : BitVec 1) (h : p &&& q = 1#1) : p = 1#1 ∧ q = 1#1 := by
  revert p q; decide

/-- Arguments that the precondition accepts are real arrays. -/
theorem reals_of_finite (x0 : FVec Ideal Cert.Pre_finite.S2048x1536 .bf16) (x1 : FVec Ideal Cert.Pre_finite.S2048x1024 .f32) (x2 : FVec Ideal Cert.Pre_finite.S8x2048 .f32)
    (h : Cert.Pre_finite.fn (F := Ideal) x0 x1 x2 = fun _ => 1#1) : ∃ a b u, Reals x0 x1 x2 a b u := by
  have h := congrFun h (Shape.Idx.first (by decide))
  dsimp only [Cert.Pre_finite.fn] at h
  simp only [andi, IntOp.andi] at h
  haveI : Subsingleton Cert.Pre_finite.S_.Idx := ⟨fun x y => funext fun a => a.elim0⟩
  obtain ⟨hab, hc⟩ := and_bits _ _ h
  obtain ⟨ha, hb⟩ := and_bits _ _ hab
  have r0 : ∀ i, ∃ r : ℝ, x0 i = (r : EReal) := fun i => real_of_bit (x0 i) (Host.reduce_andi_all _ _ _ _ _ ha i)
  have r1 : ∀ i, ∃ r : ℝ, x1 i = (r : EReal) := fun i => real_of_bit (x1 i) (Host.reduce_andi_all _ _ _ _ _ hb i)
  have r2 : ∀ i, ∃ r : ℝ, x2 i = (r : EReal) := fun i => real_of_bit (x2 i) (Host.reduce_andi_all _ _ _ _ _ hc i)
  choose f0 h0 using r0
  choose f1 h1 using r1
  choose f2 h2 using r2
  exact ⟨fun R J => f0 (ix2 R J), fun R J => f1 (ix2 R J), fun H R => f2 (ix2 H R), ⟨fun _ _ => h0 _, fun _ _ => h1 _, fun _ _ => h2 _⟩⟩

end Cert.KernelIdeal.Hand
-- ==== Proof.Value.lean ====
module

public import proofs.«01_k».proof.Defs
public import proofs.«01_k».proof.Proof.Gen.ReferenceIdeal.Run
public import proofs.«01_k».proof.Proof.Tie
public import proofs.«01_k».proof.Proof.Finite

@[expose] public section

noncomputable section

namespace Cert.Hand

open Idealize.ShloMosaic Idealize.SL.Sem
open Cert.KernelIdeal.Hand (Reals G0 G1 G2)

/-- The value claim: both programs end with the attention's gradients, at arguments that are real arrays. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  choose a b u hr using fun c => Cert.KernelIdeal.Hand.reals_of_finite _ _ _ (hpre c)
  refine ⟨fun c => G0 (a c) (b c) (u c), fun c => G1 (a c) (b c) (u c), fun c => G2 (a c) (b c) (u c),
    Cert.KernelIdeal.Hand.run_real m g a b u hr, ?_⟩
  refine (θ_run _ _ _).mono (fun r h c => ?_) (Cert.ReferenceIdeal.Value.run m' g')
  obtain ⟨e0, e1, e2⟩ := hargs c
  have hr' : Reals (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (a c) (b c) (u c) := by
    rw [e0, e1, e2]; exact hr c
  obtain ⟨h0, h1, h2, h3, h4, h5⟩ := h c
  exact ⟨h0.trans ((Cert.ReferenceIdeal.Read.val_main_v94_eq m' c).trans (Cert.ReferenceIdeal.Hand.v94_eq hr')),
    h1.trans ((Cert.ReferenceIdeal.Read.val_main_v95_eq m' c).trans (Cert.ReferenceIdeal.Hand.v95_eq hr')),
    h2.trans ((Cert.ReferenceIdeal.Read.val_main_v97_eq m' c).trans (Cert.ReferenceIdeal.Hand.v97_eq hr')), h3, h4, h5⟩

end Cert.Hand

end
-- ==== Proof.FfnAct.lean ====
module

public import proofs.«01_k».proof.Defs
public import proofs.«01_k».proof.Proof.Finite
public import proofs.«01_k».proof.Proof.Gen.Kernel2Ideal.Value
public import proofs.«01_k».proof.Proof.Gen.Reference2Ideal.Run
public import proofs.«01_k».proof.Proof.Gen.Pre_finite2
public import Idealize.ShloMosaic.Lib.Pipeline.ValueKit

@[expose] public section

noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat)

/-! The gradients of the gate and of the other half, from the gradient of the layer's output. -/

variable (m : (ℓ : Loc nD τ sig) → Buf (Elt Ideal) ℓ) (ρ : Dev nD → PrngReg)

/-- The gradient of the gated product: row `r` of the output's gradient times row `f` of the weight. -/
def dact (dy : Vec Ideal S2048x1024 .bf16) (w : Vec Ideal S2816x1024 .bf16) (i : S2048x2816.Idx) : EReal :=
  ∑ k : Fin 1024, (dy (ix2 (i 0) k) * w (ix2 (i 1) k) : EReal)

/-- The logistic function. -/
def sg (g : EReal) : EReal := Ideal.div 1 (1 + Ideal.exp (0 - g))

/-- The gate's gradient at one element. -/
def dg (a g u : EReal) : EReal := (a * u) * (sg g * (1 + g * (1 - sg g)))

/-- The other half's gradient at one element. -/
def du (a g : EReal) : EReal := a * (g * sg g)

def dgate (dy : Vec Ideal S2048x1024 .bf16) (w : Vec Ideal S2816x1024 .bf16) (g u : Vec Ideal S2048x2816 .bf16) : Vec Ideal S2048x2816 .bf16 :=
  fun i => dg (dact dy w i) (g i) (u i)

def dup (dy : Vec Ideal S2048x1024 .bf16) (w : Vec Ideal S2816x1024 .bf16) (g : Vec Ideal S2048x2816 .bf16) : Vec Ideal S2048x2816 .bf16 :=
  fun i => du (dact dy w i) (g i)

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)

/-- One block of the product. -/
theorem pay1_at (x : Vec Ideal S2048x1024 .bf16) (w : Vec Ideal S256x1024 .bf16) (y : S2048x256.Idx) :
    k0_pay1 x w y = ∑ k : Fin 1024, (x (ix2 (y 0) k) * w (ix2 (y 1) k) : EReal) := by
  rw [eq_ix2 y]
  pointwise [k0_pay1]

theorem pay4_at (x : Vec Ideal S2048x1024 .bf16) (w : Vec Ideal S256x1024 .bf16) (g u : Vec Ideal S2048x256 .bf16) (y : S2048x256.Idx) :
    k0_pay4 x w g u y = dg (k0_pay1 x w y) (g y) (u y) := by
  pointwise [k0_pay4, k0_pay3, k0_pay2, dg, sg]

theorem pay5_at (x : Vec Ideal S2048x1024 .bf16) (w : Vec Ideal S256x1024 .bf16) (g : Vec Ideal S2048x256 .bf16) (y : S2048x256.Idx) :
    k0_pay5 x w g y = du (k0_pay1 x w y) (g y) := by
  pointwise [k0_pay5, k0_pay3, k0_pay2, du, sg]

theorem dact_blk (c : Dev nD) (t : Fin cfg0.N) (y : S2048x256.Idx) (i : S2048x2816.Idx) (h0 : (i 0).val = (y 0).val) (h1 : (i 1).val = 256 * t.val + (y 1).val) :
    k0_pay1 (iblk m c 0 t) (iblk m c 1 t) y = dact (m ((c : Thread nD τ).loc main_arg0)) (m ((c : Thread nD τ).loc main_arg1)) i := by
  refine (pay1_at _ _ y).trans ?_
  unfold dact
  refine Finset.sum_congr rfl fun r _ => ?_
  congr 1
  · blk_ext! [iblk, V, idx0 t, h0]
  · blk_ext! [iblk, V, idx1 t, h1]

theorem final4 (c : Dev nD) : (dats m 0 c).arrAt 4 cfg0.N = dgate (m ((c : Thread nD τ).loc main_arg0)) (m ((c : Thread nD τ).loc main_arg1)) (m ((c : Thread nD τ).loc main_arg2)) (m ((c : Thread nD τ).loc main_arg3)) := by
  refine Dat.arrAt_eq_of_covers _ 4 _ (by decide +kernel) fun t hf y => ?_
  blk_simp
  rw [after0_4]
  frame_out
  refine (pay4_at _ _ _ _ y).trans ?_
  unfold dgate
  congr 1
  refine dact_blk m c t y _ ?_ ?_ <;> blk_simp <;> simp [idx4 t, mul_comm]

theorem final5 (c : Dev nD) : (dats m 0 c).arrAt 5 cfg0.N = dup (m ((c : Thread nD τ).loc main_arg0)) (m ((c : Thread nD τ).loc main_arg1)) (m ((c : Thread nD τ).loc main_arg2)) := by
  refine Dat.arrAt_eq_of_covers _ 5 _ (by decide +kernel) fun t hf y => ?_
  blk_simp
  rw [after0_5]
  frame_out
  refine (pay5_at _ _ _ y).trans ?_
  unfold dup
  congr 1
  refine dact_blk m c t y _ ?_ ?_ <;> blk_simp <;> simp [idx5 t, mul_comm]

/-- The logistic function of a real number, and of the infinities. -/
theorem sg_coe (x : ℝ) : sg (x : EReal) = ((1 / (1 + Real.exp (-x)) : ℝ) : EReal) := by
  have h : (1 + Real.exp (-x)) ≠ 0 := by positivity
  have e : (1 : EReal) + ((Real.exp (-x) : ℝ) : EReal) = ((1 + Real.exp (-x) : ℝ) : EReal) := by norm_cast
  unfold sg
  rw [zero_sub, ← EReal.coe_neg, Ideal.exp_coe, e]
  rw [Ideal.div_coe h, one_mul]

theorem sg_top : sg ⊤ = 1 := by
  have e : Ideal.exp ⊥ = 0 := rfl
  unfold sg
  rw [zero_sub, EReal.neg_top, e, add_zero]
  simp [Ideal.div]

theorem sg_bot : sg ⊥ = 0 := by
  have e : Ideal.exp ⊤ = ⊤ := rfl
  have e1 : (1 : EReal) + ⊤ = ⊤ := rfl
  unfold sg
  rw [zero_sub, EReal.neg_bot, e, e1]
  simp [Ideal.div]

theorem one_sub_one : (1 : EReal) - 1 = 0 := by
  rw [← EReal.coe_one, ← EReal.coe_sub]; simp

/-- The gate's gradient as the derivative of a product of three factors gives it, at a real coefficient. -/
theorem dg_eq (a u : ℝ) (g : EReal) :
    ((a : EReal) * u) * sg g + (g * ((a : EReal) * u)) * (sg g * (1 - sg g)) = dg a g u := by
  unfold dg
  induction g using EReal.rec with
  | coe x =>
    rw [sg_coe]
    norm_cast
    ring_nf
  | top => simp [sg_top, one_sub_one]
  | bot => simp [sg_bot]

end Cert.Kernel2Ideal.Hand

namespace Cert.Reference2Ideal.Hand

open Cert.Reference2Ideal Cert.Reference2Ideal.Gen
open Idealize.ShloMosaic Idealize.ShloMosaic.TcCoe Idealize.SL.Sem
open Cert.Kernel2Ideal.Hand (dact dgate dup sg dg du)

/-- The reference's product. -/
abbrev full (dy : Vec Ideal S2048x1024 .bf16) (w : Vec Ideal S2816x1024 .bf16) : FVec Ideal S2048x2816 .f32 :=
  Host.dotGeneral dot_S2048x1024_S2816x1024_S2048x2816_1_1_0_0_n_n none (extf .f32 dy bitsLt_bf16_f32) (extf .f32 w bitsLt_bf16_f32)

/-- The reference's logistic function. -/
abbrev logistic (g : FVec Ideal S2048x2816 .f32) : FVec Ideal S2048x2816 .f32 :=
  Host.divf (broadcastInDim S2048x2816 ![] bcast_S_S2048x2816 (constant S_ .f32 0x3F800000#32)) (addf (broadcastInDim S2048x2816 ![] bcast_S_S2048x2816 (constant S_ .f32 0x3F800000#32)) (Host.exp (Host.negf g)))

theorem full_at (dy : Vec Ideal S2048x1024 .bf16) (w : Vec Ideal S2816x1024 .bf16) (i : S2048x2816.Idx) : full dy w i = dact dy w i := by
  rw [eq_ix2 i]
  pointwise [full, dact]

theorem logistic_at (g : FVec Ideal S2048x2816 .f32) (i : S2048x2816.Idx) : logistic g i = sg (g i) := by
  pointwise [logistic, sg]
  rw [zero_sub]

theorem dgate_at (dy : Vec Ideal S2048x1024 .bf16) (w : Vec Ideal S2816x1024 .bf16) (g u : Vec Ideal S2048x2816 .bf16)
    (hy : ∀ i, ∃ r : ℝ, dy i = (r : EReal)) (hw : ∀ i, ∃ r : ℝ, w i = (r : EReal)) (hu : ∀ i, ∃ r : ℝ, u i = (r : EReal)) :
    (truncf .bf16 (addf (mulf (mulf (full dy w) (extf .f32 u bitsLt_bf16_f32)) (logistic (extf .f32 g bitsLt_bf16_f32)))
      (mulf (mulf (extf .f32 g bitsLt_bf16_f32) (mulf (full dy w) (extf .f32 u bitsLt_bf16_f32)))
        (mulf (logistic (extf .f32 g bitsLt_bf16_f32)) (subf (broadcastInDim S2048x2816 ![] bcast_S_S2048x2816 (constant S_ .f32 0x3F800000#32)) (logistic (extf .f32 g bitsLt_bf16_f32)))))) bitsLt_bf16_f32 : FVec Ideal S2048x2816 .bf16)
      = dgate dy w g u := by
  funext i
  choose y hy using hy
  choose v hv using hw
  obtain ⟨b, hb⟩ := hu i
  have ha : dact dy w i = ((∑ k : Fin 1024, y (ix2 (i 0) k) * v (ix2 (i 1) k) : ℝ) : EReal) := by
    unfold dact
    rw [Cert.KernelIdeal.Hand.coe_sum]
    refine Finset.sum_congr rfl fun k _ => ?_
    rw [hy, hv, ← EReal.coe_mul]
  have e := Cert.Kernel2Ideal.Hand.dg_eq (∑ k : Fin 1024, y (ix2 (i 0) k) * v (ix2 (i 1) k)) b (g i)
  rw [← ha, ← hb] at e
  refine .trans ?_ e
  rw [← full_at, show sg (g i) = logistic (extf .f32 g bitsLt_bf16_f32) i from (logistic_at _ i).symm]
  generalize full dy w = A
  generalize logistic (extf .f32 g bitsLt_bf16_f32) = L
  pointwise

theorem dup_at (dy : Vec Ideal S2048x1024 .bf16) (w : Vec Ideal S2816x1024 .bf16) (g : Vec Ideal S2048x2816 .bf16) :
    (truncf .bf16 (mulf (mulf (extf .f32 g bitsLt_bf16_f32) (logistic (extf .f32 g bitsLt_bf16_f32))) (full dy w)) bitsLt_bf16_f32 : FVec Ideal S2048x2816 .bf16)
      = dup dy w g := by
  funext i
  unfold dup du
  rw [← full_at, show sg (g i) = logistic (extf .f32 g bitsLt_bf16_f32) i from (logistic_at _ i).symm, mul_comm]
  generalize full dy w = A
  generalize logistic (extf .f32 g bitsLt_bf16_f32) = L
  pointwise

end Cert.Reference2Ideal.Hand

namespace Cert.Hand

open Idealize.ShloMosaic Idealize.SL.Sem
open Cert.KernelIdeal.Hand (real_of_bit and_bits)

/-- Arguments that the precondition accepts are real, but for the saved gate. -/
theorem reals_of_finite2 (x0 : FVec Ideal Cert.Pre_finite2.S2048x1024 .bf16) (x1 : FVec Ideal Cert.Pre_finite2.S2816x1024 .bf16) (x2 x3 : FVec Ideal Cert.Pre_finite2.S2048x2816 .bf16)
    (h : Cert.Pre_finite2.fn (F := Ideal) x0 x1 x2 x3 = fun _ => 1#1) :
    (∀ i, ∃ r : ℝ, x0 i = (r : EReal)) ∧ (∀ i, ∃ r : ℝ, x1 i = (r : EReal)) ∧ (∀ i, ∃ r : ℝ, x3 i = (r : EReal)) := by
  have h := congrFun h (Shape.Idx.first (by decide))
  dsimp only [Cert.Pre_finite2.fn] at h
  simp only [andi, IntOp.andi] at h
  haveI : Subsingleton Cert.Pre_finite2.S_.Idx := ⟨fun x y => funext fun a => a.elim0⟩
  obtain ⟨hab, hc⟩ := and_bits _ _ h
  obtain ⟨ha, hb⟩ := and_bits _ _ hab
  exact ⟨fun i => real_of_bit (x0 i) (Host.reduce_andi_all _ _ _ _ _ ha i), fun i => real_of_bit (x1 i) (Host.reduce_andi_all _ _ _ _ _ hb i),
    fun i => real_of_bit (x3 i) (Host.reduce_andi_all _ _ _ _ _ hc i)⟩

/-- The value claim of the gradients of the gated product. -/
theorem value2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    Cert.Kernel2Ideal.Value.run_blocks m g, ?_⟩
  refine (θ_run _ _ _).mono (fun r h c => ?_) (Cert.Reference2Ideal.Value.run m' g')
  obtain ⟨e0, e1, e2, e3⟩ := hargs c
  obtain ⟨h0, h1, h2⟩ := h c
  obtain ⟨r0, r1, r3⟩ := reals_of_finite2 _ _ _ _ (hpre c)
  rw [e0, e1, e2, e3] at h0
  rw [e0, e1, e2] at h1
  refine ⟨h0.trans ?_, h1.trans ?_, h2⟩
  · exact (Cert.Reference2Ideal.Hand.dgate_at _ _ _ _ r0 r1 r3).trans (Cert.Kernel2Ideal.Hand.final4 m c).symm
  · exact (Cert.Reference2Ideal.Hand.dup_at _ _ _).trans (Cert.Kernel2Ideal.Hand.final5 m c).symm

end Cert.Hand

end
-- ==== Proof.Dw.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit

@[expose] public section

noncomputable section

namespace Cert.Kernel3Ideal.Hand

open Cert.Kernel3Ideal Cert.Kernel3Ideal.Gen
open Idealize.ShloMosaic Idealize.ShloMosaic.TcCoe Idealize.SL.Sem
open Idealize.ShloMosaic.Pipeline (Dat)

/-! The gradient of a weight: the product of the layer's input, transposed, with the gradient of its output. -/

variable (m : (ℓ : Loc nD τ sig) → Buf (Elt Ideal) ℓ) (ρ : Dev nD → PrngReg)

/-- The product over the rows. -/
def G (a : Vec Ideal S2048x2816 .bf16) (d : Vec Ideal S2048x1024 .bf16) : Vec Ideal S2816x1024 .bf16 :=
  fun i => ∑ r : Fin 2048, (a (ix2 r (i 0)) * d (ix2 r (i 1)) : EReal)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- One block of the product. -/
theorem pay_at (x : Vec Ideal S2048x1408 .bf16) (d : Vec Ideal S2048x1024 .bf16) (y : S1408x1024.Idx) :
    k0_pay1 x d y = ∑ r : Fin 2048, (x (ix2 r (y 0)) * d (ix2 r (y 1)) : EReal) := by
  rw [eq_ix2 y]
  pointwise [k0_pay1]

/-- The array after the launch. -/
theorem final (c : Dev nD) : (dats m 0 c).arrAt 2 cfg0.N = G (m ((c : Thread nD τ).loc main_arg0)) (m ((c : Thread nD τ).loc main_arg1)) := by
  refine Dat.arrAt_eq_of_covers _ 2 _ (by decide +kernel) fun t hf y => ?_
  blk_simp
  rw [after0_2]
  frame_out
  refine (pay_at _ _ y).trans (Finset.sum_congr rfl fun r _ => ?_)
  congr 1
  · blk_ext! [iblk, V, idx0 t, idx2 t]
  · blk_ext! [iblk, V, idx1 t, idx2 t]

end Cert.Kernel3Ideal.Hand

namespace Cert.Reference3Ideal.Hand

open Cert.Reference3Ideal Cert.Reference3Ideal.Gen
open Idealize.ShloMosaic Idealize.ShloMosaic.TcCoe Idealize.SL.Sem
open Cert.Kernel3Ideal.Hand (G)

/-- The reference's product. -/
theorem ref_at (a : Vec Ideal S2048x2816 .bf16) (d : Vec Ideal S2048x1024 .bf16) :
    (truncf .bf16 (transpose S2816x1024 [1, 0] (Host.dotGeneral dot_S2048x1024_S2048x2816_S1024x2816_0_0_1_1_n_n none (extf .f32 d bitsLt_bf16_f32) (extf .f32 a bitsLt_bf16_f32)) transposes_S1024x2816_S2816x1024_1_0) bitsLt_bf16_f32 : FVec Ideal S2816x1024 .bf16) = G a d := by
  funext i
  rw [eq_ix2 i]
  pointwise
  exact Finset.sum_congr rfl fun r _ => mul_comm _ _

end Cert.Reference3Ideal.Hand

namespace Cert.Hand

open Idealize.ShloMosaic Idealize.SL.Sem

/-- The value claim of a weight's gradient. -/
theorem value3 : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 2 Cert.Kernel3Ideal.cfg0.N, Cert.Kernel3Ideal.Value.run_blocks m g, ?_⟩
  refine (θ_run _ _ _).mono (fun r h c => ?_) (Cert.Reference3Ideal.Value.run m' g')
  obtain ⟨e0, e1⟩ := hargs c
  obtain ⟨h0, h1, h2⟩ := h c
  refine ⟨h0.trans ((Cert.Reference3Ideal.Hand.ref_at _ _).trans ?_), h1, h2⟩
  rw [e0, e1]
  exact (Cert.Kernel3Ideal.Hand.final m c).symm

end Cert.Hand

end
-- ==== Proof.FfnIn.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit

@[expose] public section

noncomputable section

namespace Cert.Kernel5Ideal.Hand

open Cert.Kernel5Ideal Cert.Kernel5Ideal.Gen
open Idealize.ShloMosaic Idealize.ShloMosaic.TcCoe Idealize.SL.Sem
open Idealize.ShloMosaic.Pipeline (Dat)

/-! The SwiGLU layer before its second product: the gate, the other half, and the gated product. -/

variable (m : (ℓ : Loc nD τ sig) → Buf (Elt Ideal) ℓ) (ρ : Dev nD → PrngReg)

/-- The product of row `r` of the input with row `f` of the weight. -/
def prod (h : Vec Ideal S2048x1024 .bf16) (w : Vec Ideal S5632x1024 .bf16) (r : Fin 2048) (f : Fin 5632) : EReal :=
  ∑ k : Fin 1024, (h (ix2 r k) * w (ix2 f k) : EReal)

/-- The gate's row of the weight, and the other half's. -/
def row (s : ℕ) (hs : s + 2816 ≤ 5632) (f : Fin 2816) : Fin 5632 := ⟨s + f.val, by omega⟩

def gate (h : Vec Ideal S2048x1024 .bf16) (w : Vec Ideal S5632x1024 .bf16) : Vec Ideal S2048x2816 .bf16 :=
  fun i => prod h w (i 0) (row 0 (by decide) (i 1))

def up (h : Vec Ideal S2048x1024 .bf16) (w : Vec Ideal S5632x1024 .bf16) : Vec Ideal S2048x2816 .bf16 :=
  fun i => prod h w (i 0) (row 2816 (by decide) (i 1))

/-- A value times its logistic function, times another. -/
def glu (g u : EReal) : EReal := (g * Ideal.div 1 (1 + Ideal.exp (0 - g))) * u

def act (h : Vec Ideal S2048x1024 .bf16) (w : Vec Ideal S5632x1024 .bf16) : Vec Ideal S2048x2816 .bf16 :=
  fun i => glu (gate h w i) (up h w i)

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val + 11, 0] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)

/-- One block of a product. -/
theorem pay1_at (x : Vec Ideal S2048x1024 .bf16) (w : Vec Ideal S256x1024 .bf16) (y : S2048x256.Idx) :
    k0_pay1 x w y = ∑ k : Fin 1024, (x (ix2 (y 0) k) * w (ix2 (y 1) k) : EReal) := by
  rw [eq_ix2 y]
  pointwise [k0_pay1]

theorem pay5_at (x : Vec Ideal S2048x1024 .bf16) (w v : Vec Ideal S256x1024 .bf16) (y : S2048x256.Idx) :
    k0_pay5 x w v y = glu (k0_pay1 x w y) (k0_pay1 x v y) := by
  have e : k0_pay2 x v y = k0_pay1 x v y := rfl
  rw [← e]
  pointwise [k0_pay5, glu]

theorem gate_blk (c : Dev nD) (t : Fin cfg0.N) (y : S2048x256.Idx) (i : S2048x2816.Idx) (h0 : (i 0).val = (y 0).val) (h1 : (i 1).val = 256 * t.val + (y 1).val) :
    k0_pay1 (iblk m c 0 t) (iblk m c 1 t) y = gate (m ((c : Thread nD τ).loc main_arg0)) (m ((c : Thread nD τ).loc main_arg1)) i := by
  refine (pay1_at _ _ y).trans ?_
  unfold gate prod
  refine Finset.sum_congr rfl fun r _ => ?_
  congr 1
  · blk_ext! [iblk, V, idx0 t, h0]
  · blk_ext! [iblk, V, idx1 t, row, h1]

theorem up_blk (c : Dev nD) (t : Fin cfg0.N) (y : S2048x256.Idx) (i : S2048x2816.Idx) (h0 : (i 0).val = (y 0).val) (h1 : (i 1).val = 256 * t.val + (y 1).val) :
    k0_pay1 (iblk m c 0 t) (iblk m c 2 t) y = up (m ((c : Thread nD τ).loc main_arg0)) (m ((c : Thread nD τ).loc main_arg1)) i := by
  refine (pay1_at _ _ y).trans ?_
  unfold up prod
  refine Finset.sum_congr rfl fun r _ => ?_
  congr 1
  · blk_ext! [iblk, V, idx0 t, h0]
  · blk_ext! [iblk, V, idx2 t, row, h1]

theorem final3 (c : Dev nD) : (dats m 0 c).arrAt 3 cfg0.N = gate (m ((c : Thread nD τ).loc main_arg0)) (m ((c : Thread nD τ).loc main_arg1)) := by
  refine Dat.arrAt_eq_of_covers _ 3 _ (by decide +kernel) fun t hf y => ?_
  blk_simp
  rw [after0_3]
  frame_out
  refine gate_blk m c t y _ ?_ ?_ <;> blk_simp <;> simp [idx3 t, mul_comm]

theorem final4 (c : Dev nD) : (dats m 0 c).arrAt 4 cfg0.N = up (m ((c : Thread nD τ).loc main_arg0)) (m ((c : Thread nD τ).loc main_arg1)) := by
  refine Dat.arrAt_eq_of_covers _ 4 _ (by decide +kernel) fun t hf y => ?_
  blk_simp
  rw [after0_4]
  frame_out
  refine up_blk m c t y _ ?_ ?_ <;> blk_simp <;> simp [idx4 t, mul_comm]

theorem final5 (c : Dev nD) : (dats m 0 c).arrAt 5 cfg0.N = act (m ((c : Thread nD τ).loc main_arg0)) (m ((c : Thread nD τ).loc main_arg1)) := by
  refine Dat.arrAt_eq_of_covers _ 5 _ (by decide +kernel) fun t hf y => ?_
  blk_simp
  rw [after0_5]
  frame_out
  refine (pay5_at _ _ _ y).trans (congrArg₂ glu (gate_blk m c t y _ ?_ ?_) (up_blk m c t y _ ?_ ?_)) <;> blk_simp <;> simp [idx5 t, mul_comm]

end Cert.Kernel5Ideal.Hand

namespace Cert.Reference5Ideal.Hand

open Cert.Reference5Ideal Cert.Reference5Ideal.Gen
open Idealize.ShloMosaic Idealize.ShloMosaic.TcCoe Idealize.SL.Sem
open Cert.Kernel5Ideal.Hand (gate up act)

/-- The reference's whole product. -/
abbrev full (h : Vec Ideal S2048x1024 .bf16) (w : Vec Ideal S5632x1024 .bf16) : FVec Ideal S2048x5632 .f32 :=
  Host.dotGeneral dot_S2048x1024_S1024x5632_S2048x5632_1_0_0_1_n_n none (extf .f32 h bitsLt_bf16_f32) (transpose S1024x5632 [1, 0] (extf .f32 w bitsLt_bf16_f32) transposes_S5632x1024_S1024x5632_1_0)

theorem gate_at (h : Vec Ideal S2048x1024 .bf16) (w : Vec Ideal S5632x1024 .bf16) :
    extractStridedSlice S2048x2816 ![0, 0] (full h w) slices_S2048x5632_S2048x2816_0_0 = gate h w := by
  funext i
  rw [eq_ix2 i]
  pointwise [full, gate, Cert.Kernel5Ideal.Hand.prod, Cert.Kernel5Ideal.Hand.row]

theorem up_at (h : Vec Ideal S2048x1024 .bf16) (w : Vec Ideal S5632x1024 .bf16) :
    extractStridedSlice S2048x2816 ![0, 2816] (full h w) slices_S2048x5632_S2048x2816_0_2816 = up h w := by
  funext i
  rw [eq_ix2 i]
  pointwise [full, up, Cert.Kernel5Ideal.Hand.prod, Cert.Kernel5Ideal.Hand.row]

theorem act_at (g u : FVec Ideal S2048x2816 .f32) :
    (truncf .bf16 (mulf (mulf g (Host.divf (broadcastInDim S2048x2816 ![] bcast_S_S2048x2816 (constant S_ .f32 0x3F800000#32)) (addf (broadcastInDim S2048x2816 ![] bcast_S_S2048x2816 (constant S_ .f32 0x3F800000#32)) (Host.exp (Host.negf g))))) u) bitsLt_bf16_f32 : FVec Ideal S2048x2816 .bf16)
      = fun i => Cert.Kernel5Ideal.Hand.glu (g i) (u i) := by
  funext i
  pointwise [Cert.Kernel5Ideal.Hand.glu]
  rw [zero_sub]

end Cert.Reference5Ideal.Hand

namespace Cert.Hand

open Idealize.ShloMosaic Idealize.SL.Sem

/-- The value claim of the SwiGLU layer's first half. -/
theorem value5 : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N,
    fun c => (Cert.Kernel5Ideal.Gen.dats m 0 c).arrAt 5 Cert.Kernel5Ideal.cfg0.N, Cert.Kernel5Ideal.Value.run_blocks m g, ?_⟩
  refine (θ_run _ _ _).mono (fun r h c => ?_) (Cert.Reference5Ideal.Value.run m' g')
  obtain ⟨e0, e1⟩ := hargs c
  obtain ⟨h0, h1, h2, h3, h4⟩ := h c
  rw [e0, e1] at h0 h1 h2
  refine ⟨h0.trans ?_, h1.trans ?_, h2.trans ?_, h3, h4⟩
  · exact (Cert.Reference5Ideal.Hand.gate_at _ _).trans (Cert.Kernel5Ideal.Hand.final3 m c).symm
  · exact (Cert.Reference5Ideal.Hand.up_at _ _).trans (Cert.Kernel5Ideal.Hand.final4 m c).symm
  · refine (Cert.Reference5Ideal.Hand.act_at _ _).trans (.trans ?_ (Cert.Kernel5Ideal.Hand.final5 m c).symm)
    rw [Cert.Reference5Ideal.Hand.gate_at, Cert.Reference5Ideal.Hand.up_at]
    rfl

end Cert.Hand

end
-- ==== Proof.DwMix.lean ====
module

public import proofs.«01_k».proof.Defs
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import Idealize.ShloMosaic.Lib.Pipeline.ValueKit

@[expose] public section

noncomputable section

namespace Cert.Kernel6Ideal.Hand

open Cert.Kernel6Ideal Cert.Kernel6Ideal.Gen
open Idealize.ShloMosaic Idealize.ShloMosaic.TcCoe Idealize.SL.Sem
open Idealize.ShloMosaic.Pipeline (Dat)

/-! The gradient of the mixer's output weight. -/

variable (m : (ℓ : Loc nD τ sig) → Buf (Elt Ideal) ℓ) (ρ : Dev nD → PrngReg)

/-- The product. -/
def G (a : Vec Ideal S2048x1024 .bf16) (b : Vec Ideal S2048x1024 .bf16) : Vec Ideal S1024x1024 .bf16 :=
  fun i => ∑ r : Fin 2048, (a (ix2 r (i 0)) * b (ix2 r (i 1)) : EReal)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

/-- One block of the product. -/
theorem pay_at (x : Vec Ideal S2048x1024 .bf16) (d : Vec Ideal S2048x1024 .bf16) (y : S1024x1024.Idx) :
    k0_pay1 x d y = ∑ r : Fin 2048, (x (ix2 r (y 0)) * d (ix2 r (y 1)) : EReal) := by
  rw [eq_ix2 y]
  pointwise [k0_pay1]

/-- The array after the launch. -/
theorem final (c : Dev nD) : (dats m 0 c).arrAt 2 cfg0.N = G (m ((c : Thread nD τ).loc main_arg0)) (m ((c : Thread nD τ).loc main_arg1)) := by
  refine Dat.arrAt_eq_of_covers _ 2 _ (by decide +kernel) fun t hf y => ?_
  blk_simp
  rw [after0_2]
  frame_out
  refine (pay_at _ _ y).trans ?_
  unfold G
  refine Finset.sum_congr rfl fun r _ => ?_
  congr 1
  · blk_ext! [iblk, V, idx0 t, idx2 t]
  · blk_ext! [iblk, V, idx1 t, idx2 t]

end Cert.Kernel6Ideal.Hand

namespace Cert.Reference6Ideal.Hand

open Cert.Reference6Ideal Cert.Reference6Ideal.Gen
open Idealize.ShloMosaic Idealize.ShloMosaic.TcCoe Idealize.SL.Sem
open Cert.Kernel6Ideal.Hand (G)

/-- The reference's product. -/
theorem ref_at (a : Vec Ideal S2048x1024 .bf16) (d : Vec Ideal S2048x1024 .bf16) :
    (truncf .bf16 (transpose S1024x1024 [1, 0] (Host.dotGeneral dot_S2048x1024_S2048x1024_S1024x1024_0_0_1_1_n_n none (extf .f32 d bitsLt_bf16_f32) (extf .f32 a bitsLt_bf16_f32)) transposes_S1024x1024_S1024x1024_1_0) bitsLt_bf16_f32 : FVec Ideal S1024x1024 .bf16) = G a d := by
  funext i
  rw [eq_ix2 i]
  pointwise
  exact Finset.sum_congr rfl fun r _ => mul_comm _ _

end Cert.Reference6Ideal.Hand

namespace Cert.Kernel7Ideal.Hand

open Cert.Kernel7Ideal Cert.Kernel7Ideal.Gen
open Idealize.ShloMosaic Idealize.ShloMosaic.TcCoe Idealize.SL.Sem
open Idealize.ShloMosaic.Pipeline (Dat)

/-! The gradient of the convolution's input weight, transposed. -/

variable (m : (ℓ : Loc nD τ sig) → Buf (Elt Ideal) ℓ) (ρ : Dev nD → PrngReg)

/-- The product. -/
def G (a : Vec Ideal S2048x1024 .bf16) (b : Vec Ideal S2048x1024 .bf16) : Vec Ideal S1024x1024 .f32 :=
  fun i => ∑ r : Fin 2048, (a (ix2 r (i 0)) * b (ix2 r (i 1)) : EReal)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

/-- One block of the product. -/
theorem pay_at (x : Vec Ideal S2048x1024 .bf16) (d : Vec Ideal S2048x1024 .bf16) (y : S1024x1024.Idx) :
    k0_pay1 x d y = ∑ r : Fin 2048, (x (ix2 r (y 0)) * d (ix2 r (y 1)) : EReal) := by
  rw [eq_ix2 y]
  pointwise [k0_pay1]

/-- The array after the launch. -/
theorem final (c : Dev nD) : (dats m 0 c).arrAt 2 cfg0.N = G (m ((c : Thread nD τ).loc main_arg0)) (m ((c : Thread nD τ).loc main_arg1)) := by
  refine Dat.arrAt_eq_of_covers _ 2 _ (by decide +kernel) fun t hf y => ?_
  blk_simp
  rw [after0_2]
  frame_out
  refine (pay_at _ _ y).trans ?_
  unfold G
  refine Finset.sum_congr rfl fun r _ => ?_
  congr 1
  · blk_ext! [iblk, V, idx0 t, idx2 t]
  · blk_ext! [iblk, V, idx1 t, idx2 t]

end Cert.Kernel7Ideal.Hand

namespace Cert.Reference7Ideal.Hand

open Cert.Reference7Ideal Cert.Reference7Ideal.Gen
open Idealize.ShloMosaic Idealize.ShloMosaic.TcCoe Idealize.SL.Sem
open Cert.Kernel7Ideal.Hand (G)

/-- The reference's product. -/
theorem ref_at (a : Vec Ideal S2048x1024 .bf16) (d : Vec Ideal S2048x1024 .bf16) :
    (transpose S1024x1024 [1, 0] (transpose S1024x1024 [1, 0] (Host.dotGeneral dot_S2048x1024_S2048x1024_S1024x1024_0_0_1_1_n_n none (extf .f32 a bitsLt_bf16_f32) (extf .f32 d bitsLt_bf16_f32)) transposes_S1024x1024_S1024x1024_1_0) transposes_S1024x1024_S1024x1024_1_0 : FVec Ideal S1024x1024 .f32) = G a d := by
  funext i
  rw [eq_ix2 i]
  pointwise
  rfl

end Cert.Reference7Ideal.Hand

namespace Cert.Kernel8Ideal.Hand

open Cert.Kernel8Ideal Cert.Kernel8Ideal.Gen
open Idealize.ShloMosaic Idealize.ShloMosaic.TcCoe Idealize.SL.Sem
open Idealize.ShloMosaic.Pipeline (Dat)

/-! The gradient of the projection's weight to q, k and v, transposed: one product for each of the three. -/

variable (m : (ℓ : Loc nD τ sig) → Buf (Elt Ideal) ℓ) (ρ : Dev nD → PrngReg)

/-- Which of the three a row of the weight belongs to, and which row of that it is. -/
def part (i : Fin 1536) : Fin 3 := ⟨i.val / 512, by omega⟩

def lane (i : Fin 1536) : Fin 512 := ⟨i.val % 512, by omega⟩

/-- The product. -/
def G (a : Vec Ideal S3x2048x512 .bf16) (b : Vec Ideal S2048x1024 .bf16) : Vec Ideal S1536x1024 .f32 :=
  fun i => ∑ r : Fin 2048, (a (ix3 (part (i 0)) r (lane (i 0))) * b (ix2 r (i 1)) : EReal)

theorem idx0 : ∀ t : Fin cfg0.N, win0_0.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- One block of the product. -/
theorem pay_at (x : Vec Ideal S1x2048x512 .bf16) (d : Vec Ideal S2048x1024 .bf16) (y : S512x1024.Idx) :
    k0_pay1 x d y = ∑ r : Fin 2048, (x (ix3 0 r (y 0)) * d (ix2 r (y 1)) : EReal) := by
  rw [eq_ix2 y]
  pointwise [k0_pay1]

/-- The array after the launch. -/
theorem final (c : Dev nD) : (dats m 0 c).arrAt 2 cfg0.N = G (m ((c : Thread nD τ).loc main_arg0)) (m ((c : Thread nD τ).loc main_arg1)) := by
  refine Dat.arrAt_eq_of_covers _ 2 _ (by decide +kernel) fun t hf y => ?_
  blk_simp
  rw [after0_2]
  frame_out
  refine (pay_at _ _ y).trans ?_
  unfold G
  refine Finset.sum_congr rfl fun r _ => ?_
  congr 1
  · blk_ext! [iblk, V, idx0 t, idx2 t, part, lane]
  · blk_ext! [iblk, V, idx1 t, idx2 t]

end Cert.Kernel8Ideal.Hand

namespace Cert.Reference8Ideal.Hand

open Cert.Reference8Ideal Cert.Reference8Ideal.Gen
open Idealize.ShloMosaic Idealize.ShloMosaic.TcCoe Idealize.SL.Sem
open Cert.Kernel8Ideal.Hand (G part lane)

/-! The three parts of the gradient. -/

abbrev part0 (a : FVec Ideal S3x2048x512 .bf16) : FVec Ideal S2048x512 .f32 :=
  shapeCast S2048x512 (extractStridedSlice S1x2048x512 (![0, 0, 0] : Fin 3 → ℕ) (extf .f32 a bitsLt_bf16_f32 : FVec Ideal S3x2048x512 .f32) slices_S3x2048x512_S1x2048x512_0_0_0) shapeCasts_S1x2048x512_S2048x512

abbrev part1 (a : FVec Ideal S3x2048x512 .bf16) : FVec Ideal S2048x512 .f32 :=
  shapeCast S2048x512 (extractStridedSlice S1x2048x512 (![1, 0, 0] : Fin 3 → ℕ) (extf .f32 a bitsLt_bf16_f32 : FVec Ideal S3x2048x512 .f32) slices_S3x2048x512_S1x2048x512_1_0_0) shapeCasts_S1x2048x512_S2048x512

abbrev part2 (a : FVec Ideal S3x2048x512 .bf16) : FVec Ideal S2048x512 .f32 :=
  shapeCast S2048x512 (extractStridedSlice S1x2048x512 (![2, 0, 0] : Fin 3 → ℕ) (extf .f32 a bitsLt_bf16_f32 : FVec Ideal S3x2048x512 .f32) slices_S3x2048x512_S1x2048x512_2_0_0) shapeCasts_S1x2048x512_S2048x512

/-- The three side by side. -/
abbrev joined (a : FVec Ideal S3x2048x512 .bf16) : FVec Ideal S2048x1536 .f32 :=
  ((concatenate S2048x1536 1 [⟨S2048x512, (part0 a : (⟨S2048x512, .f32⟩ : BufTy).Contents (Elt Ideal))⟩, ⟨S2048x512, (part1 a : (⟨S2048x512, .f32⟩ : BufTy).Contents (Elt Ideal))⟩, ⟨S2048x512, (part2 a : (⟨S2048x512, .f32⟩ : BufTy).Contents (Elt Ideal))⟩] concatenates_S2048x512_S2048x512_S2048x512_S2048x1536_d1 : (⟨S2048x1536, .f32⟩ : BufTy).Contents (Elt Ideal)))

/-- The reference's product. -/
theorem ref_at (a : Vec Ideal S3x2048x512 .bf16) (d : Vec Ideal S2048x1024 .bf16) :
    (transpose S1536x1024 [1, 0] (transpose S1024x1536 [1, 0] (Host.dotGeneral dot_S2048x1536_S2048x1024_S1536x1024_0_0_1_1_n_n none (joined a) (extf .f32 d bitsLt_bf16_f32)) transposes_S1536x1024_S1024x1536_1_0) transposes_S1024x1536_S1536x1024_1_0 : FVec Ideal S1536x1024 .f32) = G a d := by
  funext i
  rw [eq_ix2 i]
  pointwise
  unfold G
  refine Finset.sum_congr rfl fun r _ => congrArg (· * d (ix2 r (i 1))) ?_
  have hi : (i 0).val < 1536 := (i 0).isLt
  by_cases h0 : (i 0).val < 512
  · rw [dif_pos h0]
    refine congrArg a (congrArg₂ (fun p l => ix3 p r l) (Fin.ext ?_) (Fin.ext ?_)) <;> simp [part, lane] <;> omega
  · rw [dif_neg h0]
    by_cases h1 : (i 0).val - 512 < 512
    · rw [dif_pos h1]
      refine congrArg a (congrArg₂ (fun p l => ix3 p r l) (Fin.ext ?_) (Fin.ext ?_)) <;> simp [part, lane] <;> omega
    · rw [dif_neg h1]
      refine congrArg a (congrArg₂ (fun p l => ix3 p r l) (Fin.ext ?_) (Fin.ext ?_)) <;> simp [part, lane] <;> omega

end Cert.Reference8Ideal.Hand

namespace Cert.Hand

open Idealize.ShloMosaic Idealize.SL.Sem

/-- The value claim of the output weight's gradient. -/
theorem value6 : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 2 Cert.Kernel6Ideal.cfg0.N, Cert.Kernel6Ideal.Value.run_blocks m g, ?_⟩
  refine (θ_run _ _ _).mono (fun r h c => ?_) (Cert.Reference6Ideal.Value.run m' g')
  obtain ⟨e0, e1⟩ := hargs c
  obtain ⟨h0, h1, h2⟩ := h c
  refine ⟨h0.trans ((Cert.Reference6Ideal.Hand.ref_at _ _).trans ?_), h1, h2⟩
  rw [e0, e1]
  exact (Cert.Kernel6Ideal.Hand.final m c).symm

/-- The value claim of the convolution's input weight's gradient. -/
theorem value7 : Cert.algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 2 Cert.Kernel7Ideal.cfg0.N, Cert.Kernel7Ideal.Value.run_blocks m g, ?_⟩
  refine (θ_run _ _ _).mono (fun r h c => ?_) (Cert.Reference7Ideal.Value.run m' g')
  obtain ⟨e0, e1⟩ := hargs c
  obtain ⟨h0, h1, h2⟩ := h c
  refine ⟨h0.trans ((Cert.Reference7Ideal.Hand.ref_at _ _).trans ?_), h1, h2⟩
  rw [e0, e1]
  exact (Cert.Kernel7Ideal.Hand.final m c).symm

/-- The value claim of the projection's weight's gradient. -/
theorem value8 : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 2 Cert.Kernel8Ideal.cfg0.N, Cert.Kernel8Ideal.Value.run_blocks m g, ?_⟩
  refine (θ_run _ _ _).mono (fun r h c => ?_) (Cert.Reference8Ideal.Value.run m' g')
  obtain ⟨e0, e1⟩ := hargs c
  obtain ⟨h0, h1, h2⟩ := h c
  refine ⟨h0.trans ((Cert.Reference8Ideal.Hand.ref_at _ _).trans ?_), h1, h2⟩
  rw [e0, e1]
  exact (Cert.Kernel8Ideal.Hand.final m c).symm

end Cert.Hand

end
-- ==== Proof.Dcat.lean ====
module

public import proofs.«01_k».proof.Defs
public import proofs.«01_k».proof.Proof.Gen.Kernel9Ideal.Value
public import proofs.«01_k».proof.Proof.Gen.Reference9Ideal.Run
public import Idealize.ShloMosaic.Lib.Pipeline.ValueKit

@[expose] public section

noncomputable section

namespace Cert.Kernel9Ideal.Hand

open Cert.Kernel9Ideal Cert.Kernel9Ideal.Gen
open Idealize.ShloMosaic Idealize.ShloMosaic.TcCoe Idealize.SL.Sem
open Idealize.ShloMosaic.Pipeline (Dat)

/-! A product with a transposed weight. -/

variable (m : (ℓ : Loc nD τ sig) → Buf (Elt Ideal) ℓ) (ρ : Dev nD → PrngReg)

/-- The product. -/
def G (a : Vec Ideal S2048x1024 .bf16) (b : Vec Ideal S1024x1024 .bf16) : Vec Ideal S2048x1024 .f32 :=
  fun i => ∑ k : Fin 1024, (a (ix2 (i 0) k) * b (ix2 (i 1) k) : EReal)

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

/-- One block of the product. -/
theorem pay_at (x : Vec Ideal S2048x1024 .bf16) (d : Vec Ideal S512x1024 .bf16) (y : S2048x512.Idx) :
    k0_pay1 x d y = ∑ k : Fin 1024, (x (ix2 (y 0) k) * d (ix2 (y 1) k) : EReal) := by
  rw [eq_ix2 y]
  pointwise [k0_pay1]

/-- The array after the launch. -/
theorem final (c : Dev nD) : (dats m 0 c).arrAt 2 cfg0.N = G (m ((c : Thread nD τ).loc main_arg0)) (m ((c : Thread nD τ).loc main_arg1)) := by
  refine Dat.arrAt_eq_of_covers _ 2 _ (by decide +kernel) fun t hf y => ?_
  blk_simp
  rw [after0_2]
  frame_out
  refine (pay_at _ _ y).trans ?_
  unfold G
  refine Finset.sum_congr rfl fun r _ => ?_
  congr 1
  · blk_ext! [iblk, V, idx0 t, idx2 t]
  · blk_ext! [iblk, V, idx1 t, idx2 t]

end Cert.Kernel9Ideal.Hand

namespace Cert.Reference9Ideal.Hand

open Cert.Reference9Ideal Cert.Reference9Ideal.Gen
open Idealize.ShloMosaic Idealize.ShloMosaic.TcCoe Idealize.SL.Sem
open Cert.Kernel9Ideal.Hand (G)

/-- The reference's product. -/
theorem ref_at (a : Vec Ideal S2048x1024 .bf16) (d : Vec Ideal S1024x1024 .bf16) :
    (Host.dotGeneral dot_S2048x1024_S1024x1024_S2048x1024_1_1_0_0_n_n none (extf .f32 a bitsLt_bf16_f32) (extf .f32 d bitsLt_bf16_f32) : FVec Ideal S2048x1024 .f32) = G a d := by
  funext i
  rw [eq_ix2 i]
  pointwise
  rfl

end Cert.Reference9Ideal.Hand

namespace Cert.Hand

open Idealize.ShloMosaic Idealize.SL.Sem

/-- The value claim of the product with the transposed output weight. -/
theorem value9 : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 2 Cert.Kernel9Ideal.cfg0.N, Cert.Kernel9Ideal.Value.run_blocks m g, ?_⟩
  refine (θ_run _ _ _).mono (fun r h c => ?_) (Cert.Reference9Ideal.Value.run m' g')
  obtain ⟨e0, e1⟩ := hargs c
  obtain ⟨h0, h1, h2⟩ := h c
  refine ⟨h0.trans ((Cert.Reference9Ideal.Hand.ref_at _ _).trans ?_), h1, h2⟩
  rw [e0, e1]
  exact (Cert.Kernel9Ideal.Hand.final m c).symm

end Cert.Hand

end
-- ==== Proof.ProjQkv.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit

@[expose] public section

noncomputable section

namespace Cert.Kernel10Ideal.Hand

open Cert.Kernel10Ideal Cert.Kernel10Ideal.Gen
open Idealize.ShloMosaic Idealize.ShloMosaic.TcCoe Idealize.SL.Sem
open Idealize.ShloMosaic.Pipeline (Dat)

/-! The projection to q, k and v: the rows of the layer's input weight that belong to them. -/

variable (m : (ℓ : Loc nD τ sig) → Buf (Elt Ideal) ℓ) (ρ : Dev nD → PrngReg)

/-- A column of the result is a row of the weight. -/
def row (f : Fin 1536) : Fin 2568 := ⟨f.val, by omega⟩

/-- The product. -/
def G (a : Vec Ideal S2048x1024 .bf16) (b : Vec Ideal S2568x1024 .bf16) : Vec Ideal S2048x1536 .bf16 :=
  fun i => ∑ k : Fin 1024, (a (ix2 (i 0) k) * b (ix2 (row (i 1)) k) : EReal)

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

/-- One block of the product. -/
theorem pay_at (x : Vec Ideal S2048x1024 .bf16) (d : Vec Ideal S768x1024 .bf16) (y : S2048x768.Idx) :
    k0_pay1 x d y = ∑ k : Fin 1024, (x (ix2 (y 0) k) * d (ix2 (y 1) k) : EReal) := by
  rw [eq_ix2 y]
  pointwise [k0_pay1]

/-- The weight's block at a point: the weight's array ends inside its fourth block, but no point reaches that. -/
theorem wblk (c : Dev nD) (t : Fin cfg0.N) (y : S768x1024.Idx) (i : S2568x1024.Idx) (h0 : (i 0).val = 768 * t.val + (y 0).val) (h1 : (i 1).val = (y 1).val) :
    X0_1 m c t y = m ((c : Thread nD τ).loc main_arg1) i := by
  unfold X0_1 Pipeline.Window.fill
  rw [dif_pos (moved0_1 t y)]
  blk_ext! [iblk, V, idx1 t, h0, h1]

/-- The array after the launch. -/
theorem final (c : Dev nD) : (dats m 0 c).arrAt 2 cfg0.N = G (m ((c : Thread nD τ).loc main_arg0)) (m ((c : Thread nD τ).loc main_arg1)) := by
  refine Dat.arrAt_eq_of_covers _ 2 _ (by decide +kernel) fun t hf y => ?_
  blk_simp
  rw [after0_2, outsAt0]
  frame_out
  refine (pay_at _ _ y).trans ?_
  unfold G
  refine Finset.sum_congr rfl fun r _ => ?_
  congr 1
  · blk_ext! [iblk, V, idx0 t, idx2 t]
  · exact wblk m c t _ _ (by blk_simp; simp [idx2 t, row, mul_comm]) rfl

end Cert.Kernel10Ideal.Hand

namespace Cert.Reference10Ideal.Hand

open Cert.Reference10Ideal Cert.Reference10Ideal.Gen
open Idealize.ShloMosaic Idealize.ShloMosaic.TcCoe Idealize.SL.Sem
open Cert.Kernel10Ideal.Hand (G)

/-- The reference's product. -/
theorem ref_at (a : Vec Ideal S2048x1024 .bf16) (d : Vec Ideal S2568x1024 .bf16) :
    (truncf .bf16 (extractStridedSlice S2048x1536 ![0, 0] (Host.dotGeneral dot_S2048x1024_S1024x2568_S2048x2568_1_0_0_1_n_n none (extf .f32 a bitsLt_bf16_f32) (transpose S1024x2568 [1, 0] (extf .f32 d bitsLt_bf16_f32) transposes_S2568x1024_S1024x2568_1_0)) slices_S2048x2568_S2048x1536_0_0) bitsLt_bf16_f32 : FVec Ideal S2048x1536 .bf16) = G a d := by
  funext i
  rw [eq_ix2 i]
  pointwise
  rfl

end Cert.Reference10Ideal.Hand

namespace Cert.Hand

open Idealize.ShloMosaic Idealize.SL.Sem

/-- The value claim of the projection to q, k and v. -/
theorem value10 : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 2 Cert.Kernel10Ideal.cfg0.N, Cert.Kernel10Ideal.Value.run_blocks m g, ?_⟩
  refine (θ_run _ _ _).mono (fun r h c => ?_) (Cert.Reference10Ideal.Value.run m' g')
  obtain ⟨e0, e1⟩ := hargs c
  obtain ⟨h0, h1, h2⟩ := h c
  refine ⟨h0.trans ((Cert.Reference10Ideal.Hand.ref_at _ _).trans ?_), h1, h2⟩
  rw [e0, e1]
  exact (Cert.Kernel10Ideal.Hand.final m c).symm

end Cert.Hand

end
-- ==== Proof.Prenorm.lean ====
module

public import proofs.«01_k».proof.Defs
public import proofs.«01_k».proof.Proof.Finite
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

noncomputable section

namespace Cert.Kernel4Ideal.Hand

open Cert.Kernel4Ideal Cert.Kernel4Ideal.Gen
open Idealize.ShloMosaic Idealize.ShloMosaic.TcCoe Idealize.SL.Sem
open Idealize.ShloMosaic.Pipeline (Dat)

/-! The gradient through the norm and the modulation of the SwiGLU layer's input, and the column sums the
small parameters' gradients are made of. -/

variable (m : (ℓ : Loc nD τ sig) → Buf (Elt Ideal) ℓ) (ρ : Dev nD → PrngReg)

/-- The row length, 1024, and the norm's small constant. -/
def len : EReal := Ideal.ofBits FTy.f32 1149239296#32
def eps : EReal := Ideal.ofBits FTy.f32 897988541#32

/-- The reciprocal root of a row's mean square. -/
def rs (x : Fin 1024 → EReal) : EReal := Ideal.rsqrt (Ideal.div (∑ k, x k * x k) len + eps)

/-- A row's gradient before the norm's own weight and before the modulation. -/
def dxh (d g s : Fin 1024 → EReal) (j : Fin 1024) : EReal := d j * (1 + s j) * g j

/-- The gradient of a row's input, `e` the gradient that bypasses the layer. -/
def dxRow (d g s x : Fin 1024 → EReal) (e : EReal) (j : Fin 1024) : EReal :=
  e + rs x * (dxh d g s j - x j * rs x * Ideal.div (∑ k, dxh d g s k * (x k * rs x)) len)

/-- A row's share of the column sums: shift, scale, norm weight, and five rows of zeros. -/
def smRow (d g s x : Fin 1024 → EReal) (k : ℕ) (j : Fin 1024) : EReal :=
  if k = 0 then d j else if k = 1 then d j * (x j * rs x * g j) else if k = 2 then d j * (1 + s j) * (x j * rs x) else 0

/-- The gradient of the normed and modulated input: the gate's gradient and the other half's, through the weight. -/
def dh (a b : Vec Ideal S2048x2816 .bf16) (w : Vec Ideal S5632x1024 .bf16) (r : Fin 2048) (j : Fin 1024) : EReal :=
  (∑ k : Fin 2816, (a (ix2 r k) * w (ix2 ⟨k.val, by omega⟩ j) : EReal)) + ∑ k : Fin 2816, (b (ix2 r k) * w (ix2 ⟨2816 + k.val, by omega⟩ j) : EReal)

def rowOf (x : Vec Ideal S2048x1024 .f32) (r : Fin 2048) (k : Fin 1024) : EReal := x (ix2 r k)
def vecOf (g : Vec Ideal S1x1024 .f32) (k : Fin 1024) : EReal := g (ix2 0 k)

def dx (d : Fin 2048 → Fin 1024 → EReal) (x e : Vec Ideal S2048x1024 .f32) (g s : Vec Ideal S1x1024 .f32) : Vec Ideal S2048x1024 .f32 :=
  fun i => dxRow (d (i 0)) (vecOf g) (vecOf s) (rowOf x (i 0)) (e i) (i 1)

def sm (d : Fin 2048 → Fin 1024 → EReal) (x : Vec Ideal S2048x1024 .f32) (g s : Vec Ideal S1x1024 .f32) : Vec Ideal S8x1024 .f32 :=
  fun i => ∑ r : Fin 2048, (smRow (d r) (vecOf g) (vecOf s) (rowOf x r) (i 0).val (i 1) : EReal)

/-! ### The block's values at an element -/

theorem pay5_at (a : Vec Ideal S512x2816 .bf16) (w : Vec Ideal S2816x1024 .bf16) (b : Vec Ideal S512x2816 .bf16) (v : Vec Ideal S2816x1024 .bf16) (r : Fin 512) (j : Fin 1024) :
    k0_pay5 a w b v (ix2 r j) = (∑ k : Fin 2816, (a (ix2 r k) * w (ix2 k j) : EReal)) + ∑ k : Fin 2816, (b (ix2 r k) * v (ix2 k j) : EReal) := by
  pointwise [k0_pay5]

theorem pay6_at (x : Vec Ideal S512x1024 .f32) (r : Fin 512) : k0_pay6 x (ix2 r 0) = rs (fun k => x (ix2 r k)) := by
  pointwise [k0_pay6, rs, len, eps]

theorem pay7_at (x : Vec Ideal S512x1024 .f32) (r : Fin 512) (j : Fin 1024) :
    k0_pay7 x (ix2 r j) = x (ix2 r j) * rs (fun k => x (ix2 r k)) := by
  pointwise [k0_pay7, k0_pay6, rs, len, eps]

theorem pay8_at (s : Vec Ideal S1x1024 .f32) (r : Fin 1) (j : Fin 1024) : k0_pay8 s (ix2 r j) = 1 + s (ix2 r j) := by
  pointwise [k0_pay8]

theorem pay9_at (a : Vec Ideal S512x2816 .bf16) (w : Vec Ideal S2816x1024 .bf16) (b : Vec Ideal S512x2816 .bf16) (v : Vec Ideal S2816x1024 .bf16) (z : Vec Ideal S1x1024 .f32) (r : Fin 1) (j : Fin 1024) :
    k0_pay9 a w b v z (ix2 r j) = z (ix2 r j) + ∑ k : Fin 512, (k0_pay5 a w b v (ix2 k j) : EReal) := by
  unfold k0_pay9
  generalize k0_pay5 a w b v = d
  pointwise []

theorem pay1_at (d xh : Vec Ideal S512x1024 .f32) (z g : Vec Ideal S1x1024 .f32) (r : Fin 1) (j : Fin 1024) :
    k0_pay1 d xh z g (ix2 r j) = z (ix2 r j) + ∑ k : Fin 512, (d (ix2 k j) * (xh (ix2 k j) * g (ix2 0 j)) : EReal) := by
  pointwise [k0_pay1]

theorem pay2_at (d xh : Vec Ideal S512x1024 .f32) (s z : Vec Ideal S1x1024 .f32) (r : Fin 1) (j : Fin 1024) :
    k0_pay2 d xh s z (ix2 r j) = z (ix2 r j) + ∑ k : Fin 512, (d (ix2 k j) * s (ix2 0 j) * xh (ix2 k j) : EReal) := by
  pointwise [k0_pay2]

theorem pay3_at (d : Vec Ideal S512x1024 .f32) (q : Vec Ideal S512x1 .f32) (xh : Vec Ideal S512x1024 .f32) (s g : Vec Ideal S1x1024 .f32) (z : Vec Ideal S512x1024 .f32) (r : Fin 512) (j : Fin 1024) :
    k0_pay3 d q xh s g z (ix2 r j) = z (ix2 r j) + q (ix2 r 0) * (d (ix2 r j) * s (ix2 0 j) * g (ix2 0 j)
      - xh (ix2 r j) * Ideal.div (∑ k, d (ix2 r k) * s (ix2 0 k) * g (ix2 0 k) * xh (ix2 r k)) len) := by
  pointwise [k0_pay3, len]

/-! ### The blocks read from the arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![1, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)

/-- The four arrays the small sums read, and the gradient of the normed input, on one device. -/
abbrev dhOf (c : Dev nD) : Fin 2048 → Fin 1024 → EReal :=
  dh (m ((c : Thread nD τ).loc main_arg0)) (m ((c : Thread nD τ).loc main_arg1)) (m ((c : Thread nD τ).loc main_arg2))

theorem dh_blk (c : Dev nD) (t : Fin cfg0.N) (r : Fin 512) (j : Fin 1024) (R : Fin 2048) (hR : R.val = 512 * t.val + r.val) :
    k0_pay5 (iblk m c 0 t) (iblk m c 1 t) (iblk m c 2 t) (iblk m c 3 t) (ix2 r j) = dhOf m c R j := by
  refine (pay5_at _ _ _ _ r j).trans ?_
  unfold dhOf dh
  congr 1
  · refine Finset.sum_congr rfl fun k _ => ?_
    congr 1
    · blk_ext! [iblk, V, idx0 t, hR, mul_comm]
    · blk_ext! [iblk, V, idx1 t]
  · refine Finset.sum_congr rfl fun k _ => ?_
    congr 1
    · blk_ext! [iblk, V, idx2 t, hR, mul_comm]
    · blk_ext! [iblk, V, idx3 t]

theorem x_blk (c : Dev nD) (t : Fin cfg0.N) (r : Fin 512) (R : Fin 2048) (hR : R.val = 512 * t.val + r.val) :
    (fun k => iblk m c 4 t (ix2 r k)) = rowOf (m ((c : Thread nD τ).loc main_arg3)) R := by
  funext k
  unfold rowOf
  blk_ext! [iblk, V, idx4 t, hR, mul_comm]

theorem e_blk (c : Dev nD) (t : Fin cfg0.N) (r : Fin 512) (j : Fin 1024) (R : Fin 2048) (hR : R.val = 512 * t.val + r.val) :
    iblk m c 5 t (ix2 r j) = m ((c : Thread nD τ).loc main_arg4) (ix2 R j) := by
  blk_ext! [iblk, V, idx5 t, hR, mul_comm]

theorem g_blk (c : Dev nD) (t : Fin cfg0.N) (j : Fin 1024) : iblk m c 6 t (ix2 0 j) = vecOf (m ((c : Thread nD τ).loc main_arg5)) j := by
  unfold vecOf
  blk_ext! [iblk, V, idx6 t]

theorem s_blk (c : Dev nD) (t : Fin cfg0.N) (j : Fin 1024) : iblk m c 7 t (ix2 0 j) = vecOf (m ((c : Thread nD τ).loc main_arg6)) j := by
  unfold vecOf
  blk_ext! [iblk, V, idx7 t]

theorem row_lt (t : Fin cfg0.N) (r : Fin 512) : 512 * t.val + r.val < 2048 := by
  have : t.val < 4 := lt_of_lt_of_eq t.isLt N_0
  omega

/-- One element of a block of the first result. -/
theorem dx_blk (c : Dev nD) (t : Fin cfg0.N) (r : Fin 512) (j : Fin 1024) (R : Fin 2048) (hR : R.val = 512 * t.val + r.val) :
    k0_pay3 (k0_pay5 (iblk m c 0 t) (iblk m c 1 t) (iblk m c 2 t) (iblk m c 3 t)) (k0_pay6 (iblk m c 4 t))
      (k0_pay7 (iblk m c 4 t)) (k0_pay8 (iblk m c 7 t)) (iblk m c 6 t) (iblk m c 5 t) (ix2 r j)
      = dxRow (dhOf m c R) (vecOf (m ((c : Thread nD τ).loc main_arg5))) (vecOf (m ((c : Thread nD τ).loc main_arg6)))
          (rowOf (m ((c : Thread nD τ).loc main_arg3)) R) (m ((c : Thread nD τ).loc main_arg4) (ix2 R j)) j := by
  refine (pay3_at _ _ _ _ _ _ r j).trans ?_
  have hx : ∀ k, iblk m c 4 t (ix2 r k) = rowOf (m ((c : Thread nD τ).loc main_arg3)) R k := congrFun (x_blk m c t r R hR)
  simp only [dh_blk m c t r _ R hR, pay6_at, pay7_at, pay8_at, e_blk m c t r j R hR, g_blk m c t, s_blk m c t, hx]
  rfl

theorem out8 (c : Dev nD) (t : Fin cfg0.N) (y : S512x1024.Idx) (i : S2048x1024.Idx) (hi0 : (i 0).val = 512 * t.val + (y 0).val) (hi1 : (i 1).val = (y 1).val) :
    (outsAt0 m c t.val t.isLt).1 y
      = dx (dhOf m c) (m ((c : Thread nD τ).loc main_arg3)) (m ((c : Thread nD τ).loc main_arg4)) (m ((c : Thread nD τ).loc main_arg5)) (m ((c : Thread nD τ).loc main_arg6)) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  by_cases h0 : t.val % 4 = 0
  · rw [outsAt0_A m c t h0]; frame_out
    exact dx_blk m c t r j' R hi0
  · rw [outsAt0_B m c t h0]; frame_out
    exact dx_blk m c t r j' R hi0

theorem final8 (c : Dev nD) : (dats m 0 c).arrAt 8 cfg0.N
    = dx (dhOf m c) (m ((c : Thread nD τ).loc main_arg3)) (m ((c : Thread nD τ).loc main_arg4)) (m ((c : Thread nD τ).loc main_arg5)) (m ((c : Thread nD τ).loc main_arg6)) := by
  refine Dat.arrAt_eq_of_covers _ 8 _ (by decide +kernel) fun t hf y => ?_
  blk_simp
  rw [after0_8]
  exact out8 m c t y _ (by blk_simp; simp [idx8 t, mul_comm]) (by blk_simp; simp [idx8 t])

/-- Three rows stored over earlier contents, read at an element. -/
theorem rows_read {κ : Kind} {sp : Space} (v : View sig κ sp S8x1024 .f32) (f : v.ty.Contents (Elt Ideal)) (i2 i1 i0)
    (p2 p1 p0 : Vec Ideal S1x1024 .f32) (L : List (View.Piece (Elt Ideal) S8x1024 .f32)) (k : Fin 8) (j : Fin 1024) :
    v.read (Elt Ideal) (v.writes (Elt Ideal) f (⟨Rect.unit (s := S8x1024) ![2, 0] ![1, 1024] i2, p2⟩ :: ⟨Rect.unit (s := S8x1024) ![1, 0] ![1, 1024] i1, p1⟩
      :: ⟨Rect.unit (s := S8x1024) ![0, 0] ![1, 1024] i0, p0⟩ :: L)) (ix2 k j)
      = if k.val = 0 then p0 (ix2 0 j) else if k.val = 1 then p1 (ix2 0 j) else if k.val = 2 then p2 (ix2 0 j)
        else v.read (Elt Ideal) (v.writes (Elt Ideal) f L) (ix2 k j) := by
  by_cases h2 : k.val = 2
  · rw [View.read_writes_cons_rows_of_mem (o := 2) v f i2 p2 _ (ix2 k j) (ix2 0 j) rfl (by simpa using h2) rfl]
    simp [h2]
  · rw [View.read_writes_cons_rows_of_not_mem (o := 2) (W := 1) v f i2 p2 _ (ix2 k j) rfl rfl (by show k.val < 2 ∨ 3 ≤ k.val; omega)]
    by_cases h1 : k.val = 1
    · rw [View.read_writes_cons_rows_of_mem (o := 1) v f i1 p1 _ (ix2 k j) (ix2 0 j) rfl (by simpa using h1) rfl]
      simp [h1]
    · rw [View.read_writes_cons_rows_of_not_mem (o := 1) (W := 1) v f i1 p1 _ (ix2 k j) rfl rfl (by show k.val < 1 ∨ 2 ≤ k.val; omega)]
      by_cases h0 : k.val = 0
      · rw [View.read_writes_cons_rows_of_mem (o := 0) v f i0 p0 _ (ix2 k j) (ix2 0 j) rfl (by simpa using h0) rfl]
        simp [h0]
      · rw [View.read_writes_cons_rows_of_not_mem (o := 0) (W := 1) v f i0 p0 _ (ix2 k j) rfl rfl (by show k.val < 0 ∨ 1 ≤ k.val; omega)]
        simp [h0, h1, h2]

/-- What one grid point adds to an element of the sums. -/
abbrev part (c : Dev nD) (t : Fin cfg0.N) (y : S8x1024.Idx) : EReal :=
  ∑ r : Fin 512, (smRow (dhOf m c ⟨512 * t.val + r.val, row_lt t r⟩) (vecOf (m ((c : Thread nD τ).loc main_arg5))) (vecOf (m ((c : Thread nD τ).loc main_arg6)))
    (rowOf (m ((c : Thread nD τ).loc main_arg3)) ⟨512 * t.val + r.val, row_lt t r⟩) (y 0).val (y 1) : EReal)

theorem add0 (c : Dev nD) (t : Fin cfg0.N) (z : Vec Ideal S1x1024 .f32) (j : Fin 1024) (k : Fin 8) (hk : k.val = 0) :
    k0_pay9 (iblk m c 0 t) (iblk m c 1 t) (iblk m c 2 t) (iblk m c 3 t) z (ix2 0 j) = z (ix2 0 j) + part m c t (ix2 k j) := by
  refine (pay9_at _ _ _ _ z 0 j).trans (congrArg _ (Finset.sum_congr rfl fun r _ => ?_))
  refine (dh_blk m c t r j ⟨512 * t.val + r.val, row_lt t r⟩ rfl).trans ?_
  exact (if_pos hk).symm

theorem add1 (c : Dev nD) (t : Fin cfg0.N) (z : Vec Ideal S1x1024 .f32) (j : Fin 1024) (k : Fin 8) (hk : k.val = 1) :
    k0_pay1 (k0_pay5 (iblk m c 0 t) (iblk m c 1 t) (iblk m c 2 t) (iblk m c 3 t)) (k0_pay7 (iblk m c 4 t)) z (iblk m c 6 t) (ix2 0 j)
      = z (ix2 0 j) + part m c t (ix2 k j) := by
  refine (pay1_at _ _ z _ 0 j).trans (congrArg _ (Finset.sum_congr rfl fun r _ => ?_))
  have hx : ∀ k, iblk m c 4 t (ix2 r k) = rowOf (m ((c : Thread nD τ).loc main_arg3)) ⟨512 * t.val + r.val, row_lt t r⟩ k := congrFun (x_blk m c t r _ rfl)
  rw [dh_blk m c t r j ⟨512 * t.val + r.val, row_lt t r⟩ rfl, pay7_at, g_blk m c t]
  simp only [hx]
  exact ((if_neg (by show ¬ k.val = 0; omega)).trans (if_pos hk)).symm

theorem add2 (c : Dev nD) (t : Fin cfg0.N) (z : Vec Ideal S1x1024 .f32) (j : Fin 1024) (k : Fin 8) (hk : k.val = 2) :
    k0_pay2 (k0_pay5 (iblk m c 0 t) (iblk m c 1 t) (iblk m c 2 t) (iblk m c 3 t)) (k0_pay7 (iblk m c 4 t)) (k0_pay8 (iblk m c 7 t)) z (ix2 0 j)
      = z (ix2 0 j) + part m c t (ix2 k j) := by
  refine (pay2_at _ _ _ z 0 j).trans (congrArg _ (Finset.sum_congr rfl fun r _ => ?_))
  have hx : ∀ k, iblk m c 4 t (ix2 r k) = rowOf (m ((c : Thread nD τ).loc main_arg3)) ⟨512 * t.val + r.val, row_lt t r⟩ k := congrFun (x_blk m c t r _ rfl)
  rw [dh_blk m c t r j ⟨512 * t.val + r.val, row_lt t r⟩ rfl, pay7_at, pay8_at, s_blk m c t]
  simp only [hx]
  exact ((if_neg (by show ¬ k.val = 0; omega)).trans ((if_neg (by show ¬ k.val = 1; omega)).trans (if_pos hk))).symm

theorem add3 (c : Dev nD) (t : Fin cfg0.N) (j : Fin 1024) (k : Fin 8) (hk : ¬ k.val = 0 ∧ ¬ k.val = 1 ∧ ¬ k.val = 2) : part m c t (ix2 k j) = 0 :=
  Finset.sum_eq_zero fun _ _ => (if_neg hk.1).trans ((if_neg hk.2.1).trans (if_neg hk.2.2))

theorem zero_at (y : S8x1024.Idx) : k0_pay4 (F := Ideal) y = 0 := by
  pointwise [k0_pay4]

theorem sums_A (c : Dev nD) (t : Fin cfg0.N) (h0 : t.val % 4 = 0) (y : S8x1024.Idx) :
    (outsAt0 m c t.val t.isLt).2 y = (fun _ => 0 : S8x1024.Idx → EReal) y + part m c t y := by
  obtain ⟨k, j, rfl⟩ : ∃ (k : Fin 8) (j : Fin 1024), y = ix2 k j := ⟨y 0, y 1, eq_ix2 y⟩
  rw [outsAt0_A m c t h0]; frame_out
  rw [← View.read_writes_junk_apply_eq_canon (ms0_9 t).view]
  refine (rows_read _ _ _ _ _ _ _ _ _ k j).trans ?_
  by_cases h0 : k.val = 0
  · rw [if_pos h0, add0 m c t _ j k h0, View.readCov_fill _ _ _ _ _ (by decide)]
    exact congrArg (· + _) (zero_at _)
  by_cases h1 : k.val = 1
  · rw [if_neg h0, if_pos h1, add1 m c t _ j k h1, View.readCov_skip _ _ _ _ _ rfl, View.readCov_fill _ _ _ _ _ (by decide)]
    exact congrArg (· + _) (zero_at _)
  by_cases h2 : k.val = 2
  · rw [if_neg h0, if_neg h1, if_pos h2, add2 m c t _ j k h2, View.readCov_skip _ _ _ _ _ rfl, View.readCov_skip _ _ _ _ _ rfl, View.readCov_fill _ _ _ _ _ (by decide)]
    exact congrArg (· + _) (zero_at _)
  · rw [if_neg h0, if_neg h1, if_neg h2, add3 m c t j k ⟨h0, h1, h2⟩, add_zero]
    exact (congrFun (View.read_writes_full (s := S8x1024) _ _ _ _ _) _).trans (zero_at _)

theorem sums_B (c : Dev nD) (t : Fin cfg0.N) (h0 : ¬ t.val % 4 = 0) (y : S8x1024.Idx) :
    (outsAt0 m c t.val t.isLt).2 y = (outsAt0 m c (t.val - 1) (Nat.lt_of_le_of_lt (Nat.sub_le _ _) t.isLt)).2 y + part m c t y := by
  obtain ⟨k, j, rfl⟩ : ∃ (k : Fin 8) (j : Fin 1024), y = ix2 k j := ⟨y 0, y 1, eq_ix2 y⟩
  rw [outsAt0_B m c t h0]; frame_out
  refine (rows_read _ _ _ _ _ _ _ _ _ k j).trans ?_
  by_cases h0 : k.val = 0
  · rw [if_pos h0, add0 m c t _ j k h0]
    exact congrArg (· + _) (View.ld_unit_apply_of _ _ _ _ _ _ (Fin.forall_fin_two.mpr ⟨h0, (Nat.zero_add _).symm⟩))
  by_cases h1 : k.val = 1
  · rw [if_neg h0, if_pos h1, add1 m c t _ j k h1]
    exact congrArg (· + _) (View.ld_unit_apply_of _ _ _ _ _ _ (Fin.forall_fin_two.mpr ⟨h1, (Nat.zero_add _).symm⟩))
  by_cases h2 : k.val = 2
  · rw [if_neg h0, if_neg h1, if_pos h2, add2 m c t _ j k h2]
    exact congrArg (· + _) (View.ld_unit_apply_of _ _ _ _ _ _ (Fin.forall_fin_two.mpr ⟨h2, (Nat.zero_add _).symm⟩))
  · rw [if_neg h0, if_neg h1, if_neg h2, add3 m c t j k ⟨h0, h1, h2⟩, add_zero, View.writes_nil, Memref.IsWhole.read_unread]

theorem out9 (c : Dev nD) (t : Fin cfg0.N) (ht : t.val + 1 = cfg0.N) (y i : S8x1024.Idx) (hi0 : (i 0).val = (y 0).val) (hi1 : (i 1).val = (y 1).val) :
    (outsAt0 m c t.val t.isLt).2 y
      = sm (dhOf m c) (m ((c : Thread nD τ).loc main_arg3)) (m ((c : Thread nD τ).loc main_arg5)) (m ((c : Thread nD τ).loc main_arg6)) i := by
  obtain rfl : i = y := funext (Fin.forall_fin_two.mpr ⟨Fin.ext hi0, Fin.ext hi1⟩)
  rw [Pipeline.eq_sum_fin_of_reset_step_apply_last (fun n h => (outsAt0 m c n h).2) 4 (fun _ => 0) (part m c)
    (sums_A m c) (sums_B m c) (le_of_eq N_0) t ht i, zero_add]
  unfold sm
  refine Fin.sum_mul_add_congr (S := cfg0.N) (n := 512) fun t r hl => ?_
  have e : (⟨512 * t.val + r.val, row_lt t r⟩ : Fin 2048) = ⟨t.val * 512 + r.val, hl⟩ := Fin.ext (by simp [mul_comm])
  rw [e]

theorem final9 (c : Dev nD) : (dats m 0 c).arrAt 9 cfg0.N
    = sm (dhOf m c) (m ((c : Thread nD τ).loc main_arg3)) (m ((c : Thread nD τ).loc main_arg5)) (m ((c : Thread nD τ).loc main_arg6)) := by
  refine Dat.arrAt_eq_of_covers _ 9 _ (by decide +kernel) fun t hf y => ?_
  have h3 : t.val % 4 = 3 := (flush0_9 t).mp hf
  have hN : t.val < 4 := lt_of_lt_of_eq t.isLt N_0
  blk_simp
  rw [after0_9]
  exact out9 m c t ((by omega : t.val + 1 = 4).trans N_0.symm) y _ (by blk_simp; simp [idx9 t]) (by blk_simp; simp [idx9 t])

end Cert.Kernel4Ideal.Hand

namespace Cert.Reference4Ideal.Hand

open Cert.Reference4Ideal Cert.Reference4Ideal.Gen
open Idealize.ShloMosaic Idealize.ShloMosaic.TcCoe Idealize.SL.Sem

/-- The two halves' gradients side by side. -/
abbrev joined (a b : FVec Ideal S2048x2816 .bf16) : FVec Ideal S2048x5632 .f32 :=
  concatenate S2048x5632 1 [⟨S2048x2816, extf .f32 a bitsLt_bf16_f32⟩, ⟨S2048x2816, extf .f32 b bitsLt_bf16_f32⟩] concatenates_S2048x2816_S2048x2816_S2048x5632_d1

/-- The gradient of the normed and modulated input. -/
def dh (a b : FVec Ideal S2048x2816 .bf16) (w : FVec Ideal S5632x1024 .bf16) : FVec Ideal S2048x1024 .f32 :=
  Host.dotGeneral dot_S2048x5632_S1024x5632_S2048x1024_1_1_0_0_n_n none (joined a b)
    (transpose S1024x5632 [1, 0] (extf .f32 w bitsLt_bf16_f32) transposes_S5632x1024_S1024x5632_1_0)

/-- The mean square of a row, with the small constant. -/
abbrev ms (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

abbrev one (sc : FVec Ideal S1x1024 .f32) : FVec Ideal S2048x1024 .f32 :=
  broadcastInDim S2048x1024 ![0, 1] bcast_S1x1024_S2048x1024_0_1 (addf (broadcastInDim S1x1024 ![] bcast_S_S1x1024 (constant S_ .f32 0x3F800000#32)) sc)

abbrev row (g : FVec Ideal S1x1024 .f32) : FVec Ideal S2048x1024 .f32 := broadcastInDim S2048x1024 ![0, 1] bcast_S1x1024_S2048x1024_0_1 g

abbrev dxh (dh : FVec Ideal S2048x1024 .f32) (g sc : FVec Ideal S1x1024 .f32) : FVec Ideal S2048x1024 .f32 := mulf (mulf dh (one sc)) (row g)

/-- What the gradient of the mean square gives each element of a row, before the element itself. -/
def through (dh x : FVec Ideal S2048x1024 .f32) (g sc : FVec Ideal S1x1024 .f32) : FVec Ideal S2048x1024 .f32 :=
  (broadcastInDim S2048x1024 ![0] bcast_S2048_S2048x1024_0 (Host.reduceAdd (Host.divf (mulf (shapeCast _ (Host.reduceAdd (mulf x (dxh dh g sc)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (ms x)) (ms x)))) (broadcastInDim S2048x1 ![] bcast_S_S2048x1 (constant S_ .f32 0x44800000#32))) (constant S_ .f32 0x00000000#32) reducesTo_S2048x1_S2048_d1 h_S_))

def dx (dh x dres : FVec Ideal S2048x1024 .f32) (g sc : FVec Ideal S1x1024 .f32) : FVec Ideal S2048x1024 .f32 :=
  addf (addf (addf dres (mulf (dxh dh g sc) (broadcastInDim S2048x1024 ![0, 1] bcast_S2048x1_S2048x1024_0_1 (Host.rsqrt (ms x))))) (mulf x (through dh x g sc))) (mulf (through dh x g sc) x)

def sm0 (dh : FVec Ideal S2048x1024 .f32) : FVec Ideal S1x1024 .f32 :=
  (shapeCast _ (Host.reduceAdd dh (constant S_ .f32 0x00000000#32) reducesTo_S2048x1024_S1024_d0 h_S_) shapeCasts_S1024_S1x1024)

def sm1 (dh x : FVec Ideal S2048x1024 .f32) (g : FVec Ideal S1x1024 .f32) : FVec Ideal S1x1024 .f32 :=
  (shapeCast _ (Host.reduceAdd (mulf (mulf (mulf x (broadcastInDim S2048x1024 ![0, 1] bcast_S2048x1_S2048x1024_0_1 (Host.rsqrt (ms x)))) (row g)) dh) (constant S_ .f32 0x00000000#32) reducesTo_S2048x1024_S1024_d0 h_S_) shapeCasts_S1024_S1x1024)

def sm2 (dh x : FVec Ideal S2048x1024 .f32) (sc : FVec Ideal S1x1024 .f32) : FVec Ideal S1x1024 .f32 :=
  (shapeCast _ (Host.reduceAdd (mulf (mulf x (broadcastInDim S2048x1024 ![0, 1] bcast_S2048x1_S2048x1024_0_1 (Host.rsqrt (ms x)))) (mulf dh (one sc))) (constant S_ .f32 0x00000000#32) reducesTo_S2048x1024_S1024_d0 h_S_) shapeCasts_S1024_S1x1024)

def sm (dh x : FVec Ideal S2048x1024 .f32) (g sc : FVec Ideal S1x1024 .f32) : FVec Ideal S8x1024 .f32 :=
  concatenate S8x1024 0 [⟨S1x1024, sm0 dh⟩, ⟨S1x1024, sm1 dh x g⟩, ⟨S1x1024, sm2 dh x sc⟩, ⟨S5x1024, broadcastInDim S5x1024 ![] bcast_S_S5x1024 (constant S_ .f32 0x00000000#32)⟩]
    concatenates_S1x1024_S1x1024_S1x1024_S5x1024_S8x1024_d0

theorem dh_at (a b : FVec Ideal S2048x2816 .bf16) (w : FVec Ideal S5632x1024 .bf16) (r : Fin 2048) (j : Fin 1024) :
    dh a b w (ix2 r j) = Cert.Kernel4Ideal.Hand.dh a b w r j := by
  pointwise [dh, joined]
  rfl

open Cert.Kernel4Ideal.Hand (len eps rs dxRow smRow rowOf vecOf)

/-- Minus one half. -/
def mhalf : EReal := Ideal.ofBits FTy.f32 3204448256#32

/-- What a row's mean square is, with the small constant. -/
def sq (x : Fin 1024 → EReal) : EReal := Ideal.div (∑ k, x k * x k) len + eps

def thru (d g s x : Fin 1024 → EReal) : EReal :=
  ∑ _i : Fin 1, Ideal.div ((∑ k, x k * Cert.Kernel4Ideal.Hand.dxh d g s k) * (mhalf * Ideal.div (rs x) (sq x))) len

theorem through_at (dh x : FVec Ideal S2048x1024 .f32) (g sc : FVec Ideal S1x1024 .f32) (r : Fin 2048) (j : Fin 1024) :
    through dh x g sc (ix2 r j) = thru (rowOf dh r) (vecOf g) (vecOf sc) (rowOf x r) := by
  pointwise [through, ms, one, row, dxh]
  rfl

theorem dx_read (dh x dres : FVec Ideal S2048x1024 .f32) (g sc : FVec Ideal S1x1024 .f32) (r : Fin 2048) (j : Fin 1024) :
    dx dh x dres g sc (ix2 r j) = dres (ix2 r j) + Cert.Kernel4Ideal.Hand.dxh (rowOf dh r) (vecOf g) (vecOf sc) j * rs (rowOf x r)
      + rowOf x r j * thru (rowOf dh r) (vecOf g) (vecOf sc) (rowOf x r) + thru (rowOf dh r) (vecOf g) (vecOf sc) (rowOf x r) * rowOf x r j := by
  rw [← through_at dh x g sc r j]
  unfold dx
  generalize through dh x g sc = q
  pointwise [ms, one, row, dxh]
  rfl

theorem sm0_at (dh : FVec Ideal S2048x1024 .f32) (j : Fin 1024) : sm0 dh (ix2 0 j) = ∑ r : Fin 2048, (rowOf dh r j : EReal) := by
  pointwise [sm0]
  rfl

theorem sm1_at (dh x : FVec Ideal S2048x1024 .f32) (g : FVec Ideal S1x1024 .f32) (j : Fin 1024) :
    sm1 dh x g (ix2 0 j) = ∑ r : Fin 2048, (rowOf x r j * rs (rowOf x r) * vecOf g j * rowOf dh r j : EReal) := by
  pointwise [sm1, ms, row]
  rfl

theorem sm2_at (dh x : FVec Ideal S2048x1024 .f32) (g : FVec Ideal S1x1024 .f32) (j : Fin 1024) :
    sm2 dh x g (ix2 0 j) = ∑ r : Fin 2048, (rowOf x r j * rs (rowOf x r) * (rowOf dh r j * (1 + vecOf g j)) : EReal) := by
  pointwise [sm2, ms, one]
  rfl

theorem sm_read (dh x : FVec Ideal S2048x1024 .f32) (g sc : FVec Ideal S1x1024 .f32) (k : Fin 8) (j : Fin 1024) :
    sm dh x g sc (ix2 k j) = if k.val = 0 then sm0 dh (ix2 0 j) else if k.val = 1 then sm1 dh x g (ix2 0 j) else if k.val = 2 then sm2 dh x sc (ix2 0 j) else 0 := by
  unfold sm
  generalize sm0 dh = s0
  generalize sm1 dh x g = s1
  generalize sm2 dh x sc = s2
  fin_cases k <;> pointwise [] <;> rfl

/-- The column sums are the kernel's, whatever the arrays hold. -/
theorem sm_at (d : FVec Ideal S2048x1024 .f32) (x : FVec Ideal S2048x1024 .f32) (g sc : FVec Ideal S1x1024 .f32) :
    sm d x g sc = Cert.Kernel4Ideal.Hand.sm (rowOf d) x g sc := by
  funext y
  obtain ⟨k, j, rfl⟩ : ∃ (k : Fin 8) (j : Fin 1024), y = ix2 k j := ⟨y 0, y 1, eq_ix2 y⟩
  rw [sm_read]
  unfold Cert.Kernel4Ideal.Hand.sm
  show _ = ∑ r : Fin 2048, (smRow (rowOf d r) (vecOf g) (vecOf sc) (rowOf x r) k.val j : EReal)
  unfold smRow
  by_cases h0 : k.val = 0
  · simp only [h0, ↓reduceIte, sm0_at]
  by_cases h1 : k.val = 1
  · simp only [h1, one_ne_zero, ↓reduceIte, sm1_at]
    exact Finset.sum_congr rfl fun r _ => mul_comm _ _
  by_cases h2 : k.val = 2
  · simp only [h2, OfNat.ofNat_ne_zero, OfNat.ofNat_ne_one, ↓reduceIte, sm2_at]
    exact Finset.sum_congr rfl fun r _ => mul_comm _ _
  · simp only [h0, h1, h2, ↓reduceIte, Finset.sum_const_zero]

theorem len_real : len = ((1024 : ℝ) : EReal) := by
  simp [len, Ideal.ofBits, Ideal.ieee, -EReal.coe_mul]; norm_num

theorem mhalf_real : mhalf = ((-(1 / 2) : ℝ) : EReal) := by
  simp [mhalf, Ideal.ofBits, Ideal.ieee, -EReal.coe_mul]; norm_num

theorem eps_real : ∃ ε : ℝ, 0 < ε ∧ eps = (ε : EReal) := by
  refine ⟨(8796093 : ℝ) / 8796093022208, by norm_num, ?_⟩
  simp [eps, Ideal.ofBits, Ideal.ieee, -EReal.coe_mul]; norm_num

/-- A sum times a factor that is not negative and not infinite. -/
theorem sum_mul_real (f : Fin 1024 → EReal) (a : EReal) (h0 : 0 ≤ a) (h1 : a ≠ ⊤) : ∑ k, f k * a = (∑ k, f k) * a := by
  have h : ∀ S : Finset (Fin 1024), ∑ k ∈ S, f k * a = (∑ k ∈ S, f k) * a := fun S => by
    induction S using Finset.cons_induction with
    | empty => simp
    | cons b S hb ih => rw [Finset.sum_cons, Finset.sum_cons, ih, EReal.right_distrib_of_nonneg_of_ne_top h0 h1]
  exact h Finset.univ

/-- Twice a real multiple of an extended real. -/
theorem twice (S : EReal) (a : ℝ) : S * (a : EReal) + S * (a : EReal) = S * ((a + a : ℝ) : EReal) := by
  have h : ((1 : EReal) + 1) * (S * a) = 1 * (S * a) + 1 * (S * a) := EReal.right_distrib_of_nonneg zero_le_one zero_le_one
  rw [one_mul] at h
  have e : ((a + a : ℝ) : EReal) = ((1 : EReal) + 1) * (a : EReal) := by
    rw [show (1 : EReal) + 1 = ((2 : ℝ) : EReal) by norm_cast, ← EReal.coe_mul]
    exact congrArg _ (by ring)
  rw [← h, e, mul_left_comm]

/-- A square is not negative, and that of an infinite number is infinite. -/
theorem sq_nonneg (a : EReal) : 0 ≤ a * a := by
  induction a using EReal.rec with
  | coe r => rw [← EReal.coe_mul]; exact_mod_cast mul_self_nonneg r
  | top => simp
  | bot => simp

theorem real_of_sq (a : EReal) (h : a * a ≠ ⊤) : ∃ r : ℝ, a = r := by
  induction a using EReal.rec with
  | coe r => exact ⟨r, rfl⟩
  | top => exact absurd (by simp) h
  | bot => exact absurd (by simp) h

/-- A row with an infinite element has an infinite mean square. -/
theorem sq_top (x : Fin 1024 → EReal) (k : Fin 1024) (h : x k * x k = ⊤) : sq x = ⊤ := by
  have hs : ∑ k, x k * x k = ⊤ := top_le_iff.mp (h.symm.trans_le (Finset.single_le_sum (f := fun k => x k * x k) (fun i _ => sq_nonneg (x i)) (Finset.mem_univ k)))
  obtain ⟨ε, he, hε⟩ := eps_real
  unfold sq
  rw [hs, len_real, Ideal.div_coe (by norm_num), hε, EReal.top_mul_coe_of_pos (by norm_num), EReal.top_add_coe]

/-- The gradient of a row: the reference's two equal terms through the mean square are the kernel's one. An infinite
element makes the reciprocal root 0, and both sides the bypassing gradient; otherwise that root is a positive number. -/
theorem row_eq (d g s x : Fin 1024 → EReal) (e : EReal) (j : Fin 1024) :
    e + Cert.Kernel4Ideal.Hand.dxh d g s j * rs x + x j * thru d g s x + thru d g s x * x j = dxRow d g s x e j := by
  unfold dxRow thru
  generalize Cert.Kernel4Ideal.Hand.dxh d g s = D
  by_cases hinf : ∃ k, x k * x k = ⊤
  · obtain ⟨k, hk⟩ := hinf
    have hsq := sq_top x k hk
    have hrs : rs x = 0 := by
      show Ideal.rsqrt (sq x) = 0
      rw [hsq]; rfl
    have hz : Ideal.div 0 (⊤ : EReal) = 0 := by simp [Ideal.div]
    simp only [hrs, hsq, hz, mul_zero, zero_mul, add_zero, Finset.sum_const_zero, len_real, Ideal.div_coe (show (1024 : ℝ) ≠ 0 by norm_num)]
  · have hx : ∀ k, ∃ a : ℝ, x k = a := fun k => real_of_sq _ fun h => hinf ⟨k, h⟩
    choose x' hx using hx
    obtain ⟨ε, he, hε⟩ := eps_real
    let v : ℝ := (∑ k, x' k * x' k) * (1 / 1024) + ε
    have hv : 0 < v := by
      have : 0 ≤ ∑ k, x' k * x' k := Finset.sum_nonneg fun k _ => mul_self_nonneg _
      positivity
    have hsq : sq x = (v : EReal) := by
      unfold sq
      rw [len_real, Ideal.div_coe (by norm_num)]
      simp only [hx, hε, ← EReal.coe_mul, ← Cert.KernelIdeal.Hand.coe_sum, ← EReal.coe_add, v]
    let ρ : ℝ := (Real.sqrt v)⁻¹
    have hρ0 : 0 ≤ ρ := inv_nonneg.mpr (Real.sqrt_nonneg v)
    have hρ : ρ * ρ = 1 / v := by
      show (Real.sqrt v)⁻¹ * (Real.sqrt v)⁻¹ = 1 / v
      rw [← mul_inv, Real.mul_self_sqrt hv.le, one_div]
    have hrs : rs x = (ρ : EReal) := by
      show Ideal.rsqrt (sq x) = _
      rw [hsq, Ideal.rsqrt_coe, if_neg (not_lt.mpr hv.le), if_neg hv.ne']
    have h1 : ∑ k, D k * (x k * (ρ : EReal)) = (∑ k, x k * D k) * (ρ : EReal) := by
      rw [← sum_mul_real _ _ (by exact_mod_cast hρ0) (EReal.coe_ne_top ρ)]
      exact Finset.sum_congr rfl fun k _ => by rw [← mul_assoc, mul_comm (D k)]
    rw [hrs, hsq, h1, Ideal.div_coe hv.ne', len_real, mhalf_real]
    generalize ∑ k, x k * D k = S
    simp only [hx, Finset.univ_unique, Finset.sum_singleton, Ideal.div_coe (show (1024 : ℝ) ≠ 0 by norm_num), ← EReal.coe_mul]
    have hq : (x' j : EReal) * (S * ((-(1 / 2) * (ρ * (1 / v)) : ℝ) : EReal) * ((1 / 1024 : ℝ) : EReal)) = S * ((x' j * (-(1 / 2) * (ρ * (1 / v))) * (1 / 1024) : ℝ) : EReal) := by
      simp only [EReal.coe_mul]; ac_rfl
    rw [mul_comm (S * _ * _) (x' j : EReal), hq, add_assoc, twice, sub_eq_add_neg, EReal.left_distrib_of_nonneg_of_ne_top (by exact_mod_cast hρ0) (EReal.coe_ne_top ρ), ← add_assoc,
      mul_comm (D j)]
    congr 1
    have hk : (ρ : EReal) * -(((x' j * ρ : ℝ) : EReal) * (S * (ρ : EReal) * ((1 / 1024 : ℝ) : EReal))) = S * ((ρ * -(x' j * ρ * (ρ * (1 / 1024))) : ℝ) : EReal) := by
      rw [← EReal.neg_mul, ← EReal.coe_neg]
      rw [show ρ * -(x' j * ρ * (ρ * (1 / 1024))) = ρ * (-(x' j * ρ)) * ρ * (1 / 1024) by ring]
      simp only [EReal.coe_mul]; ac_rfl
    rw [hk, ← hρ]
    congr 2
    ring

/-- The first result is the kernel's, whatever the arrays hold. -/
theorem dx_at (d x dres : FVec Ideal S2048x1024 .f32) (g sc : FVec Ideal S1x1024 .f32) :
    dx d x dres g sc = Cert.Kernel4Ideal.Hand.dx (rowOf d) x dres g sc := by
  funext y
  obtain ⟨r, j, rfl⟩ : ∃ (r : Fin 2048) (j : Fin 1024), y = ix2 r j := ⟨y 0, y 1, eq_ix2 y⟩
  rw [dx_read]
  exact row_eq _ _ _ _ _ j

theorem rowOf_dh (a b : FVec Ideal S2048x2816 .bf16) (w : FVec Ideal S5632x1024 .bf16) : rowOf (dh a b w) = Cert.Kernel4Ideal.Hand.dh a b w :=
  funext fun r => funext fun j => dh_at a b w r j

end Cert.Reference4Ideal.Hand

namespace Cert.Hand

open Idealize.ShloMosaic Idealize.ShloMosaic.TcCoe Idealize.SL.Sem
/-- The value claim of the gradient through the norm and the modulation before the SwiGLU layer. -/
theorem value4 : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N,
    Cert.Kernel4Ideal.Value.run_blocks m g, ?_⟩
  refine (θ_run _ _ _).mono (fun r h c => ?_) (Cert.Reference4Ideal.Value.run m' g')
  obtain ⟨e0, e1, e2, e3, e4, e5, e6⟩ := hargs c
  obtain ⟨h0, h1, h2⟩ := h c
  have h0' : _ = Cert.Reference4Ideal.Hand.dx (Cert.Reference4Ideal.Hand.dh _ _ _) _ _ _ _ := h0
  have h1' : _ = Cert.Reference4Ideal.Hand.sm (Cert.Reference4Ideal.Hand.dh _ _ _) _ _ _ := h1
  rw [e0, e1, e2, e3, e4, e5, e6] at h0'
  rw [e0, e1, e2, e3, e5, e6] at h1'
  refine ⟨h0'.trans ?_, h1'.trans ?_, h2⟩
  · refine (Cert.Reference4Ideal.Hand.dx_at _ _ _ _ _).trans ?_
    rw [Cert.Reference4Ideal.Hand.rowOf_dh]
    exact (Cert.Kernel4Ideal.Hand.final8 m c).symm
  · refine (Cert.Reference4Ideal.Hand.sm_at _ _ _ _).trans ?_
    rw [Cert.Reference4Ideal.Hand.rowOf_dh]
    exact (Cert.Kernel4Ideal.Hand.final9 m c).symm

end Cert.Hand

end
-- ==== Proof.Postnorm.lean ====
module

public import proofs.«01_k».proof.Defs
public import proofs.«01_k».proof.Proof.Gen.Kernel12Ideal.Value
public import proofs.«01_k».proof.Proof.Gen.Reference12Ideal.Run
public import proofs.«01_k».proof.Proof.Prenorm
public import Idealize.ShloMosaic.Lib.Pipeline.ValueKit
public import Idealize.ShloMosaic.Lib.Pipeline.ReadBack

@[expose] public section

noncomputable section

namespace Cert.Kernel12Ideal.Hand

open Cert.Kernel12Ideal Cert.Kernel12Ideal.Gen
open Idealize.ShloMosaic Idealize.ShloMosaic.TcCoe Idealize.SL.Sem
open Idealize.ShloMosaic.Pipeline (Dat)
open Cert.Kernel4Ideal.Hand (len eps rs dxRow rowOf vecOf)

/-! The gradient through the norm and the gate after a layer, and the column sums that the gradients of the gate
and of the norm's weight are made of. -/

variable (m : (ℓ : Loc nD τ sig) → Buf (Elt Ideal) ℓ) (ρ : Dev nD → PrngReg)

/-- The gradient of a row of the layer's product: that of the norm, under no modulation and with nothing bypassing. -/
def dyRow (dx ga gp y : Fin 1024 → EReal) (j : Fin 1024) : EReal := dxRow (fun k => dx k * ga k) gp (fun _ => 0) y 0 j

/-- A row's share of the column sums: gate, norm weight, and six rows of zeros. -/
def smRow (dx ga gp y : Fin 1024 → EReal) (k : ℕ) (j : Fin 1024) : EReal :=
  if k = 0 then dx j * (y j * rs y * gp j) else if k = 1 then dx j * ga j * (y j * rs y) else 0

def dy (dx y : Vec Ideal S2048x1024 .f32) (ga gp : Vec Ideal S1x1024 .f32) : Vec Ideal S2048x1024 .bf16 :=
  fun i => dyRow (rowOf dx (i 0)) (vecOf ga) (vecOf gp) (rowOf y (i 0)) (i 1)

def sm (dx y : Vec Ideal S2048x1024 .f32) (ga gp : Vec Ideal S1x1024 .f32) : Vec Ideal S8x1024 .f32 :=
  fun i => ∑ r : Fin 2048, (smRow (rowOf dx r) (vecOf ga) (vecOf gp) (rowOf y r) (i 0).val (i 1) : EReal)

/-- The gradient of a row, written out. -/
theorem dyRow_eq (dx ga gp y : Fin 1024 → EReal) (j : Fin 1024) :
    dyRow dx ga gp y j = rs y * (dx j * ga j * gp j - y j * rs y * Ideal.div (∑ k, dx k * ga k * gp k * (y k * rs y)) len) := by
  simp only [dyRow, dxRow, Cert.Kernel4Ideal.Hand.dxh, zero_add, add_zero, mul_one]

/-! ### The block's values at an element -/

theorem pay3_at (y : Vec Ideal S256x1024 .f32) (r : Fin 256) : k0_pay3 y (ix2 r 0) = rs (fun k => y (ix2 r k)) := by
  pointwise [k0_pay3, rs, len, eps]

theorem pay4_at (y : Vec Ideal S256x1024 .f32) (r : Fin 256) (j : Fin 1024) :
    k0_pay4 y (ix2 r j) = y (ix2 r j) * rs (fun k => y (ix2 r k)) := by
  pointwise [k0_pay4, k0_pay3, rs, len, eps]

theorem pay5_at (d : Vec Ideal S256x1024 .f32) (ga : Vec Ideal S1x1024 .f32) (r : Fin 256) (j : Fin 1024) :
    k0_pay5 d ga (ix2 r j) = d (ix2 r j) * ga (ix2 0 j) := by
  pointwise [k0_pay5]

theorem pay6_at (y d : Vec Ideal S256x1024 .f32) (z gp : Vec Ideal S1x1024 .f32) (r : Fin 1) (j : Fin 1024) :
    k0_pay6 y d z gp (ix2 r j) = z (ix2 r j) + ∑ k : Fin 256, (d (ix2 k j) * (k0_pay4 y (ix2 k j) * gp (ix2 0 j)) : EReal) := by
  unfold k0_pay6
  generalize k0_pay4 y = q
  pointwise []

theorem pay7_at (y d : Vec Ideal S256x1024 .f32) (ga z : Vec Ideal S1x1024 .f32) (r : Fin 1) (j : Fin 1024) :
    k0_pay7 y d ga z (ix2 r j) = z (ix2 r j) + ∑ k : Fin 256, (k0_pay5 d ga (ix2 k j) * k0_pay4 y (ix2 k j) : EReal) := by
  unfold k0_pay7
  generalize k0_pay4 y = q
  generalize k0_pay5 d ga = p
  pointwise []

theorem pay1_at (q : Vec Ideal S256x1 .f32) (yh dn : Vec Ideal S256x1024 .f32) (gp : Vec Ideal S1x1024 .f32) (r : Fin 256) (j : Fin 1024) :
    k0_pay1 q yh dn gp (ix2 r j) = q (ix2 r 0) * (dn (ix2 r j) * gp (ix2 0 j)
      - yh (ix2 r j) * Ideal.div (∑ k, dn (ix2 r k) * gp (ix2 0 k) * yh (ix2 r k)) len) := by
  pointwise [k0_pay1, len]

/-! ### The blocks read from the arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

theorem d_blk (c : Dev nD) (t : Fin cfg0.N) (r : Fin 256) (R : Fin 2048) (hR : R.val = 256 * t.val + r.val) (k : Fin 1024) :
    iblk m c 0 t (ix2 r k) = rowOf (m ((c : Thread nD τ).loc main_arg0)) R k := by
  unfold rowOf
  blk_ext! [iblk, V, idx0 t, hR, mul_comm]

theorem y_blk (c : Dev nD) (t : Fin cfg0.N) (r : Fin 256) (R : Fin 2048) (hR : R.val = 256 * t.val + r.val) (k : Fin 1024) :
    iblk m c 1 t (ix2 r k) = rowOf (m ((c : Thread nD τ).loc main_arg1)) R k := by
  unfold rowOf
  blk_ext! [iblk, V, idx1 t, hR, mul_comm]

theorem ga_blk (c : Dev nD) (t : Fin cfg0.N) (j : Fin 1024) : iblk m c 2 t (ix2 0 j) = vecOf (m ((c : Thread nD τ).loc main_arg2)) j := by
  unfold vecOf
  blk_ext! [iblk, V, idx2 t]

theorem gp_blk (c : Dev nD) (t : Fin cfg0.N) (j : Fin 1024) : iblk m c 3 t (ix2 0 j) = vecOf (m ((c : Thread nD τ).loc main_arg3)) j := by
  unfold vecOf
  blk_ext! [iblk, V, idx3 t]

theorem row_lt (t : Fin cfg0.N) (r : Fin 256) : 256 * t.val + r.val < 2048 := by
  have : t.val < 8 := lt_of_lt_of_eq t.isLt N_0
  omega

/-- One element of a block of the first result. -/
theorem dy_blk (c : Dev nD) (t : Fin cfg0.N) (r : Fin 256) (j : Fin 1024) (R : Fin 2048) (hR : R.val = 256 * t.val + r.val) :
    k0_pay1 (k0_pay3 (iblk m c 1 t)) (k0_pay4 (iblk m c 1 t)) (k0_pay5 (iblk m c 0 t) (iblk m c 2 t)) (iblk m c 3 t) (ix2 r j)
      = dyRow (rowOf (m ((c : Thread nD τ).loc main_arg0)) R) (vecOf (m ((c : Thread nD τ).loc main_arg2))) (vecOf (m ((c : Thread nD τ).loc main_arg3))) (rowOf (m ((c : Thread nD τ).loc main_arg1)) R) j := by
  refine (pay1_at _ _ _ _ r j).trans ?_
  simp only [pay3_at, pay4_at, pay5_at, d_blk m c t r R hR, y_blk m c t r R hR, ga_blk m c t, gp_blk m c t]
  exact (dyRow_eq _ _ _ _ j).symm

theorem out4 (c : Dev nD) (t : Fin cfg0.N) (y : S256x1024.Idx) (i : S2048x1024.Idx) (hi0 : (i 0).val = 256 * t.val + (y 0).val) (hi1 : (i 1).val = (y 1).val) :
    (outsAt0 m c t.val t.isLt).1 y = dy (m ((c : Thread nD τ).loc main_arg0)) (m ((c : Thread nD τ).loc main_arg1)) (m ((c : Thread nD τ).loc main_arg2)) (m ((c : Thread nD τ).loc main_arg3)) i := by
  obtain ⟨r, j, rfl⟩ : ∃ (r : Fin 256) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  by_cases h0 : t.val % 8 = 0
  · rw [outsAt0_A m c t h0]; frame_out
    exact dy_blk m c t r j' R hi0
  · rw [outsAt0_B m c t h0]; frame_out
    exact dy_blk m c t r j' R hi0

theorem final4 (c : Dev nD) : (dats m 0 c).arrAt 4 cfg0.N = dy (m ((c : Thread nD τ).loc main_arg0)) (m ((c : Thread nD τ).loc main_arg1)) (m ((c : Thread nD τ).loc main_arg2)) (m ((c : Thread nD τ).loc main_arg3)) := by
  refine Dat.arrAt_eq_of_covers _ 4 _ (by decide +kernel) fun t hf y => ?_
  blk_simp
  rw [after0_4]
  exact out4 m c t y _ (by blk_simp; simp [idx4 t, mul_comm]) (by blk_simp; simp [idx4 t])

/-- Two rows stored over earlier contents, read at an element. -/
theorem rows_read {κ : Kind} {sp : Space} (v : View sig κ sp S8x1024 .f32) (f : v.ty.Contents (Elt Ideal)) (i1 i0)
    (p1 p0 : Vec Ideal S1x1024 .f32) (L : List (View.Piece (Elt Ideal) S8x1024 .f32)) (k : Fin 8) (j : Fin 1024) :
    v.read (Elt Ideal) (v.writes (Elt Ideal) f (⟨Rect.unit (s := S8x1024) ![1, 0] ![1, 1024] i1, p1⟩
      :: ⟨Rect.unit (s := S8x1024) ![0, 0] ![1, 1024] i0, p0⟩ :: L)) (ix2 k j)
      = if k.val = 0 then p0 (ix2 0 j) else if k.val = 1 then p1 (ix2 0 j)
        else v.read (Elt Ideal) (v.writes (Elt Ideal) f L) (ix2 k j) := by
  by_cases h1 : k.val = 1
  · rw [View.read_writes_cons_rows_of_mem (o := 1) v f i1 p1 _ (ix2 k j) (ix2 0 j) rfl (by simpa using h1) rfl]
    simp [h1]
  · rw [View.read_writes_cons_rows_of_not_mem (o := 1) (W := 1) v f i1 p1 _ (ix2 k j) rfl rfl (by show k.val < 1 ∨ 2 ≤ k.val; omega)]
    by_cases h0 : k.val = 0
    · rw [View.read_writes_cons_rows_of_mem (o := 0) v f i0 p0 _ (ix2 k j) (ix2 0 j) rfl (by simpa using h0) rfl]
      simp [h0]
    · rw [View.read_writes_cons_rows_of_not_mem (o := 0) (W := 1) v f i0 p0 _ (ix2 k j) rfl rfl (by show k.val < 0 ∨ 1 ≤ k.val; omega)]
      simp [h0, h1]

/-- What one grid point adds to an element of the sums. -/
abbrev part (c : Dev nD) (t : Fin cfg0.N) (y : S8x1024.Idx) : EReal :=
  ∑ r : Fin 256, (smRow (rowOf (m ((c : Thread nD τ).loc main_arg0)) ⟨256 * t.val + r.val, row_lt t r⟩) (vecOf (m ((c : Thread nD τ).loc main_arg2))) (vecOf (m ((c : Thread nD τ).loc main_arg3))) (rowOf (m ((c : Thread nD τ).loc main_arg1)) ⟨256 * t.val + r.val, row_lt t r⟩) (y 0).val (y 1) : EReal)

theorem add0 (c : Dev nD) (t : Fin cfg0.N) (z : Vec Ideal S1x1024 .f32) (j : Fin 1024) (k : Fin 8) (hk : k.val = 0) :
    k0_pay6 (iblk m c 1 t) (iblk m c 0 t) z (iblk m c 3 t) (ix2 0 j) = z (ix2 0 j) + part m c t (ix2 k j) := by
  refine (pay6_at _ _ z _ 0 j).trans (congrArg _ (Finset.sum_congr rfl fun r _ => ?_))
  simp only [pay4_at, d_blk m c t r ⟨256 * t.val + r.val, row_lt t r⟩ rfl, y_blk m c t r ⟨256 * t.val + r.val, row_lt t r⟩ rfl, gp_blk m c t]
  exact (if_pos hk).symm

theorem add1 (c : Dev nD) (t : Fin cfg0.N) (z : Vec Ideal S1x1024 .f32) (j : Fin 1024) (k : Fin 8) (hk : k.val = 1) :
    k0_pay7 (iblk m c 1 t) (iblk m c 0 t) (iblk m c 2 t) z (ix2 0 j) = z (ix2 0 j) + part m c t (ix2 k j) := by
  refine (pay7_at _ _ _ z 0 j).trans (congrArg _ (Finset.sum_congr rfl fun r _ => ?_))
  simp only [pay4_at, pay5_at, d_blk m c t r ⟨256 * t.val + r.val, row_lt t r⟩ rfl, y_blk m c t r ⟨256 * t.val + r.val, row_lt t r⟩ rfl, ga_blk m c t]
  exact ((if_neg (by show ¬ k.val = 0; omega)).trans (if_pos hk)).symm

theorem add2 (c : Dev nD) (t : Fin cfg0.N) (j : Fin 1024) (k : Fin 8) (hk : ¬ k.val = 0 ∧ ¬ k.val = 1) : part m c t (ix2 k j) = 0 :=
  Finset.sum_eq_zero fun _ _ => (if_neg hk.1).trans (if_neg hk.2)

theorem zero_at (y : S8x1024.Idx) : k0_pay2 (F := Ideal) y = 0 := by
  pointwise [k0_pay2]

theorem sums_A (c : Dev nD) (t : Fin cfg0.N) (h0 : t.val % 8 = 0) (y : S8x1024.Idx) :
    (outsAt0 m c t.val t.isLt).2 y = (fun _ => 0 : S8x1024.Idx → EReal) y + part m c t y := by
  obtain ⟨k, j, rfl⟩ : ∃ (k : Fin 8) (j : Fin 1024), y = ix2 k j := ⟨y 0, y 1, eq_ix2 y⟩
  rw [outsAt0_A m c t h0]; frame_out
  rw [← View.read_writes_junk_apply_eq_canon (ms0_5 t).view]
  refine (rows_read _ _ _ _ _ _ _ k j).trans ?_
  by_cases h0 : k.val = 0
  · rw [if_pos h0, add0 m c t _ j k h0, View.readCov_fill _ _ _ _ _ (by decide)]
    exact congrArg (· + _) (zero_at _)
  by_cases h1 : k.val = 1
  · rw [if_neg h0, if_pos h1, add1 m c t _ j k h1, View.readCov_skip _ _ _ _ _ rfl, View.readCov_fill _ _ _ _ _ (by decide)]
    exact congrArg (· + _) (zero_at _)
  · rw [if_neg h0, if_neg h1, add2 m c t j k ⟨h0, h1⟩, add_zero]
    exact (congrFun (View.read_writes_full (s := S8x1024) _ _ _ _ _) _).trans (zero_at _)

theorem sums_B (c : Dev nD) (t : Fin cfg0.N) (h0 : ¬ t.val % 8 = 0) (y : S8x1024.Idx) :
    (outsAt0 m c t.val t.isLt).2 y = (outsAt0 m c (t.val - 1) (Nat.lt_of_le_of_lt (Nat.sub_le _ _) t.isLt)).2 y + part m c t y := by
  obtain ⟨k, j, rfl⟩ : ∃ (k : Fin 8) (j : Fin 1024), y = ix2 k j := ⟨y 0, y 1, eq_ix2 y⟩
  rw [outsAt0_B m c t h0]; frame_out
  refine (rows_read _ _ _ _ _ _ _ k j).trans ?_
  by_cases h0 : k.val = 0
  · rw [if_pos h0, add0 m c t _ j k h0]
    exact congrArg (· + _) (View.ld_unit_apply_of _ _ _ _ _ _ (Fin.forall_fin_two.mpr ⟨h0, (Nat.zero_add _).symm⟩))
  by_cases h1 : k.val = 1
  · rw [if_neg h0, if_pos h1, add1 m c t _ j k h1]
    exact congrArg (· + _) (View.ld_unit_apply_of _ _ _ _ _ _ (Fin.forall_fin_two.mpr ⟨h1, (Nat.zero_add _).symm⟩))
  · rw [if_neg h0, if_neg h1, add2 m c t j k ⟨h0, h1⟩, add_zero, View.writes_nil, Memref.IsWhole.read_unread]

theorem out5 (c : Dev nD) (t : Fin cfg0.N) (ht : t.val + 1 = cfg0.N) (y i : S8x1024.Idx) (hi0 : (i 0).val = (y 0).val) (hi1 : (i 1).val = (y 1).val) :
    (outsAt0 m c t.val t.isLt).2 y = sm (m ((c : Thread nD τ).loc main_arg0)) (m ((c : Thread nD τ).loc main_arg1)) (m ((c : Thread nD τ).loc main_arg2)) (m ((c : Thread nD τ).loc main_arg3)) i := by
  obtain rfl : i = y := funext (Fin.forall_fin_two.mpr ⟨Fin.ext hi0, Fin.ext hi1⟩)
  rw [Pipeline.eq_sum_fin_of_reset_step_apply_last (fun n h => (outsAt0 m c n h).2) 8 (fun _ => 0) (part m c)
    (sums_A m c) (sums_B m c) (le_of_eq N_0) t ht i, zero_add]
  unfold sm
  refine Fin.sum_mul_add_congr (S := cfg0.N) (n := 256) fun t r hl => ?_
  have e : (⟨256 * t.val + r.val, row_lt t r⟩ : Fin 2048) = ⟨t.val * 256 + r.val, hl⟩ := Fin.ext (by simp [mul_comm])
  rw [e]

theorem final5 (c : Dev nD) : (dats m 0 c).arrAt 5 cfg0.N = sm (m ((c : Thread nD τ).loc main_arg0)) (m ((c : Thread nD τ).loc main_arg1)) (m ((c : Thread nD τ).loc main_arg2)) (m ((c : Thread nD τ).loc main_arg3)) := by
  refine Dat.arrAt_eq_of_covers _ 5 _ (by decide +kernel) fun t hf y => ?_
  have h7 : t.val % 8 = 7 := (flush0_5 t).mp hf
  have hN : t.val < 8 := lt_of_lt_of_eq t.isLt N_0
  blk_simp
  rw [after0_5]
  exact out5 m c t ((by omega : t.val + 1 = 8).trans N_0.symm) y _ (by blk_simp; simp [idx5 t]) (by blk_simp; simp [idx5 t])

end Cert.Kernel12Ideal.Hand

namespace Cert.Reference12Ideal.Hand

open Cert.Reference12Ideal Cert.Reference12Ideal.Gen
open Idealize.ShloMosaic Idealize.ShloMosaic.TcCoe Idealize.SL.Sem
open Cert.Kernel4Ideal.Hand (len eps rs dxRow rowOf vecOf)
open Cert.Reference4Ideal.Hand (mhalf sq thru row_eq)

/-- The mean square of a row, with the small constant. -/
abbrev ms (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

abbrev row (g : FVec Ideal S1x1024 .f32) : FVec Ideal S2048x1024 .f32 := broadcastInDim S2048x1024 ![0, 1] bcast_S1x1024_S2048x1024_0_1 g

/-- The layer's product over its root mean square. -/
abbrev hat (y : FVec Ideal S2048x1024 .f32) : FVec Ideal S2048x1024 .f32 :=
  mulf y (broadcastInDim S2048x1024 ![0, 1] bcast_S2048x1_S2048x1024_0_1 (Host.rsqrt (ms y)))

/-- The gradient of that quotient. -/
abbrev dhat (dx : FVec Ideal S2048x1024 .f32) (ga gp : FVec Ideal S1x1024 .f32) : FVec Ideal S2048x1024 .f32 := mulf (mulf (row ga) dx) (row gp)

/-- What the gradient of the mean square gives each element of a row, before the element itself. -/
def through (dx y : FVec Ideal S2048x1024 .f32) (ga gp : FVec Ideal S1x1024 .f32) : FVec Ideal S2048x1024 .f32 :=
  broadcastInDim S2048x1024 ![0] bcast_S2048_S2048x1024_0 (Host.reduceAdd (Host.divf (mulf (shapeCast _ (Host.reduceAdd (mulf y (dhat dx ga gp)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (ms y)) (ms y)))) (broadcastInDim S2048x1 ![] bcast_S_S2048x1 (constant S_ .f32 0x44800000#32))) (constant S_ .f32 0x00000000#32) reducesTo_S2048x1_S2048_d1 h_S_)

def dy (dx y : FVec Ideal S2048x1024 .f32) (ga gp : FVec Ideal S1x1024 .f32) : FVec Ideal S2048x1024 .bf16 :=
  truncf .bf16 (addf (addf (mulf (dhat dx ga gp) (broadcastInDim S2048x1024 ![0, 1] bcast_S2048x1_S2048x1024_0_1 (Host.rsqrt (ms y)))) (mulf y (through dx y ga gp))) (mulf (through dx y ga gp) y)) bitsLt_bf16_f32

def sm0 (dx y : FVec Ideal S2048x1024 .f32) (gp : FVec Ideal S1x1024 .f32) : FVec Ideal S1x1024 .f32 :=
  shapeCast _ (Host.reduceAdd (mulf dx (mulf (hat y) (row gp))) (constant S_ .f32 0x00000000#32) reducesTo_S2048x1024_S1024_d0 h_S_) shapeCasts_S1024_S1x1024

def sm1 (dx y : FVec Ideal S2048x1024 .f32) (ga : FVec Ideal S1x1024 .f32) : FVec Ideal S1x1024 .f32 :=
  shapeCast _ (Host.reduceAdd (mulf (hat y) (mulf (row ga) dx)) (constant S_ .f32 0x00000000#32) reducesTo_S2048x1024_S1024_d0 h_S_) shapeCasts_S1024_S1x1024

def sm (dx y : FVec Ideal S2048x1024 .f32) (ga gp : FVec Ideal S1x1024 .f32) : FVec Ideal S8x1024 .f32 :=
  concatenate S8x1024 0 [⟨S1x1024, sm0 dx y gp⟩, ⟨S1x1024, sm1 dx y ga⟩, ⟨S6x1024, broadcastInDim S6x1024 ![] bcast_S_S6x1024 (constant S_ .f32 0x00000000#32)⟩]
    concatenates_S1x1024_S1x1024_S6x1024_S8x1024_d0

theorem through_at (dx y : FVec Ideal S2048x1024 .f32) (ga gp : FVec Ideal S1x1024 .f32) (r : Fin 2048) (j : Fin 1024) :
    through dx y ga gp (ix2 r j) = ∑ _i : Fin 1, Ideal.div ((∑ k, rowOf y r k * (vecOf ga k * rowOf dx r k * vecOf gp k)) * (mhalf * Ideal.div (rs (rowOf y r)) (sq (rowOf y r)))) len := by
  pointwise [through, ms, row, dhat]
  rfl

theorem dy_read (dx y : FVec Ideal S2048x1024 .f32) (ga gp : FVec Ideal S1x1024 .f32) (r : Fin 2048) (j : Fin 1024) :
    dy dx y ga gp (ix2 r j) = vecOf ga j * rowOf dx r j * vecOf gp j * rs (rowOf y r)
      + rowOf y r j * through dx y ga gp (ix2 r j) + through dx y ga gp (ix2 r j) * rowOf y r j := by
  unfold dy
  generalize through dx y ga gp = q
  pointwise [ms, row, dhat]
  rfl

/-- The first result is the kernel's, whatever the arrays hold. -/
theorem dy_at (dx y : FVec Ideal S2048x1024 .f32) (ga gp : FVec Ideal S1x1024 .f32) : dy dx y ga gp = Cert.Kernel12Ideal.Hand.dy dx y ga gp := by
  funext i
  obtain ⟨r, j, rfl⟩ : ∃ (r : Fin 2048) (j : Fin 1024), i = ix2 r j := ⟨i 0, i 1, eq_ix2 i⟩
  rw [dy_read, through_at]
  refine Eq.trans ?_ (row_eq (fun k => rowOf dx r k * vecOf ga k) (vecOf gp) (fun _ => 0) (rowOf y r) 0 j)
  simp only [thru, Cert.Kernel4Ideal.Hand.dxh, zero_add, add_zero, mul_one, mul_comm (vecOf ga _)]

theorem sm0_at (dx y : FVec Ideal S2048x1024 .f32) (gp : FVec Ideal S1x1024 .f32) (j : Fin 1024) :
    sm0 dx y gp (ix2 0 j) = ∑ r : Fin 2048, (rowOf dx r j * (rowOf y r j * rs (rowOf y r) * vecOf gp j) : EReal) := by
  pointwise [sm0, hat, ms, row]
  rfl

theorem sm1_at (dx y : FVec Ideal S2048x1024 .f32) (ga : FVec Ideal S1x1024 .f32) (j : Fin 1024) :
    sm1 dx y ga (ix2 0 j) = ∑ r : Fin 2048, (rowOf y r j * rs (rowOf y r) * (vecOf ga j * rowOf dx r j) : EReal) := by
  pointwise [sm1, hat, ms, row]
  rfl

theorem sm_read (dx y : FVec Ideal S2048x1024 .f32) (ga gp : FVec Ideal S1x1024 .f32) (k : Fin 8) (j : Fin 1024) :
    sm dx y ga gp (ix2 k j) = if k.val = 0 then sm0 dx y gp (ix2 0 j) else if k.val = 1 then sm1 dx y ga (ix2 0 j) else 0 := by
  unfold sm
  generalize sm0 dx y gp = s0
  generalize sm1 dx y ga = s1
  fin_cases k <;> pointwise [] <;> rfl

/-- The column sums are the kernel's. -/
theorem sm_at (dx y : FVec Ideal S2048x1024 .f32) (ga gp : FVec Ideal S1x1024 .f32) : sm dx y ga gp = Cert.Kernel12Ideal.Hand.sm dx y ga gp := by
  funext i
  obtain ⟨k, j, rfl⟩ : ∃ (k : Fin 8) (j : Fin 1024), i = ix2 k j := ⟨i 0, i 1, eq_ix2 i⟩
  rw [sm_read]
  unfold Cert.Kernel12Ideal.Hand.sm
  show _ = ∑ r : Fin 2048, (Cert.Kernel12Ideal.Hand.smRow (rowOf dx r) (vecOf ga) (vecOf gp) (rowOf y r) k.val j : EReal)
  unfold Cert.Kernel12Ideal.Hand.smRow
  by_cases h0 : k.val = 0
  · simp only [h0, ↓reduceIte, sm0_at]
  by_cases h1 : k.val = 1
  · simp only [h1, one_ne_zero, ↓reduceIte, sm1_at]
    exact Finset.sum_congr rfl fun r _ => by rw [mul_comm (vecOf ga j), mul_comm]
  · simp only [h0, h1, ↓reduceIte, Finset.sum_const_zero]

end Cert.Reference12Ideal.Hand

namespace Cert.Hand

open Idealize.ShloMosaic Idealize.ShloMosaic.TcCoe Idealize.SL.Sem

/-- The value claim of the gradient through the norm and the gate after a layer. -/
theorem value12 : Cert.algebraic_Kernel12Ideal_Reference12Ideal (hKernel12Ideal := Cert.Kernel12Ideal.Gen.facts)
    (hReference12Ideal := Cert.Reference12Ideal.Gen.facts) := by
  intro m g m' g' _ hargs
  refine ⟨fun c => (Cert.Kernel12Ideal.Gen.dats m 0 c).arrAt 4 Cert.Kernel12Ideal.cfg0.N,
    fun c => (Cert.Kernel12Ideal.Gen.dats m 0 c).arrAt 5 Cert.Kernel12Ideal.cfg0.N, Cert.Kernel12Ideal.Value.run_blocks m g, ?_⟩
  refine (θ_run _ _ _).mono (fun r h c => ?_) (Cert.Reference12Ideal.Value.run m' g')
  obtain ⟨e0, e1, e2, e3⟩ := hargs c
  obtain ⟨h0, h1, h2⟩ := h c
  have h0' : _ = Cert.Reference12Ideal.Hand.dy _ _ _ _ := h0
  have h1' : _ = Cert.Reference12Ideal.Hand.sm _ _ _ _ := h1
  rw [e0, e1, e2, e3] at h0' h1'
  refine ⟨h0'.trans ?_, h1'.trans ?_, h2⟩
  · rw [Cert.Reference12Ideal.Hand.dy_at]
    exact (Cert.Kernel12Ideal.Hand.final4 m c).symm
  · rw [Cert.Reference12Ideal.Hand.sm_at]
    exact (Cert.Kernel12Ideal.Hand.final5 m c).symm

end Cert.Hand

end
-- ==== Proof.FfnOut.lean ====
module

public import proofs.«01_k».proof.Defs
public import proofs.«01_k».proof.Proof.Gen.Kernel13Ideal.Value
public import proofs.«01_k».proof.Proof.Gen.Reference13Ideal.Run
public import proofs.«01_k».proof.Proof.Prenorm
public import Idealize.ShloMosaic.Lib.Pipeline.ValueKit

@[expose] public section

noncomputable section

namespace Cert.Hand

open Cert.Kernel4Ideal.Hand (len eps rs)

/-! What the end of a layer does with a row of its product: the norm, the gate, the residual, and the next norm
with its modulation. -/

/-- A row over the root of its mean square, times a weight. -/
def nrm (y g : Fin 1024 → EReal) (j : Fin 1024) : EReal := y j * rs y * g j

/-- The gated norm of a row added to the row that bypasses the layer. -/
def resRow (y gp ga x : Fin 1024 → EReal) (j : Fin 1024) : EReal := x j + ga j * nrm y gp j

/-- The norm of a row, scaled and shifted. -/
def hidRow (x g s h : Fin 1024 → EReal) (j : Fin 1024) : EReal := nrm x g j * (1 + s j) + h j

end Cert.Hand

namespace Cert.Kernel13Ideal.Hand

open Cert.Kernel13Ideal Cert.Kernel13Ideal.Gen
open Idealize.ShloMosaic Idealize.ShloMosaic.TcCoe Idealize.SL.Sem
open Idealize.ShloMosaic.Pipeline (Dat)
open Cert.Kernel4Ideal.Hand (len eps rs rowOf vecOf)
open Cert.Hand (nrm resRow hidRow)

/-! The end of a SwiGLU layer: its second product, the norm and gate after it, the residual, and the next layer's normed input. -/

variable (m : (ℓ : Loc nD τ sig) → Buf (Elt Ideal) ℓ) (ρ : Dev nD → PrngReg)

/-- The product. -/
def prod (a : Vec Ideal S2048x2816 .bf16) (w : Vec Ideal S2816x1024 .bf16) : Vec Ideal S2048x1024 .f32 :=
  fun i => ∑ k : Fin 2816, (a (ix2 (i 0) k) * w (ix2 k (i 1)) : EReal)

/-- The layer's output: the gated norm of the product, and the residual. -/
def res (y x : Vec Ideal S2048x1024 .f32) (ga gp : Vec Ideal S1x1024 .f32) : Vec Ideal S2048x1024 .f32 :=
  fun i => resRow (rowOf y (i 0)) (vecOf gp) (vecOf ga) (rowOf x (i 0)) (i 1)

/-- The next layer's normed and modulated input. -/
def hid (x : Vec Ideal S2048x1024 .f32) (g sc sh : Vec Ideal S1x1024 .f32) : Vec Ideal S2048x1024 .bf16 :=
  fun i => hidRow (rowOf x (i 0)) (vecOf g) (vecOf sc) (vecOf sh) (i 1)

/-! ### The block's values at an element -/

theorem prod_at (a : Vec Ideal S512x2816 .bf16) (w : Vec Ideal S2816x1024 .bf16) (r : Fin 512) (j : Fin 1024) :
    k0_pay2 a w (ix2 r j) = ∑ k : Fin 2816, (a (ix2 r k) * w (ix2 k j) : EReal) := by
  pointwise [k0_pay2]

theorem res_at (a : Vec Ideal S512x2816 .bf16) (w : Vec Ideal S2816x1024 .bf16) (x : Vec Ideal S512x1024 .f32) (ga gp : Vec Ideal S1x1024 .f32) (r : Fin 512) (j : Fin 1024) :
    k0_pay3 a w x ga gp (ix2 r j) = resRow (fun k => k0_pay2 a w (ix2 r k)) (fun k => gp (ix2 0 k)) (fun k => ga (ix2 0 k)) (fun k => x (ix2 r k)) j := by
  unfold k0_pay3
  generalize k0_pay2 a w = y
  pointwise [resRow, nrm, rs, len, eps]

theorem hid_at (a : Vec Ideal S512x2816 .bf16) (w : Vec Ideal S2816x1024 .bf16) (x : Vec Ideal S512x1024 .f32) (ga gp g sc sh : Vec Ideal S1x1024 .f32) (r : Fin 512) (j : Fin 1024) :
    k0_pay1 (k0_pay4 a w x ga gp g) (k0_pay5 sc) sh (ix2 r j)
      = hidRow (fun k => k0_pay3 a w x ga gp (ix2 r k)) (fun k => g (ix2 0 k)) (fun k => sc (ix2 0 k)) (fun k => sh (ix2 0 k)) j := by
  unfold k0_pay4
  generalize k0_pay3 a w x ga gp = y
  pointwise [k0_pay1, k0_pay5, hidRow, nrm, rs, len, eps]

/-! ### The blocks read from the arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem vec_blk3 (c : Dev nD) (t : Fin cfg0.N) : (fun j => iblk m c 3 t (ix2 0 j)) = vecOf (m ((c : Thread nD τ).loc main_arg3)) := by
  funext j
  unfold vecOf
  blk_ext! [iblk, V, idx3 t]

theorem vec_blk4 (c : Dev nD) (t : Fin cfg0.N) : (fun j => iblk m c 4 t (ix2 0 j)) = vecOf (m ((c : Thread nD τ).loc main_arg4)) := by
  funext j
  unfold vecOf
  blk_ext! [iblk, V, idx4 t]

theorem vec_blk5 (c : Dev nD) (t : Fin cfg0.N) : (fun j => iblk m c 5 t (ix2 0 j)) = vecOf (m ((c : Thread nD τ).loc main_arg5)) := by
  funext j
  unfold vecOf
  blk_ext! [iblk, V, idx5 t]

theorem vec_blk6 (c : Dev nD) (t : Fin cfg0.N) : (fun j => iblk m c 6 t (ix2 0 j)) = vecOf (m ((c : Thread nD τ).loc main_arg6)) := by
  funext j
  unfold vecOf
  blk_ext! [iblk, V, idx6 t]

theorem vec_blk7 (c : Dev nD) (t : Fin cfg0.N) : (fun j => iblk m c 7 t (ix2 0 j)) = vecOf (m ((c : Thread nD τ).loc main_arg7)) := by
  funext j
  unfold vecOf
  blk_ext! [iblk, V, idx7 t]

theorem x_blk (c : Dev nD) (t : Fin cfg0.N) (r : Fin 512) (R : Fin 2048) (hR : R.val = 512 * t.val + r.val) :
    (fun k => iblk m c 2 t (ix2 r k)) = rowOf (m ((c : Thread nD τ).loc main_arg2)) R := by
  funext k
  unfold rowOf
  blk_ext! [iblk, V, idx2 t, hR, mul_comm]

theorem prod_blk (c : Dev nD) (t : Fin cfg0.N) (r : Fin 512) (j : Fin 1024) (R : Fin 2048) (hR : R.val = 512 * t.val + r.val) :
    k0_pay2 (iblk m c 0 t) (iblk m c 1 t) (ix2 r j) = prod (m ((c : Thread nD τ).loc main_arg0)) (m ((c : Thread nD τ).loc main_arg1)) (ix2 R j) := by
  refine (prod_at _ _ r j).trans ?_
  unfold prod
  refine Finset.sum_congr rfl fun k _ => ?_
  congr 1
  · blk_ext! [iblk, V, idx0 t, hR, mul_comm]
  · blk_ext! [iblk, V, idx1 t]

/-- The product and the layer's output on one device. -/
abbrev prodOf (c : Dev nD) : Vec Ideal S2048x1024 .f32 := prod (m ((c : Thread nD τ).loc main_arg0)) (m ((c : Thread nD τ).loc main_arg1))
abbrev resOf (c : Dev nD) : Vec Ideal S2048x1024 .f32 := res (prodOf m c) (m ((c : Thread nD τ).loc main_arg2)) (m ((c : Thread nD τ).loc main_arg3)) (m ((c : Thread nD τ).loc main_arg4))

theorem res_blk (c : Dev nD) (t : Fin cfg0.N) (r : Fin 512) (j : Fin 1024) (R : Fin 2048) (hR : R.val = 512 * t.val + r.val) :
    k0_pay3 (iblk m c 0 t) (iblk m c 1 t) (iblk m c 2 t) (iblk m c 3 t) (iblk m c 4 t) (ix2 r j) = resOf m c (ix2 R j) := by
  refine (res_at _ _ _ _ _ r j).trans ?_
  have hy : (fun k => k0_pay2 (iblk m c 0 t) (iblk m c 1 t) (ix2 r k)) = rowOf (prodOf m c) R := funext fun k => prod_blk m c t r k R hR
  rw [hy, x_blk m c t r R hR, vec_blk3 m c t, vec_blk4 m c t]
  rfl

theorem hid_blk (c : Dev nD) (t : Fin cfg0.N) (r : Fin 512) (j : Fin 1024) (R : Fin 2048) (hR : R.val = 512 * t.val + r.val) :
    k0_pay1 (k0_pay4 (iblk m c 0 t) (iblk m c 1 t) (iblk m c 2 t) (iblk m c 3 t) (iblk m c 4 t) (iblk m c 5 t)) (k0_pay5 (iblk m c 6 t)) (iblk m c 7 t) (ix2 r j)
      = hid (resOf m c) (m ((c : Thread nD τ).loc main_arg5)) (m ((c : Thread nD τ).loc main_arg6)) (m ((c : Thread nD τ).loc main_arg7)) (ix2 R j) := by
  refine (hid_at _ _ _ _ _ _ _ _ r j).trans ?_
  have hy : (fun k => k0_pay3 (iblk m c 0 t) (iblk m c 1 t) (iblk m c 2 t) (iblk m c 3 t) (iblk m c 4 t) (ix2 r k)) = rowOf (resOf m c) R := funext fun k => res_blk m c t r k R hR
  rw [hy, vec_blk5 m c t, vec_blk6 m c t, vec_blk7 m c t]
  rfl

theorem out8 (c : Dev nD) (t : Fin cfg0.N) (y : S512x1024.Idx) (i : S2048x1024.Idx) (hi0 : (i 0).val = 512 * t.val + (y 0).val) (hi1 : (i 1).val = (y 1).val) :
    out0_8 (iblk m c 0 t) (iblk m c 1 t) (iblk m c 2 t) (iblk m c 3 t) (iblk m c 4 t) (iblk m c 5 t) (iblk m c 6 t) (iblk m c 7 t) y = (prodOf m c) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  exact prod_blk m c t r j' R hi0

theorem final8 (c : Dev nD) : (dats m 0 c).arrAt 8 cfg0.N = prodOf m c := by
  refine Dat.arrAt_eq_of_covers _ 8 _ (by decide +kernel) fun t hf y => ?_
  blk_simp
  rw [after0_8]
  exact out8 m c t y _ (by blk_simp; simp [idx8 t, mul_comm]) (by blk_simp; simp [idx8 t])

theorem out9 (c : Dev nD) (t : Fin cfg0.N) (y : S512x1024.Idx) (i : S2048x1024.Idx) (hi0 : (i 0).val = 512 * t.val + (y 0).val) (hi1 : (i 1).val = (y 1).val) :
    out0_9 (iblk m c 0 t) (iblk m c 1 t) (iblk m c 2 t) (iblk m c 3 t) (iblk m c 4 t) (iblk m c 5 t) (iblk m c 6 t) (iblk m c 7 t) y = (resOf m c) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  exact res_blk m c t r j' R hi0

theorem final9 (c : Dev nD) : (dats m 0 c).arrAt 9 cfg0.N = resOf m c := by
  refine Dat.arrAt_eq_of_covers _ 9 _ (by decide +kernel) fun t hf y => ?_
  blk_simp
  rw [after0_9]
  exact out9 m c t y _ (by blk_simp; simp [idx9 t, mul_comm]) (by blk_simp; simp [idx9 t])

theorem out10 (c : Dev nD) (t : Fin cfg0.N) (y : S512x1024.Idx) (i : S2048x1024.Idx) (hi0 : (i 0).val = 512 * t.val + (y 0).val) (hi1 : (i 1).val = (y 1).val) :
    out0_10 (iblk m c 0 t) (iblk m c 1 t) (iblk m c 2 t) (iblk m c 3 t) (iblk m c 4 t) (iblk m c 5 t) (iblk m c 6 t) (iblk m c 7 t) y = (hid (resOf m c) (m ((c : Thread nD τ).loc main_arg5)) (m ((c : Thread nD τ).loc main_arg6)) (m ((c : Thread nD τ).loc main_arg7))) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  exact hid_blk m c t r j' R hi0

theorem final10 (c : Dev nD) : (dats m 0 c).arrAt 10 cfg0.N = hid (resOf m c) (m ((c : Thread nD τ).loc main_arg5)) (m ((c : Thread nD τ).loc main_arg6)) (m ((c : Thread nD τ).loc main_arg7)) := by
  refine Dat.arrAt_eq_of_covers _ 10 _ (by decide +kernel) fun t hf y => ?_
  blk_simp
  rw [after0_10]
  exact out10 m c t y _ (by blk_simp; simp [idx10 t, mul_comm]) (by blk_simp; simp [idx10 t])

end Cert.Kernel13Ideal.Hand

namespace Cert.Reference13Ideal.Hand

open Cert.Reference13Ideal Cert.Reference13Ideal.Gen
open Idealize.ShloMosaic Idealize.ShloMosaic.TcCoe Idealize.SL.Sem
open Cert.Kernel4Ideal.Hand (len eps rs rowOf vecOf)
open Cert.Hand (nrm resRow hidRow)

/-- The reference's product, its norm, the layer's output and the next layer's input. -/
def prod (a : FVec Ideal S2048x2816 .bf16) (w : FVec Ideal S2816x1024 .bf16) : FVec Ideal S2048x1024 .f32 :=
  Host.dotGeneral dot_S2048x2816_S2816x1024_S2048x1024_1_0_0_1_n_n none (extf .f32 a bitsLt_bf16_f32) (extf .f32 w bitsLt_bf16_f32)

abbrev ms (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

abbrev row (g : FVec Ideal S1x1024 .f32) : FVec Ideal S2048x1024 .f32 := broadcastInDim S2048x1024 ![0, 1] bcast_S1x1024_S2048x1024_0_1 g

abbrev norm (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (ms x)))) (row g)

def res (y x : FVec Ideal S2048x1024 .f32) (ga gp : FVec Ideal S1x1024 .f32) : FVec Ideal S2048x1024 .f32 :=
  addf x (mulf (row ga) (norm y gp))

def hid (x : FVec Ideal S2048x1024 .f32) (g sc sh : FVec Ideal S1x1024 .f32) : FVec Ideal S2048x1024 .bf16 :=
  truncf .bf16 (addf (mulf (norm x g) (row (addf (broadcastInDim S1x1024 ![] bcast_S_S1x1024 (constant S_ .f32 0x3F800000#32)) sc))) (row sh)) bitsLt_bf16_f32

theorem prod_eq (a : FVec Ideal S2048x2816 .bf16) (w : FVec Ideal S2816x1024 .bf16) : prod a w = Cert.Kernel13Ideal.Hand.prod a w := by
  funext i
  rw [eq_ix2 i]
  pointwise [prod]
  rfl

theorem res_eq (y x : FVec Ideal S2048x1024 .f32) (ga gp : FVec Ideal S1x1024 .f32) : res y x ga gp = Cert.Kernel13Ideal.Hand.res y x ga gp := by
  funext i
  obtain ⟨r, j, rfl⟩ : ∃ (r : Fin 2048) (j : Fin 1024), i = ix2 r j := ⟨i 0, i 1, eq_ix2 i⟩
  pointwise [res, norm, ms, row]
  rfl

theorem hid_eq (x : FVec Ideal S2048x1024 .f32) (g sc sh : FVec Ideal S1x1024 .f32) : hid x g sc sh = Cert.Kernel13Ideal.Hand.hid x g sc sh := by
  funext i
  obtain ⟨r, j, rfl⟩ : ∃ (r : Fin 2048) (j : Fin 1024), i = ix2 r j := ⟨i 0, i 1, eq_ix2 i⟩
  pointwise [hid, norm, ms, row]
  rfl

end Cert.Reference13Ideal.Hand

namespace Cert.Hand

open Idealize.ShloMosaic Idealize.ShloMosaic.TcCoe Idealize.SL.Sem

/-- The value claim of this call. -/
theorem value13 : Cert.algebraic_Kernel13Ideal_Reference13Ideal (hKernel13Ideal := Cert.Kernel13Ideal.Gen.facts)
    (hReference13Ideal := Cert.Reference13Ideal.Gen.facts) := by
  intro m g m' g' _ hargs
  refine ⟨fun c => (Cert.Kernel13Ideal.Gen.dats m 0 c).arrAt 8 Cert.Kernel13Ideal.cfg0.N,
    fun c => (Cert.Kernel13Ideal.Gen.dats m 0 c).arrAt 9 Cert.Kernel13Ideal.cfg0.N,
    fun c => (Cert.Kernel13Ideal.Gen.dats m 0 c).arrAt 10 Cert.Kernel13Ideal.cfg0.N, Cert.Kernel13Ideal.Value.run_blocks m g, ?_⟩
  refine (θ_run _ _ _).mono (fun r h c => ?_) (Cert.Reference13Ideal.Value.run m' g')
  obtain ⟨e0, e1, e2, e3, e4, e5, e6, e7⟩ := hargs c
  obtain ⟨h0, h1, h2, h3⟩ := h c
  have h0' : _ = Cert.Reference13Ideal.Hand.prod _ _ := h0
  have h1' : _ = Cert.Reference13Ideal.Hand.res (Cert.Reference13Ideal.Hand.prod _ _) _ _ _ := h1
  have h2' : _ = Cert.Reference13Ideal.Hand.hid (Cert.Reference13Ideal.Hand.res (Cert.Reference13Ideal.Hand.prod _ _) _ _ _) _ _ _ := h2
  rw [e0, e1] at h0'
  rw [e0, e1, e2, e3, e4] at h1'
  rw [e0, e1, e2, e3, e4, e5, e6, e7] at h2'
  refine ⟨h0'.trans ?_, h1'.trans ?_, h2'.trans ?_, h3⟩
  · rw [Cert.Reference13Ideal.Hand.prod_eq]
    exact (Cert.Kernel13Ideal.Hand.final8 m c).symm
  · rw [Cert.Reference13Ideal.Hand.prod_eq, Cert.Reference13Ideal.Hand.res_eq]
    exact (Cert.Kernel13Ideal.Hand.final9 m c).symm
  · rw [Cert.Reference13Ideal.Hand.prod_eq, Cert.Reference13Ideal.Hand.res_eq, Cert.Reference13Ideal.Hand.hid_eq]
    exact (Cert.Kernel13Ideal.Hand.final10 m c).symm

end Cert.Hand

end
-- ==== Proof.FfnLast.lean ====
module

public import proofs.«01_k».proof.Defs
public import proofs.«01_k».proof.Proof.Gen.Kernel14Ideal.Value
public import proofs.«01_k».proof.Proof.Gen.Reference14Ideal.Run
public import proofs.«01_k».proof.Proof.FfnOut
public import Idealize.ShloMosaic.Lib.Pipeline.ValueKit

@[expose] public section

noncomputable section

namespace Cert.Kernel14Ideal.Hand

open Cert.Kernel14Ideal Cert.Kernel14Ideal.Gen
open Idealize.ShloMosaic Idealize.ShloMosaic.TcCoe Idealize.SL.Sem
open Idealize.ShloMosaic.Pipeline (Dat)
open Cert.Kernel4Ideal.Hand (len eps rs rowOf vecOf)
open Cert.Hand (nrm resRow hidRow)

/-! The end of the last layer: its product, the norm and gate after it, and the residual. -/

variable (m : (ℓ : Loc nD τ sig) → Buf (Elt Ideal) ℓ) (ρ : Dev nD → PrngReg)

/-- The product. -/
def prod (a : Vec Ideal S2048x2816 .bf16) (w : Vec Ideal S2816x1024 .bf16) : Vec Ideal S2048x1024 .f32 :=
  fun i => ∑ k : Fin 2816, (a (ix2 (i 0) k) * w (ix2 k (i 1)) : EReal)

/-- The layer's output: the gated norm of the product, and the residual. -/
def res (y x : Vec Ideal S2048x1024 .f32) (ga gp : Vec Ideal S1x1024 .f32) : Vec Ideal S2048x1024 .f32 :=
  fun i => resRow (rowOf y (i 0)) (vecOf gp) (vecOf ga) (rowOf x (i 0)) (i 1)

/-! ### The block's values at an element -/

theorem prod_at (a : Vec Ideal S512x2816 .bf16) (w : Vec Ideal S2816x1024 .bf16) (r : Fin 512) (j : Fin 1024) :
    k0_pay1 a w (ix2 r j) = ∑ k : Fin 2816, (a (ix2 r k) * w (ix2 k j) : EReal) := by
  pointwise [k0_pay1]

theorem res_at (a : Vec Ideal S512x2816 .bf16) (w : Vec Ideal S2816x1024 .bf16) (x : Vec Ideal S512x1024 .f32) (ga gp : Vec Ideal S1x1024 .f32) (r : Fin 512) (j : Fin 1024) :
    k0_pay2 a w x ga gp (ix2 r j) = resRow (fun k => k0_pay1 a w (ix2 r k)) (fun k => gp (ix2 0 k)) (fun k => ga (ix2 0 k)) (fun k => x (ix2 r k)) j := by
  unfold k0_pay2
  generalize k0_pay1 a w = y
  pointwise [resRow, nrm, rs, len, eps]

/-! ### The blocks read from the arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem vec_blk3 (c : Dev nD) (t : Fin cfg0.N) : (fun j => iblk m c 3 t (ix2 0 j)) = vecOf (m ((c : Thread nD τ).loc main_arg3)) := by
  funext j
  unfold vecOf
  blk_ext! [iblk, V, idx3 t]

theorem vec_blk4 (c : Dev nD) (t : Fin cfg0.N) : (fun j => iblk m c 4 t (ix2 0 j)) = vecOf (m ((c : Thread nD τ).loc main_arg4)) := by
  funext j
  unfold vecOf
  blk_ext! [iblk, V, idx4 t]

theorem x_blk (c : Dev nD) (t : Fin cfg0.N) (r : Fin 512) (R : Fin 2048) (hR : R.val = 512 * t.val + r.val) :
    (fun k => iblk m c 2 t (ix2 r k)) = rowOf (m ((c : Thread nD τ).loc main_arg2)) R := by
  funext k
  unfold rowOf
  blk_ext! [iblk, V, idx2 t, hR, mul_comm]

theorem prod_blk (c : Dev nD) (t : Fin cfg0.N) (r : Fin 512) (j : Fin 1024) (R : Fin 2048) (hR : R.val = 512 * t.val + r.val) :
    k0_pay1 (iblk m c 0 t) (iblk m c 1 t) (ix2 r j) = prod (m ((c : Thread nD τ).loc main_arg0)) (m ((c : Thread nD τ).loc main_arg1)) (ix2 R j) := by
  refine (prod_at _ _ r j).trans ?_
  unfold prod
  refine Finset.sum_congr rfl fun k _ => ?_
  congr 1
  · blk_ext! [iblk, V, idx0 t, hR, mul_comm]
  · blk_ext! [iblk, V, idx1 t]

/-- The product and the layer's output on one device. -/
abbrev prodOf (c : Dev nD) : Vec Ideal S2048x1024 .f32 := prod (m ((c : Thread nD τ).loc main_arg0)) (m ((c : Thread nD τ).loc main_arg1))
abbrev resOf (c : Dev nD) : Vec Ideal S2048x1024 .f32 := res (prodOf m c) (m ((c : Thread nD τ).loc main_arg2)) (m ((c : Thread nD τ).loc main_arg3)) (m ((c : Thread nD τ).loc main_arg4))

theorem res_blk (c : Dev nD) (t : Fin cfg0.N) (r : Fin 512) (j : Fin 1024) (R : Fin 2048) (hR : R.val = 512 * t.val + r.val) :
    k0_pay2 (iblk m c 0 t) (iblk m c 1 t) (iblk m c 2 t) (iblk m c 3 t) (iblk m c 4 t) (ix2 r j) = resOf m c (ix2 R j) := by
  refine (res_at _ _ _ _ _ r j).trans ?_
  have hy : (fun k => k0_pay1 (iblk m c 0 t) (iblk m c 1 t) (ix2 r k)) = rowOf (prodOf m c) R := funext fun k => prod_blk m c t r k R hR
  rw [hy, x_blk m c t r R hR, vec_blk3 m c t, vec_blk4 m c t]
  rfl

theorem out5 (c : Dev nD) (t : Fin cfg0.N) (y : S512x1024.Idx) (i : S2048x1024.Idx) (hi0 : (i 0).val = 512 * t.val + (y 0).val) (hi1 : (i 1).val = (y 1).val) :
    out0_5 (iblk m c 0 t) (iblk m c 1 t) (iblk m c 2 t) (iblk m c 3 t) (iblk m c 4 t) y = (prodOf m c) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  exact prod_blk m c t r j' R hi0

theorem final5 (c : Dev nD) : (dats m 0 c).arrAt 5 cfg0.N = prodOf m c := by
  refine Dat.arrAt_eq_of_covers _ 5 _ (by decide +kernel) fun t hf y => ?_
  blk_simp
  rw [after0_5]
  exact out5 m c t y _ (by blk_simp; simp [idx5 t, mul_comm]) (by blk_simp; simp [idx5 t])

theorem out6 (c : Dev nD) (t : Fin cfg0.N) (y : S512x1024.Idx) (i : S2048x1024.Idx) (hi0 : (i 0).val = 512 * t.val + (y 0).val) (hi1 : (i 1).val = (y 1).val) :
    out0_6 (iblk m c 0 t) (iblk m c 1 t) (iblk m c 2 t) (iblk m c 3 t) (iblk m c 4 t) y = (resOf m c) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  exact res_blk m c t r j' R hi0

theorem final6 (c : Dev nD) : (dats m 0 c).arrAt 6 cfg0.N = resOf m c := by
  refine Dat.arrAt_eq_of_covers _ 6 _ (by decide +kernel) fun t hf y => ?_
  blk_simp
  rw [after0_6]
  exact out6 m c t y _ (by blk_simp; simp [idx6 t, mul_comm]) (by blk_simp; simp [idx6 t])

end Cert.Kernel14Ideal.Hand

namespace Cert.Reference14Ideal.Hand

open Cert.Reference14Ideal Cert.Reference14Ideal.Gen
open Idealize.ShloMosaic Idealize.ShloMosaic.TcCoe Idealize.SL.Sem
open Cert.Kernel4Ideal.Hand (len eps rs rowOf vecOf)
open Cert.Hand (nrm resRow hidRow)

/-- The reference's product, its norm, the layer's output and the next layer's input. -/
def prod (a : FVec Ideal S2048x2816 .bf16) (w : FVec Ideal S2816x1024 .bf16) : FVec Ideal S2048x1024 .f32 :=
  Host.dotGeneral dot_S2048x2816_S2816x1024_S2048x1024_1_0_0_1_n_n none (extf .f32 a bitsLt_bf16_f32) (extf .f32 w bitsLt_bf16_f32)

abbrev ms (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

abbrev row (g : FVec Ideal S1x1024 .f32) : FVec Ideal S2048x1024 .f32 := broadcastInDim S2048x1024 ![0, 1] bcast_S1x1024_S2048x1024_0_1 g

abbrev norm (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (ms x)))) (row g)

def res (y x : FVec Ideal S2048x1024 .f32) (ga gp : FVec Ideal S1x1024 .f32) : FVec Ideal S2048x1024 .f32 :=
  addf x (mulf (row ga) (norm y gp))

theorem prod_eq (a : FVec Ideal S2048x2816 .bf16) (w : FVec Ideal S2816x1024 .bf16) : prod a w = Cert.Kernel14Ideal.Hand.prod a w := by
  funext i
  rw [eq_ix2 i]
  pointwise [prod]
  rfl

theorem res_eq (y x : FVec Ideal S2048x1024 .f32) (ga gp : FVec Ideal S1x1024 .f32) : res y x ga gp = Cert.Kernel14Ideal.Hand.res y x ga gp := by
  funext i
  obtain ⟨r, j, rfl⟩ : ∃ (r : Fin 2048) (j : Fin 1024), i = ix2 r j := ⟨i 0, i 1, eq_ix2 i⟩
  pointwise [res, norm, ms, row]
  rfl

end Cert.Reference14Ideal.Hand

namespace Cert.Hand

open Idealize.ShloMosaic Idealize.ShloMosaic.TcCoe Idealize.SL.Sem

/-- The value claim of this call. -/
theorem value14 : Cert.algebraic_Kernel14Ideal_Reference14Ideal (hKernel14Ideal := Cert.Kernel14Ideal.Gen.facts)
    (hReference14Ideal := Cert.Reference14Ideal.Gen.facts) := by
  intro m g m' g' _ hargs
  refine ⟨fun c => (Cert.Kernel14Ideal.Gen.dats m 0 c).arrAt 5 Cert.Kernel14Ideal.cfg0.N,
    fun c => (Cert.Kernel14Ideal.Gen.dats m 0 c).arrAt 6 Cert.Kernel14Ideal.cfg0.N, Cert.Kernel14Ideal.Value.run_blocks m g, ?_⟩
  refine (θ_run _ _ _).mono (fun r h c => ?_) (Cert.Reference14Ideal.Value.run m' g')
  obtain ⟨e0, e1, e2, e3, e4⟩ := hargs c
  obtain ⟨h0, h1, h2⟩ := h c
  have h0' : _ = Cert.Reference14Ideal.Hand.prod _ _ := h0
  have h1' : _ = Cert.Reference14Ideal.Hand.res (Cert.Reference14Ideal.Hand.prod _ _) _ _ _ := h1
  rw [e0, e1] at h0'
  rw [e0, e1, e2, e3, e4] at h1'
  refine ⟨h0'.trans ?_, h1'.trans ?_, h2⟩
  · rw [Cert.Reference14Ideal.Hand.prod_eq]
    exact (Cert.Kernel14Ideal.Hand.final5 m c).symm
  · rw [Cert.Reference14Ideal.Hand.prod_eq, Cert.Reference14Ideal.Hand.res_eq]
    exact (Cert.Kernel14Ideal.Hand.final6 m c).symm

end Cert.Hand

end
-- ==== Proof.OutProj.lean ====
module

public import proofs.«01_k».proof.Defs
public import proofs.«01_k».proof.Proof.Gen.Kernel15Ideal.Value
public import proofs.«01_k».proof.Proof.Gen.Reference15Ideal.Run
public import proofs.«01_k».proof.Proof.FfnOut
public import Idealize.ShloMosaic.Lib.Pipeline.ValueKit

@[expose] public section

noncomputable section

namespace Cert.Kernel15Ideal.Hand

open Cert.Kernel15Ideal Cert.Kernel15Ideal.Gen
open Idealize.ShloMosaic Idealize.ShloMosaic.TcCoe Idealize.SL.Sem
open Idealize.ShloMosaic.Pipeline (Dat)
open Cert.Kernel4Ideal.Hand (len eps rs rowOf vecOf)
open Cert.Hand (nrm resRow hidRow)

/-! The end of the mixer: its output projection, the norm and gate after it, the residual, and the SwiGLU layer's normed input. -/

variable (m : (ℓ : Loc nD τ sig) → Buf (Elt Ideal) ℓ) (ρ : Dev nD → PrngReg)

/-- The product. -/
def prod (a : Vec Ideal S2048x1024 .bf16) (w : Vec Ideal S1024x1024 .bf16) : Vec Ideal S2048x1024 .f32 :=
  fun i => ∑ k : Fin 1024, (a (ix2 (i 0) k) * w (ix2 k (i 1)) : EReal)

/-- The layer's output: the gated norm of the product, and the residual. -/
def res (y x : Vec Ideal S2048x1024 .f32) (ga gp : Vec Ideal S1x1024 .f32) : Vec Ideal S2048x1024 .f32 :=
  fun i => resRow (rowOf y (i 0)) (vecOf gp) (vecOf ga) (rowOf x (i 0)) (i 1)

/-- The next layer's normed and modulated input. -/
def hid (x : Vec Ideal S2048x1024 .f32) (g sc sh : Vec Ideal S1x1024 .f32) : Vec Ideal S2048x1024 .bf16 :=
  fun i => hidRow (rowOf x (i 0)) (vecOf g) (vecOf sc) (vecOf sh) (i 1)

/-! ### The block's values at an element -/

theorem prod_at (a : Vec Ideal S512x1024 .bf16) (w : Vec Ideal S1024x1024 .bf16) (r : Fin 512) (j : Fin 1024) :
    k0_pay2 a w (ix2 r j) = ∑ k : Fin 1024, (a (ix2 r k) * w (ix2 k j) : EReal) := by
  pointwise [k0_pay2]

theorem res_at (a : Vec Ideal S512x1024 .bf16) (w : Vec Ideal S1024x1024 .bf16) (x : Vec Ideal S512x1024 .f32) (ga gp : Vec Ideal S1x1024 .f32) (r : Fin 512) (j : Fin 1024) :
    k0_pay3 a w x ga gp (ix2 r j) = resRow (fun k => k0_pay2 a w (ix2 r k)) (fun k => gp (ix2 0 k)) (fun k => ga (ix2 0 k)) (fun k => x (ix2 r k)) j := by
  unfold k0_pay3
  generalize k0_pay2 a w = y
  pointwise [resRow, nrm, rs, len, eps]

theorem hid_at (a : Vec Ideal S512x1024 .bf16) (w : Vec Ideal S1024x1024 .bf16) (x : Vec Ideal S512x1024 .f32) (ga gp g sc sh : Vec Ideal S1x1024 .f32) (r : Fin 512) (j : Fin 1024) :
    k0_pay1 (k0_pay4 a w x ga gp g) (k0_pay5 sc) sh (ix2 r j)
      = hidRow (fun k => k0_pay3 a w x ga gp (ix2 r k)) (fun k => g (ix2 0 k)) (fun k => sc (ix2 0 k)) (fun k => sh (ix2 0 k)) j := by
  unfold k0_pay4
  generalize k0_pay3 a w x ga gp = y
  pointwise [k0_pay1, k0_pay5, hidRow, nrm, rs, len, eps]

/-! ### The blocks read from the arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem vec_blk3 (c : Dev nD) (t : Fin cfg0.N) : (fun j => iblk m c 3 t (ix2 0 j)) = vecOf (m ((c : Thread nD τ).loc main_arg3)) := by
  funext j
  unfold vecOf
  blk_ext! [iblk, V, idx3 t]

theorem vec_blk4 (c : Dev nD) (t : Fin cfg0.N) : (fun j => iblk m c 4 t (ix2 0 j)) = vecOf (m ((c : Thread nD τ).loc main_arg4)) := by
  funext j
  unfold vecOf
  blk_ext! [iblk, V, idx4 t]

theorem vec_blk5 (c : Dev nD) (t : Fin cfg0.N) : (fun j => iblk m c 5 t (ix2 0 j)) = vecOf (m ((c : Thread nD τ).loc main_arg5)) := by
  funext j
  unfold vecOf
  blk_ext! [iblk, V, idx5 t]

theorem vec_blk6 (c : Dev nD) (t : Fin cfg0.N) : (fun j => iblk m c 6 t (ix2 0 j)) = vecOf (m ((c : Thread nD τ).loc main_arg6)) := by
  funext j
  unfold vecOf
  blk_ext! [iblk, V, idx6 t]

theorem vec_blk7 (c : Dev nD) (t : Fin cfg0.N) : (fun j => iblk m c 7 t (ix2 0 j)) = vecOf (m ((c : Thread nD τ).loc main_arg7)) := by
  funext j
  unfold vecOf
  blk_ext! [iblk, V, idx7 t]

theorem x_blk (c : Dev nD) (t : Fin cfg0.N) (r : Fin 512) (R : Fin 2048) (hR : R.val = 512 * t.val + r.val) :
    (fun k => iblk m c 2 t (ix2 r k)) = rowOf (m ((c : Thread nD τ).loc main_arg2)) R := by
  funext k
  unfold rowOf
  blk_ext! [iblk, V, idx2 t, hR, mul_comm]

theorem prod_blk (c : Dev nD) (t : Fin cfg0.N) (r : Fin 512) (j : Fin 1024) (R : Fin 2048) (hR : R.val = 512 * t.val + r.val) :
    k0_pay2 (iblk m c 0 t) (iblk m c 1 t) (ix2 r j) = prod (m ((c : Thread nD τ).loc main_arg0)) (m ((c : Thread nD τ).loc main_arg1)) (ix2 R j) := by
  refine (prod_at _ _ r j).trans ?_
  unfold prod
  refine Finset.sum_congr rfl fun k _ => ?_
  congr 1
  · blk_ext! [iblk, V, idx0 t, hR, mul_comm]
  · blk_ext! [iblk, V, idx1 t]

/-- The product and the layer's output on one device. -/
abbrev prodOf (c : Dev nD) : Vec Ideal S2048x1024 .f32 := prod (m ((c : Thread nD τ).loc main_arg0)) (m ((c : Thread nD τ).loc main_arg1))
abbrev resOf (c : Dev nD) : Vec Ideal S2048x1024 .f32 := res (prodOf m c) (m ((c : Thread nD τ).loc main_arg2)) (m ((c : Thread nD τ).loc main_arg3)) (m ((c : Thread nD τ).loc main_arg4))

theorem res_blk (c : Dev nD) (t : Fin cfg0.N) (r : Fin 512) (j : Fin 1024) (R : Fin 2048) (hR : R.val = 512 * t.val + r.val) :
    k0_pay3 (iblk m c 0 t) (iblk m c 1 t) (iblk m c 2 t) (iblk m c 3 t) (iblk m c 4 t) (ix2 r j) = resOf m c (ix2 R j) := by
  refine (res_at _ _ _ _ _ r j).trans ?_
  have hy : (fun k => k0_pay2 (iblk m c 0 t) (iblk m c 1 t) (ix2 r k)) = rowOf (prodOf m c) R := funext fun k => prod_blk m c t r k R hR
  rw [hy, x_blk m c t r R hR, vec_blk3 m c t, vec_blk4 m c t]
  rfl

theorem hid_blk (c : Dev nD) (t : Fin cfg0.N) (r : Fin 512) (j : Fin 1024) (R : Fin 2048) (hR : R.val = 512 * t.val + r.val) :
    k0_pay1 (k0_pay4 (iblk m c 0 t) (iblk m c 1 t) (iblk m c 2 t) (iblk m c 3 t) (iblk m c 4 t) (iblk m c 5 t)) (k0_pay5 (iblk m c 6 t)) (iblk m c 7 t) (ix2 r j)
      = hid (resOf m c) (m ((c : Thread nD τ).loc main_arg5)) (m ((c : Thread nD τ).loc main_arg6)) (m ((c : Thread nD τ).loc main_arg7)) (ix2 R j) := by
  refine (hid_at _ _ _ _ _ _ _ _ r j).trans ?_
  have hy : (fun k => k0_pay3 (iblk m c 0 t) (iblk m c 1 t) (iblk m c 2 t) (iblk m c 3 t) (iblk m c 4 t) (ix2 r k)) = rowOf (resOf m c) R := funext fun k => res_blk m c t r k R hR
  rw [hy, vec_blk5 m c t, vec_blk6 m c t, vec_blk7 m c t]
  rfl

theorem out8 (c : Dev nD) (t : Fin cfg0.N) (y : S512x1024.Idx) (i : S2048x1024.Idx) (hi0 : (i 0).val = 512 * t.val + (y 0).val) (hi1 : (i 1).val = (y 1).val) :
    out0_8 (iblk m c 0 t) (iblk m c 1 t) (iblk m c 2 t) (iblk m c 3 t) (iblk m c 4 t) (iblk m c 5 t) (iblk m c 6 t) (iblk m c 7 t) y = (prodOf m c) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  exact prod_blk m c t r j' R hi0

theorem final8 (c : Dev nD) : (dats m 0 c).arrAt 8 cfg0.N = prodOf m c := by
  refine Dat.arrAt_eq_of_covers _ 8 _ (by decide +kernel) fun t hf y => ?_
  blk_simp
  rw [after0_8]
  exact out8 m c t y _ (by blk_simp; simp [idx8 t, mul_comm]) (by blk_simp; simp [idx8 t])

theorem out9 (c : Dev nD) (t : Fin cfg0.N) (y : S512x1024.Idx) (i : S2048x1024.Idx) (hi0 : (i 0).val = 512 * t.val + (y 0).val) (hi1 : (i 1).val = (y 1).val) :
    out0_9 (iblk m c 0 t) (iblk m c 1 t) (iblk m c 2 t) (iblk m c 3 t) (iblk m c 4 t) (iblk m c 5 t) (iblk m c 6 t) (iblk m c 7 t) y = (resOf m c) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  exact res_blk m c t r j' R hi0

theorem final9 (c : Dev nD) : (dats m 0 c).arrAt 9 cfg0.N = resOf m c := by
  refine Dat.arrAt_eq_of_covers _ 9 _ (by decide +kernel) fun t hf y => ?_
  blk_simp
  rw [after0_9]
  exact out9 m c t y _ (by blk_simp; simp [idx9 t, mul_comm]) (by blk_simp; simp [idx9 t])

theorem out10 (c : Dev nD) (t : Fin cfg0.N) (y : S512x1024.Idx) (i : S2048x1024.Idx) (hi0 : (i 0).val = 512 * t.val + (y 0).val) (hi1 : (i 1).val = (y 1).val) :
    out0_10 (iblk m c 0 t) (iblk m c 1 t) (iblk m c 2 t) (iblk m c 3 t) (iblk m c 4 t) (iblk m c 5 t) (iblk m c 6 t) (iblk m c 7 t) y = (hid (resOf m c) (m ((c : Thread nD τ).loc main_arg5)) (m ((c : Thread nD τ).loc main_arg6)) (m ((c : Thread nD τ).loc main_arg7))) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  exact hid_blk m c t r j' R hi0

theorem final10 (c : Dev nD) : (dats m 0 c).arrAt 10 cfg0.N = hid (resOf m c) (m ((c : Thread nD τ).loc main_arg5)) (m ((c : Thread nD τ).loc main_arg6)) (m ((c : Thread nD τ).loc main_arg7)) := by
  refine Dat.arrAt_eq_of_covers _ 10 _ (by decide +kernel) fun t hf y => ?_
  blk_simp
  rw [after0_10]
  exact out10 m c t y _ (by blk_simp; simp [idx10 t, mul_comm]) (by blk_simp; simp [idx10 t])

end Cert.Kernel15Ideal.Hand

namespace Cert.Reference15Ideal.Hand

open Cert.Reference15Ideal Cert.Reference15Ideal.Gen
open Idealize.ShloMosaic Idealize.ShloMosaic.TcCoe Idealize.SL.Sem
open Cert.Kernel4Ideal.Hand (len eps rs rowOf vecOf)
open Cert.Hand (nrm resRow hidRow)

/-- The reference's product, its norm, the layer's output and the next layer's input. -/
def prod (a : FVec Ideal S2048x1024 .bf16) (w : FVec Ideal S1024x1024 .bf16) : FVec Ideal S2048x1024 .f32 :=
  Host.dotGeneral dot_S2048x1024_S1024x1024_S2048x1024_1_0_0_1_n_n none (extf .f32 a bitsLt_bf16_f32) (extf .f32 w bitsLt_bf16_f32)

abbrev ms (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

abbrev row (g : FVec Ideal S1x1024 .f32) : FVec Ideal S2048x1024 .f32 := broadcastInDim S2048x1024 ![0, 1] bcast_S1x1024_S2048x1024_0_1 g

abbrev norm (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (ms x)))) (row g)

def res (y x : FVec Ideal S2048x1024 .f32) (ga gp : FVec Ideal S1x1024 .f32) : FVec Ideal S2048x1024 .f32 :=
  addf x (mulf (row ga) (norm y gp))

def hid (x : FVec Ideal S2048x1024 .f32) (g sc sh : FVec Ideal S1x1024 .f32) : FVec Ideal S2048x1024 .bf16 :=
  truncf .bf16 (addf (mulf (norm x g) (row (addf (broadcastInDim S1x1024 ![] bcast_S_S1x1024 (constant S_ .f32 0x3F800000#32)) sc))) (row sh)) bitsLt_bf16_f32

theorem prod_eq (a : FVec Ideal S2048x1024 .bf16) (w : FVec Ideal S1024x1024 .bf16) : prod a w = Cert.Kernel15Ideal.Hand.prod a w := by
  funext i
  rw [eq_ix2 i]
  pointwise [prod]
  rfl

theorem res_eq (y x : FVec Ideal S2048x1024 .f32) (ga gp : FVec Ideal S1x1024 .f32) : res y x ga gp = Cert.Kernel15Ideal.Hand.res y x ga gp := by
  funext i
  obtain ⟨r, j, rfl⟩ : ∃ (r : Fin 2048) (j : Fin 1024), i = ix2 r j := ⟨i 0, i 1, eq_ix2 i⟩
  pointwise [res, norm, ms, row]
  rfl

theorem hid_eq (x : FVec Ideal S2048x1024 .f32) (g sc sh : FVec Ideal S1x1024 .f32) : hid x g sc sh = Cert.Kernel15Ideal.Hand.hid x g sc sh := by
  funext i
  obtain ⟨r, j, rfl⟩ : ∃ (r : Fin 2048) (j : Fin 1024), i = ix2 r j := ⟨i 0, i 1, eq_ix2 i⟩
  pointwise [hid, norm, ms, row]
  rfl

end Cert.Reference15Ideal.Hand

namespace Cert.Hand

open Idealize.ShloMosaic Idealize.ShloMosaic.TcCoe Idealize.SL.Sem

/-- The value claim of this call. -/
theorem value15 : Cert.algebraic_Kernel15Ideal_Reference15Ideal (hKernel15Ideal := Cert.Kernel15Ideal.Gen.facts)
    (hReference15Ideal := Cert.Reference15Ideal.Gen.facts) := by
  intro m g m' g' _ hargs
  refine ⟨fun c => (Cert.Kernel15Ideal.Gen.dats m 0 c).arrAt 8 Cert.Kernel15Ideal.cfg0.N,
    fun c => (Cert.Kernel15Ideal.Gen.dats m 0 c).arrAt 9 Cert.Kernel15Ideal.cfg0.N,
    fun c => (Cert.Kernel15Ideal.Gen.dats m 0 c).arrAt 10 Cert.Kernel15Ideal.cfg0.N, Cert.Kernel15Ideal.Value.run_blocks m g, ?_⟩
  refine (θ_run _ _ _).mono (fun r h c => ?_) (Cert.Reference15Ideal.Value.run m' g')
  obtain ⟨e0, e1, e2, e3, e4, e5, e6, e7⟩ := hargs c
  obtain ⟨h0, h1, h2, h3⟩ := h c
  have h0' : _ = Cert.Reference15Ideal.Hand.prod _ _ := h0
  have h1' : _ = Cert.Reference15Ideal.Hand.res (Cert.Reference15Ideal.Hand.prod _ _) _ _ _ := h1
  have h2' : _ = Cert.Reference15Ideal.Hand.hid (Cert.Reference15Ideal.Hand.res (Cert.Reference15Ideal.Hand.prod _ _) _ _ _) _ _ _ := h2
  rw [e0, e1] at h0'
  rw [e0, e1, e2, e3, e4] at h1'
  rw [e0, e1, e2, e3, e4, e5, e6, e7] at h2'
  refine ⟨h0'.trans ?_, h1'.trans ?_, h2'.trans ?_, h3⟩
  · rw [Cert.Reference15Ideal.Hand.prod_eq]
    exact (Cert.Kernel15Ideal.Hand.final8 m c).symm
  · rw [Cert.Reference15Ideal.Hand.prod_eq, Cert.Reference15Ideal.Hand.res_eq]
    exact (Cert.Kernel15Ideal.Hand.final9 m c).symm
  · rw [Cert.Reference15Ideal.Hand.prod_eq, Cert.Reference15Ideal.Hand.res_eq, Cert.Reference15Ideal.Hand.hid_eq]
    exact (Cert.Kernel15Ideal.Hand.final10 m c).symm

end Cert.Hand

end
-- ==== Proof.PrenormMix.lean ====
module

public import proofs.«01_k».proof.Defs
public import proofs.«01_k».proof.Proof.Gen.Kernel11Ideal.Value
public import proofs.«01_k».proof.Proof.Gen.Reference11Ideal.Run
public import proofs.«01_k».proof.Proof.Prenorm
public import Idealize.ShloMosaic.Lib.Pipeline.ValueKit
public import Idealize.ShloMosaic.Lib.Pipeline.ReadBack
public import Idealize.ShloMosaic.Lib.StableHlo.RunRead
public import Idealize.ShloMosaic.Lib.KernelVsHost

@[expose] public section

noncomputable section

namespace Cert.Kernel11Ideal.Hand

open Cert.Kernel11Ideal Cert.Kernel11Ideal.Gen
open Idealize.ShloMosaic Idealize.ShloMosaic.TcCoe Idealize.SL.Sem
open Idealize.ShloMosaic.Pipeline (Dat)
open Cert.Kernel4Ideal.Hand (len eps rs dxRow smRow rowOf vecOf dx sm)

/-! The gradient through the norm and the modulation of the mixer's input. -/

variable (m : (ℓ : Loc nD τ sig) → Buf (Elt Ideal) ℓ) (ρ : Dev nD → PrngReg)

/-- The gradient of the normed and modulated input: those of q, k, v, of the forget gate's logits and of the
convolution's two halves, through the weight's rows. -/
def dh (a : Vec Ideal S3x2048x512 .bf16) (f : Vec Ideal S2048x16 .bf16) (b : Vec Ideal S2048x1024 .bf16) (w : Vec Ideal S2568x1024 .bf16) (r : Fin 2048) (j : Fin 1024) : EReal :=
  (∑ k : Fin 512, (a (ix3 0 r k) * w (ix2 ⟨k.val, by omega⟩ j) : EReal)) + (∑ k : Fin 512, (a (ix3 1 r k) * w (ix2 ⟨512 + k.val, by omega⟩ j) : EReal))
    + (∑ k : Fin 512, (a (ix3 2 r k) * w (ix2 ⟨1024 + k.val, by omega⟩ j) : EReal)) + (∑ k : Fin 8, (f (ix2 r ⟨k.val, by omega⟩) * w (ix2 ⟨1536 + k.val, by omega⟩ j) : EReal))
    + (∑ k : Fin 1024, (b (ix2 r k) * w (ix2 ⟨1544 + k.val, by omega⟩ j) : EReal))

/-! ### What the host hands the call -/

def part0 (a : Vec Ideal S3x2048x512 .bf16) : Vec Ideal S2048x512 .bf16 :=
  shapeCast S2048x512 (extractStridedSlice S1x2048x512 ![0, 0, 0] a slices_S3x2048x512_S1x2048x512_0_0_0) shapeCasts_S1x2048x512_S2048x512
def part1 (a : Vec Ideal S3x2048x512 .bf16) : Vec Ideal S2048x512 .bf16 :=
  shapeCast S2048x512 (extractStridedSlice S1x2048x512 ![1, 0, 0] a slices_S3x2048x512_S1x2048x512_1_0_0) shapeCasts_S1x2048x512_S2048x512
def part2 (a : Vec Ideal S3x2048x512 .bf16) : Vec Ideal S2048x512 .bf16 :=
  shapeCast S2048x512 (extractStridedSlice S1x2048x512 ![2, 0, 0] a slices_S3x2048x512_S1x2048x512_2_0_0) shapeCasts_S1x2048x512_S2048x512

/-- The forget gate's rows of the weight, with eight rows of zeros below. -/
def gateRows (w : Vec Ideal S2568x1024 .bf16) : Vec Ideal S16x1024 .bf16 :=
  pad S16x1024 ![0, 0] ![8, 0] ![0, 0] (extractStridedSlice S8x1024 ![1536, 0] w slices_S2568x1024_S8x1024_1536_0 : Vec Ideal S8x1024 .bf16)
    (sitofp .bf16 (constantI S_ 32 0#32) : FVec Ideal S_ .bf16) pads_S8x1024_S16x1024_080_000 h_S_

/-- The convolution's rows of the weight. -/
def convRows (w : Vec Ideal S2568x1024 .bf16) : Vec Ideal S1024x1024 .bf16 :=
  extractStridedSlice S1024x1024 ![1544, 0] w slices_S2568x1024_S1024x1024_1544_0

theorem part0_at (a : Vec Ideal S3x2048x512 .bf16) (r : Fin 2048) (k : Fin 512) : part0 a (ix2 r k) = a (ix3 0 r k) := by
  pointwise [part0]

theorem part1_at (a : Vec Ideal S3x2048x512 .bf16) (r : Fin 2048) (k : Fin 512) : part1 a (ix2 r k) = a (ix3 1 r k) := by
  pointwise [part1]

theorem part2_at (a : Vec Ideal S3x2048x512 .bf16) (r : Fin 2048) (k : Fin 512) : part2 a (ix2 r k) = a (ix3 2 r k) := by
  pointwise [part2]

theorem convRows_at (w : Vec Ideal S2568x1024 .bf16) (k j : Fin 1024) : convRows w (ix2 k j) = w (ix2 ⟨1544 + k.val, by omega⟩ j) := by
  pointwise [convRows]

theorem gateRows_lo (w : Vec Ideal S2568x1024 .bf16) (k : Fin 8) (j : Fin 1024) : gateRows w (ix2 ⟨k.val, by omega⟩ j) = w (ix2 ⟨1536 + k.val, by omega⟩ j) := by
  unfold gateRows
  rw [pad_apply_of_inside _ _ _ _ _ _ _ _ (ix2 k j) (Fin.forall_fin_two.mpr ⟨by simp, by simp⟩)]
  pointwise []

theorem gateRows_hi (w : Vec Ideal S2568x1024 .bf16) (k : Fin 8) (j : Fin 1024) : gateRows w (ix2 ⟨8 + k.val, by omega⟩ j) = 0 := by
  unfold gateRows
  rw [pad_apply_of_not_inside _ _ _ _ _ _ _ _ 0 (by simp)]
  show ((((0#32 : BitVec 32).toInt : ℝ)) : EReal) = 0
  simp

theorem V_main_v4 (c : Dev nD) : (V m c main_v4 : Buf (Elt Ideal) ((c.tc : Thread nD τ).loc main_v4)) = part0 (m (c, Proc.tc.devRef main_arg0)) := by
  unfold V
  simp only [hostOps0, hostOps0_1, hostOps0_2, List.flatten_cons, List.flatten_nil, List.append_nil, List.cons_append, List.nil_append, StableHlo.TRef.unary, StableHlo.TRef.binary, StableHlo.TRef.toBuf, StableHlo.TRef.ofBuf]
  after_results_simp
  delta part0
  rfl

theorem V_main_v6 (c : Dev nD) : (V m c main_v6 : Buf (Elt Ideal) ((c.tc : Thread nD τ).loc main_v6)) = part1 (m (c, Proc.tc.devRef main_arg0)) := by
  unfold V
  simp only [hostOps0, hostOps0_1, hostOps0_2, List.flatten_cons, List.flatten_nil, List.append_nil, List.cons_append, List.nil_append, StableHlo.TRef.unary, StableHlo.TRef.binary, StableHlo.TRef.toBuf, StableHlo.TRef.ofBuf]
  after_results_simp
  delta part1
  rfl

theorem V_main_v8 (c : Dev nD) : (V m c main_v8 : Buf (Elt Ideal) ((c.tc : Thread nD τ).loc main_v8)) = part2 (m (c, Proc.tc.devRef main_arg0)) := by
  unfold V
  simp only [hostOps0, hostOps0_1, hostOps0_2, List.flatten_cons, List.flatten_nil, List.append_nil, List.cons_append, List.nil_append, StableHlo.TRef.unary, StableHlo.TRef.binary, StableHlo.TRef.toBuf, StableHlo.TRef.ofBuf]
  after_results_simp
  delta part2
  rfl

theorem V_main_v1 (c : Dev nD) : (V m c main_v1 : Buf (Elt Ideal) ((c.tc : Thread nD τ).loc main_v1)) = gateRows (m (c, Proc.tc.devRef main_arg3)) := by
  unfold V
  simp only [hostOps0, hostOps0_1, hostOps0_2, List.flatten_cons, List.flatten_nil, List.append_nil, List.cons_append, List.nil_append, StableHlo.TRef.unary, StableHlo.TRef.binary, StableHlo.TRef.toBuf, StableHlo.TRef.ofBuf]
  after_results_simp
  delta gateRows
  rfl

theorem V_main_v2 (c : Dev nD) : (V m c main_v2 : Buf (Elt Ideal) ((c.tc : Thread nD τ).loc main_v2)) = convRows (m (c, Proc.tc.devRef main_arg3)) := by
  unfold V
  simp only [hostOps0, hostOps0_1, hostOps0_2, List.flatten_cons, List.flatten_nil, List.append_nil, List.cons_append, List.nil_append, StableHlo.TRef.unary, StableHlo.TRef.binary, StableHlo.TRef.toBuf, StableHlo.TRef.ofBuf]
  after_results_simp
  delta convRows
  rfl

/-! ### The block's values at an element -/

theorem pay3_at (a0 : Vec Ideal S512x512 .bf16) (w0 : Vec Ideal S512x1024 .bf16) (a1 : Vec Ideal S512x512 .bf16) (w1 : Vec Ideal S512x1024 .bf16) (a2 : Vec Ideal S512x512 .bf16) (w2 : Vec Ideal S512x1024 .bf16)
    (f : Vec Ideal S512x16 .bf16) (wf : Vec Ideal S16x1024 .bf16) (b : Vec Ideal S512x1024 .bf16) (wb : Vec Ideal S1024x1024 .bf16) (r : Fin 512) (j : Fin 1024) :
    k0_pay3 a0 w0 a1 w1 a2 w2 f wf b wb (ix2 r j) = (∑ k : Fin 512, (a0 (ix2 r k) * w0 (ix2 k j) : EReal)) + (∑ k : Fin 512, (a1 (ix2 r k) * w1 (ix2 k j) : EReal))
      + (∑ k : Fin 512, (a2 (ix2 r k) * w2 (ix2 k j) : EReal)) + (∑ k : Fin 16, (f (ix2 r k) * wf (ix2 k j) : EReal)) + (∑ k : Fin 1024, (b (ix2 r k) * wb (ix2 k j) : EReal)) := by
  pointwise [k0_pay3]

theorem pay5_at (x : Vec Ideal S512x1024 .f32) (r : Fin 512) : k0_pay5 (k0_pay4 x) (ix2 r 0) = rs (fun k => x (ix2 r k)) := by
  pointwise [k0_pay5, k0_pay4, rs, len, eps]

theorem pay6_at (x : Vec Ideal S512x1024 .f32) (r : Fin 512) (j : Fin 1024) :
    k0_pay6 x (k0_pay4 x) (ix2 r j) = x (ix2 r j) * rs (fun k => x (ix2 r k)) := by
  pointwise [k0_pay6, k0_pay5, k0_pay4, rs, len, eps]

theorem pay7_at (s : Vec Ideal S1x1024 .f32) (r : Fin 1) (j : Fin 1024) : k0_pay7 s (ix2 r j) = 1 + s (ix2 r j) := by
  pointwise [k0_pay7]

theorem pay8_at (d : Vec Ideal S512x1024 .f32) (z : Vec Ideal S1x1024 .f32) (r : Fin 1) (j : Fin 1024) :
    k0_pay8 d z (ix2 r j) = z (ix2 r j) + ∑ k : Fin 512, (d (ix2 k j) : EReal) := by
  pointwise [k0_pay8]

theorem pay9_at (d x q : Vec Ideal S512x1024 .f32) (z g : Vec Ideal S1x1024 .f32) (r : Fin 1) (j : Fin 1024) :
    k0_pay9 d x q z g (ix2 r j) = z (ix2 r j) + ∑ k : Fin 512, (d (ix2 k j) * (k0_pay6 x q (ix2 k j) * g (ix2 0 j)) : EReal) := by
  unfold k0_pay9
  generalize k0_pay6 x q = p
  pointwise []

theorem pay10_at (d x q : Vec Ideal S512x1024 .f32) (s z : Vec Ideal S1x1024 .f32) (r : Fin 1) (j : Fin 1024) :
    k0_pay10 d x q s z (ix2 r j) = z (ix2 r j) + ∑ k : Fin 512, (d (ix2 k j) * k0_pay7 s (ix2 0 j) * k0_pay6 x q (ix2 k j) : EReal) := by
  unfold k0_pay10
  generalize k0_pay6 x q = p
  generalize k0_pay7 s = o
  pointwise []

theorem pay1_at (d : Vec Ideal S512x1024 .f32) (q : Vec Ideal S512x1 .f32) (xh : Vec Ideal S512x1024 .f32) (s g : Vec Ideal S1x1024 .f32) (z : Vec Ideal S512x1024 .f32) (r : Fin 512) (j : Fin 1024) :
    k0_pay1 d q xh s g z (ix2 r j) = z (ix2 r j) + q (ix2 r 0) * (d (ix2 r j) * s (ix2 0 j) * g (ix2 0 j)
      - xh (ix2 r j) * Ideal.div (∑ k, d (ix2 r k) * s (ix2 0 k) * g (ix2 0 k) * xh (ix2 r k)) len) := by
  pointwise [k0_pay1, len]

/-! ### The blocks read from the arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![1, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![2, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![0, 0] := (by decide +kernel : ∀ t : Fin grid0.N, _)

theorem a0_blk (c : Dev nD) (t : Fin cfg0.N) (r k : Fin 512) (R : Fin 2048) (hR : R.val = 512 * t.val + r.val) :
    iblk m c 0 t (ix2 r k) = (m ((c : Thread nD τ).loc main_arg0)) (ix3 0 R k) := by
  have h : iblk m c 0 t (ix2 r k) = (V m c main_v4 : Vec Ideal S2048x512 .bf16) (ix2 R k) := by
    blk_ext! [iblk, idx0 t, hR, mul_comm]
  rw [h]
  exact (congrFun (V_main_v4 m c) _).trans (part0_at _ R k)

theorem a1_blk (c : Dev nD) (t : Fin cfg0.N) (r k : Fin 512) (R : Fin 2048) (hR : R.val = 512 * t.val + r.val) :
    iblk m c 2 t (ix2 r k) = (m ((c : Thread nD τ).loc main_arg0)) (ix3 1 R k) := by
  have h : iblk m c 2 t (ix2 r k) = (V m c main_v6 : Vec Ideal S2048x512 .bf16) (ix2 R k) := by
    blk_ext! [iblk, idx2 t, hR, mul_comm]
  rw [h]
  exact (congrFun (V_main_v6 m c) _).trans (part1_at _ R k)

theorem a2_blk (c : Dev nD) (t : Fin cfg0.N) (r k : Fin 512) (R : Fin 2048) (hR : R.val = 512 * t.val + r.val) :
    iblk m c 4 t (ix2 r k) = (m ((c : Thread nD τ).loc main_arg0)) (ix3 2 R k) := by
  have h : iblk m c 4 t (ix2 r k) = (V m c main_v8 : Vec Ideal S2048x512 .bf16) (ix2 R k) := by
    blk_ext! [iblk, idx4 t, hR, mul_comm]
  rw [h]
  exact (congrFun (V_main_v8 m c) _).trans (part2_at _ R k)

theorem w0_blk (c : Dev nD) (t : Fin cfg0.N) (k : Fin 512) (j : Fin 1024) :
    X0_1 m c t (ix2 k j) = (m ((c : Thread nD τ).loc main_arg3)) (ix2 ⟨k.val, by omega⟩ j) := by
  rw [← V_main_arg3 m c]
  unfold X0_1 Pipeline.Window.fill
  rw [dif_pos (moved0_1 t _)]
  blk_ext! [iblk, idx1 t]

theorem w1_blk (c : Dev nD) (t : Fin cfg0.N) (k : Fin 512) (j : Fin 1024) :
    X0_3 m c t (ix2 k j) = (m ((c : Thread nD τ).loc main_arg3)) (ix2 ⟨512 + k.val, by omega⟩ j) := by
  rw [← V_main_arg3 m c]
  unfold X0_3 Pipeline.Window.fill
  rw [dif_pos (moved0_3 t _)]
  blk_ext! [iblk, idx3 t]

theorem w2_blk (c : Dev nD) (t : Fin cfg0.N) (k : Fin 512) (j : Fin 1024) :
    X0_5 m c t (ix2 k j) = (m ((c : Thread nD τ).loc main_arg3)) (ix2 ⟨1024 + k.val, by omega⟩ j) := by
  rw [← V_main_arg3 m c]
  unfold X0_5 Pipeline.Window.fill
  rw [dif_pos (moved0_5 t _)]
  blk_ext! [iblk, idx5 t]

theorem f_blk (c : Dev nD) (t : Fin cfg0.N) (r : Fin 512) (k : Fin 16) (R : Fin 2048) (hR : R.val = 512 * t.val + r.val) :
    iblk m c 6 t (ix2 r k) = (m ((c : Thread nD τ).loc main_arg1)) (ix2 R k) := by
  rw [← V_main_arg1 m c]
  blk_ext! [iblk, idx6 t, hR, mul_comm]

theorem wf_blk (c : Dev nD) (t : Fin cfg0.N) (k : Fin 16) (j : Fin 1024) :
    iblk m c 7 t (ix2 k j) = gateRows (m ((c : Thread nD τ).loc main_arg3)) (ix2 k j) := by
  have h : iblk m c 7 t (ix2 k j) = (V m c main_v1 : Vec Ideal S16x1024 .bf16) (ix2 k j) := by
    blk_ext! [iblk, idx7 t]
  rw [h]
  exact congrFun (V_main_v1 m c) _

theorem b_blk (c : Dev nD) (t : Fin cfg0.N) (r : Fin 512) (k : Fin 1024) (R : Fin 2048) (hR : R.val = 512 * t.val + r.val) :
    iblk m c 8 t (ix2 r k) = (m ((c : Thread nD τ).loc main_arg2)) (ix2 R k) := by
  rw [← V_main_arg2 m c]
  blk_ext! [iblk, idx8 t, hR, mul_comm]

theorem wb_blk (c : Dev nD) (t : Fin cfg0.N) (k j : Fin 1024) :
    iblk m c 9 t (ix2 k j) = (m ((c : Thread nD τ).loc main_arg3)) (ix2 ⟨1544 + k.val, by omega⟩ j) := by
  have h : iblk m c 9 t (ix2 k j) = (V m c main_v2 : Vec Ideal S1024x1024 .bf16) (ix2 k j) := by
    blk_ext! [iblk, idx9 t]
  rw [h]
  exact (congrFun (V_main_v2 m c) _).trans (convRows_at _ k j)

theorem x_blk (c : Dev nD) (t : Fin cfg0.N) (r : Fin 512) (R : Fin 2048) (hR : R.val = 512 * t.val + r.val) :
    (fun k => iblk m c 10 t (ix2 r k)) = rowOf (m ((c : Thread nD τ).loc main_arg4)) R := by
  rw [← V_main_arg4 m c]
  funext k
  unfold rowOf
  blk_ext! [iblk, idx10 t, hR, mul_comm]

theorem e_blk (c : Dev nD) (t : Fin cfg0.N) (r : Fin 512) (j : Fin 1024) (R : Fin 2048) (hR : R.val = 512 * t.val + r.val) :
    iblk m c 11 t (ix2 r j) = (m ((c : Thread nD τ).loc main_arg5)) (ix2 R j) := by
  rw [← V_main_arg5 m c]
  blk_ext! [iblk, idx11 t, hR, mul_comm]

theorem g_blk (c : Dev nD) (t : Fin cfg0.N) (j : Fin 1024) : iblk m c 12 t (ix2 0 j) = vecOf (m ((c : Thread nD τ).loc main_arg6)) j := by
  rw [← V_main_arg6 m c]
  unfold vecOf
  blk_ext! [iblk, idx12 t]

theorem s_blk (c : Dev nD) (t : Fin cfg0.N) (j : Fin 1024) : iblk m c 13 t (ix2 0 j) = vecOf (m ((c : Thread nD τ).loc main_arg7)) j := by
  rw [← V_main_arg7 m c]
  unfold vecOf
  blk_ext! [iblk, idx13 t]

/-- The gradient of the normed input on one device. -/
abbrev dhOf (c : Dev nD) : Fin 2048 → Fin 1024 → EReal := dh (m ((c : Thread nD τ).loc main_arg0)) (m ((c : Thread nD τ).loc main_arg1)) (m ((c : Thread nD τ).loc main_arg2)) (m ((c : Thread nD τ).loc main_arg3))

theorem dh_blk (c : Dev nD) (t : Fin cfg0.N) (r : Fin 512) (j : Fin 1024) (R : Fin 2048) (hR : R.val = 512 * t.val + r.val) :
    k0_pay3 (iblk m c 0 t) (X0_1 m c t) (iblk m c 2 t) (X0_3 m c t) (iblk m c 4 t) (X0_5 m c t) (iblk m c 6 t) (iblk m c 7 t) (iblk m c 8 t) (iblk m c 9 t) (ix2 r j) = dhOf m c R j := by
  refine (pay3_at _ _ _ _ _ _ _ _ _ _ r j).trans ?_
  unfold dhOf dh
  refine congrArg₂ _ (congrArg₂ _ (congrArg₂ _ (congrArg₂ _ ?_ ?_) ?_) ?_) ?_
  · exact Finset.sum_congr rfl fun k _ => congrArg₂ _ (a0_blk m c t r k R hR) (w0_blk m c t k j)
  · exact Finset.sum_congr rfl fun k _ => congrArg₂ _ (a1_blk m c t r k R hR) (w1_blk m c t k j)
  · exact Finset.sum_congr rfl fun k _ => congrArg₂ _ (a2_blk m c t r k R hR) (w2_blk m c t k j)
  · refine (Finset.sum_congr rfl fun k _ => congrArg₂ _ (f_blk m c t r k R hR) (wf_blk m c t k j)).trans ?_
    refine (Fin.sum_univ_add (a := 8) (b := 8) _).trans ?_
    refine (congrArg₂ _ (Finset.sum_congr rfl fun k _ => congrArg₂ _ rfl (gateRows_lo _ k j)) (Finset.sum_eq_zero fun k _ => ?_)).trans (add_zero _)
    exact (congrArg₂ _ rfl (gateRows_hi _ k j)).trans (mul_zero _)
  · exact Finset.sum_congr rfl fun k _ => congrArg₂ _ (b_blk m c t r k R hR) (wb_blk m c t k j)

theorem row_lt (t : Fin cfg0.N) (r : Fin 512) : 512 * t.val + r.val < 2048 := by
  have : t.val < 4 := lt_of_lt_of_eq t.isLt N_0
  omega

/-- One element of a block of the first result. -/
theorem dx_blk (c : Dev nD) (t : Fin cfg0.N) (r : Fin 512) (j : Fin 1024) (R : Fin 2048) (hR : R.val = 512 * t.val + r.val) :
    k0_pay1 (k0_pay3 (iblk m c 0 t) (X0_1 m c t) (iblk m c 2 t) (X0_3 m c t) (iblk m c 4 t) (X0_5 m c t) (iblk m c 6 t) (iblk m c 7 t) (iblk m c 8 t) (iblk m c 9 t))
      (k0_pay5 (k0_pay4 (iblk m c 10 t))) (k0_pay6 (iblk m c 10 t) (k0_pay4 (iblk m c 10 t))) (k0_pay7 (iblk m c 13 t)) (iblk m c 12 t) (iblk m c 11 t) (ix2 r j)
      = dxRow (dhOf m c R) (vecOf (m ((c : Thread nD τ).loc main_arg6))) (vecOf (m ((c : Thread nD τ).loc main_arg7)))
          (rowOf (m ((c : Thread nD τ).loc main_arg4)) R) (m ((c : Thread nD τ).loc main_arg5) (ix2 R j)) j := by
  refine (pay1_at _ _ _ _ _ _ r j).trans ?_
  have hx : ∀ k, iblk m c 10 t (ix2 r k) = rowOf (m ((c : Thread nD τ).loc main_arg4)) R k := congrFun (x_blk m c t r R hR)
  simp only [dh_blk m c t r _ R hR, pay5_at, pay6_at, pay7_at, e_blk m c t r j R hR, g_blk m c t, s_blk m c t, hx]
  rfl

theorem out14 (c : Dev nD) (t : Fin cfg0.N) (y : S512x1024.Idx) (i : S2048x1024.Idx) (hi0 : (i 0).val = 512 * t.val + (y 0).val) (hi1 : (i 1).val = (y 1).val) :
    (outsAt0 m c t.val t.isLt).1 y
      = dx (dhOf m c) (m ((c : Thread nD τ).loc main_arg4)) (m ((c : Thread nD τ).loc main_arg5)) (m ((c : Thread nD τ).loc main_arg6)) (m ((c : Thread nD τ).loc main_arg7)) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  by_cases h0 : t.val % 4 = 0
  · rw [outsAt0_A m c t h0]; frame_out
    exact dx_blk m c t r j' R hi0
  · rw [outsAt0_B m c t h0]; frame_out
    exact dx_blk m c t r j' R hi0

theorem final14 (c : Dev nD) : (dats m 0 c).arrAt 14 cfg0.N
    = dx (dhOf m c) (m ((c : Thread nD τ).loc main_arg4)) (m ((c : Thread nD τ).loc main_arg5)) (m ((c : Thread nD τ).loc main_arg6)) (m ((c : Thread nD τ).loc main_arg7)) := by
  refine Dat.arrAt_eq_of_covers _ 14 _ (by decide +kernel) fun t hf y => ?_
  blk_simp
  rw [after0_14]
  exact out14 m c t y _ (by blk_simp; simp [idx14 t, mul_comm]) (by blk_simp; simp [idx14 t])

/-- Three rows stored over earlier contents, read at an element. -/
theorem rows_read {κ : Kind} {sp : Space} (v : View sig κ sp S8x1024 .f32) (f : v.ty.Contents (Elt Ideal)) (i2 i1 i0)
    (p2 p1 p0 : Vec Ideal S1x1024 .f32) (L : List (View.Piece (Elt Ideal) S8x1024 .f32)) (k : Fin 8) (j : Fin 1024) :
    v.read (Elt Ideal) (v.writes (Elt Ideal) f (⟨Rect.unit (s := S8x1024) ![2, 0] ![1, 1024] i2, p2⟩ :: ⟨Rect.unit (s := S8x1024) ![1, 0] ![1, 1024] i1, p1⟩
      :: ⟨Rect.unit (s := S8x1024) ![0, 0] ![1, 1024] i0, p0⟩ :: L)) (ix2 k j)
      = if k.val = 0 then p0 (ix2 0 j) else if k.val = 1 then p1 (ix2 0 j) else if k.val = 2 then p2 (ix2 0 j)
        else v.read (Elt Ideal) (v.writes (Elt Ideal) f L) (ix2 k j) := by
  by_cases h2 : k.val = 2
  · rw [View.read_writes_cons_rows_of_mem (o := 2) v f i2 p2 _ (ix2 k j) (ix2 0 j) rfl (by simpa using h2) rfl]
    simp [h2]
  · rw [View.read_writes_cons_rows_of_not_mem (o := 2) (W := 1) v f i2 p2 _ (ix2 k j) rfl rfl (by show k.val < 2 ∨ 3 ≤ k.val; omega)]
    by_cases h1 : k.val = 1
    · rw [View.read_writes_cons_rows_of_mem (o := 1) v f i1 p1 _ (ix2 k j) (ix2 0 j) rfl (by simpa using h1) rfl]
      simp [h1]
    · rw [View.read_writes_cons_rows_of_not_mem (o := 1) (W := 1) v f i1 p1 _ (ix2 k j) rfl rfl (by show k.val < 1 ∨ 2 ≤ k.val; omega)]
      by_cases h0 : k.val = 0
      · rw [View.read_writes_cons_rows_of_mem (o := 0) v f i0 p0 _ (ix2 k j) (ix2 0 j) rfl (by simpa using h0) rfl]
        simp [h0]
      · rw [View.read_writes_cons_rows_of_not_mem (o := 0) (W := 1) v f i0 p0 _ (ix2 k j) rfl rfl (by show k.val < 0 ∨ 1 ≤ k.val; omega)]
        simp [h0, h1, h2]

/-- What one grid point adds to an element of the sums. -/
abbrev part (c : Dev nD) (t : Fin cfg0.N) (y : S8x1024.Idx) : EReal :=
  ∑ r : Fin 512, (smRow (dhOf m c ⟨512 * t.val + r.val, row_lt t r⟩) (vecOf (m ((c : Thread nD τ).loc main_arg6))) (vecOf (m ((c : Thread nD τ).loc main_arg7)))
    (rowOf (m ((c : Thread nD τ).loc main_arg4)) ⟨512 * t.val + r.val, row_lt t r⟩) (y 0).val (y 1) : EReal)

theorem add0 (c : Dev nD) (t : Fin cfg0.N) (z : Vec Ideal S1x1024 .f32) (j : Fin 1024) (k : Fin 8) (hk : k.val = 0) :
    k0_pay8 (k0_pay3 (iblk m c 0 t) (X0_1 m c t) (iblk m c 2 t) (X0_3 m c t) (iblk m c 4 t) (X0_5 m c t) (iblk m c 6 t) (iblk m c 7 t) (iblk m c 8 t) (iblk m c 9 t)) z (ix2 0 j) = z (ix2 0 j) + part m c t (ix2 k j) := by
  refine (pay8_at _ z 0 j).trans (congrArg _ (Finset.sum_congr rfl fun r _ => ?_))
  refine (dh_blk m c t r j ⟨512 * t.val + r.val, row_lt t r⟩ rfl).trans ?_
  exact (if_pos hk).symm

theorem add1 (c : Dev nD) (t : Fin cfg0.N) (z : Vec Ideal S1x1024 .f32) (j : Fin 1024) (k : Fin 8) (hk : k.val = 1) :
    k0_pay9 (k0_pay3 (iblk m c 0 t) (X0_1 m c t) (iblk m c 2 t) (X0_3 m c t) (iblk m c 4 t) (X0_5 m c t) (iblk m c 6 t) (iblk m c 7 t) (iblk m c 8 t) (iblk m c 9 t))
      (iblk m c 10 t) (k0_pay4 (iblk m c 10 t)) z (iblk m c 12 t) (ix2 0 j)
      = z (ix2 0 j) + part m c t (ix2 k j) := by
  refine (pay9_at _ _ _ z _ 0 j).trans (congrArg _ (Finset.sum_congr rfl fun r _ => ?_))
  have hx : ∀ k, iblk m c 10 t (ix2 r k) = rowOf (m ((c : Thread nD τ).loc main_arg4)) ⟨512 * t.val + r.val, row_lt t r⟩ k := congrFun (x_blk m c t r _ rfl)
  rw [dh_blk m c t r j ⟨512 * t.val + r.val, row_lt t r⟩ rfl, pay6_at, g_blk m c t]
  simp only [hx]
  exact ((if_neg (by show ¬ k.val = 0; omega)).trans (if_pos hk)).symm

theorem add2 (c : Dev nD) (t : Fin cfg0.N) (z : Vec Ideal S1x1024 .f32) (j : Fin 1024) (k : Fin 8) (hk : k.val = 2) :
    k0_pay10 (k0_pay3 (iblk m c 0 t) (X0_1 m c t) (iblk m c 2 t) (X0_3 m c t) (iblk m c 4 t) (X0_5 m c t) (iblk m c 6 t) (iblk m c 7 t) (iblk m c 8 t) (iblk m c 9 t))
      (iblk m c 10 t) (k0_pay4 (iblk m c 10 t)) (iblk m c 13 t) z (ix2 0 j)
      = z (ix2 0 j) + part m c t (ix2 k j) := by
  refine (pay10_at _ _ _ _ z 0 j).trans (congrArg _ (Finset.sum_congr rfl fun r _ => ?_))
  have hx : ∀ k, iblk m c 10 t (ix2 r k) = rowOf (m ((c : Thread nD τ).loc main_arg4)) ⟨512 * t.val + r.val, row_lt t r⟩ k := congrFun (x_blk m c t r _ rfl)
  rw [dh_blk m c t r j ⟨512 * t.val + r.val, row_lt t r⟩ rfl, pay6_at, pay7_at, s_blk m c t]
  simp only [hx]
  exact ((if_neg (by show ¬ k.val = 0; omega)).trans ((if_neg (by show ¬ k.val = 1; omega)).trans (if_pos hk))).symm

theorem add3 (c : Dev nD) (t : Fin cfg0.N) (j : Fin 1024) (k : Fin 8) (hk : ¬ k.val = 0 ∧ ¬ k.val = 1 ∧ ¬ k.val = 2) : part m c t (ix2 k j) = 0 :=
  Finset.sum_eq_zero fun _ _ => (if_neg hk.1).trans ((if_neg hk.2.1).trans (if_neg hk.2.2))

theorem zero_at (y : S8x1024.Idx) : k0_pay2 (F := Ideal) y = 0 := by
  pointwise [k0_pay2]

theorem sums_A (c : Dev nD) (t : Fin cfg0.N) (h0 : t.val % 4 = 0) (y : S8x1024.Idx) :
    (outsAt0 m c t.val t.isLt).2 y = (fun _ => 0 : S8x1024.Idx → EReal) y + part m c t y := by
  obtain ⟨k, j, rfl⟩ : ∃ (k : Fin 8) (j : Fin 1024), y = ix2 k j := ⟨y 0, y 1, eq_ix2 y⟩
  rw [outsAt0_A m c t h0]; frame_out
  rw [← View.read_writes_junk_apply_eq_canon (ms0_15 t).view]
  refine (rows_read _ _ _ _ _ _ _ _ _ k j).trans ?_
  by_cases h0 : k.val = 0
  · rw [if_pos h0, add0 m c t _ j k h0, View.readCov_fill _ _ _ _ _ (by decide)]
    exact congrArg (· + _) (zero_at _)
  by_cases h1 : k.val = 1
  · rw [if_neg h0, if_pos h1, add1 m c t _ j k h1, View.readCov_skip _ _ _ _ _ rfl, View.readCov_fill _ _ _ _ _ (by decide)]
    exact congrArg (· + _) (zero_at _)
  by_cases h2 : k.val = 2
  · rw [if_neg h0, if_neg h1, if_pos h2, add2 m c t _ j k h2, View.readCov_skip _ _ _ _ _ rfl, View.readCov_skip _ _ _ _ _ rfl, View.readCov_fill _ _ _ _ _ (by decide)]
    exact congrArg (· + _) (zero_at _)
  · rw [if_neg h0, if_neg h1, if_neg h2, add3 m c t j k ⟨h0, h1, h2⟩, add_zero]
    exact (congrFun (View.read_writes_full (s := S8x1024) _ _ _ _ _) _).trans (zero_at _)

theorem sums_B (c : Dev nD) (t : Fin cfg0.N) (h0 : ¬ t.val % 4 = 0) (y : S8x1024.Idx) :
    (outsAt0 m c t.val t.isLt).2 y = (outsAt0 m c (t.val - 1) (Nat.lt_of_le_of_lt (Nat.sub_le _ _) t.isLt)).2 y + part m c t y := by
  obtain ⟨k, j, rfl⟩ : ∃ (k : Fin 8) (j : Fin 1024), y = ix2 k j := ⟨y 0, y 1, eq_ix2 y⟩
  rw [outsAt0_B m c t h0]; frame_out
  refine (rows_read _ _ _ _ _ _ _ _ _ k j).trans ?_
  by_cases h0 : k.val = 0
  · rw [if_pos h0, add0 m c t _ j k h0]
    exact congrArg (· + _) (View.ld_unit_apply_of _ _ _ _ _ _ (Fin.forall_fin_two.mpr ⟨h0, (Nat.zero_add _).symm⟩))
  by_cases h1 : k.val = 1
  · rw [if_neg h0, if_pos h1, add1 m c t _ j k h1]
    exact congrArg (· + _) (View.ld_unit_apply_of _ _ _ _ _ _ (Fin.forall_fin_two.mpr ⟨h1, (Nat.zero_add _).symm⟩))
  by_cases h2 : k.val = 2
  · rw [if_neg h0, if_neg h1, if_pos h2, add2 m c t _ j k h2]
    exact congrArg (· + _) (View.ld_unit_apply_of _ _ _ _ _ _ (Fin.forall_fin_two.mpr ⟨h2, (Nat.zero_add _).symm⟩))
  · rw [if_neg h0, if_neg h1, if_neg h2, add3 m c t j k ⟨h0, h1, h2⟩, add_zero, View.writes_nil, Memref.IsWhole.read_unread]

theorem out15 (c : Dev nD) (t : Fin cfg0.N) (ht : t.val + 1 = cfg0.N) (y i : S8x1024.Idx) (hi0 : (i 0).val = (y 0).val) (hi1 : (i 1).val = (y 1).val) :
    (outsAt0 m c t.val t.isLt).2 y
      = sm (dhOf m c) (m ((c : Thread nD τ).loc main_arg4)) (m ((c : Thread nD τ).loc main_arg6)) (m ((c : Thread nD τ).loc main_arg7)) i := by
  obtain rfl : i = y := funext (Fin.forall_fin_two.mpr ⟨Fin.ext hi0, Fin.ext hi1⟩)
  rw [Pipeline.eq_sum_fin_of_reset_step_apply_last (fun n h => (outsAt0 m c n h).2) 4 (fun _ => 0) (part m c)
    (sums_A m c) (sums_B m c) (le_of_eq N_0) t ht i, zero_add]
  unfold sm
  refine Fin.sum_mul_add_congr (S := cfg0.N) (n := 512) fun t r hl => ?_
  have e : (⟨512 * t.val + r.val, row_lt t r⟩ : Fin 2048) = ⟨t.val * 512 + r.val, hl⟩ := Fin.ext (by simp [mul_comm])
  rw [e]

theorem final15 (c : Dev nD) : (dats m 0 c).arrAt 15 cfg0.N
    = sm (dhOf m c) (m ((c : Thread nD τ).loc main_arg4)) (m ((c : Thread nD τ).loc main_arg6)) (m ((c : Thread nD τ).loc main_arg7)) := by
  refine Dat.arrAt_eq_of_covers _ 15 _ (by decide +kernel) fun t hf y => ?_
  have h3 : t.val % 4 = 3 := (flush0_15 t).mp hf
  have hN : t.val < 4 := lt_of_lt_of_eq t.isLt N_0
  blk_simp
  rw [after0_15]
  exact out15 m c t ((by omega : t.val + 1 = 4).trans N_0.symm) y _ (by blk_simp; simp [idx15 t]) (by blk_simp; simp [idx15 t])

end Cert.Kernel11Ideal.Hand

namespace Cert.Reference11Ideal.Hand

open Cert.Reference11Ideal Cert.Reference11Ideal.Gen
open Idealize.ShloMosaic Idealize.ShloMosaic.TcCoe Idealize.SL.Sem
open Cert.Kernel4Ideal.Hand (rowOf)

/-- The six gradients side by side. -/
abbrev joined (a : FVec Ideal S3x2048x512 .bf16) (f : FVec Ideal S2048x16 .bf16) (b : FVec Ideal S2048x1024 .bf16) : FVec Ideal S2048x2568 .f32 :=
  concatenate S2048x2568 1 [
    ⟨S2048x512, (shapeCast _ (extractStridedSlice S1x2048x512 ![0, 0, 0] (extf .f32 a bitsLt_bf16_f32) slices_S3x2048x512_S1x2048x512_0_0_0) shapeCasts_S1x2048x512_S2048x512 : FVec Ideal S2048x512 .f32)⟩,
    ⟨S2048x512, (shapeCast _ (extractStridedSlice S1x2048x512 ![1, 0, 0] (extf .f32 a bitsLt_bf16_f32) slices_S3x2048x512_S1x2048x512_1_0_0) shapeCasts_S1x2048x512_S2048x512 : FVec Ideal S2048x512 .f32)⟩,
    ⟨S2048x512, (shapeCast _ (extractStridedSlice S1x2048x512 ![2, 0, 0] (extf .f32 a bitsLt_bf16_f32) slices_S3x2048x512_S1x2048x512_2_0_0) shapeCasts_S1x2048x512_S2048x512 : FVec Ideal S2048x512 .f32)⟩,
    ⟨S2048x8, (extf .f32 (extractStridedSlice S2048x8 ![0, 0] f slices_S2048x16_S2048x8_0_0) bitsLt_bf16_f32 : FVec Ideal S2048x8 .f32)⟩,
    ⟨S2048x512, (extractStridedSlice S2048x512 ![0, 0] (extf .f32 b bitsLt_bf16_f32) slices_S2048x1024_S2048x512_0_0 : FVec Ideal S2048x512 .f32)⟩,
    ⟨S2048x512, (extractStridedSlice S2048x512 ![0, 512] (extf .f32 b bitsLt_bf16_f32) slices_S2048x1024_S2048x512_0_512 : FVec Ideal S2048x512 .f32)⟩]
    concatenates_S2048x512_S2048x512_S2048x512_S2048x8_S2048x512_S2048x512_S2048x2568_d1

/-- The gradient of the normed and modulated input. -/
def dh (a : FVec Ideal S3x2048x512 .bf16) (f : FVec Ideal S2048x16 .bf16) (b : FVec Ideal S2048x1024 .bf16) (w : FVec Ideal S2568x1024 .bf16) : FVec Ideal S2048x1024 .f32 :=
  Host.dotGeneral dot_S2048x2568_S1024x2568_S2048x1024_1_1_0_0_n_n none (joined a f b)
    (transpose S1024x2568 [1, 0] (extf .f32 w bitsLt_bf16_f32) transposes_S2568x1024_S1024x2568_1_0)

/-- A sum over the weight's rows, cut where the pieces meet. -/
theorem cut (F : Fin 2568 → EReal) : ∑ x, F x = (∑ k : Fin 512, F ⟨k.val, by omega⟩) + (∑ k : Fin 512, F ⟨512 + k.val, by omega⟩) + (∑ k : Fin 512, F ⟨1024 + k.val, by omega⟩)
    + (∑ k : Fin 8, F ⟨1536 + k.val, by omega⟩) + (∑ k : Fin 512, F ⟨1544 + k.val, by omega⟩) + (∑ k : Fin 512, F ⟨2056 + k.val, by omega⟩) := by
  refine (Fin.sum_univ_add (a := 2056) (b := 512) F).trans (congrArg₂ _ ?_ rfl)
  refine (Fin.sum_univ_add (a := 1544) (b := 512) _).trans (congrArg₂ _ ?_ rfl)
  refine (Fin.sum_univ_add (a := 1536) (b := 8) _).trans (congrArg₂ _ ?_ rfl)
  refine (Fin.sum_univ_add (a := 1024) (b := 512) _).trans (congrArg₂ _ ?_ rfl)
  exact Fin.sum_univ_add (a := 512) (b := 512) _

set_option maxRecDepth 100000 in
theorem dh_read (a : FVec Ideal S3x2048x512 .bf16) (f : FVec Ideal S2048x16 .bf16) (b : FVec Ideal S2048x1024 .bf16) (w : FVec Ideal S2568x1024 .bf16) (r : Fin 2048) (j : Fin 1024) :
    dh a f b w (ix2 r j) = (∑ k : Fin 512, (a (ix3 0 r k) * w (ix2 ⟨k.val, by omega⟩ j) : EReal)) + (∑ k : Fin 512, (a (ix3 1 r k) * w (ix2 ⟨512 + k.val, by omega⟩ j) : EReal))
      + (∑ k : Fin 512, (a (ix3 2 r k) * w (ix2 ⟨1024 + k.val, by omega⟩ j) : EReal)) + (∑ k : Fin 8, (f (ix2 r ⟨k.val, by omega⟩) * w (ix2 ⟨1536 + k.val, by omega⟩ j) : EReal))
      + (∑ k : Fin 512, (b (ix2 r ⟨k.val, by omega⟩) * w (ix2 ⟨1544 + k.val, by omega⟩ j) : EReal)) + (∑ k : Fin 512, (b (ix2 r ⟨512 + k.val, by omega⟩) * w (ix2 ⟨2056 + k.val, by omega⟩ j) : EReal)) := by
  pointwise [dh, joined]
  refine (cut _).trans (congrArg₂ _ (congrArg₂ _ (congrArg₂ _ (congrArg₂ _ (congrArg₂ _ ?_ ?_) ?_) ?_) ?_) ?_)
  · exact Finset.sum_congr rfl fun k _ => congrArg₂ _ ((dif_pos (by show k.val < 512; omega)).trans (congrArg (fun q : Fin 512 => a (ix3 0 r q)) (Fin.ext (a := ⟨k.val, by omega⟩) (b := k) (by show k.val = k.val; omega)))) rfl
  · exact Finset.sum_congr rfl fun k _ => congrArg₂ _ ((dif_neg (by show ¬ 512 + k.val < 512; omega)).trans ((dif_pos (by show 512 + k.val - 512 < 512; omega)).trans (congrArg (fun q : Fin 512 => a (ix3 1 r q)) (Fin.ext (a := ⟨512 + k.val - 512, by omega⟩) (b := k) (by show 512 + k.val - 512 = k.val; omega))))) rfl
  · exact Finset.sum_congr rfl fun k _ => congrArg₂ _ ((dif_neg (by show ¬ 1024 + k.val < 512; omega)).trans ((dif_neg (by show ¬ 1024 + k.val - 512 < 512; omega)).trans ((dif_pos (by show 1024 + k.val - 512 - 512 < 512; omega)).trans (congrArg (fun q : Fin 512 => a (ix3 2 r q)) (Fin.ext (a := ⟨1024 + k.val - 512 - 512, by omega⟩) (b := k) (by show 1024 + k.val - 512 - 512 = k.val; omega)))))) rfl
  · exact Finset.sum_congr rfl fun k _ => congrArg₂ _ ((dif_neg (by show ¬ 1536 + k.val < 512; omega)).trans ((dif_neg (by show ¬ 1536 + k.val - 512 < 512; omega)).trans ((dif_neg (by show ¬ 1536 + k.val - 512 - 512 < 512; omega)).trans ((dif_pos (by show 1536 + k.val - 512 - 512 - 512 < 8; omega)).trans (congrArg (fun q : Fin 8 => f (ix2 r ⟨q.val, by omega⟩)) (Fin.ext (a := ⟨1536 + k.val - 512 - 512 - 512, by omega⟩) (b := k) (by show 1536 + k.val - 512 - 512 - 512 = k.val; omega))))))) rfl
  · exact Finset.sum_congr rfl fun k _ => congrArg₂ _ ((dif_neg (by show ¬ 1544 + k.val < 512; omega)).trans ((dif_neg (by show ¬ 1544 + k.val - 512 < 512; omega)).trans ((dif_neg (by show ¬ 1544 + k.val - 512 - 512 < 512; omega)).trans ((dif_neg (by show ¬ 1544 + k.val - 512 - 512 - 512 < 8; omega)).trans ((dif_pos (by show 1544 + k.val - 512 - 512 - 512 - 8 < 512; omega)).trans (congrArg (fun q : Fin 512 => b (ix2 r ⟨q.val, by omega⟩)) (Fin.ext (a := ⟨1544 + k.val - 512 - 512 - 512 - 8, by omega⟩) (b := k) (by show 1544 + k.val - 512 - 512 - 512 - 8 = k.val; omega)))))))) rfl
  · exact Finset.sum_congr rfl fun k _ => congrArg₂ _ ((dif_neg (by show ¬ 2056 + k.val < 512; omega)).trans ((dif_neg (by show ¬ 2056 + k.val - 512 < 512; omega)).trans ((dif_neg (by show ¬ 2056 + k.val - 512 - 512 < 512; omega)).trans ((dif_neg (by show ¬ 2056 + k.val - 512 - 512 - 512 < 8; omega)).trans ((dif_neg (by show ¬ 2056 + k.val - 512 - 512 - 512 - 8 < 512; omega)).trans (congrArg (fun q : Fin 512 => b (ix2 r ⟨512 + q.val, by omega⟩)) (Fin.ext (a := ⟨2056 + k.val - 512 - 512 - 512 - 8 - 512, by omega⟩) (b := k) (by show 2056 + k.val - 512 - 512 - 512 - 8 - 512 = k.val; omega)))))))) rfl

theorem rowOf_dh (a : FVec Ideal S3x2048x512 .bf16) (f : FVec Ideal S2048x16 .bf16) (b : FVec Ideal S2048x1024 .bf16) (w : FVec Ideal S2568x1024 .bf16) :
    rowOf (dh a f b w) = Cert.Kernel11Ideal.Hand.dh a f b w := by
  funext r j
  refine (dh_read a f b w r j).trans ?_
  unfold Cert.Kernel11Ideal.Hand.dh
  rw [add_assoc _ _ (∑ k : Fin 512, (b (ix2 r ⟨512 + k.val, _⟩) * _ : EReal))]
  refine congrArg₂ _ rfl (Eq.trans ?_ (Fin.sum_univ_add (a := 512) (b := 512) _).symm)
  refine congrArg₂ _ rfl (Finset.sum_congr rfl fun k _ => congrArg₂ _ rfl (congrArg w ?_))
  refine congrArg₂ ix2 (Fin.ext ?_) rfl
  show 2056 + k.val = 1544 + (512 + k.val)
  omega

end Cert.Reference11Ideal.Hand

namespace Cert.Hand

open Idealize.ShloMosaic Idealize.ShloMosaic.TcCoe Idealize.SL.Sem

/-- The value claim of the gradient through the norm and the modulation before the mixer. -/
theorem value11 : Cert.algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m 0 c).arrAt 14 Cert.Kernel11Ideal.cfg0.N, fun c => (Cert.Kernel11Ideal.Gen.dats m 0 c).arrAt 15 Cert.Kernel11Ideal.cfg0.N,
    Cert.Kernel11Ideal.Value.run_blocks m g, ?_⟩
  refine (θ_run _ _ _).mono (fun r h c => ?_) (Cert.Reference11Ideal.Value.run m' g')
  obtain ⟨e0, e1, e2, e3, e4, e5, e6, e7⟩ := hargs c
  obtain ⟨h0, h1, h2⟩ := h c
  have h0' : _ = Cert.Reference4Ideal.Hand.dx (Cert.Reference11Ideal.Hand.dh _ _ _ _) _ _ _ _ := h0
  have h1' : _ = Cert.Reference4Ideal.Hand.sm (Cert.Reference11Ideal.Hand.dh _ _ _ _) _ _ _ := h1
  rw [e0, e1, e2, e3, e4, e5, e6, e7] at h0'
  rw [e0, e1, e2, e3, e4, e6, e7] at h1'
  refine ⟨h0'.trans ?_, h1'.trans ?_, h2⟩
  · refine (Cert.Reference4Ideal.Hand.dx_at _ _ _ _ _).trans ?_
    rw [Cert.Reference11Ideal.Hand.rowOf_dh]
    exact (Cert.Kernel11Ideal.Hand.final14 m c).symm
  · refine (Cert.Reference4Ideal.Hand.sm_at _ _ _ _).trans ?_
    rw [Cert.Reference11Ideal.Hand.rowOf_dh]
    exact (Cert.Kernel11Ideal.Hand.final15 m c).symm

end Cert.Hand

end
-- ==== Proof.FirstNorm.lean ====
module

public import proofs.«01_k».proof.Defs
public import proofs.«01_k».proof.Proof.Gen.Kernel18Ideal.Value
public import proofs.«01_k».proof.Proof.Gen.Reference18Ideal.Run
public import proofs.«01_k».proof.Proof.FfnOut
public import Idealize.ShloMosaic.Lib.Pipeline.ValueKit

@[expose] public section

noncomputable section

namespace Cert.Kernel18Ideal.Hand

open Cert.Kernel18Ideal Cert.Kernel18Ideal.Gen
open Idealize.ShloMosaic Idealize.ShloMosaic.TcCoe Idealize.SL.Sem
open Idealize.ShloMosaic.Pipeline (Dat)
open Cert.Kernel4Ideal.Hand (len eps rs rowOf vecOf)
open Cert.Hand (nrm hidRow)

/-! The norm and modulation before the first layer. -/

variable (m : (ℓ : Loc nD τ sig) → Buf (Elt Ideal) ℓ) (ρ : Dev nD → PrngReg)

def hid (x : Vec Ideal S2048x1024 .f32) (g sc sh : Vec Ideal S1x1024 .f32) : Vec Ideal S2048x1024 .bf16 :=
  fun i => hidRow (rowOf x (i 0)) (vecOf g) (vecOf sc) (vecOf sh) (i 1)

theorem hid_at (x : Vec Ideal S512x1024 .f32) (g sc sh : Vec Ideal S1x1024 .f32) (r : Fin 512) (j : Fin 1024) :
    k0_pay1 x g sc sh (ix2 r j) = hidRow (fun k => x (ix2 r k)) (fun k => g (ix2 0 k)) (fun k => sc (ix2 0 k)) (fun k => sh (ix2 0 k)) j := by
  pointwise [k0_pay1, hidRow, nrm, rs, len, eps]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem vec_blk1 (c : Dev nD) (t : Fin cfg0.N) : (fun j => iblk m c 1 t (ix2 0 j)) = vecOf (m ((c : Thread nD τ).loc main_arg1)) := by
  funext j
  unfold vecOf
  blk_ext! [iblk, V, idx1 t]

theorem vec_blk2 (c : Dev nD) (t : Fin cfg0.N) : (fun j => iblk m c 2 t (ix2 0 j)) = vecOf (m ((c : Thread nD τ).loc main_arg2)) := by
  funext j
  unfold vecOf
  blk_ext! [iblk, V, idx2 t]

theorem vec_blk3 (c : Dev nD) (t : Fin cfg0.N) : (fun j => iblk m c 3 t (ix2 0 j)) = vecOf (m ((c : Thread nD τ).loc main_arg3)) := by
  funext j
  unfold vecOf
  blk_ext! [iblk, V, idx3 t]

theorem x_blk (c : Dev nD) (t : Fin cfg0.N) (r : Fin 512) (R : Fin 2048) (hR : R.val = 512 * t.val + r.val) :
    (fun k => iblk m c 0 t (ix2 r k)) = rowOf (m ((c : Thread nD τ).loc main_arg0)) R := by
  funext k
  unfold rowOf
  blk_ext! [iblk, V, idx0 t, hR, mul_comm]

theorem out4 (c : Dev nD) (t : Fin cfg0.N) (y : S512x1024.Idx) (i : S2048x1024.Idx) (hi0 : (i 0).val = 512 * t.val + (y 0).val) (hi1 : (i 1).val = (y 1).val) :
    out0_4 (iblk m c 0 t) (iblk m c 1 t) (iblk m c 2 t) (iblk m c 3 t) y = hid (m ((c : Thread nD τ).loc main_arg0)) (m ((c : Thread nD τ).loc main_arg1)) (m ((c : Thread nD τ).loc main_arg2)) (m ((c : Thread nD τ).loc main_arg3)) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  frame_out
  refine (hid_at _ _ _ _ r j').trans ?_
  rw [x_blk m c t r R hi0, vec_blk1 m c t, vec_blk2 m c t, vec_blk3 m c t]
  rfl

theorem final4 (c : Dev nD) : (dats m 0 c).arrAt 4 cfg0.N = hid (m ((c : Thread nD τ).loc main_arg0)) (m ((c : Thread nD τ).loc main_arg1)) (m ((c : Thread nD τ).loc main_arg2)) (m ((c : Thread nD τ).loc main_arg3)) := by
  refine Dat.arrAt_eq_of_covers _ 4 _ (by decide +kernel) fun t hf y => ?_
  blk_simp
  rw [after0_4]
  exact out4 m c t y _ (by blk_simp; simp [idx4 t, mul_comm]) (by blk_simp; simp [idx4 t])

end Cert.Kernel18Ideal.Hand

namespace Cert.Reference18Ideal.Hand

open Cert.Reference18Ideal Cert.Reference18Ideal.Gen
open Idealize.ShloMosaic Idealize.ShloMosaic.TcCoe Idealize.SL.Sem

abbrev ms (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

abbrev row (g : FVec Ideal S1x1024 .f32) : FVec Ideal S2048x1024 .f32 := broadcastInDim S2048x1024 ![0, 1] bcast_S1x1024_S2048x1024_0_1 g

abbrev norm (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (ms x)))) (row g)

/-- The reference's result. -/
def hid (x : FVec Ideal S2048x1024 .f32) (g sc sh : FVec Ideal S1x1024 .f32) : FVec Ideal S2048x1024 .bf16 :=
  truncf .bf16 (addf (mulf (norm x g) (row (addf (broadcastInDim S1x1024 ![] bcast_S_S1x1024 (constant S_ .f32 0x3F800000#32)) sc))) (row sh)) bitsLt_bf16_f32

theorem hid_eq (x : FVec Ideal S2048x1024 .f32) (g sc sh : FVec Ideal S1x1024 .f32) : hid x g sc sh = Cert.Kernel18Ideal.Hand.hid x g sc sh := by
  funext i
  obtain ⟨r, j, rfl⟩ : ∃ (r : Fin 2048) (j : Fin 1024), i = ix2 r j := ⟨i 0, i 1, eq_ix2 i⟩
  pointwise [hid, norm, ms, row]
  rfl

end Cert.Reference18Ideal.Hand

namespace Cert.Hand

open Idealize.ShloMosaic Idealize.ShloMosaic.TcCoe Idealize.SL.Sem

/-- The value claim of this call. -/
theorem value18 : Cert.algebraic_Kernel18Ideal_Reference18Ideal (hKernel18Ideal := Cert.Kernel18Ideal.Gen.facts)
    (hReference18Ideal := Cert.Reference18Ideal.Gen.facts) := by
  intro m g m' g' _ hargs
  refine ⟨fun c => (Cert.Kernel18Ideal.Gen.dats m 0 c).arrAt 4 Cert.Kernel18Ideal.cfg0.N,
    Cert.Kernel18Ideal.Value.run_blocks m g, ?_⟩
  refine (θ_run _ _ _).mono (fun r h c => ?_) (Cert.Reference18Ideal.Value.run m' g')
  obtain ⟨e0, e1, e2, e3⟩ := hargs c
  obtain ⟨h0, h1⟩ := h c
  have h0' : _ = Cert.Reference18Ideal.Hand.hid _ _ _ _ := h0
  rw [e0, e1, e2, e3] at h0'
  refine ⟨h0'.trans ?_, h1⟩
  · rw [Cert.Reference18Ideal.Hand.hid_eq]
    exact (Cert.Kernel18Ideal.Hand.final4 m c).symm

end Cert.Hand

end
-- ==== Proof.AdamW.lean ====
module

public import proofs.«01_k».proof.Defs
public import proofs.«01_k».proof.Proof.Gen.Kernel20Ideal.Value
public import proofs.«01_k».proof.Proof.Gen.Reference20Ideal.Run
public import Idealize.ShloMosaic.Lib.Pipeline.ValueKit

@[expose] public section

noncomputable section

namespace Cert.Kernel20Ideal.Hand

open Cert.Kernel20Ideal Cert.Kernel20Ideal.Gen
open Idealize.ShloMosaic Idealize.ShloMosaic.TcCoe Idealize.SL.Sem
open Idealize.ShloMosaic.Pipeline (Dat)

/-! The optimiser's step on the modulation's weight. -/

variable (m : (ℓ : Loc nD τ sig) → Buf (Elt Ideal) ℓ) (ρ : Dev nD → PrngReg)

/-- The moments after the step, and the weight's change, at one element. -/
def mom (g m : EReal) : EReal := Ideal.ofBits FTy.f32 0x3F666666#32 * m + Ideal.ofBits FTy.f32 0x3DCCCCCD#32 * g
def sqm (g v : EReal) : EReal := Ideal.ofBits FTy.f32 0x3F7FBE77#32 * v + Ideal.ofBits FTy.f32 0x3A83126F#32 * (g * g)
def chg (w g m v : EReal) : EReal :=
  Ideal.ofBits FTy.f32 0xBA83126F#32 * (Ideal.div (Ideal.div (mom g m) (Ideal.ofBits FTy.f32 0x3F26BD02#32))
    (Ideal.sqrt (Ideal.div (sqm g v) (Ideal.ofBits FTy.f32 0x3C231ACC#32)) + Ideal.ofBits FTy.f32 0x322BCC77#32) + Ideal.ofBits FTy.f32 0x3C23D70A#32 * w)

def Mom (g m : Vec Ideal S4096x768 .f32) : Vec Ideal S4096x768 .f32 := fun i => mom (g i) (m i)
def Sqm (g v : Vec Ideal S4096x768 .f32) : Vec Ideal S4096x768 .f32 := fun i => sqm (g i) (v i)
def Chg (w g m v : Vec Ideal S4096x768 .f32) : Vec Ideal S4096x768 .f32 := fun i => chg (w i) (g i) (m i) (v i)

theorem pay1_at (g m : Vec Ideal S256x768 .f32) (r : Fin 256) (j : Fin 768) : k0_pay1 g m (ix2 r j) = mom (g (ix2 r j)) (m (ix2 r j)) := by
  pointwise [k0_pay1, mom]

theorem pay2_at (g v : Vec Ideal S256x768 .f32) (r : Fin 256) (j : Fin 768) : k0_pay2 g v (ix2 r j) = sqm (g (ix2 r j)) (v (ix2 r j)) := by
  pointwise [k0_pay2, sqm]

theorem pay3_at (g w m v : Vec Ideal S256x768 .f32) (r : Fin 256) (j : Fin 768) :
    k0_pay3 g w m v (ix2 r j) = chg (w (ix2 r j)) (g (ix2 r j)) (m (ix2 r j)) (v (ix2 r j)) := by
  pointwise [k0_pay3, k0_pay1, k0_pay2, chg, mom, sqm]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (c : Dev nD) (t : Fin cfg0.N) (r : Fin 256) (j : Fin 768) (R : Fin 4096) (hR : R.val = 256 * t.val + r.val) :
    iblk m c 0 t (ix2 r j) = (m ((c : Thread nD τ).loc main_arg0)) (ix2 R j) := by
  blk_ext! [iblk, V, idx0 t, hR, mul_comm]

theorem blk1 (c : Dev nD) (t : Fin cfg0.N) (r : Fin 256) (j : Fin 768) (R : Fin 4096) (hR : R.val = 256 * t.val + r.val) :
    iblk m c 1 t (ix2 r j) = (m ((c : Thread nD τ).loc main_arg1)) (ix2 R j) := by
  blk_ext! [iblk, V, idx1 t, hR, mul_comm]

theorem blk2 (c : Dev nD) (t : Fin cfg0.N) (r : Fin 256) (j : Fin 768) (R : Fin 4096) (hR : R.val = 256 * t.val + r.val) :
    iblk m c 2 t (ix2 r j) = (m ((c : Thread nD τ).loc main_arg2)) (ix2 R j) := by
  blk_ext! [iblk, V, idx2 t, hR, mul_comm]

theorem blk3 (c : Dev nD) (t : Fin cfg0.N) (r : Fin 256) (j : Fin 768) (R : Fin 4096) (hR : R.val = 256 * t.val + r.val) :
    iblk m c 3 t (ix2 r j) = (m ((c : Thread nD τ).loc main_arg3)) (ix2 R j) := by
  blk_ext! [iblk, V, idx3 t, hR, mul_comm]

theorem out4 (c : Dev nD) (t : Fin cfg0.N) (y : S256x768.Idx) (i : S4096x768.Idx) (hi0 : (i 0).val = 256 * t.val + (y 0).val) (hi1 : (i 1).val = (y 1).val) :
    out0_4 (iblk m c 0 t) (iblk m c 1 t) (iblk m c 2 t) (iblk m c 3 t) y = ((m ((c : Thread nD τ).loc main_arg1))) i := by
  obtain ⟨r, j, rfl⟩ : ∃ (r : Fin 256) (j : Fin 768), y = ix2 r j := ⟨y 0, y 1, eq_ix2 y⟩
  obtain ⟨R, j', rfl⟩ : ∃ (R : Fin 4096) (j' : Fin 768), i = ix2 R j' := ⟨i 0, i 1, eq_ix2 i⟩
  obtain rfl : j' = j := Fin.ext hi1
  frame_out
  exact blk1 m c t r j' R hi0

theorem final4 (c : Dev nD) : (dats m 0 c).arrAt 4 cfg0.N = (m ((c : Thread nD τ).loc main_arg1)) := by
  refine Dat.arrAt_eq_of_covers _ 4 _ (by decide +kernel) fun t hf y => ?_
  blk_simp
  rw [after0_4]
  exact out4 m c t y _ (by blk_simp; simp [idx4 t, mul_comm]) (by blk_simp; simp [idx4 t])

theorem out5 (c : Dev nD) (t : Fin cfg0.N) (y : S256x768.Idx) (i : S4096x768.Idx) (hi0 : (i 0).val = 256 * t.val + (y 0).val) (hi1 : (i 1).val = (y 1).val) :
    out0_5 (iblk m c 0 t) (iblk m c 1 t) (iblk m c 2 t) (iblk m c 3 t) y = (Chg (m ((c : Thread nD τ).loc main_arg0)) (m ((c : Thread nD τ).loc main_arg1)) (m ((c : Thread nD τ).loc main_arg2)) (m ((c : Thread nD τ).loc main_arg3))) i := by
  obtain ⟨r, j, rfl⟩ : ∃ (r : Fin 256) (j : Fin 768), y = ix2 r j := ⟨y 0, y 1, eq_ix2 y⟩
  obtain ⟨R, j', rfl⟩ : ∃ (R : Fin 4096) (j' : Fin 768), i = ix2 R j' := ⟨i 0, i 1, eq_ix2 i⟩
  obtain rfl : j' = j := Fin.ext hi1
  frame_out
  refine (pay3_at _ _ _ _ r j').trans ?_
  rw [blk0 m c t r j' R hi0, blk1 m c t r j' R hi0, blk2 m c t r j' R hi0, blk3 m c t r j' R hi0]
  rfl

theorem final5 (c : Dev nD) : (dats m 0 c).arrAt 5 cfg0.N = Chg (m ((c : Thread nD τ).loc main_arg0)) (m ((c : Thread nD τ).loc main_arg1)) (m ((c : Thread nD τ).loc main_arg2)) (m ((c : Thread nD τ).loc main_arg3)) := by
  refine Dat.arrAt_eq_of_covers _ 5 _ (by decide +kernel) fun t hf y => ?_
  blk_simp
  rw [after0_5]
  exact out5 m c t y _ (by blk_simp; simp [idx5 t, mul_comm]) (by blk_simp; simp [idx5 t])

theorem out6 (c : Dev nD) (t : Fin cfg0.N) (y : S256x768.Idx) (i : S4096x768.Idx) (hi0 : (i 0).val = 256 * t.val + (y 0).val) (hi1 : (i 1).val = (y 1).val) :
    out0_6 (iblk m c 0 t) (iblk m c 1 t) (iblk m c 2 t) (iblk m c 3 t) y = (Mom (m ((c : Thread nD τ).loc main_arg1)) (m ((c : Thread nD τ).loc main_arg2))) i := by
  obtain ⟨r, j, rfl⟩ : ∃ (r : Fin 256) (j : Fin 768), y = ix2 r j := ⟨y 0, y 1, eq_ix2 y⟩
  obtain ⟨R, j', rfl⟩ : ∃ (R : Fin 4096) (j' : Fin 768), i = ix2 R j' := ⟨i 0, i 1, eq_ix2 i⟩
  obtain rfl : j' = j := Fin.ext hi1
  frame_out
  refine (pay1_at _ _ r j').trans ?_
  rw [blk1 m c t r j' R hi0, blk2 m c t r j' R hi0]
  rfl

theorem final6 (c : Dev nD) : (dats m 0 c).arrAt 6 cfg0.N = Mom (m ((c : Thread nD τ).loc main_arg1)) (m ((c : Thread nD τ).loc main_arg2)) := by
  refine Dat.arrAt_eq_of_covers _ 6 _ (by decide +kernel) fun t hf y => ?_
  blk_simp
  rw [after0_6]
  exact out6 m c t y _ (by blk_simp; simp [idx6 t, mul_comm]) (by blk_simp; simp [idx6 t])

theorem out7 (c : Dev nD) (t : Fin cfg0.N) (y : S256x768.Idx) (i : S4096x768.Idx) (hi0 : (i 0).val = 256 * t.val + (y 0).val) (hi1 : (i 1).val = (y 1).val) :
    out0_7 (iblk m c 0 t) (iblk m c 1 t) (iblk m c 2 t) (iblk m c 3 t) y = (Sqm (m ((c : Thread nD τ).loc main_arg1)) (m ((c : Thread nD τ).loc main_arg3))) i := by
  obtain ⟨r, j, rfl⟩ : ∃ (r : Fin 256) (j : Fin 768), y = ix2 r j := ⟨y 0, y 1, eq_ix2 y⟩
  obtain ⟨R, j', rfl⟩ : ∃ (R : Fin 4096) (j' : Fin 768), i = ix2 R j' := ⟨i 0, i 1, eq_ix2 i⟩
  obtain rfl : j' = j := Fin.ext hi1
  frame_out
  refine (pay2_at _ _ r j').trans ?_
  rw [blk1 m c t r j' R hi0, blk3 m c t r j' R hi0]
  rfl

theorem final7 (c : Dev nD) : (dats m 0 c).arrAt 7 cfg0.N = Sqm (m ((c : Thread nD τ).loc main_arg1)) (m ((c : Thread nD τ).loc main_arg3)) := by
  refine Dat.arrAt_eq_of_covers _ 7 _ (by decide +kernel) fun t hf y => ?_
  blk_simp
  rw [after0_7]
  exact out7 m c t y _ (by blk_simp; simp [idx7 t, mul_comm]) (by blk_simp; simp [idx7 t])

end Cert.Kernel20Ideal.Hand

namespace Cert.Reference20Ideal.Hand

open Cert.Reference20Ideal Cert.Reference20Ideal.Gen
open Idealize.ShloMosaic Idealize.ShloMosaic.TcCoe Idealize.SL.Sem

/-- The reference's moments and change. -/
def Mom (g m : FVec Ideal S4096x768 .f32) : FVec Ideal S4096x768 .f32 := addf (mulf (broadcastInDim S4096x768 ![] bcast_S_S4096x768 (constant S_ .f32 0x3F666666#32)) m) (mulf (broadcastInDim S4096x768 ![] bcast_S_S4096x768 (constant S_ .f32 0x3DCCCCCD#32)) g)
def Sqm (g v : FVec Ideal S4096x768 .f32) : FVec Ideal S4096x768 .f32 := addf (mulf (broadcastInDim S4096x768 ![] bcast_S_S4096x768 (constant S_ .f32 0x3F7FBE77#32)) v) (mulf (broadcastInDim S4096x768 ![] bcast_S_S4096x768 (constant S_ .f32 0x3A83126F#32)) (mulf g g))
def Chg (w g m v : FVec Ideal S4096x768 .f32) : FVec Ideal S4096x768 .f32 :=
  mulf (broadcastInDim S4096x768 ![] bcast_S_S4096x768 (constant S_ .f32 0xBA83126F#32)) (addf (Host.divf (Host.divf (Mom g m) (broadcastInDim S4096x768 ![] bcast_S_S4096x768 (constant S_ .f32 0x3F26BD02#32))) (addf (Host.sqrt (Host.divf (Sqm g v) (broadcastInDim S4096x768 ![] bcast_S_S4096x768 (constant S_ .f32 0x3C231ACC#32)))) (broadcastInDim S4096x768 ![] bcast_S_S4096x768 (constant S_ .f32 0x322BCC77#32)))) (mulf (broadcastInDim S4096x768 ![] bcast_S_S4096x768 (constant S_ .f32 0x3C23D70A#32)) w))

theorem Mom_eq (g m : FVec Ideal S4096x768 .f32) : Mom g m = Cert.Kernel20Ideal.Hand.Mom g m := by
  funext i
  obtain ⟨r, j, rfl⟩ : ∃ (r : Fin 4096) (j : Fin 768), i = ix2 r j := ⟨i 0, i 1, eq_ix2 i⟩
  pointwise [Mom]
  rfl

theorem Sqm_eq (g v : FVec Ideal S4096x768 .f32) : Sqm g v = Cert.Kernel20Ideal.Hand.Sqm g v := by
  funext i
  obtain ⟨r, j, rfl⟩ : ∃ (r : Fin 4096) (j : Fin 768), i = ix2 r j := ⟨i 0, i 1, eq_ix2 i⟩
  pointwise [Sqm]
  rfl

theorem Chg_eq (w g m v : FVec Ideal S4096x768 .f32) : Chg w g m v = Cert.Kernel20Ideal.Hand.Chg w g m v := by
  funext i
  obtain ⟨r, j, rfl⟩ : ∃ (r : Fin 4096) (j : Fin 768), i = ix2 r j := ⟨i 0, i 1, eq_ix2 i⟩
  pointwise [Chg, Mom, Sqm]
  rfl

end Cert.Reference20Ideal.Hand

namespace Cert.Hand

open Idealize.ShloMosaic Idealize.ShloMosaic.TcCoe Idealize.SL.Sem

/-- The value claim of this call. -/
theorem value20 : Cert.algebraic_Kernel20Ideal_Reference20Ideal (hKernel20Ideal := Cert.Kernel20Ideal.Gen.facts)
    (hReference20Ideal := Cert.Reference20Ideal.Gen.facts) := by
  intro m g m' g' _ hargs
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, fun c => (Cert.Kernel20Ideal.Gen.dats m 0 c).arrAt 6 Cert.Kernel20Ideal.cfg0.N, fun c => (Cert.Kernel20Ideal.Gen.dats m 0 c).arrAt 7 Cert.Kernel20Ideal.cfg0.N,
    Cert.Kernel20Ideal.Value.run_blocks m g, ?_⟩
  refine (θ_run _ _ _).mono (fun r h c => ?_) (Cert.Reference20Ideal.Value.run m' g')
  obtain ⟨e0, e1, e2, e3⟩ := hargs c
  obtain ⟨h0, h1, h2, h3, h4⟩ := h c
  have h0' := h0
  rw [e1] at h0'
  have h1' : _ = Cert.Reference20Ideal.Hand.Chg _ _ _ _ := h1
  rw [e0, e1, e2, e3] at h1'
  have h2' : _ = Cert.Reference20Ideal.Hand.Mom _ _ := h2
  rw [e1, e2] at h2'
  have h3' : _ = Cert.Reference20Ideal.Hand.Sqm _ _ := h3
  rw [e1, e3] at h3'
  refine ⟨h0'.trans ?_, h1'.trans ?_, h2'.trans ?_, h3'.trans ?_, h4⟩
  · exact (Cert.Kernel20Ideal.Hand.final4 m c).symm
  · rw [Cert.Reference20Ideal.Hand.Chg_eq]
    exact (Cert.Kernel20Ideal.Hand.final5 m c).symm
  · rw [Cert.Reference20Ideal.Hand.Mom_eq]
    exact (Cert.Kernel20Ideal.Hand.final6 m c).symm
  · rw [Cert.Reference20Ideal.Hand.Sqm_eq]
    exact (Cert.Kernel20Ideal.Hand.final7 m c).symm

end Cert.Hand

end
-- ==== Proof.AdaFwd.lean ====
module

public import proofs.«01_k».proof.Defs
public import proofs.«01_k».proof.Proof.Gen.Kernel17Ideal.Value
public import proofs.«01_k».proof.Proof.Gen.Reference17Ideal.Run
public import Idealize.ShloMosaic.Lib.Pipeline.ValueKit

@[expose] public section

noncomputable section

namespace Cert.Kernel17Ideal.Hand

open Cert.Kernel17Ideal Cert.Kernel17Ideal.Gen
open Idealize.ShloMosaic Idealize.ShloMosaic.TcCoe Idealize.SL.Sem
open Idealize.ShloMosaic.Pipeline (Dat)

/-! The modulation of every layer, on one device's columns. -/

variable (m : (ℓ : Loc nD τ sig) → Buf (Elt Ideal) ℓ) (ρ : Dev nD → PrngReg)

/-- A value times its logistic function. -/
def silu (x : EReal) : EReal := x * Ideal.div 1 (1 + Ideal.exp (0 - x))

def G (a : Vec Ideal S8x1024 .f32) (w : Vec Ideal S4x1024x768 .f32) (b : Vec Ideal S4x1x768 .f32) : Vec Ideal S4x8x768 .f32 :=
  fun i => (∑ k : Fin 1024, (silu (a (ix2 (i 1) k)) * w (ix3 (i 0) k (i 2)) : EReal)) + b (ix3 (i 0) 0 (i 2))

theorem pay_at (a : Vec Ideal S8x1024 .f32) (w : Vec Ideal S1x1024x768 .f32) (b : Vec Ideal S1x1x768 .f32) (z : Fin 1) (r : Fin 8) (j : Fin 768) :
    k0_pay1 a w b (ix3 z r j) = (∑ k : Fin 1024, (silu (a (ix2 r k)) * w (ix3 0 k j) : EReal)) + b (ix3 0 0 j) := by
  pointwise [k0_pay1, silu]

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)

theorem a_blk (c : Dev nD) (t : Fin cfg0.N) (r : Fin 8) (k : Fin 1024) : iblk m c 0 t (ix2 r k) = (m ((c : Thread nD τ).loc main_arg0)) (ix2 r k) := by
  blk_ext! [iblk, V, idx0 t]

theorem w_blk (c : Dev nD) (t : Fin cfg0.N) (k : Fin 1024) (j : Fin 768) (l : Fin 4) (hl : l.val = t.val) : iblk m c 1 t (ix3 0 k j) = (m ((c : Thread nD τ).loc main_arg1)) (ix3 l k j) := by
  blk_ext! [iblk, V, idx1 t, hl]

theorem b_blk (c : Dev nD) (t : Fin cfg0.N) (j : Fin 768) (l : Fin 4) (hl : l.val = t.val) : iblk m c 2 t (ix3 0 0 j) = (m ((c : Thread nD τ).loc main_arg2)) (ix3 l 0 j) := by
  blk_ext! [iblk, V, idx2 t, hl]

theorem out3 (c : Dev nD) (t : Fin cfg0.N) (y : S1x8x768.Idx) (i : S4x8x768.Idx) (hi0 : (i 0).val = t.val) (hi1 : (i 1).val = (y 1).val) (hi2 : (i 2).val = (y 2).val) :
    out0_3 (iblk m c 0 t) (iblk m c 1 t) (iblk m c 2 t) y = G (m ((c : Thread nD τ).loc main_arg0)) (m ((c : Thread nD τ).loc main_arg1)) (m ((c : Thread nD τ).loc main_arg2)) i := by
  obtain ⟨z, r, j, rfl⟩ : ∃ (z : Fin 1) (r : Fin 8) (j : Fin 768), y = ix3 z r j := ⟨y 0, y 1, y 2, eq_ix3 y⟩
  obtain ⟨l, r', j', rfl⟩ : ∃ (l : Fin 4) (r : Fin 8) (j : Fin 768), i = ix3 l r j := ⟨i 0, i 1, i 2, eq_ix3 i⟩
  obtain rfl : r' = r := Fin.ext hi1
  obtain rfl : j' = j := Fin.ext hi2
  frame_out
  refine (pay_at _ _ _ z r' j').trans ?_
  simp only [a_blk m c t, w_blk m c t _ _ l hi0, b_blk m c t _ l hi0]
  rfl

theorem final3 (c : Dev nD) : (dats m 0 c).arrAt 3 cfg0.N = G (m ((c : Thread nD τ).loc main_arg0)) (m ((c : Thread nD τ).loc main_arg1)) (m ((c : Thread nD τ).loc main_arg2)) := by
  refine Dat.arrAt_eq_of_covers _ 3 _ (by decide +kernel) fun t hf y => ?_
  have hy : (y 0).val = 0 := by have := (y 0).isLt; exact Nat.lt_one_iff.mp this
  blk_simp
  rw [after0_3]
  exact out3 m c t y _ (by blk_simp; simp [idx3 t, hy]) (by blk_simp; simp [idx3 t]) (by blk_simp; simp [idx3 t])

end Cert.Kernel17Ideal.Hand

namespace Cert.Reference17Ideal.Hand

open Cert.Reference17Ideal Cert.Reference17Ideal.Gen
open Idealize.ShloMosaic Idealize.ShloMosaic.TcCoe Idealize.SL.Sem
open Cert.Kernel17Ideal.Hand (silu)

/-- The reference's result. -/
def G (a : FVec Ideal S8x1024 .f32) (w : FVec Ideal S4x1024x768 .f32) (b : FVec Ideal S4x1x768 .f32) : FVec Ideal S4x8x768 .f32 :=
  addf (transpose S4x8x768 [0, 2, 1] (Host.dotGeneral dot_S4x1024x768_S8x1024_S4x768x8_1_1_02_0_n_n none w (mulf a (Host.divf (broadcastInDim S8x1024 ![] bcast_S_S8x1024 (constant S_ .f32 0x3F800000#32)) (addf (broadcastInDim S8x1024 ![] bcast_S_S8x1024 (constant S_ .f32 0x3F800000#32)) (Host.exp (Host.negf a)))))) transposes_S4x768x8_S4x8x768_0_2_1) (broadcastInDim S4x8x768 ![0, 1, 2] bcast_S4x1x768_S4x8x768_0_1_2 b)

theorem G_eq (a : FVec Ideal S8x1024 .f32) (w : FVec Ideal S4x1024x768 .f32) (b : FVec Ideal S4x1x768 .f32) : G a w b = Cert.Kernel17Ideal.Hand.G a w b := by
  funext i
  obtain ⟨l, r, j, rfl⟩ : ∃ (l : Fin 4) (r : Fin 8) (j : Fin 768), i = ix3 l r j := ⟨i 0, i 1, i 2, eq_ix3 i⟩
  pointwise [G]
  refine congrArg (· + b (ix3 l 0 j)) (Finset.sum_congr rfl fun k _ => (mul_comm _ _).trans ?_)
  rw [← zero_sub]
  rfl

end Cert.Reference17Ideal.Hand

namespace Cert.Hand

open Idealize.ShloMosaic Idealize.ShloMosaic.TcCoe Idealize.SL.Sem

/-- The value claim of this call. -/
theorem value17 : Cert.algebraic_Kernel17Ideal_Reference17Ideal (hKernel17Ideal := Cert.Kernel17Ideal.Gen.facts)
    (hReference17Ideal := Cert.Reference17Ideal.Gen.facts) := by
  intro m g m' g' _ hargs
  refine ⟨fun c => (Cert.Kernel17Ideal.Gen.dats m 0 c).arrAt 3 Cert.Kernel17Ideal.cfg0.N,
    Cert.Kernel17Ideal.Value.run_blocks m g, ?_⟩
  refine (θ_run _ _ _).mono (fun r h c => ?_) (Cert.Reference17Ideal.Value.run m' g')
  obtain ⟨e0, e1, e2⟩ := hargs c
  obtain ⟨h0, h1⟩ := h c
  have h0' : _ = Cert.Reference17Ideal.Hand.G _ _ _ := h0
  rw [e0, e1, e2] at h0'
  refine ⟨h0'.trans ?_, h1⟩
  · rw [Cert.Reference17Ideal.Hand.G_eq]
    exact (Cert.Kernel17Ideal.Hand.final3 m c).symm

end Cert.Hand

end
-- ==== Proof.AdaBwd.lean ====
module

public import proofs.«01_k».proof.Defs
public import proofs.«01_k».proof.Proof.Gen.Kernel16Ideal.Value
public import proofs.«01_k».proof.Proof.Gen.Reference16Ideal.Run
public import proofs.«01_k».proof.Proof.AdaFwd
public import Idealize.ShloMosaic.Lib.Pipeline.ValueKit

@[expose] public section

noncomputable section

namespace Cert.Kernel16Ideal.Hand

open Cert.Kernel16Ideal Cert.Kernel16Ideal.Gen
open Idealize.ShloMosaic Idealize.ShloMosaic.TcCoe Idealize.SL.Sem
open Idealize.ShloMosaic.Pipeline (Dat)
open Cert.Kernel17Ideal.Hand (silu)

/-! The gradient of the modulation's weight, on one device's columns. -/

variable (m : (ℓ : Loc nD τ sig) → Buf (Elt Ideal) ℓ) (ρ : Dev nD → PrngReg)

def G (a : Vec Ideal S1024x8 .f32) (d : Vec Ideal S4x8x768 .f32) : Vec Ideal S4x1024x768 .f32 :=
  fun i => ∑ b : Fin 8, (silu (a (ix2 (i 1) b)) * d (ix3 (i 0) b (i 2)) : EReal)

theorem act_at (a : Vec Ideal S1024x8 .f32) (r : Fin 1024) (b : Fin 8) : k0_pay2 a (ix2 r b) = silu (a (ix2 r b)) := by
  pointwise [k0_pay2, silu]

theorem pay_at (a : Vec Ideal S1024x8 .f32) (d0 d1 d2 d3 d4 d5 d6 d7 : Vec Ideal S1x1x768 .f32) (z : Fin 1) (r : Fin 1024) (j : Fin 768) :
    k0_pay1 (k0_pay2 a) (k0_pay3 a d0 d1 d2 d3) (k0_pay4 a) (k0_pay5 d4) d5 d6 d7 (ix3 z r j)
      = silu (a (ix2 r 0)) * d0 (ix3 0 0 j) + silu (a (ix2 r 1)) * d1 (ix3 0 0 j) + silu (a (ix2 r 2)) * d2 (ix3 0 0 j) + silu (a (ix2 r 3)) * d3 (ix3 0 0 j) + silu (a (ix2 r 4)) * d4 (ix3 0 0 j) + silu (a (ix2 r 5)) * d5 (ix3 0 0 j) + silu (a (ix2 r 6)) * d6 (ix3 0 0 j) + silu (a (ix2 r 7)) * d7 (ix3 0 0 j) := by
  have e := act_at a r
  unfold k0_pay3 k0_pay4
  generalize k0_pay2 a = q at e ⊢
  pointwise [k0_pay1, k0_pay5]
  simp only [← e]

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)

theorem a_blk (c : Dev nD) (t : Fin cfg0.N) (r : Fin 1024) (b : Fin 8) : iblk m c 0 t (ix2 r b) = (m ((c : Thread nD τ).loc main_arg0)) (ix2 r b) := by
  blk_ext! [iblk, V, idx0 t]

theorem d_blk (c : Dev nD) (t : Fin cfg0.N) (b : Fin 8) (j : Fin 768) (l : Fin 4) (hl : l.val = t.val) : iblk m c 1 t (ix3 0 b j) = (m ((c : Thread nD τ).loc main_arg1)) (ix3 l b j) := by
  blk_ext! [iblk, V, idx1 t, hl]

/-- One row of a block. -/
theorem ld_at (d : Vec Ideal S1x8x768 .f32) (b : Fin 8) (h) (j : Fin 768) :
    View.ld d (Rect.unit (s := S1x8x768) ![0, b.val, 0] S1x1x768.size h) (ix3 0 0 j) = d (ix3 0 b j) :=
  View.ld_unit_apply_of _ _ _ _ _ _ (by intro k; fin_cases k <;> simp)

theorem out2 (c : Dev nD) (t : Fin cfg0.N) (y : S1x1024x768.Idx) (i : S4x1024x768.Idx) (hi0 : (i 0).val = t.val) (hi1 : (i 1).val = (y 1).val) (hi2 : (i 2).val = (y 2).val) :
    out0_2 (iblk m c 0 t) (iblk m c 1 t) y = G (m ((c : Thread nD τ).loc main_arg0)) (m ((c : Thread nD τ).loc main_arg1)) i := by
  obtain ⟨z, r, j, rfl⟩ : ∃ (z : Fin 1) (r : Fin 1024) (j : Fin 768), y = ix3 z r j := ⟨y 0, y 1, y 2, eq_ix3 y⟩
  obtain ⟨l, r', j', rfl⟩ : ∃ (l : Fin 4) (r : Fin 1024) (j : Fin 768), i = ix3 l r j := ⟨i 0, i 1, i 2, eq_ix3 i⟩
  obtain rfl : r' = r := Fin.ext hi1
  obtain rfl : j' = j := Fin.ext hi2
  frame_out
  refine (pay_at _ _ _ _ _ _ _ _ _ z r' j').trans ?_
  unfold G
  rw [Fin.sum_univ_eight]
  simp only [a_blk m c t]
  have h0 : View.ld (iblk m c 1 t) r0_1 (ix3 0 0 j') = (m ((c : Thread nD τ).loc main_arg1)) (ix3 l 0 j') := (ld_at (iblk m c 1 t) 0 _ j').trans (d_blk m c t 0 j' l hi0)
  have h1 : View.ld (iblk m c 1 t) r0_2 (ix3 0 0 j') = (m ((c : Thread nD τ).loc main_arg1)) (ix3 l 1 j') := (ld_at (iblk m c 1 t) 1 _ j').trans (d_blk m c t 1 j' l hi0)
  have h2 : View.ld (iblk m c 1 t) r0_3 (ix3 0 0 j') = (m ((c : Thread nD τ).loc main_arg1)) (ix3 l 2 j') := (ld_at (iblk m c 1 t) 2 _ j').trans (d_blk m c t 2 j' l hi0)
  have h3 : View.ld (iblk m c 1 t) r0_4 (ix3 0 0 j') = (m ((c : Thread nD τ).loc main_arg1)) (ix3 l 3 j') := (ld_at (iblk m c 1 t) 3 _ j').trans (d_blk m c t 3 j' l hi0)
  have h4 : View.ld (iblk m c 1 t) r0_5 (ix3 0 0 j') = (m ((c : Thread nD τ).loc main_arg1)) (ix3 l 4 j') := (ld_at (iblk m c 1 t) 4 _ j').trans (d_blk m c t 4 j' l hi0)
  have h5 : View.ld (iblk m c 1 t) r0_6 (ix3 0 0 j') = (m ((c : Thread nD τ).loc main_arg1)) (ix3 l 5 j') := (ld_at (iblk m c 1 t) 5 _ j').trans (d_blk m c t 5 j' l hi0)
  have h6 : View.ld (iblk m c 1 t) r0_7 (ix3 0 0 j') = (m ((c : Thread nD τ).loc main_arg1)) (ix3 l 6 j') := (ld_at (iblk m c 1 t) 6 _ j').trans (d_blk m c t 6 j' l hi0)
  have h7 : View.ld (iblk m c 1 t) r0_8 (ix3 0 0 j') = (m ((c : Thread nD τ).loc main_arg1)) (ix3 l 7 j') := (ld_at (iblk m c 1 t) 7 _ j').trans (d_blk m c t 7 j' l hi0)
  rw [h0, h1, h2, h3, h4, h5, h6, h7]
  rfl

theorem final2 (c : Dev nD) : (dats m 0 c).arrAt 2 cfg0.N = G (m ((c : Thread nD τ).loc main_arg0)) (m ((c : Thread nD τ).loc main_arg1)) := by
  refine Dat.arrAt_eq_of_covers _ 2 _ (by decide +kernel) fun t hf y => ?_
  have hy : (y 0).val = 0 := by have := (y 0).isLt; exact Nat.lt_one_iff.mp this
  blk_simp
  rw [after0_2]
  exact out2 m c t y _ (by blk_simp; simp [idx2 t, hy]) (by blk_simp; simp [idx2 t]) (by blk_simp; simp [idx2 t])

end Cert.Kernel16Ideal.Hand

namespace Cert.Reference16Ideal.Hand

open Cert.Reference16Ideal Cert.Reference16Ideal.Gen
open Idealize.ShloMosaic Idealize.ShloMosaic.TcCoe Idealize.SL.Sem
open Cert.Kernel17Ideal.Hand (silu)

/-- The reference's result. -/
def G (a : FVec Ideal S1024x8 .f32) (d : FVec Ideal S4x8x768 .f32) : FVec Ideal S4x1024x768 .f32 :=
  transpose S4x1024x768 [0, 2, 1] (Host.dotGeneral dot_S4x768x8_S8x1024_S4x768x1024_2_0_01_1_n_n none (transpose S4x768x8 [0, 2, 1] d transposes_S4x8x768_S4x768x8_0_2_1) (mulf (transpose S8x1024 [1, 0] a transposes_S1024x8_S8x1024_1_0) (Host.divf (broadcastInDim S8x1024 ![] bcast_S_S8x1024 (constant S_ .f32 0x3F800000#32)) (addf (broadcastInDim S8x1024 ![] bcast_S_S8x1024 (constant S_ .f32 0x3F800000#32)) (Host.exp (Host.negf (transpose S8x1024 [1, 0] a transposes_S1024x8_S8x1024_1_0))))))) transposes_S4x768x1024_S4x1024x768_0_2_1

theorem G_eq (a : FVec Ideal S1024x8 .f32) (d : FVec Ideal S4x8x768 .f32) : G a d = Cert.Kernel16Ideal.Hand.G a d := by
  funext i
  obtain ⟨l, r, j, rfl⟩ : ∃ (l : Fin 4) (r : Fin 1024) (j : Fin 768), i = ix3 l r j := ⟨i 0, i 1, i 2, eq_ix3 i⟩
  pointwise [G]
  refine Finset.sum_congr rfl fun k _ => (mul_comm _ _).trans ?_
  rw [← zero_sub]
  rfl

end Cert.Reference16Ideal.Hand

namespace Cert.Hand

open Idealize.ShloMosaic Idealize.ShloMosaic.TcCoe Idealize.SL.Sem

/-- The value claim of this call. -/
theorem value16 : Cert.algebraic_Kernel16Ideal_Reference16Ideal (hKernel16Ideal := Cert.Kernel16Ideal.Gen.facts)
    (hReference16Ideal := Cert.Reference16Ideal.Gen.facts) := by
  intro m g m' g' _ hargs
  refine ⟨fun c => (Cert.Kernel16Ideal.Gen.dats m 0 c).arrAt 2 Cert.Kernel16Ideal.cfg0.N,
    Cert.Kernel16Ideal.Value.run_blocks m g, ?_⟩
  refine (θ_run _ _ _).mono (fun r h c => ?_) (Cert.Reference16Ideal.Value.run m' g')
  obtain ⟨e0, e1⟩ := hargs c
  obtain ⟨h0, h1⟩ := h c
  have h0' : _ = Cert.Reference16Ideal.Hand.G _ _ := h0
  rw [e0, e1] at h0'
  refine ⟨h0'.trans ?_, h1⟩
  · rw [Cert.Reference16Ideal.Hand.G_eq]
    exact (Cert.Kernel16Ideal.Hand.final2 m c).symm

end Cert.Hand

end
-- ==== Proof.LossHead.lean ====
module

public import proofs.«01_k».proof.Defs
public import proofs.«01_k».proof.Proof.Gen.Kernel19Ideal.Value
public import proofs.«01_k».proof.Proof.Gen.Reference19Ideal.Run
public import proofs.«01_k».proof.Proof.Prenorm
public import Idealize.ShloMosaic.Lib.Pipeline.ValueKit

@[expose] public section

noncomputable section

namespace Cert.Kernel19Ideal.Hand

open Cert.Kernel19Ideal Cert.Kernel19Ideal.Gen
open Idealize.ShloMosaic Idealize.ShloMosaic.TcCoe Idealize.SL.Sem
open Idealize.ShloMosaic.Pipeline (Dat)
open Cert.Kernel4Ideal.Hand (len)

/-! The loss and its gradient. -/

variable (m : (ℓ : Loc nD τ sig) → Buf (Elt Ideal) ℓ) (ρ : Dev nD → PrngReg)

/-- One half, two, and the reciprocal of the row length. -/
def half : EReal := Ideal.ofBits FTy.f32 0x3F000000#32
def two : EReal := Ideal.ofBits FTy.f32 0x40000000#32
def inv : EReal := Ideal.ofBits FTy.f32 0x3A800000#32

/-- A row's mean square error. -/
def mse (x y : Vec Ideal S2048x1024 .f32) (r : Fin 2048) : EReal :=
  Ideal.div (∑ k : Fin 1024, ((x (ix2 r k) - y (ix2 r k)) * (x (ix2 r k) - y (ix2 r k)) : EReal)) len

def loss (x y : Vec Ideal S2048x1024 .f32) : Vec Ideal S8x128 .f32 := fun _ => half * ∑ r : Fin 2048, (mse x y r : EReal)
def dx (x y : Vec Ideal S2048x1024 .f32) : Vec Ideal S2048x1024 .f32 := fun i => (x i - y i) * inv

theorem zero_at (y : S8x128.Idx) : k0_pay1 (F := Ideal) y = 0 := by
  pointwise [k0_pay1]

theorem pay3_at (x y : Vec Ideal S512x1024 .f32) (z : Vec Ideal S8x128 .f32) (k : Fin 8) (j : Fin 128) :
    k0_pay3 x y z (ix2 k j) = z (ix2 k j)
      + half * ∑ r : Fin 512, (Ideal.div (∑ k : Fin 1024, ((x (ix2 r k) - y (ix2 r k)) * (x (ix2 r k) - y (ix2 r k)) : EReal)) len : EReal) := by
  pointwise [k0_pay3, k0_pay2, half, len]

theorem pay4_at (x y : Vec Ideal S512x1024 .f32) (r : Fin 512) (j : Fin 1024) :
    k0_pay4 x y (ix2 r j) = (x (ix2 r j) - y (ix2 r j)) * inv := by
  pointwise [k0_pay4, k0_pay2, inv]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem blk0 (c : Dev nD) (t : Fin cfg0.N) (r : Fin 512) (j : Fin 1024) (R : Fin 2048) (hR : R.val = 512 * t.val + r.val) :
    iblk m c 0 t (ix2 r j) = (m ((c : Thread nD τ).loc main_arg0)) (ix2 R j) := by
  blk_ext! [iblk, V, idx0 t, hR, mul_comm]

theorem blk1 (c : Dev nD) (t : Fin cfg0.N) (r : Fin 512) (j : Fin 1024) (R : Fin 2048) (hR : R.val = 512 * t.val + r.val) :
    iblk m c 1 t (ix2 r j) = (m ((c : Thread nD τ).loc main_arg1)) (ix2 R j) := by
  blk_ext! [iblk, V, idx1 t, hR, mul_comm]

theorem row_lt (t : Fin cfg0.N) (r : Fin 512) : 512 * t.val + r.val < 2048 := by
  have : t.val < 4 := lt_of_lt_of_eq t.isLt N_0
  omega

theorem dx_blk (c : Dev nD) (t : Fin cfg0.N) (r : Fin 512) (j : Fin 1024) (R : Fin 2048) (hR : R.val = 512 * t.val + r.val) :
    k0_pay4 (iblk m c 0 t) (iblk m c 1 t) (ix2 r j) = dx (m ((c : Thread nD τ).loc main_arg0)) (m ((c : Thread nD τ).loc main_arg1)) (ix2 R j) := by
  refine (pay4_at _ _ r j).trans ?_
  rw [blk0 m c t r j R hR, blk1 m c t r j R hR]
  rfl

theorem out3 (c : Dev nD) (t : Fin cfg0.N) (y : S512x1024.Idx) (i : S2048x1024.Idx) (hi0 : (i 0).val = 512 * t.val + (y 0).val) (hi1 : (i 1).val = (y 1).val) :
    (outsAt0 m c t.val t.isLt).2 y = dx (m ((c : Thread nD τ).loc main_arg0)) (m ((c : Thread nD τ).loc main_arg1)) i := by
  obtain ⟨r, j, rfl⟩ : ∃ (r : Fin 512) (j : Fin 1024), y = ix2 r j := ⟨y 0, y 1, eq_ix2 y⟩
  obtain ⟨R, j', rfl⟩ : ∃ (R : Fin 2048) (j' : Fin 1024), i = ix2 R j' := ⟨i 0, i 1, eq_ix2 i⟩
  obtain rfl : j' = j := Fin.ext hi1
  by_cases h0 : t.val % 4 = 0
  · rw [outsAt0_A m c t h0]; frame_out
    exact dx_blk m c t r j' R hi0
  · rw [outsAt0_B m c t h0]; frame_out
    exact dx_blk m c t r j' R hi0

theorem final3 (c : Dev nD) : (dats m 0 c).arrAt 3 cfg0.N = dx (m ((c : Thread nD τ).loc main_arg0)) (m ((c : Thread nD τ).loc main_arg1)) := by
  refine Dat.arrAt_eq_of_covers _ 3 _ (by decide +kernel) fun t hf y => ?_
  blk_simp
  rw [after0_3]
  exact out3 m c t y _ (by blk_simp; simp [idx3 t, mul_comm]) (by blk_simp; simp [idx3 t])

/-- What one grid point adds to an element of the loss tile. -/
abbrev part (c : Dev nD) (t : Fin cfg0.N) (_ : S8x128.Idx) : EReal :=
  half * ∑ r : Fin 512, (mse (m ((c : Thread nD τ).loc main_arg0)) (m ((c : Thread nD τ).loc main_arg1)) ⟨512 * t.val + r.val, row_lt t r⟩ : EReal)

theorem add_at (c : Dev nD) (t : Fin cfg0.N) (z : Vec Ideal S8x128 .f32) (k : Fin 8) (j : Fin 128) :
    k0_pay3 (iblk m c 0 t) (iblk m c 1 t) z (ix2 k j) = z (ix2 k j) + part m c t (ix2 k j) := by
  refine (pay3_at _ _ z k j).trans (congrArg (fun s => z (ix2 k j) + half * s) (Finset.sum_congr rfl fun r _ => ?_))
  unfold mse
  simp only [blk0 m c t r _ ⟨512 * t.val + r.val, row_lt t r⟩ rfl, blk1 m c t r _ ⟨512 * t.val + r.val, row_lt t r⟩ rfl]

theorem sums_A (c : Dev nD) (t : Fin cfg0.N) (h0 : t.val % 4 = 0) (y : S8x128.Idx) :
    (outsAt0 m c t.val t.isLt).1 y = (fun _ => 0 : S8x128.Idx → EReal) y + part m c t y := by
  obtain ⟨k, j, rfl⟩ : ∃ (k : Fin 8) (j : Fin 128), y = ix2 k j := ⟨y 0, y 1, eq_ix2 y⟩
  rw [outsAt0_A m c t h0]; frame_out
  exact (add_at m c t _ k j).trans (congrArg (· + _) (zero_at _))

theorem sums_B (c : Dev nD) (t : Fin cfg0.N) (h0 : ¬ t.val % 4 = 0) (y : S8x128.Idx) :
    (outsAt0 m c t.val t.isLt).1 y = (outsAt0 m c (t.val - 1) (Nat.lt_of_le_of_lt (Nat.sub_le _ _) t.isLt)).1 y + part m c t y := by
  obtain ⟨k, j, rfl⟩ : ∃ (k : Fin 8) (j : Fin 128), y = ix2 k j := ⟨y 0, y 1, eq_ix2 y⟩
  rw [outsAt0_B m c t h0]; frame_out
  exact add_at m c t _ k j

theorem half_real : half = ((1 / 2 : ℝ) : EReal) := by
  simp [half, Ideal.ofBits, Ideal.ieee, -EReal.coe_mul]; norm_num

theorem two_real : two = ((2 : ℝ) : EReal) := by
  simp [two, Ideal.ofBits, Ideal.ieee, -EReal.coe_mul]; norm_num

theorem inv_real : inv = ((1 / 1024 : ℝ) : EReal) := by
  simp [inv, Ideal.ofBits, Ideal.ieee, -EReal.coe_mul]; norm_num

/-- Half of a sum is the sum of the halves. -/
theorem half_sum {n : ℕ} (f : Fin n → EReal) : ∑ t, half * f t = half * ∑ t, f t := by
  have h : ∀ S : Finset (Fin n), ∑ t ∈ S, half * f t = half * ∑ t ∈ S, f t := fun S => by
    induction S using Finset.cons_induction with
    | empty => simp
    | cons b S hb ih =>
      rw [Finset.sum_cons, Finset.sum_cons, ih]
      refine (EReal.left_distrib_of_nonneg_of_ne_top ?_ ?_ _ _).symm
      · rw [half_real]; exact_mod_cast (by norm_num : (0 : ℝ) ≤ 1 / 2)
      · rw [half_real]; exact EReal.coe_ne_top _
  exact h Finset.univ

theorem out2 (c : Dev nD) (t : Fin cfg0.N) (ht : t.val + 1 = cfg0.N) (y i : S8x128.Idx) :
    (outsAt0 m c t.val t.isLt).1 y = loss (m ((c : Thread nD τ).loc main_arg0)) (m ((c : Thread nD τ).loc main_arg1)) i := by
  rw [Pipeline.eq_sum_fin_of_reset_step_apply_last (fun n h => (outsAt0 m c n h).1) 4 (fun _ => 0) (part m c)
    (sums_A m c) (sums_B m c) (le_of_eq N_0) t ht y, zero_add]
  unfold loss
  refine (half_sum _).trans (congrArg (half * ·) ?_)
  refine Fin.sum_mul_add_congr (S := cfg0.N) (n := 512) fun t r hl => ?_
  have e : (⟨512 * t.val + r.val, row_lt t r⟩ : Fin 2048) = ⟨t.val * 512 + r.val, hl⟩ := Fin.ext (by simp [mul_comm])
  rw [e]

theorem final2 (c : Dev nD) : (dats m 0 c).arrAt 2 cfg0.N = loss (m ((c : Thread nD τ).loc main_arg0)) (m ((c : Thread nD τ).loc main_arg1)) := by
  refine Dat.arrAt_eq_of_covers _ 2 _ (by decide +kernel) fun t hf y => ?_
  have h3 : t.val % 4 = 3 := (flush0_2 t).mp hf
  have hN : t.val < 4 := lt_of_lt_of_eq t.isLt N_0
  blk_simp
  rw [after0_2]
  exact out2 m c t ((by omega : t.val + 1 = 4).trans N_0.symm) y _

end Cert.Kernel19Ideal.Hand

namespace Cert.Reference19Ideal.Hand

open Cert.Reference19Ideal Cert.Reference19Ideal.Gen
open Idealize.ShloMosaic Idealize.ShloMosaic.TcCoe Idealize.SL.Sem
open Cert.Kernel4Ideal.Hand (len)
open Cert.Kernel19Ideal.Hand (half two inv)

/-- The reference's results. -/
def loss (x y : FVec Ideal S2048x1024 .f32) : FVec Ideal S8x128 .f32 :=
  broadcastInDim S8x128 ![] bcast_S_S8x128 (mulf (constant S_ .f32 0x3F000000#32) (Host.reduceAdd (Host.divf (Host.reduceAdd (mulf (subf x y) (subf x y)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_))

def dx (x y : FVec Ideal S2048x1024 .f32) : FVec Ideal S2048x1024 .f32 :=
  mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (subf x y))

theorem loss_eq (x y : FVec Ideal S2048x1024 .f32) : loss x y = Cert.Kernel19Ideal.Hand.loss x y := by
  funext i
  obtain ⟨k, j, rfl⟩ : ∃ (k : Fin 8) (j : Fin 128), i = ix2 k j := ⟨i 0, i 1, eq_ix2 i⟩
  pointwise [loss]
  rfl

theorem dx_read (x y : FVec Ideal S2048x1024 .f32) (r : Fin 2048) (j : Fin 1024) :
    dx x y (ix2 r j) = Ideal.div half len * (two * (x (ix2 r j) - y (ix2 r j))) := by
  pointwise [dx]
  rfl

theorem dx_eq (x y : FVec Ideal S2048x1024 .f32) : dx x y = Cert.Kernel19Ideal.Hand.dx x y := by
  funext i
  obtain ⟨r, j, rfl⟩ : ∃ (r : Fin 2048) (j : Fin 1024), i = ix2 r j := ⟨i 0, i 1, eq_ix2 i⟩
  refine (dx_read x y r j).trans ?_
  show _ = (x (ix2 r j) - y (ix2 r j)) * inv
  rw [Cert.Reference4Ideal.Hand.len_real, Ideal.div_coe (by norm_num), Cert.Kernel19Ideal.Hand.half_real, Cert.Kernel19Ideal.Hand.two_real,
    Cert.Kernel19Ideal.Hand.inv_real, ← mul_assoc, ← EReal.coe_mul, ← EReal.coe_mul, mul_comm]
  norm_num

end Cert.Reference19Ideal.Hand

namespace Cert.Hand

open Idealize.ShloMosaic Idealize.ShloMosaic.TcCoe Idealize.SL.Sem

/-- The value claim of this call. -/
theorem value19 : Cert.algebraic_Kernel19Ideal_Reference19Ideal (hKernel19Ideal := Cert.Kernel19Ideal.Gen.facts)
    (hReference19Ideal := Cert.Reference19Ideal.Gen.facts) := by
  intro m g m' g' _ hargs
  refine ⟨fun c => (Cert.Kernel19Ideal.Gen.dats m 0 c).arrAt 2 Cert.Kernel19Ideal.cfg0.N, fun c => (Cert.Kernel19Ideal.Gen.dats m 0 c).arrAt 3 Cert.Kernel19Ideal.cfg0.N,
    Cert.Kernel19Ideal.Value.run_blocks m g, ?_⟩
  refine (θ_run _ _ _).mono (fun r h c => ?_) (Cert.Reference19Ideal.Value.run m' g')
  obtain ⟨e0, e1⟩ := hargs c
  obtain ⟨h0, h1, h2⟩ := h c
  have h0' : _ = Cert.Reference19Ideal.Hand.loss _ _ := h0
  rw [e0, e1] at h0'
  have h1' : _ = Cert.Reference19Ideal.Hand.dx _ _ := h1
  rw [e0, e1] at h1'
  refine ⟨h0'.trans ?_, h1'.trans ?_, h2⟩
  · rw [Cert.Reference19Ideal.Hand.loss_eq]
    exact (Cert.Kernel19Ideal.Hand.final2 m c).symm
  · rw [Cert.Reference19Ideal.Hand.dx_eq]
    exact (Cert.Kernel19Ideal.Hand.final3 m c).symm

end Cert.Hand

end
-- ==== Proof.lean ====
/- The proof of the certificate's claims: the frames of the programs, what the idealizations name, and the value claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Frames
public import proofs.«01_k».proof.Proof.FramesI
public import proofs.«01_k».proof.Proof.Value
public import proofs.«01_k».proof.Proof.FfnAct
public import proofs.«01_k».proof.Proof.Dw
public import proofs.«01_k».proof.Proof.FfnIn
public import proofs.«01_k».proof.Proof.DwMix
public import proofs.«01_k».proof.Proof.Dcat
public import proofs.«01_k».proof.Proof.ProjQkv
public import proofs.«01_k».proof.Proof.Prenorm
public import proofs.«01_k».proof.Proof.Postnorm
public import proofs.«01_k».proof.Proof.FfnOut
public import proofs.«01_k».proof.Proof.FfnLast
public import proofs.«01_k».proof.Proof.OutProj
public import proofs.«01_k».proof.Proof.PrenormMix
public import proofs.«01_k».proof.Proof.FirstNorm
public import proofs.«01_k».proof.Proof.AdamW
public import proofs.«01_k».proof.Proof.AdaFwd
public import proofs.«01_k».proof.Proof.AdaBwd
public import proofs.«01_k».proof.Proof.LossHead
public import Idealize.ShloMosaic.Adequacy
public import Idealize.ShloMosaic.Init

@[expose] public section

noncomputable section

namespace Cert.Proof

open Idealize.ShloMosaic Idealize.SL.Sem

/-! The frames of the references: each run ends with the arguments unchanged, and there are no semaphores. -/

theorem frame1 (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2, sem_eq_zero_of_no_sems (by decide) r.2⟩) (Cert.ReferenceIdeal.Value.run m g)

theorem frame2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0) ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1) ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2) ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run _ _ _).mono (fun r h => ⟨fun c => (h c).2.2, sem_eq_zero_of_no_sems (by decide) r.2⟩) (Cert.Reference2Ideal.Value.run m g)

theorem frame3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0) ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run _ _ _).mono (fun r h => ⟨fun c => (h c).2, sem_eq_zero_of_no_sems (by decide) r.2⟩) (Cert.Reference3Ideal.Value.run m g)

theorem frame4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0) ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1) ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2) ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3) ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4) ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5) ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0) :=
  (θ_run _ _ _).mono (fun r h => ⟨fun c => (h c).2.2, sem_eq_zero_of_no_sems (by decide) r.2⟩) (Cert.Reference4Ideal.Value.run m g)

theorem frame5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0) ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2.2.2, sem_eq_zero_of_no_sems (by decide) r.2⟩) (Cert.Reference5Ideal.Value.run m g)

theorem frame6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0) ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run _ _ _).mono (fun r h => ⟨fun c => (h c).2, sem_eq_zero_of_no_sems (by decide) r.2⟩) (Cert.Reference6Ideal.Value.run m g)

theorem frame7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0) ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run _ _ _).mono (fun r h => ⟨fun c => (h c).2, sem_eq_zero_of_no_sems (by decide) r.2⟩) (Cert.Reference7Ideal.Value.run m g)

theorem frame8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0) ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run _ _ _).mono (fun r h => ⟨fun c => (h c).2, sem_eq_zero_of_no_sems (by decide) r.2⟩) (Cert.Reference8Ideal.Value.run m g)

theorem frame9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0) ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run _ _ _).mono (fun r h => ⟨fun c => (h c).2, sem_eq_zero_of_no_sems (by decide) r.2⟩) (Cert.Reference9Ideal.Value.run m g)

theorem frame10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0) ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run _ _ _).mono (fun r h => ⟨fun c => (h c).2, sem_eq_zero_of_no_sems (by decide) r.2⟩) (Cert.Reference10Ideal.Value.run m g)

theorem frame11 (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0) ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1) ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2) ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3) ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4) ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5) ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6) ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0) :=
  (θ_run _ _ _).mono (fun r h => ⟨fun c => (h c).2.2, sem_eq_zero_of_no_sems (by decide) r.2⟩) (Cert.Reference11Ideal.Value.run m g)

theorem frame12 (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0) ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1) ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2) ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0) :=
  (θ_run _ _ _).mono (fun r h => ⟨fun c => (h c).2.2, sem_eq_zero_of_no_sems (by decide) r.2⟩) (Cert.Reference12Ideal.Value.run m g)

theorem frame13 (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0) ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1) ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2) ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3) ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4) ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5) ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6) ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0) :=
  (θ_run _ _ _).mono (fun r h => ⟨fun c => (h c).2.2.2, sem_eq_zero_of_no_sems (by decide) r.2⟩) (Cert.Reference13Ideal.Value.run m g)

theorem frame14 (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0) ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1) ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2) ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3) ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0) :=
  (θ_run _ _ _).mono (fun r h => ⟨fun c => (h c).2.2, sem_eq_zero_of_no_sems (by decide) r.2⟩) (Cert.Reference14Ideal.Value.run m g)

theorem frame15 (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0) ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1) ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2) ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3) ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4) ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5) ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6) ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0) :=
  (θ_run _ _ _).mono (fun r h => ⟨fun c => (h c).2.2.2, sem_eq_zero_of_no_sems (by decide) r.2⟩) (Cert.Reference15Ideal.Value.run m g)

theorem frame16 (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0) ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run _ _ _).mono (fun r h => ⟨fun c => (h c).2, sem_eq_zero_of_no_sems (by decide) r.2⟩) (Cert.Reference16Ideal.Value.run m g)

theorem frame17 (m : (ℓ : Loc Cert.Reference17Ideal.nD Cert.Reference17Ideal.τ Cert.Reference17Ideal.sig) → Buf (Elt Ideal) ℓ) (g : Dev Cert.Reference17Ideal.nD → PrngReg) :
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0) ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1) ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0) :=
  (θ_run _ _ _).mono (fun r h => ⟨fun c => (h c).2, sem_eq_zero_of_no_sems (by decide) r.2⟩) (Cert.Reference17Ideal.Value.run m g)

theorem frame18 (m : (ℓ : Loc Cert.Reference18Ideal.nD Cert.Reference18Ideal.τ Cert.Reference18Ideal.sig) → Buf (Elt Ideal) ℓ) (g : Dev Cert.Reference18Ideal.nD → PrngReg) :
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0) ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1) ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2) ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0) :=
  (θ_run _ _ _).mono (fun r h => ⟨fun c => (h c).2, sem_eq_zero_of_no_sems (by decide) r.2⟩) (Cert.Reference18Ideal.Value.run m g)

theorem frame19 (m : (ℓ : Loc Cert.Reference19Ideal.nD Cert.Reference19Ideal.τ Cert.Reference19Ideal.sig) → Buf (Elt Ideal) ℓ) (g : Dev Cert.Reference19Ideal.nD → PrngReg) :
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0) ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0) :=
  (θ_run _ _ _).mono (fun r h => ⟨fun c => (h c).2.2, sem_eq_zero_of_no_sems (by decide) r.2⟩) (Cert.Reference19Ideal.Value.run m g)

theorem frame20 (m : (ℓ : Loc Cert.Reference20Ideal.nD Cert.Reference20Ideal.τ Cert.Reference20Ideal.sig) → Buf (Elt Ideal) ℓ) (g : Dev Cert.Reference20Ideal.nD → PrngReg) :
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0) ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1) ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2) ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0) :=
  (θ_run _ _ _).mono (fun r h => ⟨fun c => (h c).2.2.2.2, sem_eq_zero_of_no_sems (by decide) r.2⟩) (Cert.Reference20Ideal.Value.run m g)

/-! The certificate. -/

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.Gen.facts, Cert.Pre_finite2.Gen.facts,
    fun m g _ => Cert.Kernel.Hand.frames m g,
    fun m g _ => Cert.KernelIdeal.Hand.frames m g,
    fun m g _ => Cert.KernelIdeal.Hand.frames m g,
    fun m g _ => frame1 m g,
    fun m g _ => frame1 m g,
    fun m g _ => Cert.Kernel2.Gen.frame m g,
    fun m g _ => Cert.Kernel2Ideal.Gen.frame m g,
    fun m g _ => Cert.Kernel2Ideal.Gen.frame m g,
    fun m g _ => frame2 m g,
    fun m g _ => frame2 m g,
    fun m g _ => Cert.Kernel3.Gen.frame m g,
    fun m g _ => Cert.Kernel3Ideal.Gen.frame m g,
    fun m g _ => frame3 m g,
    fun m g _ => Cert.Kernel4.Gen.frame m g,
    fun m g _ => Cert.Kernel4Ideal.Gen.frame m g,
    fun m g _ => frame4 m g,
    fun m g _ => Cert.Kernel5.Gen.frame m g,
    fun m g _ => Cert.Kernel5Ideal.Gen.frame m g,
    fun m g _ => frame5 m g,
    fun m g _ => Cert.Kernel6.Gen.frame m g,
    fun m g _ => Cert.Kernel6Ideal.Gen.frame m g,
    fun m g _ => frame6 m g,
    fun m g _ => Cert.Kernel7.Gen.frame m g,
    fun m g _ => Cert.Kernel7Ideal.Gen.frame m g,
    fun m g _ => frame7 m g,
    fun m g _ => Cert.Kernel8.Gen.frame m g,
    fun m g _ => Cert.Kernel8Ideal.Gen.frame m g,
    fun m g _ => frame8 m g,
    fun m g _ => Cert.Kernel9.Gen.frame m g,
    fun m g _ => Cert.Kernel9Ideal.Gen.frame m g,
    fun m g _ => frame9 m g,
    fun m g _ => Cert.Kernel10.Gen.frame m g,
    fun m g _ => Cert.Kernel10Ideal.Gen.frame m g,
    fun m g _ => frame10 m g,
    fun m g _ => Cert.Kernel11.Gen.frame m g,
    fun m g _ => Cert.Kernel11Ideal.Gen.frame m g,
    fun m g _ => frame11 m g,
    fun m g _ => Cert.Kernel12.Gen.frame m g,
    fun m g _ => Cert.Kernel12Ideal.Gen.frame m g,
    fun m g _ => frame12 m g,
    fun m g _ => Cert.Kernel13.Gen.frame m g,
    fun m g _ => Cert.Kernel13Ideal.Gen.frame m g,
    fun m g _ => frame13 m g,
    fun m g _ => Cert.Kernel14.Gen.frame m g,
    fun m g _ => Cert.Kernel14Ideal.Gen.frame m g,
    fun m g _ => frame14 m g,
    fun m g _ => Cert.Kernel15.Gen.frame m g,
    fun m g _ => Cert.Kernel15Ideal.Gen.frame m g,
    fun m g _ => frame15 m g,
    fun m g _ => Cert.Kernel16.Gen.frame m g,
    fun m g _ => Cert.Kernel16Ideal.Gen.frame m g,
    fun m g _ => frame16 m g,
    fun m g _ => Cert.Kernel17.Gen.frame m g,
    fun m g _ => Cert.Kernel17Ideal.Gen.frame m g,
    fun m g _ => frame17 m g,
    fun m g _ => Cert.Kernel18.Gen.frame m g,
    fun m g _ => Cert.Kernel18Ideal.Gen.frame m g,
    fun m g _ => frame18 m g,
    fun m g _ => Cert.Kernel19.Gen.frame m g,
    fun m g _ => Cert.Kernel19Ideal.Gen.frame m g,
    fun m g _ => frame19 m g,
    fun m g _ => Cert.Kernel20.Gen.frame m g,
    fun m g _ => Cert.Kernel20Ideal.Gen.frame m g,
    fun m g _ => frame20 m g,
    IdealRules.named_const.statement Cert.KernelIdeal.κ "mask" .f32 0xF149F2CA#32 ⊥ rfl,
    Cert.Hand.value,
    trivial, Cert.Hand.value2,
    trivial, Cert.Hand.value3,
    trivial, Cert.Hand.value4,
    trivial, Cert.Hand.value5,
    trivial, Cert.Hand.value6,
    trivial, Cert.Hand.value7,
    trivial, Cert.Hand.value8,
    trivial, Cert.Hand.value9,
    trivial, Cert.Hand.value10,
    trivial, Cert.Hand.value11,
    trivial, Cert.Hand.value12,
    trivial, Cert.Hand.value13,
    trivial, Cert.Hand.value14,
    trivial, Cert.Hand.value15,
    trivial, Cert.Hand.value16,
    trivial, Cert.Hand.value17,
    trivial, Cert.Hand.value18,
    trivial, Cert.Hand.value19,
    trivial, Cert.Hand.value20⟩

end Cert.Proof

end
